-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![2048, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S256x1024 : Shape := ⟨2, ![256, 1024]⟩
abbrev S1024x1024 : Shape := ⟨2, ![1024, 1024]⟩
abbrev S1x4096x64x128 : Shape := ⟨4, ![1, 4096, 64, 128]⟩
abbrev S_ : Shape := ⟨0, ![]⟩

class Facts : Prop where
  bcast_S_S256x1024 : S_.BroadcastsInDim S256x1024 (![] : Fin 0 → Fin S256x1024.rank)
  bcast_S_S1024x1024 : S_.BroadcastsInDim S1024x1024 (![] : Fin 0 → Fin S1024x1024.rank)
  bcast_S_S1x4096x64x128 : S_.BroadcastsInDim S1x4096x64x128 (![] : Fin 0 → Fin S1x4096x64x128.rank)

variable [Facts]

def fn {F : FTy → Type} [FloatOps F] (main_arg0 : FVec F S256x1024 .f32) (main_arg1 : FVec F S1024x1024 .f32) (main_arg2 : FVec F S1x4096x64x128 .f32) (main_arg3 : FVec F S1x4096x64x128 .f32) (main_arg4 : FVec F S1024x1024 .f32) : IVec S256x1024 1 × IVec S1024x1024 1 × IVec S1x4096x64x128 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x4096x64x128 .f32 := Host.absf main_arg2
  let main_cst_1 : FVec F S_ .f32 := constant S_ .f32 0x7F800000#32
  let main_v7 : FVec F S1x4096x64x128 .f32 := broadcastInDim S1x4096x64x128 ![] bcast_S_S1x4096x64x128 main_cst_1
  let main_v8 : IVec S1x4096x64x128 1 := cmpf .olt main_v6 main_v7
  (main_v2, main_v5, main_v8)
-- ==== Pre_finite_ReferenceIdeal.lean ====
abbrev S2048x1024 : Shape := ⟨2, ![2048, 1024]⟩
abbrev S1024x8192 : Shape := ⟨2, ![1024, 8192]⟩
abbrev S1x4096x64x128 : Shape := ⟨4, ![1, 4096, 64, 128]⟩
abbrev S8192x1024 : Shape := ⟨2, ![8192, 1024]⟩
abbrev S_ : Shape := ⟨0, ![]⟩

class Facts : Prop where
  bcast_S_S2048x1024 : S_.BroadcastsInDim S2048x1024 (![] : Fin 0 → Fin S2048x1024.rank)
  bcast_S_S1024x8192 : S_.BroadcastsInDim S1024x8192 (![] : Fin 0 → Fin S1024x8192.rank)
  bcast_S_S1x4096x64x128 : S_.BroadcastsInDim S1x4096x64x128 (![] : Fin 0 → Fin S1x4096x64x128.rank)

variable [Facts]

def fn {F : FTy → Type} [FloatOps F] (main_arg0 : FVec F S2048x1024 .f32) (main_arg1 : FVec F S1024x8192 .f32) (main_arg2 : FVec F S1x4096x64x128 .f32) (main_arg3 : FVec F S1x4096x64x128 .f32) (main_arg4 : FVec F S8192x1024 .f32) : IVec S2048x1024 1 × IVec S1024x8192 1 × IVec S1x4096x64x128 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  let main_v6 : FVec F S1x4096x64x128 .f32 := Host.absf main_arg2
  let main_cst_1 : FVec F S_ .f32 := constant S_ .f32 0x7F800000#32
  let main_v7 : FVec F S1x4096x64x128 .f32 := broadcastInDim S1x4096x64x128 ![] bcast_S_S1x4096x64x128 main_cst_1
  let main_v8 : IVec S1x4096x64x128 1 := cmpf .olt main_v6 main_v7
  (main_v2, main_v5, main_v8)
-- ==== Kernel.lean ====
abbrev S256x1024 : Shape := ⟨2, ![256, 1024]⟩
abbrev S1024x1024 : Shape := ⟨2, ![1024, 1024]⟩
abbrev S1x4096x64x128 : Shape := ⟨4, ![1, 4096, 64, 128]⟩
abbrev S8x2176x128 : Shape := ⟨3, ![8, 2176, 128]⟩
abbrev S4x256x1024 : Shape := ⟨3, ![4, 256, 1024]⟩
abbrev S5x256x1024 : Shape := ⟨3, ![5, 256, 1024]⟩
abbrev S16 : Shape := ⟨1, ![16]⟩
abbrev S8 : Shape := ⟨1, ![8]⟩
abbrev S10 : Shape := ⟨1, ![10]⟩
abbrev S1 : Shape := ⟨1, ![1]⟩
abbrev S_ : Shape := ⟨0, ![]⟩
abbrev S1x2176x128 : Shape := ⟨3, ![1, 2176, 128]⟩
abbrev S2176x128 : Shape := ⟨2, ![2176, 128]⟩
abbrev S1x2176x1x128 : Shape := ⟨4, ![1, 2176, 1, 128]⟩
abbrev S1x128x1024 : Shape := ⟨3, ![1, 128, 1024]⟩
abbrev S128x1024 : Shape := ⟨2, ![128, 1024]⟩
abbrev S256x512 : Shape := ⟨2, ![256, 512]⟩
abbrev S1x256x1024 : Shape := ⟨3, ![1, 256, 1024]⟩
abbrev S256x128 : Shape := ⟨2, ![256, 128]⟩
abbrev S1x512x128 : Shape := ⟨3, ![1, 512, 128]⟩
abbrev S512x128 : Shape := ⟨2, ![512, 128]⟩
abbrev S256 : Shape := ⟨1, ![256]⟩
abbrev S256x1 : Shape := ⟨2, ![256, 1]⟩

abbrev nBuf : Space → Nat
  | .hbm => 6
  | .vmem => 15
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1x4096x64x128, .f32⟩
  | .hbm, ⟨3, _⟩ => ⟨S1x4096x64x128, .f32⟩
  | .hbm, ⟨4, _⟩ => ⟨S1024x1024, .f32⟩
  | .hbm, ⟨5, _⟩ => ⟨S256x1024, .f32⟩
  | .local _ .vmem, ⟨0, _⟩ => ⟨S256x1024, .f32⟩
  | .local _ .vmem, ⟨1, _⟩ => ⟨S1024x1024, .f32⟩
  | .local _ .vmem, ⟨2, _⟩ => ⟨S1024x1024, .f32⟩
  | .local _ .vmem, ⟨3, _⟩ => ⟨S256x1024, .f32⟩
  | .local _ .vmem, ⟨4, _⟩ => ⟨S8x2176x128, .f32⟩
  | .local _ .vmem, ⟨5, _⟩ => ⟨S8x2176x128, .f32⟩
  | .local _ .vmem, ⟨6, _⟩ => ⟨S8x2176x128, .bf16⟩
  | .local _ .vmem, ⟨7, _⟩ => ⟨S8x2176x128, .bf16⟩
  | .local _ .vmem, ⟨8, _⟩ => ⟨S256x1024, .bf16⟩
  | .local _ .vmem, ⟨9, _⟩ => ⟨S1024x1024, .bf16⟩
  | .local _ .vmem, ⟨10, _⟩ => ⟨S1024x1024, .bf16⟩
  | .local _ .vmem, ⟨11, _⟩ => ⟨S4x256x1024, .bf16⟩
  | .local _ .vmem, ⟨12, _⟩ => ⟨S5x256x1024, .bf16⟩
  | .local _ .vmem, ⟨13, _⟩ => ⟨S5x256x1024, .bf16⟩
  | .local _ .vmem, ⟨14, _⟩ => ⟨S4x256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  (ofTc nBuf bufTy 1 92 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 4 → Nat :=
  let c0_i32_6 : BitVec 32 := 0#32
  let c0_i32_11 : BitVec 32 := 0#32
  let c8_i32_5 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v8 : BitVec 32 := Scalar.muli c8_i32_5 v2
  let v9 : BitVec 32 := Scalar.addi v8 c0_i32
  let c0_i32_12 : BitVec 32 := 0#32
  ![0, 0, v9.toNat, 0]
def k0_dev1 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_124 : BitVec 32 := 1#32
  let v128 : BitVec 32 := Scalar.muli v7 c1_i32_124
  let v129 : BitVec 32 := Scalar.addi c0_i32_125 v128
  v129.toNat
def k0_dev2 (d0 : Dev nD) : Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_127 : BitVec 32 := 1#32
  let v130 : BitVec 32 := Scalar.muli v4 c1_i32_127
  let v131 : BitVec 32 := Scalar.addi c0_i32_128 v130
  v131.toNat
def k0_dev3 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_133 : BitVec 32 := 1#32
  let v132 : BitVec 32 := Scalar.muli v4 c1_i32_133
  let v133 : BitVec 32 := Scalar.addi c0_i32_134 v132
  v133.toNat
def k0_dev4 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_142 : BitVec 32 := 1#32
  let v141 : BitVec 32 := Scalar.muli v7 c1_i32_142
  let v142 : BitVec 32 := Scalar.addi c0_i32_143 v141
  v142.toNat
def k0_dev5 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_151 : BitVec 32 := 1#32
  let v150 : BitVec 32 := Scalar.muli v4 c1_i32_151
  let v151 : BitVec 32 := Scalar.addi c0_i32_152 v150
  v151.toNat
def k0_dev6 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_159 : BitVec 32 := 1#32
  let v159 : BitVec 32 := Scalar.muli v7 c1_i32_159
  let v160 : BitVec 32 := Scalar.addi c0_i32_160 v159
  v160.toNat
def k0_dev7 (d0 : Dev nD) : Nat :=
  let c0_i32_180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_179 : BitVec 32 := 1#32
  let v176 : BitVec 32 := Scalar.muli v4 c1_i32_179
  let v177 : BitVec 32 := Scalar.addi c0_i32_180 v176
  v177.toNat
def k0_dev8 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_199 : BitVec 32 := 1#32
  let v194 : BitVec 32 := Scalar.muli v7 c1_i32_199
  let v195 : BitVec 32 := Scalar.addi c0_i32_200 v194
  v195.toNat
def k0_dev9 (d0 : Dev nD) : Nat :=
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_219 : BitVec 32 := 1#32
  let v212 : BitVec 32 := Scalar.muli v4 c1_i32_219
  let v213 : BitVec 32 := Scalar.addi c0_i32_220 v212
  v213.toNat
def k0_dev10 (d0 : Dev nD) : Nat :=
  let c0_i32_240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_239 : BitVec 32 := 1#32
  let v230 : BitVec 32 := Scalar.muli v7 c1_i32_239
  let v231 : BitVec 32 := Scalar.addi c0_i32_240 v230
  v231.toNat
def k0_dev11 (d0 : Dev nD) : Nat :=
  let c0_i32_268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_267 : BitVec 32 := 1#32
  let v260 : BitVec 32 := Scalar.muli v4 c1_i32_267
  let v261 : BitVec 32 := Scalar.addi c0_i32_268 v260
  v261.toNat
def k0_dev12 (d0 : Dev nD) : Nat :=
  let c0_i32_288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_287 : BitVec 32 := 1#32
  let v278 : BitVec 32 := Scalar.muli v7 c1_i32_287
  let v279 : BitVec 32 := Scalar.addi c0_i32_288 v278
  v279.toNat
def k0_dev13 (d0 : Dev nD) : Nat :=
  let c0_i32_308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_307 : BitVec 32 := 1#32
  let v296 : BitVec 32 := Scalar.muli v4 c1_i32_307
  let v297 : BitVec 32 := Scalar.addi c0_i32_308 v296
  v297.toNat
def k0_dev14 (d0 : Dev nD) : Nat :=
  let c0_i32_328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_327 : BitVec 32 := 1#32
  let v314 : BitVec 32 := Scalar.muli v7 c1_i32_327
  let v315 : BitVec 32 := Scalar.addi c0_i32_328 v314
  v315.toNat
def k0_dev15 (d0 : Dev nD) : Nat :=
  let c0_i32_358 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_357 : BitVec 32 := 1#32
  let v340 : BitVec 32 := Scalar.muli v7 c1_i32_357
  let v341 : BitVec 32 := Scalar.addi c0_i32_358 v340
  v341.toNat
def k0_dev16 (d0 : Dev nD) : Nat :=
  let c0_i32_388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_387 : BitVec 32 := 1#32
  let v366 : BitVec 32 := Scalar.muli v7 c1_i32_387
  let v367 : BitVec 32 := Scalar.addi c0_i32_388 v366
  v367.toNat
def k0_mult1 (d0 : Dev nD) : BitVec 32 :=
  let c256_i32 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_524 : BitVec 32 := 3#32
  let v501 : BitVec 32 := Scalar.addi v2 c3_i32_524
  let c8_i32_525 : BitVec 32 := 8#32
  let v502 : BitVec 32 := Scalar.remsi v501 c8_i32_525
  let v508 : BitVec 32 := Scalar.muli c256_i32 v502
  let c128_i32_530 : BitVec 32 := 128#32
  let v509 : BitVec 32 := Scalar.subi v508 c128_i32_530
  let c0_i32_531 : BitVec 32 := 0#32
  let v510 : BitVec 32 := Scalar.maxsi v509 c0_i32_531
  v510
def k0_off2 (d0 : Dev nD) (c3_i32_524 : BitVec 32) : Fin 3 → Nat :=
  let c0_533 : Index := 0#32
  let c256_i32 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v501 : BitVec 32 := Scalar.addi v2 c3_i32_524
  let c8_i32_525 : BitVec 32 := 8#32
  let v502 : BitVec 32 := Scalar.remsi v501 c8_i32_525
  let v508 : BitVec 32 := Scalar.muli c256_i32 v502
  let c128_i32_530 : BitVec 32 := 128#32
  let v509 : BitVec 32 := Scalar.subi v508 c128_i32_530
  let c0_i32_531 : BitVec 32 := 0#32
  let v510 : BitVec 32 := Scalar.maxsi v509 c0_i32_531
  let v511 : BitVec 32 := v510
  let v515 : Index := Scalar.indexCast v511
  let c0_534 : Index := 0#32
  ![0, v515.toNat, 0]
def k0_off3 (d0 : Dev nD) (c3_i32_524 : BitVec 32) : Fin 3 → Nat :=
  let c1 : Index := 1#32
  let c256_i32 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v501 : BitVec 32 := Scalar.addi v2 c3_i32_524
  let c8_i32_525 : BitVec 32 := 8#32
  let v502 : BitVec 32 := Scalar.remsi v501 c8_i32_525
  let v508 : BitVec 32 := Scalar.muli c256_i32 v502
  let c128_i32_530 : BitVec 32 := 128#32
  let v509 : BitVec 32 := Scalar.subi v508 c128_i32_530
  let c0_i32_531 : BitVec 32 := 0#32
  let v510 : BitVec 32 := Scalar.maxsi v509 c0_i32_531
  let v511 : BitVec 32 := v510
  let v531 : Index := Scalar.indexCast v511
  let c0_540 : Index := 0#32
  ![1, v531.toNat, 0]
def k0_off4 (d0 : Dev nD) (c3_i32_524 : BitVec 32) : Fin 3 → Nat :=
  let c2 : Index := 2#32
  let c256_i32 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v501 : BitVec 32 := Scalar.addi v2 c3_i32_524
  let c8_i32_525 : BitVec 32 := 8#32
  let v502 : BitVec 32 := Scalar.remsi v501 c8_i32_525
  let v508 : BitVec 32 := Scalar.muli c256_i32 v502
  let c128_i32_530 : BitVec 32 := 128#32
  let v509 : BitVec 32 := Scalar.subi v508 c128_i32_530
  let c0_i32_531 : BitVec 32 := 0#32
  let v510 : BitVec 32 := Scalar.maxsi v509 c0_i32_531
  let v511 : BitVec 32 := v510
  let v547 : Index := Scalar.indexCast v511
  let c0_546 : Index := 0#32
  ![2, v547.toNat, 0]
def k0_off5 (d0 : Dev nD) (c3_i32_524 : BitVec 32) : Fin 3 → Nat :=
  let c3_552 : Index := 3#32
  let c256_i32 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v501 : BitVec 32 := Scalar.addi v2 c3_i32_524
  let c8_i32_525 : BitVec 32 := 8#32
  let v502 : BitVec 32 := Scalar.remsi v501 c8_i32_525
  let v508 : BitVec 32 := Scalar.muli c256_i32 v502
  let c128_i32_530 : BitVec 32 := 128#32
  let v509 : BitVec 32 := Scalar.subi v508 c128_i32_530
  let c0_i32_531 : BitVec 32 := 0#32
  let v510 : BitVec 32 := Scalar.maxsi v509 c0_i32_531
  let v511 : BitVec 32 := v510
  let v563 : Index := Scalar.indexCast v511
  let c0_553 : Index := 0#32
  ![3, v563.toNat, 0]
def k0_off6 (d0 : Dev nD) (c3_i32_524 : BitVec 32) : Fin 3 → Nat :=
  let c4 : Index := 4#32
  let c256_i32 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v501 : BitVec 32 := Scalar.addi v2 c3_i32_524
  let c8_i32_525 : BitVec 32 := 8#32
  let v502 : BitVec 32 := Scalar.remsi v501 c8_i32_525
  let v508 : BitVec 32 := Scalar.muli c256_i32 v502
  let c128_i32_530 : BitVec 32 := 128#32
  let v509 : BitVec 32 := Scalar.subi v508 c128_i32_530
  let c0_i32_531 : BitVec 32 := 0#32
  let v510 : BitVec 32 := Scalar.maxsi v509 c0_i32_531
  let v511 : BitVec 32 := v510
  let v579 : Index := Scalar.indexCast v511
  let c0_559 : Index := 0#32
  ![4, v579.toNat, 0]
def k0_off7 (d0 : Dev nD) (c3_i32_524 : BitVec 32) : Fin 3 → Nat :=
  let c5 : Index := 5#32
  let c256_i32 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v501 : BitVec 32 := Scalar.addi v2 c3_i32_524
  let c8_i32_525 : BitVec 32 := 8#32
  let v502 : BitVec 32 := Scalar.remsi v501 c8_i32_525
  let v508 : BitVec 32 := Scalar.muli c256_i32 v502
  let c128_i32_530 : BitVec 32 := 128#32
  let v509 : BitVec 32 := Scalar.subi v508 c128_i32_530
  let c0_i32_531 : BitVec 32 := 0#32
  let v510 : BitVec 32 := Scalar.maxsi v509 c0_i32_531
  let v511 : BitVec 32 := v510
  let v595 : Index := Scalar.indexCast v511
  let c0_565 : Index := 0#32
  ![5, v595.toNat, 0]
def k0_off8 (d0 : Dev nD) (c3_i32_524 : BitVec 32) : Fin 3 → Nat :=
  let c6 : Index := 6#32
  let c256_i32 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v501 : BitVec 32 := Scalar.addi v2 c3_i32_524
  let c8_i32_525 : BitVec 32 := 8#32
  let v502 : BitVec 32 := Scalar.remsi v501 c8_i32_525
  let v508 : BitVec 32 := Scalar.muli c256_i32 v502
  let c128_i32_530 : BitVec 32 := 128#32
  let v509 : BitVec 32 := Scalar.subi v508 c128_i32_530
  let c0_i32_531 : BitVec 32 := 0#32
  let v510 : BitVec 32 := Scalar.maxsi v509 c0_i32_531
  let v511 : BitVec 32 := v510
  let v611 : Index := Scalar.indexCast v511
  let c0_571 : Index := 0#32
  ![6, v611.toNat, 0]
def k0_off9 (d0 : Dev nD) (c3_i32_524 : BitVec 32) : Fin 3 → Nat :=
  let c7 : Index := 7#32
  let c256_i32 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v501 : BitVec 32 := Scalar.addi v2 c3_i32_524
  let c8_i32_525 : BitVec 32 := 8#32
  let v502 : BitVec 32 := Scalar.remsi v501 c8_i32_525
  let v508 : BitVec 32 := Scalar.muli c256_i32 v502
  let c128_i32_530 : BitVec 32 := 128#32
  let v509 : BitVec 32 := Scalar.subi v508 c128_i32_530
  let c0_i32_531 : BitVec 32 := 0#32
  let v510 : BitVec 32 := Scalar.maxsi v509 c0_i32_531
  let v511 : BitVec 32 := v510
  let v627 : Index := Scalar.indexCast v511
  let c0_577 : Index := 0#32
  ![7, v627.toNat, 0]
def k0_dev17 (d0 : Dev nD) : Nat :=
  let c0_i32_594 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_593 : BitVec 32 := 1#32
  let v650 : BitVec 32 := Scalar.muli v4 c1_i32_593
  let v651 : BitVec 32 := Scalar.addi c0_i32_594 v650
  v651.toNat
def k0_dev18 (d0 : Dev nD) : Nat :=
  let c0_i32_604 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_603 : BitVec 32 := 1#32
  let v660 : BitVec 32 := Scalar.muli v4 c1_i32_603
  let v661 : BitVec 32 := Scalar.addi c0_i32_604 v660
  v661.toNat
def k0_mult2 (d0 : Dev nD) : BitVec 32 :=
  let c256_i32_638 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_632 : BitVec 32 := 4#32
  let v688 : BitVec 32 := Scalar.addi v2 c4_i32_632
  let c8_i32_633 : BitVec 32 := 8#32
  let v689 : BitVec 32 := Scalar.remsi v688 c8_i32_633
  let v695 : BitVec 32 := Scalar.muli c256_i32_638 v689
  let c128_i32_639 : BitVec 32 := 128#32
  let v696 : BitVec 32 := Scalar.subi v695 c128_i32_639
  let c0_i32_640 : BitVec 32 := 0#32
  let v697 : BitVec 32 := Scalar.maxsi v696 c0_i32_640
  v697
def k0_dev19 (d0 : Dev nD) : Nat :=
  let c0_i32_709 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_708 : BitVec 32 := 1#32
  let v837 : BitVec 32 := Scalar.muli v7 c1_i32_708
  let v838 : BitVec 32 := Scalar.addi c0_i32_709 v837
  v838.toNat
def k0_dev20 (d0 : Dev nD) : Nat :=
  let c0_i32_719 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_718 : BitVec 32 := 1#32
  let v847 : BitVec 32 := Scalar.muli v7 c1_i32_718
  let v848 : BitVec 32 := Scalar.addi c0_i32_719 v847
  v848.toNat
def k0_mult3 (d0 : Dev nD) : BitVec 32 :=
  let c256_i32_733 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_727 : BitVec 32 := 2#32
  let v859 : BitVec 32 := Scalar.addi v2 c2_i32_727
  let c8_i32_728 : BitVec 32 := 8#32
  let v860 : BitVec 32 := Scalar.remsi v859 c8_i32_728
  let v866 : BitVec 32 := Scalar.muli c256_i32_733 v860
  let c128_i32_734 : BitVec 32 := 128#32
  let v867 : BitVec 32 := Scalar.subi v866 c128_i32_734
  let c0_i32_735 : BitVec 32 := 0#32
  let v868 : BitVec 32 := Scalar.maxsi v867 c0_i32_735
  v868
def k0_dev21 (d0 : Dev nD) : Nat :=
  let c0_i32_817 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_816 : BitVec 32 := 1#32
  let v1021 : BitVec 32 := Scalar.muli v4 c1_i32_816
  let v1022 : BitVec 32 := Scalar.addi c0_i32_817 v1021
  v1022.toNat
def k0_dev22 (d0 : Dev nD) : Nat :=
  let c0_i32_842 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_841 : BitVec 32 := 1#32
  let v1048 : BitVec 32 := Scalar.muli v4 c1_i32_841
  let v1049 : BitVec 32 := Scalar.addi c0_i32_842 v1048
  v1049.toNat
def k0_mult4 (d0 : Dev nD) : BitVec 32 :=
  let c256_i32_856 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_850 : BitVec 32 := 5#32
  let v1060 : BitVec 32 := Scalar.addi v2 c5_i32_850
  let c8_i32_851 : BitVec 32 := 8#32
  let v1061 : BitVec 32 := Scalar.remsi v1060 c8_i32_851
  let v1067 : BitVec 32 := Scalar.muli c256_i32_856 v1061
  let c128_i32_857 : BitVec 32 := 128#32
  let v1068 : BitVec 32 := Scalar.subi v1067 c128_i32_857
  let c0_i32_858 : BitVec 32 := 0#32
  let v1069 : BitVec 32 := Scalar.maxsi v1068 c0_i32_858
  v1069
def k0_dev23 (d0 : Dev nD) : Nat :=
  let c0_i32_940 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_939 : BitVec 32 := 1#32
  let v1222 : BitVec 32 := Scalar.muli v7 c1_i32_939
  let v1223 : BitVec 32 := Scalar.addi c0_i32_940 v1222
  v1223.toNat
def k0_dev24 (d0 : Dev nD) : Nat :=
  let c0_i32_966 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_965 : BitVec 32 := 1#32
  let v1249 : BitVec 32 := Scalar.muli v7 c1_i32_965
  let v1250 : BitVec 32 := Scalar.addi c0_i32_966 v1249
  v1250.toNat
def k0_mult5 (d0 : Dev nD) : BitVec 32 :=
  let c256_i32_980 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_974 : BitVec 32 := 1#32
  let v1261 : BitVec 32 := Scalar.addi v2 c1_i32_974
  let c8_i32_975 : BitVec 32 := 8#32
  let v1262 : BitVec 32 := Scalar.remsi v1261 c8_i32_975
  let v1268 : BitVec 32 := Scalar.muli c256_i32_980 v1262
  let c128_i32_981 : BitVec 32 := 128#32
  let v1269 : BitVec 32 := Scalar.subi v1268 c128_i32_981
  let c0_i32_982 : BitVec 32 := 0#32
  let v1270 : BitVec 32 := Scalar.maxsi v1269 c0_i32_982
  v1270
def k0_dev25 (d0 : Dev nD) : Nat :=
  let c0_i32_1064 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1063 : BitVec 32 := 1#32
  let v1423 : BitVec 32 := Scalar.muli v4 c1_i32_1063
  let v1424 : BitVec 32 := Scalar.addi c0_i32_1064 v1423
  v1424.toNat
def k0_dev26 (d0 : Dev nD) : Nat :=
  let c0_i32_1090 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1089 : BitVec 32 := 1#32
  let v1450 : BitVec 32 := Scalar.muli v4 c1_i32_1089
  let v1451 : BitVec 32 := Scalar.addi c0_i32_1090 v1450
  v1451.toNat
def k0_mult6 (d0 : Dev nD) : BitVec 32 :=
  let c256_i32_1104 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1098 : BitVec 32 := 6#32
  let v1462 : BitVec 32 := Scalar.addi v2 c6_i32_1098
  let c8_i32_1099 : BitVec 32 := 8#32
  let v1463 : BitVec 32 := Scalar.remsi v1462 c8_i32_1099
  let v1469 : BitVec 32 := Scalar.muli c256_i32_1104 v1463
  let c128_i32_1105 : BitVec 32 := 128#32
  let v1470 : BitVec 32 := Scalar.subi v1469 c128_i32_1105
  let c0_i32_1106 : BitVec 32 := 0#32
  let v1471 : BitVec 32 := Scalar.maxsi v1470 c0_i32_1106
  v1471
def k0_dev27 (d0 : Dev nD) : Nat :=
  let c0_i32_1188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1187 : BitVec 32 := 1#32
  let v1624 : BitVec 32 := Scalar.muli v7 c1_i32_1187
  let v1625 : BitVec 32 := Scalar.addi c0_i32_1188 v1624
  v1625.toNat
def k0_dev28 (d0 : Dev nD) : Nat :=
  let c0_i32_1214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1213 : BitVec 32 := 1#32
  let v1651 : BitVec 32 := Scalar.muli v7 c1_i32_1213
  let v1652 : BitVec 32 := Scalar.addi c0_i32_1214 v1651
  v1652.toNat
def k0_mult7 (d0 : Dev nD) : BitVec 32 :=
  let c256_i32_1228 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1222 : BitVec 32 := 7#32
  let v1663 : BitVec 32 := Scalar.addi v2 c7_i32_1222
  let c8_i32_1223 : BitVec 32 := 8#32
  let v1664 : BitVec 32 := Scalar.remsi v1663 c8_i32_1223
  let v1670 : BitVec 32 := Scalar.muli c256_i32_1228 v1664
  let c128_i32_1229 : BitVec 32 := 128#32
  let v1671 : BitVec 32 := Scalar.subi v1670 c128_i32_1229
  let c0_i32_1230 : BitVec 32 := 0#32
  let v1672 : BitVec 32 := Scalar.maxsi v1671 c0_i32_1230
  v1672
def k0_dev29 (d0 : Dev nD) : Nat :=
  let c0_i32_1312 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1311 : BitVec 32 := 1#32
  let v1825 : BitVec 32 := Scalar.muli v7 c1_i32_1311
  let v1826 : BitVec 32 := Scalar.addi c0_i32_1312 v1825
  v1826.toNat
def k0_dev30 (d0 : Dev nD) : Nat :=
  let c0_i32_1338 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1337 : BitVec 32 := 1#32
  let v1852 : BitVec 32 := Scalar.muli v7 c1_i32_1337
  let v1853 : BitVec 32 := Scalar.addi c0_i32_1338 v1852
  v1853.toNat
def k0_mult8 (d0 : Dev nD) : BitVec 32 :=
  let c256_i32_1349 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1868 : BitVec 32 := Scalar.muli c256_i32_1349 v2
  let c128_i32_1350 : BitVec 32 := 128#32
  let v1869 : BitVec 32 := Scalar.subi v1868 c128_i32_1350
  let c0_i32_1351 : BitVec 32 := 0#32
  let v1870 : BitVec 32 := Scalar.maxsi v1869 c0_i32_1351
  v1870
def k0_off10 (d0 : Dev nD) : Fin 3 → Nat :=
  let c0_1353 : Index := 0#32
  let c256_i32_1349 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1868 : BitVec 32 := Scalar.muli c256_i32_1349 v2
  let c128_i32_1350 : BitVec 32 := 128#32
  let v1869 : BitVec 32 := Scalar.subi v1868 c128_i32_1350
  let c0_i32_1351 : BitVec 32 := 0#32
  let v1870 : BitVec 32 := Scalar.maxsi v1869 c0_i32_1351
  let v1871 : BitVec 32 := v1870
  let v1875 : Index := Scalar.indexCast v1871
  let c0_1354 : Index := 0#32
  ![0, v1875.toNat, 0]
def k0_off11 (d0 : Dev nD) : Fin 3 → Nat :=
  let c1_1360 : Index := 1#32
  let c256_i32_1349 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1868 : BitVec 32 := Scalar.muli c256_i32_1349 v2
  let c128_i32_1350 : BitVec 32 := 128#32
  let v1869 : BitVec 32 := Scalar.subi v1868 c128_i32_1350
  let c0_i32_1351 : BitVec 32 := 0#32
  let v1870 : BitVec 32 := Scalar.maxsi v1869 c0_i32_1351
  let v1871 : BitVec 32 := v1870
  let v1891 : Index := Scalar.indexCast v1871
  let c0_1361 : Index := 0#32
  ![1, v1891.toNat, 0]
def k0_off12 (d0 : Dev nD) : Fin 3 → Nat :=
  let c2_1367 : Index := 2#32
  let c256_i32_1349 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1868 : BitVec 32 := Scalar.muli c256_i32_1349 v2
  let c128_i32_1350 : BitVec 32 := 128#32
  let v1869 : BitVec 32 := Scalar.subi v1868 c128_i32_1350
  let c0_i32_1351 : BitVec 32 := 0#32
  let v1870 : BitVec 32 := Scalar.maxsi v1869 c0_i32_1351
  let v1871 : BitVec 32 := v1870
  let v1907 : Index := Scalar.indexCast v1871
  let c0_1368 : Index := 0#32
  ![2, v1907.toNat, 0]
def k0_off13 (d0 : Dev nD) : Fin 3 → Nat :=
  let c3_1374 : Index := 3#32
  let c256_i32_1349 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1868 : BitVec 32 := Scalar.muli c256_i32_1349 v2
  let c128_i32_1350 : BitVec 32 := 128#32
  let v1869 : BitVec 32 := Scalar.subi v1868 c128_i32_1350
  let c0_i32_1351 : BitVec 32 := 0#32
  let v1870 : BitVec 32 := Scalar.maxsi v1869 c0_i32_1351
  let v1871 : BitVec 32 := v1870
  let v1923 : Index := Scalar.indexCast v1871
  let c0_1375 : Index := 0#32
  ![3, v1923.toNat, 0]
def k0_off14 (d0 : Dev nD) : Fin 3 → Nat :=
  let c4_1381 : Index := 4#32
  let c256_i32_1349 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1868 : BitVec 32 := Scalar.muli c256_i32_1349 v2
  let c128_i32_1350 : BitVec 32 := 128#32
  let v1869 : BitVec 32 := Scalar.subi v1868 c128_i32_1350
  let c0_i32_1351 : BitVec 32 := 0#32
  let v1870 : BitVec 32 := Scalar.maxsi v1869 c0_i32_1351
  let v1871 : BitVec 32 := v1870
  let v1939 : Index := Scalar.indexCast v1871
  let c0_1382 : Index := 0#32
  ![4, v1939.toNat, 0]
def k0_off15 (d0 : Dev nD) : Fin 3 → Nat :=
  let c5_1388 : Index := 5#32
  let c256_i32_1349 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1868 : BitVec 32 := Scalar.muli c256_i32_1349 v2
  let c128_i32_1350 : BitVec 32 := 128#32
  let v1869 : BitVec 32 := Scalar.subi v1868 c128_i32_1350
  let c0_i32_1351 : BitVec 32 := 0#32
  let v1870 : BitVec 32 := Scalar.maxsi v1869 c0_i32_1351
  let v1871 : BitVec 32 := v1870
  let v1955 : Index := Scalar.indexCast v1871
  let c0_1389 : Index := 0#32
  ![5, v1955.toNat, 0]
def k0_off16 (d0 : Dev nD) : Fin 3 → Nat :=
  let c6_1395 : Index := 6#32
  let c256_i32_1349 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1868 : BitVec 32 := Scalar.muli c256_i32_1349 v2
  let c128_i32_1350 : BitVec 32 := 128#32
  let v1869 : BitVec 32 := Scalar.subi v1868 c128_i32_1350
  let c0_i32_1351 : BitVec 32 := 0#32
  let v1870 : BitVec 32 := Scalar.maxsi v1869 c0_i32_1351
  let v1871 : BitVec 32 := v1870
  let v1971 : Index := Scalar.indexCast v1871
  let c0_1396 : Index := 0#32
  ![6, v1971.toNat, 0]
def k0_off17 (d0 : Dev nD) : Fin 3 → Nat :=
  let c7_1402 : Index := 7#32
  let c256_i32_1349 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1868 : BitVec 32 := Scalar.muli c256_i32_1349 v2
  let c128_i32_1350 : BitVec 32 := 128#32
  let v1869 : BitVec 32 := Scalar.subi v1868 c128_i32_1350
  let c0_i32_1351 : BitVec 32 := 0#32
  let v1870 : BitVec 32 := Scalar.maxsi v1869 c0_i32_1351
  let v1871 : BitVec 32 := v1870
  let v1987 : Index := Scalar.indexCast v1871
  let c0_1403 : Index := 0#32
  ![7, v1987.toNat, 0]
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2048x1024 : Shape := ⟨2, ![2048, 1024]⟩
abbrev S1024x8192 : Shape := ⟨2, ![1024, 8192]⟩
abbrev S1x4096x64x128 : Shape := ⟨4, ![1, 4096, 64, 128]⟩
abbrev S8192x1024 : Shape := ⟨2, ![8192, 1024]⟩
abbrev S2048x8192 : Shape := ⟨2, ![2048, 8192]⟩
abbrev S1x2048x64x128 : Shape := ⟨4, ![1, 2048, 64, 128]⟩
abbrev S2048 : Shape := ⟨1, ![2048]⟩
abbrev S2048x1 : Shape := ⟨2, ![2048, 1]⟩
abbrev S4096 : Shape := ⟨1, ![4096]⟩
abbrev S1x4096 : Shape := ⟨2, ![1, 4096]⟩
abbrev S2048x4096 : Shape := ⟨2, ![2048, 4096]⟩
abbrev S_ : Shape := ⟨0, ![]⟩
abbrev S1x64x2048x4096 : Shape := ⟨4, ![1, 64, 2048, 4096]⟩
abbrev S1x1x2048x4096 : Shape := ⟨4, ![1, 1, 2048, 4096]⟩
abbrev S1x64x2048 : Shape := ⟨3, ![1, 64, 2048]⟩
abbrev S1x64x2048x1 : Shape := ⟨4, ![1, 64, 2048, 1]⟩
abbrev S1x1x2048x1 : Shape := ⟨4, ![1, 1, 2048, 1]⟩
abbrev S1x64x128x2048 : Shape := ⟨4, ![1, 64, 128, 2048]⟩

abbrev nBuf : Space → Nat
  | .hbm => 57
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x8192, .f32⟩
  | .hbm, ⟨2, _⟩ => ⟨S1x4096x64x128, .f32⟩
  | .hbm, ⟨3, _⟩ => ⟨S1x4096x64x128, .f32⟩
  | .hbm, ⟨4, _⟩ => ⟨S8192x1024, .f32⟩
  | .hbm, ⟨5, _⟩ => ⟨S2048x8192, .f32⟩
  | .hbm, ⟨6, _⟩ => ⟨S1x2048x64x128, .f32⟩
  | .hbm, ⟨7, _⟩ => ⟨S2048, .i32⟩
  | .hbm, ⟨8, _⟩ => ⟨S2048x1, .i32⟩
  | .hbm, ⟨9, _⟩ => ⟨S4096, .i32⟩
  | .hbm, ⟨10, _⟩ => ⟨S1x4096, .i32⟩
  | .hbm, ⟨11, _⟩ => ⟨S2048x4096, .i32⟩
  | .hbm, ⟨12, _⟩ => ⟨S2048x4096, .i32⟩
  | .hbm, ⟨13, _⟩ => ⟨S2048x4096, .i32⟩
  | .hbm, ⟨14, _⟩ => ⟨S2048x4096, .i32⟩
  | .hbm, ⟨15, _⟩ => ⟨S_, .i32⟩
  | .hbm, ⟨16, _⟩ => ⟨S2048x4096, .i32⟩
  | .hbm, ⟨17, _⟩ => ⟨S2048x4096, .i1⟩
  | .hbm, ⟨18, _⟩ => ⟨S1x64x2048x4096, .f32⟩
  | .hbm, ⟨19, _⟩ => ⟨S_, .f32⟩
  | .hbm, ⟨20, _⟩ => ⟨S1x64x2048x4096, .f32⟩
  | .hbm, ⟨21, _⟩ => ⟨S1x64x2048x4096, .f32⟩
  | .hbm, ⟨22, _⟩ => ⟨S1x1x2048x4096, .i1⟩
  | .hbm, ⟨23, _⟩ => ⟨S_, .f32⟩
  | .hbm, ⟨24, _⟩ => ⟨S_, .f32⟩
  | .hbm, ⟨25, _⟩ => ⟨S1x64x2048x4096, .i1⟩
  | .hbm, ⟨26, _⟩ => ⟨S1x64x2048x4096, .f32⟩
  | .hbm, ⟨27, _⟩ => ⟨S1x64x2048x4096, .f32⟩
  | .hbm, ⟨28, _⟩ => ⟨S_, .f32⟩
  | .hbm, ⟨29, _⟩ => ⟨S1x64x2048, .f32⟩
  | .hbm, ⟨30, _⟩ => ⟨S1x64x2048x1, .f32⟩
  | .hbm, ⟨31, _⟩ => ⟨S1x64x2048x4096, .f32⟩
  | .hbm, ⟨32, _⟩ => ⟨S1x64x2048x4096, .f32⟩
  | .hbm, ⟨33, _⟩ => ⟨S1x64x2048x4096, .f32⟩
  | .hbm, ⟨34, _⟩ => ⟨S_, .i1⟩
  | .hbm, ⟨35, _⟩ => ⟨S2048, .i1⟩
  | .hbm, ⟨36, _⟩ => ⟨S1x1x2048x1, .i1⟩
  | .hbm, ⟨37, _⟩ => ⟨S_, .f32⟩
  | .hbm, ⟨38, _⟩ => ⟨S1x64x2048, .f32⟩
  | .hbm, ⟨39, _⟩ => ⟨S1x64x2048x1, .f32⟩
  | .hbm, ⟨40, _⟩ => ⟨S_, .f32⟩
  | .hbm, ⟨41, _⟩ => ⟨S_, .f32⟩
  | .hbm, ⟨42, _⟩ => ⟨S1x64x2048x1, .i1⟩
  | .hbm, ⟨43, _⟩ => ⟨S1x64x2048x1, .f32⟩
  | .hbm, ⟨44, _⟩ => ⟨S1x64x2048x1, .f32⟩
  | .hbm, ⟨45, _⟩ => ⟨S1x64x2048x4096, .f32⟩
  | .hbm, ⟨46, _⟩ => ⟨S1x64x2048x4096, .f32⟩
  | .hbm, ⟨47, _⟩ => ⟨S1x1x2048x1, .i1⟩
  | .hbm, ⟨48, _⟩ => ⟨S_, .f32⟩
  | .hbm, ⟨49, _⟩ => ⟨S_, .f32⟩
  | .hbm, ⟨50, _⟩ => ⟨S1x64x2048x4096, .i1⟩
  | .hbm, ⟨51, _⟩ => ⟨S1x64x2048x4096, .f32⟩
  | .hbm, ⟨52, _⟩ => ⟨S1x64x2048x4096, .f32⟩
  | .hbm, ⟨53, _⟩ => ⟨S1x64x128x2048, .f32⟩
  | .hbm, ⟨54, _⟩ => ⟨S1x2048x64x128, .f32⟩
  | .hbm, ⟨55, _⟩ => ⟨S2048x8192, .f32⟩
  | .hbm, ⟨56, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.KI.Spec.lean ====
/- What the kernel computes: the contents each of its buffers holds, as functions of the arguments on every device.
   The eight devices form a ring; device `c` keeps its own rows of `x`, receives every other device's rows over the
   two directions of the ring, and computes, for each block `j` of rows, the contribution of its own eight heads to
   the output's rows of block `j`. Two chains of partial sums then carry the contributions back to the blocks' owners. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pointwise.Index
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## The ring -/

set_option backward.proofsInPublic true in
/-- The device `k` places to the right of `c`. -/
def rot (c : Dev nD) (k : ℕ) : Dev nD := ⟨(c.val + k) % 8, Nat.mod_lt _ (by decide)⟩

/-- The right and the left neighbour. -/
abbrev nxt (c : Dev nD) : Dev nD := rot c 1
abbrev prv (c : Dev nD) : Dev nD := rot c 7

theorem prv_nxt (c : Dev nD) : prv (nxt c) = c := by revert c; decide
theorem nxt_prv (c : Dev nD) : nxt (prv c) = c := by revert c; decide
theorem rot_zero (c : Dev nD) : rot c 0 = c := by revert c; decide
theorem rot_eight (c : Dev nD) : rot c 8 = c := by revert c; decide

/-! ## The contribution of one device's heads to one block of rows -/

/-- The scaled queries of a block of rows. -/
def qOf (x : FVec F S256x1024 .bf16) (wq : FVec F S1024x1024 .bf16) : FVec F S256x1024 .bf16 :=
  truncf .bf16 (mulf (matmul dot_S256x1024_S1024x1024_S256x1024_1_0_0_1_n_n none x wq (constant S256x1024 .f32 0x00000000#32))
    (broadcast S256x1024 (Scalar.ofBits .f32 0x3DB504F3#32))) bitsLt_bf16_f32

/-- The exponentials of one head's masked scores: the head's 128 columns of the queries against its window of keys. -/
def expOf (q : FVec F S256x1024 .bf16) (M : FVec F S256x512 .f32) (o : Fin 2 → ℕ) (ho : S256x1024.Slices o S256x128)
    (k : Vec F S1x512x128 .bf16) : FVec F S256x512 .f32 :=
  exp (addf (matmul dot_S256x128_S512x128_S256x512_1_1_0_0_n_n none (extractStridedSlice S256x128 o q ho)
    (shapeCast S512x128 k shapeCasts_S1x512x128_S512x128) (constant S256x512 .f32 0x00000000#32)) M)

/-- The weighted values divided by the sum of the weights. -/
def ctxOf (e : FVec F S256x512 .f32) (v : Vec F S1x512x128 .bf16) : FVec F S256x128 .f32 :=
  divf (matmul dot_S256x512_S512x128_S256x128_1_0_0_1_n_n none (truncf .bf16 e bitsLt_bf16_f32)
      (shapeCast S512x128 v shapeCasts_S1x512x128_S512x128) (constant S256x128 .f32 0x00000000#32))
    (broadcastTo S256x128 (shapeCast S256x1 (multiReduction .add [1] S256 e 0x00000000#32 reduces_S256x512_S256 (.inl rfl) rfl)
      shapeCasts_S256_S256x1) broadcasts_S256x1_S256x128)

/-- One head's output. -/
def headOf (q : FVec F S256x1024 .bf16) (M : FVec F S256x512 .f32) (o : Fin 2 → ℕ) (ho : S256x1024.Slices o S256x128)
    (k v : Vec F S1x512x128 .bf16) : FVec F S256x128 .f32 := ctxOf (expOf q M o ho k) v

/-- The eight heads side by side, times the device's rows of the output weights. -/
def projOf (h0 h1 h2 h3 h4 h5 h6 h7 : FVec F S256x128 .f32) (wo : FVec F S1024x1024 .bf16) : FVec F S256x1024 .f32 :=
  matmul dot_S256x1024_S1024x1024_S256x1024_1_0_0_1_n_n none
    (truncf .bf16 (concatenate S256x1024 1 [⟨S256x128, h0⟩, ⟨S256x128, h1⟩, ⟨S256x128, h2⟩, ⟨S256x128, h3⟩, ⟨S256x128, h4⟩, ⟨S256x128, h5⟩, ⟨S256x128, h6⟩, ⟨S256x128, h7⟩]
      concatenates_S256x128_S256x128_S256x128_S256x128_S256x128_S256x128_S256x128_S256x128_S256x1024_d1) bitsLt_bf16_f32)
    wo (constant S256x1024 .f32 0x00000000#32)

/-- Where the keys of block `j` start within a device's rows of keys. -/
def wst (j : Dev nD) : ℕ := 256 * j.val - 128

theorem wst_le (j : Dev nD) (x : ℕ) (h : x < 512) : wst j + x < 2176 := by
  have := j.isLt; have : nD = 8 := rfl; unfold wst; omega

/-- The 512 rows of head `h` from `wst j` on. -/
def win (b : Vec F S8x2176x128 .bf16) (h : Fin 8) (j : Dev nD) : Vec F S1x512x128 .bf16 :=
  fun i => b (ix3 h ⟨wst j + (i 1).val, wst_le j _ (i 1).isLt⟩ (i 2))

/-- The mask of block `j`: its first block starts at the first key, the others 128 keys before their first row. -/
def maskOf (j : Dev nD) : FVec F S256x512 .f32 := if j.val = 0 then k0_pay9 (F := F) else k0_pay8 (F := F)

/-- The contribution to block `j` from queries `q`, keys `kb`, values `vb`, output weights `wo`. -/
def contribQ (q : FVec F S256x1024 .bf16) (kb vb : Vec F S8x2176x128 .bf16) (wo : FVec F S1024x1024 .bf16) (j : Dev nD) :
    FVec F S256x1024 .f32 :=
  projOf
    (headOf q (maskOf j) ![0, 0] slices_S256x1024_o0_0_S256x128 (win kb 0 j) (win vb 0 j))
    (headOf q (maskOf j) ![0, 128] slices_S256x1024_o0_128_S256x128 (win kb 1 j) (win vb 1 j))
    (headOf q (maskOf j) ![0, 256] slices_S256x1024_o0_256_S256x128 (win kb 2 j) (win vb 2 j))
    (headOf q (maskOf j) ![0, 384] slices_S256x1024_o0_384_S256x128 (win kb 3 j) (win vb 3 j))
    (headOf q (maskOf j) ![0, 512] slices_S256x1024_o0_512_S256x128 (win kb 4 j) (win vb 4 j))
    (headOf q (maskOf j) ![0, 640] slices_S256x1024_o0_640_S256x128 (win kb 5 j) (win vb 5 j))
    (headOf q (maskOf j) ![0, 768] slices_S256x1024_o0_768_S256x128 (win kb 6 j) (win vb 6 j))
    (headOf q (maskOf j) ![0, 896] slices_S256x1024_o0_896_S256x128 (win kb 7 j) (win vb 7 j)) wo

/-! ## The contents -/

variable (m : (ℓ : Loc nD τ sig) → Buf (Elt F) ℓ)

/-- The arguments' blocks on device `c`, as the pipeline stages them. -/
def xstg (c : Dev nD) : (cc0_stg0_0 : Ref sig .tc).ty.Contents (Elt F) :=
  (win0_0.blk (0 : Fin 1)).view.read (Elt F) (m ((c : Thread nD τ).loc main_arg0))
def wqstg (c : Dev nD) : (cc0_stg1_0 : Ref sig .tc).ty.Contents (Elt F) :=
  (win0_1.blk (0 : Fin 1)).view.read (Elt F) (m ((c : Thread nD τ).loc main_arg1))
def wostg (c : Dev nD) : (cc0_stg2_0 : Ref sig .tc).ty.Contents (Elt F) :=
  (win0_2.blk (0 : Fin 1)).view.read (Elt F) (m ((c : Thread nD τ).loc main_arg4))

/-- Device `c`'s eight heads of an array of keys or values: head `h` is the array's head `8 c + h`. -/
def headsOf (c : Dev nD) (a : Vec F S1x4096x64x128 .f32) : Vec F S8x2176x128 .f32 := fun i =>
  a (ix4 0 ⟨(i 1).val, lt_of_lt_of_le (i 1).isLt (by decide)⟩
    ⟨8 * c.val + (i 0).val, by have := c.isLt; have : nD = 8 := rfl; have : (i 0).val < 8 := (i 0).isLt; omega⟩ (i 2))

def KF (c : Dev nD) : (cc0_scratch0 : Ref sig .tc).ty.Contents (Elt F) := headsOf c (m ((c : Thread nD τ).loc main_arg2))
def VF (c : Dev nD) : (cc0_scratch1 : Ref sig .tc).ty.Contents (Elt F) := headsOf c (m ((c : Thread nD τ).loc main_arg3))
def KB (c : Dev nD) : (cc0_scratch2 : Ref sig .tc).ty.Contents (Elt F) := k0_pay4 (KF m c)
def VB (c : Dev nD) : (cc0_scratch3 : Ref sig .tc).ty.Contents (Elt F) := k0_pay6 (k0_pay5 (VF m c))
def XB (c : Dev nD) : (cc0_scratch4 : Ref sig .tc).ty.Contents (Elt F) := k0_pay1 (xstg m c)
def WQB (c : Dev nD) : (cc0_scratch5 : Ref sig .tc).ty.Contents (Elt F) := k0_pay2 (wqstg m c)
def WOB (c : Dev nD) : (cc0_scratch6 : Ref sig .tc).ty.Contents (Elt F) := k0_pay3 (wostg m c)

/-- What arrives from the left: slot `t` holds the rows of the device `t` places to the left; -/
def XL (c : Dev nD) : (cc0_scratch7 : Ref sig .tc).ty.Contents (Elt F) := fun i => XB m (rot c (8 - (i 0).val)) (ix2 (i 1) (i 2))
/-- from the right, those of the device `t` places to the right. -/
def XR (c : Dev nD) : (cc0_scratch8 : Ref sig .tc).ty.Contents (Elt F) := fun i => XB m (rot c (i 0).val) (ix2 (i 1) (i 2))

/-- Device `c`'s contribution to block `j`. -/
def ctr (c j : Dev nD) : FVec F S256x1024 .f32 := contribQ (qOf (XB m j) (WQB m c)) (KB m c) (VB m c) (WOB m c) j

/-- One step of a chain: the partial sum that arrived plus this device's contribution, rounded. -/
def accStep (a : FVec F S256x1024 .bf16) (t : FVec F S256x1024 .f32) : FVec F S256x1024 .bf16 :=
  truncf .bf16 (addf (extf .f32 a bitsLt_bf16_f32) t) bitsLt_bf16_f32

/-- The chain to the right: slot `s` of device `c` before it goes on. -/
def bval : ℕ → Dev nD → FVec F S256x1024 .bf16
  | 0, c => truncf .bf16 (ctr m c (rot c 3)) bitsLt_bf16_f32
  | s + 1, c => accStep (bval s (prv c)) (ctr m c (rot c (2 - s)))
/-- The chain to the left. -/
def aval : ℕ → Dev nD → FVec F S256x1024 .bf16
  | 0, c => truncf .bf16 (ctr m c (rot c 4)) bitsLt_bf16_f32
  | s + 1, c => accStep (aval s (nxt c)) (ctr m c (rot c (5 + s)))

/-- The slots of the two chains as they go on and as they arrive. -/
def BO (c : Dev nD) : (cc0_scratch10 : Ref sig .tc).ty.Contents (Elt F) := fun i => bval m (i 0).val c (ix2 (i 1) (i 2))
def BI (c : Dev nD) : (cc0_scratch10 : Ref sig .tc).ty.Contents (Elt F) := fun i => bval m ((i 0).val - 1) (prv c) (ix2 (i 1) (i 2))
def AO (c : Dev nD) : (cc0_scratch9 : Ref sig .tc).ty.Contents (Elt F) := fun i => aval m (i 0).val c (ix2 (i 1) (i 2))
def AI (c : Dev nD) : (cc0_scratch9 : Ref sig .tc).ty.Contents (Elt F) := fun i => aval m ((i 0).val - 1) (nxt c) (ix2 (i 1) (i 2))

/-- The result on device `c`: both finished chains and its own contribution. -/
def outAt (c : Dev nD) : (cc0_stg3_0 : Ref sig .tc).ty.Contents (Elt F) :=
  addf (addf (extf .f32 (aval m 3 (nxt c)) bitsLt_bf16_f32) (extf .f32 (bval m 2 (prv c)) bitsLt_bf16_f32)) (ctr m c c)

end Cert.KernelIdeal.Run

end
-- ==== Proof.KI.Sched.lean ====
module

public import proofs.«01_k».proof.Proof.KI.Spec

/-! The cells of the protocol, their schedule, what each device owes, and the levels. -/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## Resources -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Lists of resources -/

section Lists
variable {I : Type}

/-- The resources of a list, one after the other. -/
def seqL (Φ : I → sProp 𝕄) : List I → sProp 𝕄
  | [] => iprop(emp)
  | i :: l => iprop(Φ i ∗ seqL Φ l)

theorem seqL_append {Φ : I → sProp 𝕄} (l l' : List I) : seqL Φ (l ++ l') ⊣⊢ iprop(seqL Φ l ∗ seqL Φ l') := by
  induction l with
  | nil => exact ⟨Idealize.SL.BI.emp_sep.2, Idealize.SL.BI.emp_sep.1⟩
  | cons i l ih =>
    constructor
    · show iprop(Φ i ∗ seqL Φ (l ++ l')) ⊢ iprop((Φ i ∗ seqL Φ l) ∗ seqL Φ l')
      iintro ⟨H, Hs⟩
      ihave H' := ih.1 $$ Hs
      icases H' with ⟨H1, H2⟩
      isplitl [H H1]
      · isplitl [H] <;> iassumption
      · iexact H2
    · show iprop((Φ i ∗ seqL Φ l) ∗ seqL Φ l') ⊢ iprop(Φ i ∗ seqL Φ (l ++ l'))
      iintro ⟨⟨H, H1⟩, H2⟩
      isplitl [H]; · iexact H
      iapply ih.2
      isplitl [H1] <;> iassumption

theorem seqL_perm {Φ : I → sProp 𝕄} {l l' : List I} (h : l.Perm l') : seqL Φ l ⊢ seqL Φ l' := by
  induction h with
  | nil => exact BI.Entails.refl _
  | cons i _ ih => exact sep_mono_right ih
  | swap i j l =>
    show iprop(Φ j ∗ Φ i ∗ seqL Φ l) ⊢ iprop(Φ i ∗ Φ j ∗ seqL Φ l)
    iintro ⟨H1, H2, H3⟩
    isplitl [H2]; · iexact H2
    isplitl [H1] <;> iassumption
  | trans _ _ ih ih' => exact ih.trans ih'

theorem seqL_mono {Φ Ψ : I → sProp 𝕄} {l : List I} (h : ∀ i ∈ l, Φ i ⊢ Ψ i) : seqL Φ l ⊢ seqL Ψ l := by
  induction l with
  | nil => exact BI.Entails.refl _
  | cons i l ih => exact Idealize.SL.BI.sep_mono (h i List.mem_cons_self) (ih fun j hj => h j (List.mem_cons_of_mem _ hj))

theorem seqL_sep {Φ Ψ : I → sProp 𝕄} (l : List I) : seqL (fun i => iprop(Φ i ∗ Ψ i)) l ⊣⊢ iprop(seqL Φ l ∗ seqL Ψ l) := by
  induction l with
  | nil => exact ⟨Idealize.SL.BI.emp_sep.2, Idealize.SL.BI.emp_sep.1⟩
  | cons i l ih =>
    constructor
    · show iprop((Φ i ∗ Ψ i) ∗ seqL (fun i => iprop(Φ i ∗ Ψ i)) l) ⊢ iprop((Φ i ∗ seqL Φ l) ∗ Ψ i ∗ seqL Ψ l)
      iintro ⟨⟨H1, H2⟩, H⟩
      ihave H' := ih.1 $$ H
      icases H' with ⟨H3, H4⟩
      isplitl [H1 H3]
      · isplitl [H1] <;> iassumption
      · isplitl [H2] <;> iassumption
    · show iprop((Φ i ∗ seqL Φ l) ∗ Ψ i ∗ seqL Ψ l) ⊢ iprop((Φ i ∗ Ψ i) ∗ seqL (fun i => iprop(Φ i ∗ Ψ i)) l)
      iintro ⟨⟨H1, H3⟩, H2, H4⟩
      isplitl [H1 H2]
      · isplitl [H1] <;> iassumption
      · iapply ih.2
        isplitl [H3] <;> iassumption

theorem seqL_map {Φ : I → sProp 𝕄} {J : Type} (g : J → I) (l : List J) : seqL Φ (l.map g) = seqL (fun j => Φ (g j)) l := by
  induction l with
  | nil => rfl
  | cons i l ih => exact congrArg (BIBase.sep (Φ (g i))) ih

theorem bigSep_seqL {Φ : I → sProp 𝕄} [DecidableEq I] (l : List I) (hl : l.Nodup) : bigSep l.toFinset Φ ⊣⊢ seqL Φ l := by
  induction l with
  | nil => rw [List.toFinset_nil, bigSep_empty]; exact ⟨BI.Entails.refl _, BI.Entails.refl _⟩
  | cons i l ih =>
    have hi : i ∉ l.toFinset := fun h => (List.nodup_cons.mp hl).1 (List.mem_toFinset.mp h)
    rw [List.toFinset_cons, bigSep_insert hi]
    have := ih (List.nodup_cons.mp hl).2
    exact ⟨sep_mono_right this.1, sep_mono_right this.2⟩

instance seqL_storable (Φ : I → sProp 𝕄) [∀ i, BI.Storable (upEmb : UEmb _ 𝕄) (Φ i)] (l : List I) : BI.Storable (upEmb : UEmb _ 𝕄) (seqL Φ l) := by
  induction l with
  | nil => unfold seqL; infer_instance
  | cons i l ih => unfold seqL; infer_instance

end Lists

/-! ## The transfers

The rows travel in halves of 128. Links `0 … 27` are the transfers in the order they start: rows to the right (`xl`) and
to the left (`xr`), partial sums to the left (`a`) and to the right (`b`). A link is named by what travels, the slot it lands
in and the first row of its half. -/

inductive Kind | xl | xr | a | b
deriving DecidableEq

def kind (n : ℕ) : Kind := ([.xl, .xr, .xl, .xr, .xl, .xr, .xl, .xr, .xl, .xr, .xl, .xr, .xr, .xr, .b, .b, .a, .a, .b, .b, .a, .a, .b, .b, .a, .a, .a, .a] : List Kind).getD n .xl
def slot (n : ℕ) : ℕ := ([1, 1, 1, 1, 2, 2, 2, 2, 3, 3, 3, 3, 4, 4, 1, 1, 1, 1, 2, 2, 2, 2, 3, 3, 3, 3, 4, 4] : List ℕ).getD n 1
def row (n : ℕ) : ℕ := ([0, 0, 128, 128, 0, 0, 128, 128, 0, 0, 128, 128, 0, 128, 0, 128, 0, 128, 0, 128, 0, 128, 0, 128, 0, 128, 0, 128] : List ℕ).getD n 0

/-- Whether a link goes to the right. -/
def Kind.right : Kind → Bool | .xl | .b => true | .xr | .a => false
/-- The device a link of `c` goes to, and the one it comes from. -/
def peer (n : ℕ) (c : Dev nD) : Dev nD := if (kind n).right then nxt c else prv c
def from' (n : ℕ) (c : Dev nD) : Dev nD := if (kind n).right then prv c else nxt c

theorem peer_from (n : ℕ) (c : Dev nD) : peer n (from' n c) = c := by
  unfold peer from'; split <;> first | exact nxt_prv c | exact prv_nxt c
theorem from_peer (n : ℕ) (c : Dev nD) : from' n (peer n c) = c := by
  unfold peer from'; split <;> first | exact nxt_prv c | exact prv_nxt c

/-! ## The cells

Cells `0 … 27` receive the links, `28 … 55` are their senders' and `56 … 71` are the copies of the keys and values. -/

def cq (k : ℕ) : ℕ := ([30, 48, 31, 49, 32, 50, 33, 51, 34, 52, 35, 53, 54, 55, 86, 87, 68, 69, 88, 89, 70, 71, 90, 91, 72, 73, 74, 75, 22, 38, 23, 39, 24, 40, 25, 41, 26, 42, 27, 43, 44, 45, 78, 79, 58, 59, 80, 81, 60, 61, 82, 83, 62, 63, 64, 65, 4, 5, 6, 7, 8, 9, 10, 11, 12, 13, 14, 15, 16, 17, 18, 19] : List ℕ).getD k 30
def cix (q : ℕ) : ℕ := ([72, 72, 72, 72, 56, 57, 58, 59, 60, 61, 62, 63, 64, 65, 66, 67, 68, 69, 70, 71, 72, 72, 28, 30, 32, 34, 36, 38, 72, 72, 0, 2, 4, 6, 8, 10, 72, 72, 29, 31, 33, 35, 37, 39, 40, 41, 72, 72, 1, 3, 5, 7, 9, 11, 12, 13, 72, 72, 44, 45, 48, 49, 52, 53, 54, 55, 72, 72, 16, 17, 20, 21, 24, 25, 26, 27, 72, 72, 42, 43, 46, 47, 50, 51, 72, 72, 14, 15, 18, 19, 22, 23] : List ℕ).getD q 72

theorem cix_cq : ∀ k : Fin 72, cix (cq k.val) = k.val := by decide
theorem cq_lt : ∀ k : Fin 72, cq k.val < 92 := by decide
theorem cq_ge : ∀ k : Fin 72, 4 ≤ cq k.val := by decide

/-- A DMA semaphore by its number. -/
def dq (x : ℕ) : DmaSem sig := ⟨x % 92, Nat.mod_lt _ (by decide)⟩
theorem dq_val (k : ℕ) (h : k < 72) : (dq (cq k)).val = cq k := Nat.mod_eq_of_lt (cq_lt ⟨k, h⟩)

abbrev barS : Sem sig := (SemArray.scalar (sig.barrier 0 rfl) : Sems sig S_).sem
abbrev barCell (c : Dev nD) : GSem nD τ sig := ((c : Thread nD τ), .reg barS)
abbrev dcell (c : Dev nD) (k : ℕ) : GSem nD τ sig := ((c : Thread nD τ), .dma (dq (cq k)))
abbrev recvCell (c : Dev nD) (n : ℕ) : GSem nD τ sig := dcell c n
abbrev sendCell (c : Dev nD) (n : ℕ) : GSem nD τ sig := dcell c (28 + n)
abbrev kvCell (c : Dev nD) (k : ℕ) : GSem nD τ sig := dcell c (56 + k)

/-- The credit of one half's transfer and of one head's copy. -/
abbrev N : ℕ := ((Memref.whole cc0_scratch4 : Memref sig .tc .vmem S256x1024 .bf16).slice (Rect.unit (s := S256x1024) ![0, 0] S128x1024.size inb_S256x1024_S128x1024_0_0) (fun _ => rfl)).view.dmaCredit
theorem N_pos : 0 < N := View.dmaCredit_pos _ (by decide)
abbrev N2 : ℕ := (((Memref.whole cc0_scratch0 : Memref sig .tc .vmem S8x2176x128 .f32).slice (Rect.unit (s := S8x2176x128) ![0, 0, 0] S1x2176x128.size inb_S8x2176x128_S1x2176x128_0_0_0) (fun _ => rfl)).squeeze S2176x128 squeezes_S1x2176x128_S2176x128).view.dmaCredit
theorem N2_pos : 0 < N2 := View.dmaCredit_pos _ (by decide)

/-! ## The pieces of memory that travel -/

/-- The half of slot `t` from row `r` on, in a buffer of four or of five slots; the half of a block. -/
def hs4 (t r : ℕ) : Finset S4x256x1024.Idx := Finset.univ.filter fun i => (i 0).val = t ∧ r ≤ (i 1).val ∧ (i 1).val < r + 128
def hs5 (t r : ℕ) : Finset S5x256x1024.Idx := Finset.univ.filter fun i => (i 0).val = t ∧ r ≤ (i 1).val ∧ (i 1).val < r + 128
def hs1 (r : ℕ) : Finset S256x1024.Idx := Finset.univ.filter fun i => r ≤ (i 0).val ∧ (i 0).val < r + 128
/-- One head of the keys or values. -/
def hdS (h : ℕ) : Finset S8x2176x128.Idx := Finset.univ.filter fun i => (i 0).val = h

def pXL (q : PosShare TreeShare) (c : Dev nD) (t r : ℕ) (f : Vec F S4x256x1024 .bf16) : sProp 𝕄 :=
  ((c : Thread nD τ).loc cc0_scratch7) ↦[hs4 t r]{q} f
def pXR (q : PosShare TreeShare) (c : Dev nD) (t r : ℕ) (f : Vec F S5x256x1024 .bf16) : sProp 𝕄 :=
  ((c : Thread nD τ).loc cc0_scratch8) ↦[hs5 t r]{q} f
def pA (q : PosShare TreeShare) (c : Dev nD) (t r : ℕ) (f : Vec F S5x256x1024 .bf16) : sProp 𝕄 :=
  ((c : Thread nD τ).loc cc0_scratch9) ↦[hs5 t r]{q} f
def pB (q : PosShare TreeShare) (c : Dev nD) (t r : ℕ) (f : Vec F S4x256x1024 .bf16) : sProp 𝕄 :=
  ((c : Thread nD τ).loc cc0_scratch10) ↦[hs4 t r]{q} f
def pX (q : PosShare TreeShare) (c : Dev nD) (r : ℕ) (f : Vec F S256x1024 .bf16) : sProp 𝕄 :=
  ((c : Thread nD τ).loc cc0_scratch4) ↦[hs1 r]{q} f
def pK (c : Dev nD) (h : ℕ) (f : Vec F S8x2176x128 .f32) : sProp 𝕄 :=
  ((c : Thread nD τ).loc cc0_scratch0) ↦[hdS h]{fullShare} f
def pV (c : Dev nD) (h : ℕ) (f : Vec F S8x2176x128 .f32) : sProp 𝕄 :=
  ((c : Thread nD τ).loc cc0_scratch1) ↦[hdS h]{fullShare} f

instance (q c t r f) : BI.Storable (upEmb : UEmb _ 𝕄) (pXL (F := F) q c t r f) := by unfold pXL; infer_instance
instance (q c t r f) : BI.Storable (upEmb : UEmb _ 𝕄) (pXR (F := F) q c t r f) := by unfold pXR; infer_instance
instance (q c t r f) : BI.Storable (upEmb : UEmb _ 𝕄) (pA (F := F) q c t r f) := by unfold pA; infer_instance
instance (q c t r f) : BI.Storable (upEmb : UEmb _ 𝕄) (pB (F := F) q c t r f) := by unfold pB; infer_instance
instance (q c r f) : BI.Storable (upEmb : UEmb _ 𝕄) (pX (F := F) q c r f) := by unfold pX; infer_instance
instance (c h f) : BI.Storable (upEmb : UEmb _ 𝕄) (pK (F := F) c h f) := by unfold pK; infer_instance
instance (c h f) : BI.Storable (upEmb : UEmb _ 𝕄) (pV (F := F) c h f) := by unfold pV; infer_instance

/-- The share a transfer reads its source with, and the share that stays. -/
abbrev qS : PosShare TreeShare := fullShare.left
abbrev qK : PosShare TreeShare := fullShare.right

/-- Where a link lands on device `c`, before it lands; -/
def landK (k : Kind) (c : Dev nD) (t r : ℕ) : sProp 𝕄 :=
  match k with
  | .xl => iprop(∃ f, pXL fullShare c t r f)
  | .xr => iprop(∃ f, pXR fullShare c t r f)
  | .a => iprop(∃ f, pA fullShare c t r f)
  | .b => iprop(∃ f, pB fullShare c t r f)
def land (c : Dev nD) (n : ℕ) : sProp 𝕄 := landK (kind n) c (slot n) (row n)
/-- once it has landed; -/
def inK (k : Kind) (c : Dev nD) (t r : ℕ) : sProp 𝕄 :=
  match k with
  | .xl => pXL fullShare c t r (XL m c)
  | .xr => pXR fullShare c t r (XR m c)
  | .a => pA fullShare c t r (AI m c)
  | .b => pB fullShare c t r (BI m c)
def recvPay (c : Dev nD) (n : ℕ) : sProp 𝕄 := inK m (kind n) c (slot n) (row n)
/-- and what its sender gets back. -/
def outK (k : Kind) (c : Dev nD) (t r : ℕ) : sProp 𝕄 :=
  match k, t with
  | .xl, 0 => pX qS.left c r (XB m c)
  | .xr, 0 => pX qS.right c r (XB m c)
  | .xl, t + 1 => pXL qS c (t + 1) r (XL m c)
  | .xr, t + 1 => pXR qS c (t + 1) r (XR m c)
  | .a, t => pA qS c t r (AO m c)
  | .b, t => pB qS c t r (BO m c)
def sendPay (c : Dev nD) (n : ℕ) : sProp 𝕄 := outK m (kind n) c (slot n - 1) (row n)
/-- What a copied head of the keys or values leaves. -/
def kvPay (c : Dev nD) (k : ℕ) : sProp 𝕄 := if k < 8 then pK c k (KF m c) else pV c (k - 8) (VF m c)

instance (k c t r) : BI.Storable (upEmb : UEmb _ 𝕄) (landK (F := F) k c t r) := by unfold landK; cases k <;> infer_instance
instance (c n) : BI.Storable (upEmb : UEmb _ 𝕄) (land (F := F) c n) := by unfold land; infer_instance
instance (k c t r) : BI.Storable (upEmb : UEmb _ 𝕄) (inK m k c t r) := by unfold inK; cases k <;> infer_instance
instance (c n) : BI.Storable (upEmb : UEmb _ 𝕄) (recvPay m c n) := by unfold recvPay; infer_instance
instance (k c t r) : BI.Storable (upEmb : UEmb _ 𝕄) (outK m k c t r) := by unfold outK; split <;> infer_instance
instance (c n) : BI.Storable (upEmb : UEmb _ 𝕄) (sendPay m c n) := by unfold sendPay; infer_instance
instance (c k) : BI.Storable (upEmb : UEmb _ 𝕄) (kvPay m c k) := by unfold kvPay; split <;> infer_instance

/-! ## The schedule -/

/-- The links to the right and to the left. -/
def toR : List ℕ := (List.range 28).filter fun n => (kind n).right
def toL : List ℕ := (List.range 28).filter fun n => !(kind n).right

/-- What a neighbour's barrier signal hands device `c`: every place on the neighbour that links of `c` land in. The right
neighbour pays duty `true`, the left one `false`. -/
def barPay (c : Dev nD) (d : Bool) : sProp 𝕄 := if d then seqL (land (nxt c)) toR else seqL (land (prv c)) toL

def dmaPay (c : Dev nD) (k : ℕ) : sProp 𝕄 :=
  if k < 28 then recvPay m c k else if k < 56 then sendPay m c (k - 28) else kvPay m c (k - 56)

/-- One round: a barrier cell has both neighbours' units, every other cell one transfer's credit. -/
def rd : Rounds.Schedule (GSem nD τ sig) Bool 𝕄 where
  duties g r := if r = 0 ∧ g.1.2 = .tc then (match g.2 with
    | .reg s => if s = barS then Finset.univ else ∅
    | .dma q => if cix q.val < 72 then {false} else ∅) else ∅
  unitless _ := False
  amount g _ _ := match g.2 with
    | .reg _ => 1
    | .dma q => if cix q.val < 56 then N else N2
  payload g _ d := match g.2 with
    | .reg _ => barPay g.1.1 d
    | .dma q => dmaPay m g.1.1 (cix q.val)
  amount_pos g _ _ _ := by
    obtain ⟨t, s⟩ := g
    cases s with
    | reg s => exact Nat.one_pos
    | dma q => show 0 < if cix q.val < 56 then N else N2; split; exacts [N_pos, N2_pos]

instance rd_storable (g : GSem nD τ sig) (r : ℕ) (d : Bool) : BI.Storable (upEmb : UEmb _ 𝕄) ((rd m).payload g r d) := by
  obtain ⟨t, s⟩ := g
  cases s with
  | reg s =>
    show BI.Storable (upEmb : UEmb _ 𝕄) (barPay t.1 d)
    unfold barPay; split <;> infer_instance
  | dma q =>
    show BI.Storable (upEmb : UEmb _ 𝕄) (dmaPay m t.1 (cix q.val))
    unfold dmaPay; (repeat' split) <;> infer_instance

section Sched
variable (c : Dev nD)

theorem duties_bar : (rd m).duties (barCell c) 0 = Finset.univ := by
  dsimp only [rd]; rw [if_pos ⟨rfl, rfl⟩]; exact if_pos rfl
theorem cix_dq (k : ℕ) (hk : k < 72) : cix (dq (cq k)).val = k := by rw [dq_val k hk]; exact cix_cq ⟨k, hk⟩
theorem duties_d (k : ℕ) (hk : k < 72) : (rd m).duties (dcell c k) 0 = {false} := by
  dsimp only [rd]; rw [if_pos ⟨rfl, rfl⟩]; exact if_pos (by rw [cix_dq k hk]; exact hk)
theorem duties_later (g : GSem nD τ sig) : ∀ r, 1 ≤ r → (rd m).duties g r = ∅ := fun r hr => if_neg fun h => by omega
theorem amount_bar (d : Bool) : (rd m).amount (barCell c) 0 d = 1 := rfl
theorem amount_d (k : ℕ) (hk : k < 56) (d : Bool) : (rd m).amount (dcell c k) 0 d = N :=
  if_pos (by rw [cix_dq k (by omega)]; exact hk)
theorem amount_kv (k : ℕ) (hk : k < 16) (d : Bool) : (rd m).amount (kvCell c k) 0 d = N2 :=
  if_neg (by rw [cix_dq _ (by omega)]; omega)
theorem expect_bar : (rd m).expect (barCell c) 0 = 2 := by
  unfold Schedule.expect Schedule.amountOf
  rw [duties_bar, Finset.sum_congr rfl fun d _ => amount_bar m c d, Finset.sum_const, Finset.card_univ, Fintype.card_bool, smul_eq_mul]
theorem expect_d (k : ℕ) (hk : k < 56) : (rd m).expect (dcell c k) 0 = N := by
  unfold Schedule.expect Schedule.amountOf; rw [duties_d m c k (by omega), Finset.sum_singleton, amount_d m c k hk]
theorem expect_kv (k : ℕ) (hk : k < 16) : (rd m).expect (kvCell c k) 0 = N2 := by
  unfold Schedule.expect Schedule.amountOf; rw [duties_d m c _ (by omega), Finset.sum_singleton, amount_kv m c k hk]
theorem payload_bar (d : Bool) : (rd m).payload (barCell c) 0 d = barPay c d := rfl
theorem payload_d (k : ℕ) (hk : k < 72) (d : Bool) : (rd m).payload (dcell c k) 0 d = dmaPay m c k := by
  show dmaPay m c (cix (dq (cq k)).val) = _
  rw [cix_dq k hk]
theorem payload_recv (n : ℕ) (hn : n < 28) (d : Bool) : (rd m).payload (recvCell c n) 0 d = recvPay m c n :=
  (payload_d m c n (by omega) d).trans (if_pos hn)
theorem payload_send (n : ℕ) (hn : n < 28) (d : Bool) : (rd m).payload (sendCell c n) 0 d = sendPay m c n := by
  rw [payload_d m c _ (by omega), dmaPay, if_neg (by omega), if_pos (by omega), Nat.add_sub_cancel_left]
theorem payload_kv (k : ℕ) (hk : k < 16) (d : Bool) : (rd m).payload (kvCell c k) 0 d = kvPay m c k := by
  rw [payload_d m c _ (by omega), dmaPay, if_neg (by omega), if_neg (by omega), Nat.add_sub_cancel_left]
theorem rest_bar : bigSep ((rd m).duties (barCell c) 0 \ ∅) (fun d => (rd m).payload (barCell c) 0 d) = iprop(barPay c false ∗ barPay c true) := by
  rw [Finset.sdiff_empty, duties_bar, bigSep_univ_eq_bigSepL [false, true] (by decide) (by decide), bigSepL_cons_cons, bigSepL_singleton]
  rfl
theorem rest_d (k : ℕ) (hk : k < 72) : bigSep ((rd m).duties (dcell c k) 0 \ ∅) (fun d => (rd m).payload (dcell c k) 0 d) = (rd m).payload (dcell c k) 0 false := by
  rw [Finset.sdiff_empty, duties_d m c k hk, bigSep_singleton]

end Sched

/-! ## What is owed, and the levels -/

/-- What device `c` owes for the links of a list: their receivers' credits. -/
def OWL (c : Dev nD) : List ℕ → CellTallies nD τ sig Unit
  | [] => 0
  | n :: l => OWL c l + tallyAt (recvCell (peer n c) n) () N
/-- After its first barrier signal; at the start. -/
def O₁ (c : Dev nD) : CellTallies nD τ sig Unit := OWL c (List.range 28) + tallyAt (barCell (nxt c)) () 1
def O₀ (c : Dev nD) : CellTallies nD τ sig Unit := O₁ c + tallyAt (barCell (prv c)) () 1

def L (g : GSem nD τ sig) : Finset Unit := if g.1.2 = .tc then {()} else ∅
/-- Waits for copies and for sources at the bottom, then the barrier, then the receivers in the order of the links. -/
def lv (g : GSem nD τ sig) (_ : Unit) : ℕ := match g.2 with
  | .reg _ => 1
  | .dma q => if cix q.val < 28 then cix q.val + 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (n : ℕ) (hn : n < 28) : lv (recvCell c n) () = n + 2 := by
  show (if cix (dq (cq n)).val < 28 then cix (dq (cq n)).val + 2 else 0) = n + 2
  rw [cix_dq n (by omega), if_pos hn]
theorem lv_d (c : Dev nD) (k : ℕ) (hk : 28 ≤ k) (hk' : k < 72) : lv (dcell c k) () = 0 := by
  show (if cix (dq (cq k)).val < 28 then cix (dq (cq k)).val + 2 else 0) = 0
  rw [cix_dq k hk', if_neg (by omega)]

theorem OWL_pos {c : Dev nD} {l : List ℕ} {g : GSem nD τ sig} {u : Unit} (h : 0 < OWL c l g u) : ∃ k ∈ l, g = recvCell (peer k c) k := by
  induction l with
  | nil => exact absurd h (Nat.lt_irrefl 0)
  | cons n l ih =>
    rw [OWL, Pi.add_apply, Finsupp.add_apply, tallyAt_apply] at h
    by_cases hg : g = recvCell (peer n c) n
    · exact ⟨n, List.mem_cons_self, hg⟩
    · rw [if_neg (fun h' => hg h'.1)] at h
      obtain ⟨k, hk, e⟩ := ih h
      exact ⟨k, List.mem_cons_of_mem _ hk, e⟩
theorem O₀_pos {c : Dev nD} {g : GSem nD τ sig} {u : Unit} (h : 0 < O₀ c g u) :
    (∃ k, k < 28 ∧ g = recvCell (peer k c) k) ∨ g = barCell (nxt c) ∨ g = barCell (prv c) := by
  unfold O₀ O₁ at h
  rw [Pi.add_apply, Finsupp.add_apply, Pi.add_apply, Finsupp.add_apply, tallyAt_apply, tallyAt_apply] at h
  by_cases h1 : g = barCell (nxt c)
  · exact .inr (.inl h1)
  by_cases h2 : g = barCell (prv c)
  · exact .inr (.inr h2)
  rw [if_neg (fun h' => h1 h'.1), if_neg (fun h' => h2 h'.1), Nat.add_zero] at h
  obtain ⟨k, hk, e⟩ := OWL_pos h
  exact .inl ⟨k, List.mem_range.mp hk, e⟩

/-- A wait at a level below every link still owed. -/
theorem mayWait_OWL (c : Dev nD) (sm : SemLoc sig) (n : ℕ) (S : List ℕ) (h : lv ((c : Thread nD τ), sm) () ≤ n + 1) (hS : ∀ k ∈ S, n ≤ k ∧ k < 28) :
    (levAts L lv : sProp 𝕄) ⊢ MayWait (c : Thread nD τ) sm () (OWL c S) :=
  MayOwe.of_cut (L := L) (lev := lv) (n + 1) (fun p hp => by rw [Finset.mem_singleton.mp hp, L_tc]; exact Finset.mem_singleton_self _)
    (fun g u hg => by obtain ⟨k, _, rfl⟩ := OWL_pos hg; exact Finset.mem_singleton_self _)
    (fun p hp => by rw [Finset.mem_singleton.mp hp]; exact h)
    (fun g u hg => by obtain ⟨k, hk, rfl⟩ := OWL_pos hg; rw [lv_recv _ _ (hS k hk).2]; have := (hS k hk).1; omega)
theorem mayWait_O₀ (c : Dev nD) (sm : SemLoc sig) (h : lv ((c : Thread nD τ), sm) () = 0) :
    (levAts L lv : sProp 𝕄) ⊢ MayWait (c : Thread nD τ) sm () (O₀ c) :=
  MayOwe.of_cut (L := L) (lev := lv) 0 (fun p hp => by rw [Finset.mem_singleton.mp hp, L_tc]; exact Finset.mem_singleton_self _)
    (fun g u hg => by rcases O₀_pos hg with ⟨k, _, rfl⟩ | rfl | rfl <;> exact Finset.mem_singleton_self _)
    (fun p hp => by rw [Finset.mem_singleton.mp hp]; exact h.le)
    (fun g u hg => by
      rcases O₀_pos hg with ⟨k, hk, rfl⟩ | rfl | rfl
      · rw [lv_recv _ _ hk]; omega
      · exact Nat.one_pos
      · exact Nat.one_pos)

end Cert.KernelIdeal.Run

end
-- ==== Proof.KI.Geo.lean ====
module

public import proofs.«01_k».proof.Proof.KI.Sched

/-! Where the halves of the slots lie, and what the buffers hold there. -/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## Indices -/

/-- The element `x` of the half of a block from row `r` on. -/
def e1 (r : ℕ) (hr : r + 128 ≤ 256) (x : S128x1024.Idx) : S256x1024.Idx :=
  ix2 (⟨r + (x 0).val, by have : (x 0).val < 128 := (x 0).isLt; omega⟩ : Fin 256) (x 1 : Fin 1024)

theorem e1_rect (r : ℕ) (hr : r + 128 ≤ 256) (hin) (x : S128x1024.Idx) :
    (Rect.unit (s := S256x1024) ![r, 0] S128x1024.size hin).emb x = e1 r hr x := by
  funext a; refine Fin.ext ?_
  match a with
  | ⟨0, _⟩ => show r + 1 * (x 0).val = r + (x 0).val; omega
  | ⟨1, _⟩ => show 0 + 1 * (x 1).val = (x 1).val; omega

theorem hs1_rect (r : ℕ) (hin) : (Rect.unit (s := S256x1024) ![r, 0] S128x1024.size hin).set = hs1 r := by
  ext i
  rw [Rect.mem_set_unit, hs1, Finset.mem_filter]
  refine ⟨fun h => ⟨Finset.mem_univ _, h 0⟩, fun h a => ?_⟩
  match a with
  | ⟨0, _⟩ => exact h.2
  | ⟨1, _⟩ => exact ⟨Nat.zero_le _, by have : (i 1).val < 1024 := (i 1).isLt; show (i 1).val < 0 + 1024; omega⟩

theorem reshape_half (h : S128x1024.numel = S1x128x1024.numel) (x : S128x1024.Idx) :
    Shape.reshapeEquiv h x = ix3 (0 : Fin 1) (x 0 : Fin 128) (x 1 : Fin 1024) := by
  refine (Shape.reshapeEquiv_cons_one (n := 2) (d := ![128, 1024]) h x).trans ?_
  funext a
  match a with
  | ⟨0, _⟩ => rfl
  | ⟨1, _⟩ => rfl
  | ⟨2, _⟩ => rfl

/-- The element `x` of the half of slot `t` from row `r` on, of 4 slots. -/
def e4 (t r : ℕ) (ht : t < 4) (hr : r + 128 ≤ 256) (x : S128x1024.Idx) : S4x256x1024.Idx :=
  ix3 (⟨t, ht⟩ : Fin 4) (⟨r + (x 0).val, by have : (x 0).val < 128 := (x 0).isLt; omega⟩ : Fin 256) (x 1 : Fin 1024)

theorem e4_rect (t r : ℕ) (ht : t < 4) (hr : r + 128 ≤ 256) (hin) (h : S128x1024.numel = S1x128x1024.numel) (x : S128x1024.Idx) :
    (Rect.unit (s := S4x256x1024) ![t, r, 0] S1x128x1024.size hin).emb (Shape.reshapeEquiv h x) = e4 t r ht hr x := by
  rw [reshape_half]
  funext a; refine Fin.ext ?_
  match a with
  | ⟨0, _⟩ => show t + 1 * 0 = t; omega
  | ⟨1, _⟩ => show r + 1 * (x 0).val = r + (x 0).val; omega
  | ⟨2, _⟩ => show 0 + 1 * (x 1).val = (x 1).val; omega

theorem hs4_rect (t r : ℕ) (hin) : (Rect.unit (s := S4x256x1024) ![t, r, 0] S1x128x1024.size hin).set = hs4 t r := by
  ext i
  rw [Rect.mem_set_unit, hs4, Finset.mem_filter]
  refine ⟨fun h => ⟨Finset.mem_univ _, ?_, h 1⟩, fun h a => ?_⟩
  · have h0 : t ≤ (i 0).val ∧ (i 0).val < t + 1 := h 0
    omega
  · match a with
    | ⟨0, _⟩ => show t ≤ (i 0).val ∧ (i 0).val < t + 1; have := h.2.1; omega
    | ⟨1, _⟩ => exact h.2.2
    | ⟨2, _⟩ => exact ⟨Nat.zero_le _, by have : (i 2).val < 1024 := (i 2).isLt; show (i 2).val < 0 + 1024; omega⟩

theorem e4_of_mem {t r : ℕ} (ht : t < 4) (hr : r + 128 ≤ 256) {i : S4x256x1024.Idx} (hi : i ∈ hs4 t r) : ∃ x, e4 t r ht hr x = i := by
  rw [hs4, Finset.mem_filter] at hi
  obtain ⟨-, h0, h1, h2⟩ := hi
  refine ⟨ix2 (⟨(i 1).val - r, by omega⟩ : Fin 128) (i 2 : Fin 1024), ?_⟩
  funext a; refine Fin.ext ?_
  match a with
  | ⟨0, _⟩ => exact h0.symm
  | ⟨1, _⟩ => show r + ((i 1).val - r) = (i 1).val; omega
  | ⟨2, _⟩ => rfl

theorem sl4_rect (t : ℕ) (hin) : (Rect.unit (s := S4x256x1024) ![t, 0, 0] S1x256x1024.size hin).set = hs4 t 0 ∪ hs4 t 128 := by
  ext i
  rw [Rect.mem_set_unit, Finset.mem_union, hs4, hs4, Finset.mem_filter, Finset.mem_filter]
  have h1 : (i 1).val < 256 := (i 1).isLt
  have h2 : (i 2).val < 1024 := (i 2).isLt
  constructor
  · intro h
    have h0 : t ≤ (i 0).val ∧ (i 0).val < t + 1 := h 0
    by_cases hh : (i 1).val < 128
    · exact .inl ⟨Finset.mem_univ _, by omega, by omega, by omega⟩
    · exact .inr ⟨Finset.mem_univ _, by omega, by omega, by omega⟩
  · intro h a
    have h0 : (i 0).val = t := h.elim (fun h => h.2.1) (fun h => h.2.1)
    match a with
    | ⟨0, _⟩ => show t ≤ (i 0).val ∧ (i 0).val < t + 1; omega
    | ⟨1, _⟩ => exact ⟨Nat.zero_le _, by show (i 1).val < 0 + 256; omega⟩
    | ⟨2, _⟩ => exact ⟨Nat.zero_le _, by show (i 2).val < 0 + 1024; omega⟩

theorem hs4_disj (t r t' r' : ℕ) (h : t ≠ t' ∨ r + 128 ≤ r' ∨ r' + 128 ≤ r) : Disjoint (hs4 t r) (hs4 t' r') := by
  rw [Finset.disjoint_left]
  intro i h1 h2
  rw [hs4, Finset.mem_filter] at h1 h2
  omega

/-- The element `x` of the half of slot `t` from row `r` on, of 5 slots. -/
def e5 (t r : ℕ) (ht : t < 5) (hr : r + 128 ≤ 256) (x : S128x1024.Idx) : S5x256x1024.Idx :=
  ix3 (⟨t, ht⟩ : Fin 5) (⟨r + (x 0).val, by have : (x 0).val < 128 := (x 0).isLt; omega⟩ : Fin 256) (x 1 : Fin 1024)

theorem e5_rect (t r : ℕ) (ht : t < 5) (hr : r + 128 ≤ 256) (hin) (h : S128x1024.numel = S1x128x1024.numel) (x : S128x1024.Idx) :
    (Rect.unit (s := S5x256x1024) ![t, r, 0] S1x128x1024.size hin).emb (Shape.reshapeEquiv h x) = e5 t r ht hr x := by
  rw [reshape_half]
  funext a; refine Fin.ext ?_
  match a with
  | ⟨0, _⟩ => show t + 1 * 0 = t; omega
  | ⟨1, _⟩ => show r + 1 * (x 0).val = r + (x 0).val; omega
  | ⟨2, _⟩ => show 0 + 1 * (x 1).val = (x 1).val; omega

theorem hs5_rect (t r : ℕ) (hin) : (Rect.unit (s := S5x256x1024) ![t, r, 0] S1x128x1024.size hin).set = hs5 t r := by
  ext i
  rw [Rect.mem_set_unit, hs5, Finset.mem_filter]
  refine ⟨fun h => ⟨Finset.mem_univ _, ?_, h 1⟩, fun h a => ?_⟩
  · have h0 : t ≤ (i 0).val ∧ (i 0).val < t + 1 := h 0
    omega
  · match a with
    | ⟨0, _⟩ => show t ≤ (i 0).val ∧ (i 0).val < t + 1; have := h.2.1; omega
    | ⟨1, _⟩ => exact h.2.2
    | ⟨2, _⟩ => exact ⟨Nat.zero_le _, by have : (i 2).val < 1024 := (i 2).isLt; show (i 2).val < 0 + 1024; omega⟩

theorem e5_of_mem {t r : ℕ} (ht : t < 5) (hr : r + 128 ≤ 256) {i : S5x256x1024.Idx} (hi : i ∈ hs5 t r) : ∃ x, e5 t r ht hr x = i := by
  rw [hs5, Finset.mem_filter] at hi
  obtain ⟨-, h0, h1, h2⟩ := hi
  refine ⟨ix2 (⟨(i 1).val - r, by omega⟩ : Fin 128) (i 2 : Fin 1024), ?_⟩
  funext a; refine Fin.ext ?_
  match a with
  | ⟨0, _⟩ => exact h0.symm
  | ⟨1, _⟩ => show r + ((i 1).val - r) = (i 1).val; omega
  | ⟨2, _⟩ => rfl

theorem sl5_rect (t : ℕ) (hin) : (Rect.unit (s := S5x256x1024) ![t, 0, 0] S1x256x1024.size hin).set = hs5 t 0 ∪ hs5 t 128 := by
  ext i
  rw [Rect.mem_set_unit, Finset.mem_union, hs5, hs5, Finset.mem_filter, Finset.mem_filter]
  have h1 : (i 1).val < 256 := (i 1).isLt
  have h2 : (i 2).val < 1024 := (i 2).isLt
  constructor
  · intro h
    have h0 : t ≤ (i 0).val ∧ (i 0).val < t + 1 := h 0
    by_cases hh : (i 1).val < 128
    · exact .inl ⟨Finset.mem_univ _, by omega, by omega, by omega⟩
    · exact .inr ⟨Finset.mem_univ _, by omega, by omega, by omega⟩
  · intro h a
    have h0 : (i 0).val = t := h.elim (fun h => h.2.1) (fun h => h.2.1)
    match a with
    | ⟨0, _⟩ => show t ≤ (i 0).val ∧ (i 0).val < t + 1; omega
    | ⟨1, _⟩ => exact ⟨Nat.zero_le _, by show (i 1).val < 0 + 256; omega⟩
    | ⟨2, _⟩ => exact ⟨Nat.zero_le _, by show (i 2).val < 0 + 1024; omega⟩

theorem hs5_disj (t r t' r' : ℕ) (h : t ≠ t' ∨ r + 128 ≤ r' ∨ r' + 128 ≤ r) : Disjoint (hs5 t r) (hs5 t' r') := by
  rw [Finset.disjoint_left]
  intro i h1 h2
  rw [hs5, Finset.mem_filter] at h1 h2
  omega

/-! ## The contents there -/

theorem XL_e4 (c : Dev nD) (t r) (ht hr) (x) : XL m c (e4 t r ht hr x) = XB m (rot c (8 - t)) (e1 r hr x) := rfl
theorem XR_e5 (c : Dev nD) (t r) (ht hr) (x) : XR m c (e5 t r ht hr x) = XB m (rot c t) (e1 r hr x) := rfl
theorem BO_e4 (c : Dev nD) (t r) (ht hr) (x) : BO m c (e4 t r ht hr x) = bval m t c (e1 r hr x) := rfl
theorem BI_e4 (c : Dev nD) (t r) (ht hr) (x) : BI m c (e4 t r ht hr x) = bval m (t - 1) (prv c) (e1 r hr x) := rfl
theorem AO_e5 (c : Dev nD) (t r) (ht hr) (x) : AO m c (e5 t r ht hr x) = aval m t c (e1 r hr x) := rfl
theorem AI_e5 (c : Dev nD) (t r) (ht hr) (x) : AI m c (e5 t r ht hr x) = aval m (t - 1) (nxt c) (e1 r hr x) := rfl

theorem rot_nxt (c : Dev nD) (t : ℕ) (ht : t < 8) : rot (nxt c) (8 - (t + 1)) = rot c (8 - t) := by
  refine Fin.ext ?_
  show ((c.val + 1) % 8 + (8 - (t + 1))) % 8 = (c.val + (8 - t)) % 8
  omega
theorem rot_prv (c : Dev nD) (t : ℕ) : rot (prv c) (t + 1) = rot c t := by
  refine Fin.ext ?_
  show ((c.val + 7) % 8 + (t + 1)) % 8 = (c.val + t) % 8
  omega

/-! ## The halves as the transfers name them -/

abbrev hv1 (r : ℕ) (hin : ∀ a, (![r, 0] : Fin 2 → Nat) a + S128x1024.size a ≤ S256x1024.size a) : Memref sig .tc .vmem S128x1024 .bf16 :=
  (Memref.whole cc0_scratch4 : Memref sig .tc .vmem S256x1024 .bf16).slice (Rect.unit (s := S256x1024) ![r, 0] S128x1024.size hin) (fun _ => rfl)
abbrev hvXL (t r : ℕ) (hin : ∀ a, (![t, r, 0] : Fin 3 → Nat) a + S1x128x1024.size a ≤ S4x256x1024.size a) : Memref sig .tc .vmem S128x1024 .bf16 :=
  ((Memref.whole cc0_scratch7 : Memref sig .tc .vmem S4x256x1024 .bf16).slice (Rect.unit (s := S4x256x1024) ![t, r, 0] S1x128x1024.size hin) (fun _ => rfl)).squeeze S128x1024 squeezes_S1x128x1024_S128x1024
abbrev hvXR (t r : ℕ) (hin : ∀ a, (![t, r, 0] : Fin 3 → Nat) a + S1x128x1024.size a ≤ S5x256x1024.size a) : Memref sig .tc .vmem S128x1024 .bf16 :=
  ((Memref.whole cc0_scratch8 : Memref sig .tc .vmem S5x256x1024 .bf16).slice (Rect.unit (s := S5x256x1024) ![t, r, 0] S1x128x1024.size hin) (fun _ => rfl)).squeeze S128x1024 squeezes_S1x128x1024_S128x1024
abbrev hvA (t r : ℕ) (hin : ∀ a, (![t, r, 0] : Fin 3 → Nat) a + S1x128x1024.size a ≤ S5x256x1024.size a) : Memref sig .tc .vmem S128x1024 .bf16 :=
  ((Memref.whole cc0_scratch9 : Memref sig .tc .vmem S5x256x1024 .bf16).slice (Rect.unit (s := S5x256x1024) ![t, r, 0] S1x128x1024.size hin) (fun _ => rfl)).squeeze S128x1024 squeezes_S1x128x1024_S128x1024
abbrev hvB (t r : ℕ) (hin : ∀ a, (![t, r, 0] : Fin 3 → Nat) a + S1x128x1024.size a ≤ S4x256x1024.size a) : Memref sig .tc .vmem S128x1024 .bf16 :=
  ((Memref.whole cc0_scratch10 : Memref sig .tc .vmem S4x256x1024 .bf16).slice (Rect.unit (s := S4x256x1024) ![t, r, 0] S1x128x1024.size hin) (fun _ => rfl)).squeeze S128x1024 squeezes_S1x128x1024_S128x1024

theorem hv1_pts (q) (c : Dev nD) (r hin) (f : Vec F S256x1024 .bf16) :
    (((hv1 r hin).view.loc (c : Thread nD τ)) ↦[(hv1 r hin).view.set]{q} f : sProp 𝕄) = pX q c r f := by
  unfold pX; rw [show (hv1 r hin).view.set = hs1 r from (View.set_slice_whole _ _).trans (hs1_rect r hin)]
theorem hv1_read (r hr hin) (f : Vec F S256x1024 .bf16) (x) : (hv1 r hin).view.read (Elt F) f x = f (e1 r hr x) :=
  congrArg f (e1_rect r hr hin x)

theorem hvXL_pts (q) (c : Dev nD) (t r hin) (f : Vec F S4x256x1024 .bf16) :
    (((hvXL t r hin).view.loc (c : Thread nD τ)) ↦[(hvXL t r hin).view.set]{q} f : sProp 𝕄) = pXL q c t r f := by
  unfold pXL
  rw [show (hvXL t r hin).view.set = hs4 t r from (View.set_reshape _ _).trans ((View.set_slice_whole _ _).trans (hs4_rect t r hin))]
theorem hvXL_read (t r ht hr hin) (f : Vec F S4x256x1024 .bf16) (x) : (hvXL t r hin).view.read (Elt F) f x = f (e4 t r ht hr x) :=
  congrArg f (e4_rect t r ht hr hin _ x)
theorem hvXL_write (c : Dev nD) (t r ht hr hin) (fd g : Vec F S4x256x1024 .bf16) (w : Vec F S128x1024 .bf16) (h : ∀ x, w x = g (e4 t r ht hr x)) :
    (((hvXL t r hin).view.loc (c : Thread nD τ)) ↦[(hvXL t r hin).view.set]{fullShare} ((hvXL t r hin).view.write (Elt F) fd w Finset.univ) : sProp 𝕄)
      = pXL fullShare c t r g := by
  rw [hvXL_pts]
  unfold pXL
  refine pointsTo_congr fun i hi => ?_
  obtain ⟨x, rfl⟩ := e4_of_mem ht hr hi
  rw [← h x, ← e4_rect t r ht hr hin squeezes_S1x128x1024_S128x1024.numel_eq x]
  exact View.write_emb_of_mem (v := (hvXL t r hin).view) (Val := Elt F) fd w (Finset.mem_univ x)

theorem hvXR_pts (q) (c : Dev nD) (t r hin) (f : Vec F S5x256x1024 .bf16) :
    (((hvXR t r hin).view.loc (c : Thread nD τ)) ↦[(hvXR t r hin).view.set]{q} f : sProp 𝕄) = pXR q c t r f := by
  unfold pXR
  rw [show (hvXR t r hin).view.set = hs5 t r from (View.set_reshape _ _).trans ((View.set_slice_whole _ _).trans (hs5_rect t r hin))]
theorem hvXR_read (t r ht hr hin) (f : Vec F S5x256x1024 .bf16) (x) : (hvXR t r hin).view.read (Elt F) f x = f (e5 t r ht hr x) :=
  congrArg f (e5_rect t r ht hr hin _ x)
theorem hvXR_write (c : Dev nD) (t r ht hr hin) (fd g : Vec F S5x256x1024 .bf16) (w : Vec F S128x1024 .bf16) (h : ∀ x, w x = g (e5 t r ht hr x)) :
    (((hvXR t r hin).view.loc (c : Thread nD τ)) ↦[(hvXR t r hin).view.set]{fullShare} ((hvXR t r hin).view.write (Elt F) fd w Finset.univ) : sProp 𝕄)
      = pXR fullShare c t r g := by
  rw [hvXR_pts]
  unfold pXR
  refine pointsTo_congr fun i hi => ?_
  obtain ⟨x, rfl⟩ := e5_of_mem ht hr hi
  rw [← h x, ← e5_rect t r ht hr hin squeezes_S1x128x1024_S128x1024.numel_eq x]
  exact View.write_emb_of_mem (v := (hvXR t r hin).view) (Val := Elt F) fd w (Finset.mem_univ x)

theorem hvA_pts (q) (c : Dev nD) (t r hin) (f : Vec F S5x256x1024 .bf16) :
    (((hvA t r hin).view.loc (c : Thread nD τ)) ↦[(hvA t r hin).view.set]{q} f : sProp 𝕄) = pA q c t r f := by
  unfold pA
  rw [show (hvA t r hin).view.set = hs5 t r from (View.set_reshape _ _).trans ((View.set_slice_whole _ _).trans (hs5_rect t r hin))]
theorem hvA_read (t r ht hr hin) (f : Vec F S5x256x1024 .bf16) (x) : (hvA t r hin).view.read (Elt F) f x = f (e5 t r ht hr x) :=
  congrArg f (e5_rect t r ht hr hin _ x)
theorem hvA_write (c : Dev nD) (t r ht hr hin) (fd g : Vec F S5x256x1024 .bf16) (w : Vec F S128x1024 .bf16) (h : ∀ x, w x = g (e5 t r ht hr x)) :
    (((hvA t r hin).view.loc (c : Thread nD τ)) ↦[(hvA t r hin).view.set]{fullShare} ((hvA t r hin).view.write (Elt F) fd w Finset.univ) : sProp 𝕄)
      = pA fullShare c t r g := by
  rw [hvA_pts]
  unfold pA
  refine pointsTo_congr fun i hi => ?_
  obtain ⟨x, rfl⟩ := e5_of_mem ht hr hi
  rw [← h x, ← e5_rect t r ht hr hin squeezes_S1x128x1024_S128x1024.numel_eq x]
  exact View.write_emb_of_mem (v := (hvA t r hin).view) (Val := Elt F) fd w (Finset.mem_univ x)

theorem hvB_pts (q) (c : Dev nD) (t r hin) (f : Vec F S4x256x1024 .bf16) :
    (((hvB t r hin).view.loc (c : Thread nD τ)) ↦[(hvB t r hin).view.set]{q} f : sProp 𝕄) = pB q c t r f := by
  unfold pB
  rw [show (hvB t r hin).view.set = hs4 t r from (View.set_reshape _ _).trans ((View.set_slice_whole _ _).trans (hs4_rect t r hin))]
theorem hvB_read (t r ht hr hin) (f : Vec F S4x256x1024 .bf16) (x) : (hvB t r hin).view.read (Elt F) f x = f (e4 t r ht hr x) :=
  congrArg f (e4_rect t r ht hr hin _ x)
theorem hvB_write (c : Dev nD) (t r ht hr hin) (fd g : Vec F S4x256x1024 .bf16) (w : Vec F S128x1024 .bf16) (h : ∀ x, w x = g (e4 t r ht hr x)) :
    (((hvB t r hin).view.loc (c : Thread nD τ)) ↦[(hvB t r hin).view.set]{fullShare} ((hvB t r hin).view.write (Elt F) fd w Finset.univ) : sProp 𝕄)
      = pB fullShare c t r g := by
  rw [hvB_pts]
  unfold pB
  refine pointsTo_congr fun i hi => ?_
  obtain ⟨x, rfl⟩ := e4_of_mem ht hr hi
  rw [← h x, ← e4_rect t r ht hr hin squeezes_S1x128x1024_S128x1024.numel_eq x]
  exact View.write_emb_of_mem (v := (hvB t r hin).view) (Val := Elt F) fd w (Finset.mem_univ x)

end Cert.KernelIdeal.Run

end
-- ==== Proof.KI.Steps.lean ====
module

public import proofs.«01_k».proof.Proof.KI.Geo

/-! One rule for each step of the body: sending a link, waiting for one, copying a head, loading and storing. -/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

abbrev 𝒱₀ : Variants := Variants.none
/-- The weakest precondition on device `c`. -/
abbrev WPc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem seqL_mk {I : Type} {Φ : I → sProp 𝕄} {i : I} {l : List I} : iprop(Φ i ∗ seqL Φ l) ⊢ seqL Φ (i :: l) := BI.Entails.refl _

/-! ## What every step may use -/

def csem (k : Fin 73) : SemLoc sig := if k.val < 72 then .dma (dq (cq k.val)) else .reg barS
def kcell (x : Dev nD × Fin 73) : GSem nD τ sig := ((x.1 : Thread nD τ), csem x.2)
def ixd (k : ℕ) : Fin 73 := ⟨k % 73, Nat.mod_lt _ (by decide)⟩
theorem kcell_d (c : Dev nD) (k : ℕ) (hk : k < 72) : kcell (c, ixd k) = dcell c k := by
  have e : ixd k = ⟨k, by omega⟩ := Fin.ext (Nat.mod_eq_of_lt (by omega))
  rw [e]
  exact congrArg (Prod.mk _) (if_pos hk)
theorem kcell_bar (c : Dev nD) : kcell (c, ixd 72) = barCell c := rfl

variable (K : Dev nD × Fin 73 → ℕ)

/-- The cells' invariants, that every cell is at its round, and the levels. -/
def recs : sProp 𝕄 :=
  iprop((bigSep Finset.univ fun x => cellInv ER (rd m) (K x) (kcell x)) ∗ (bigSep Finset.univ fun x => reached ER (kcell x) 0) ∗ levAts L lv)
instance recs_persistent : BI.Persistent (recs m K) := by unfold recs; infer_instance

theorem bigSep_one {I : Type} [Fintype I] [DecidableEq I] {Φ : I → sProp 𝕄} (x : I) : bigSep Finset.univ Φ ⊢ Φ x := bigSep_elim (Finset.mem_univ x)
theorem recs_inv (x : Dev nD × Fin 73) : recs m K ⊢ cellInv ER (rd m) (K x) (kcell x) := by
  unfold recs
  iintro ⟨H, -, -⟩
  iapply (bigSep_one (Φ := fun x => cellInv ER (rd m) (K x) (kcell x)) x); iexact H
theorem recs_reached (x : Dev nD × Fin 73) : recs m K ⊢ reached ER (kcell x) 0 := by
  unfold recs
  iintro ⟨-, H, -⟩
  iapply (bigSep_one (Φ := fun x => reached ER (kcell x) 0) x); iexact H
theorem recs_lev : recs m K ⊢ levAts L lv := by
  unfold recs
  iintro ⟨-, -, H⟩
  iexact H
theorem recs_d (c : Dev nD) (k : ℕ) (hk : k < 72) : recs m K ⊢ cellInv ER (rd m) (K (c, ixd k)) (dcell c k) := by
  rw [← kcell_d c k hk]; exact recs_inv m K _
theorem recs_rd (c : Dev nD) (k : ℕ) (hk : k < 72) : recs m K ⊢ reached ER (dcell c k) 0 := by
  rw [← kcell_d c k hk]; exact recs_reached m K _
theorem recs_bar (c : Dev nD) : recs m K ⊢ cellInv ER (rd m) (K (c, ixd 72)) (barCell c) := recs_inv m K (c, ixd 72)
theorem recs_rbar (c : Dev nD) : recs m K ⊢ reached ER (barCell c) 0 := recs_reached m K (c, ixd 72)

/-! ## The links of a device -/

/-- What it takes to start link `n`, what is left when it has started, and what it takes to wait for link `n`. -/
def sendItem (c : Dev nD) (n : ℕ) : sProp 𝕄 :=
  iprop(land (peer n c) n ∗ dutyTok ER (sendCell c n) 0 false ∗ dutyTok ER (recvCell (peer n c) n) 0 false ∗ atPos ER (sendCell c n) 0 ∅ 0)
def sentItem (c : Dev nD) (n : ℕ) : sProp 𝕄 := iprop(cred (tallyAt (sendCell c n) () N) ∗ atPos ER (sendCell c n) 0 ∅ 0)
def recvItem (c : Dev nD) (n : ℕ) : sProp 𝕄 := iprop(cred (tallyAt (recvCell c n) () N) ∗ atPos ER (recvCell c n) 0 ∅ 0)

/-- A device with the links `S` to start, `T` started, `R` to come, and the cells `G` closed. -/
def St (c : Dev nD) (S T R G : List ℕ) : sProp 𝕄 :=
  iprop(recs m K ∗ (∃ W, owes (c : Thread nD τ) (OWL c S) W) ∗ seqL (sendItem c) S ∗ seqL (sentItem c) T ∗ seqL (recvItem c) R
    ∗ seqL (fun k => semVal (dcell c k) 0) G)

/-- Starting a link. -/
theorem send_link (c n' : Dev nD) (n : ℕ) (hn : n < 28) (hp : n' = peer n c) {S T R G : List ℕ}
    {src dst : Memref sig .tc .vmem S128x1024 .bf16} {ss rs : DmaSem sig} (hss : ss = dq (cq (28 + n))) (hrs : rs = dq (cq n))
    {hsc : (dst : Memref sig (Dev.tc n' : Thread nD τ).2.kind .vmem S128x1024 .bf16).view.ref.isScScratch = false}
    {hsrc : src.view.WordExact} {hdst : dst.view.WordExact}
    {hsem : DmaTarget.Typed .vmem (.dma rs) (.remote (Dev.tc n' : Thread nD τ) dst (.dma ss) hsc)}
    {α : Type} {Q : α → sProp 𝕄} {k : PUnit → Prog (TpuEff nD τ sig (Elt F) Λ₀ .tc) α} {q : PosShare TreeShare}
    (fs : Buf (Elt F) (src.view.loc (c : Thread nD τ)))
    (hN : dst.view.amount (.dma rs) = N)
    (hland : (land (peer n c) n : sProp 𝕄) ⊢ iprop(∃ fd : Buf (Elt F) (dst.view.loc (peer n c : Thread nD τ)), (dst.view.loc (peer n c : Thread nD τ)) ↦[dst.view.set]{fullShare} fd))
    (hpay1 : (((src.view.loc (c : Thread nD τ)) ↦[src.view.set]{q} fs : sProp 𝕄)) ⊢ sendPay m c n)
    (hpay2 : ∀ fd : Buf (Elt F) (dst.view.loc (peer n c : Thread nD τ)), (((dst.view.loc (peer n c : Thread nD τ)) ↦[dst.view.set]{fullShare} (dst.view.write (Elt F) fd (src.view.read (Elt F) fs) Finset.univ) : sProp 𝕄)) ⊢ recvPay m (peer n c) n) :
    iprop(St m K c (n :: S) T R G ∗ ((src.view.loc (c : Thread nD τ)) ↦[src.view.set]{q} fs))
      ⊢ iprop((St m K c S (n :: T) R G -∗ WPc c (k ⟨⟩) Q)
          -∗ WPc c (.op (.enqueueDma src (.remote (Dev.tc n' : Thread nD τ) dst (.dma ss) hsc) (.dma rs) hsrc hdst hsem) k) Q) := by
  subst hp hss hrs
  unfold St
  show iprop((recs m K ∗ (∃ W, owes (c : Thread nD τ) (OWL c (n :: S)) W) ∗ (sendItem c n ∗ seqL (sendItem c) S) ∗ seqL (sentItem c) T ∗ seqL (recvItem c) R
    ∗ seqL (fun k => semVal (dcell c k) 0) G) ∗ ((src.view.loc (c : Thread nD τ)) ↦[src.view.set]{q} fs)) ⊢ _
  iintro ⟨⟨#Hr, ⟨%W, HO⟩, ⟨HI, HS⟩, HT, HR, HG⟩, Hsrc⟩ Hk
  unfold sendItem
  icases HI with ⟨Hl, Ht1, Ht2, Hat⟩
  ihave Hl' := hland $$ Hl
  icases Hl' with ⟨%fd, Hl'⟩
  iapply (Rounds.wp_send_pointsTo 𝒱₀ ER (rd m) (c : Thread nD τ) none (κ₁ := K (c, ixd (28 + n))) (κ₂ := K (peer n c, ixd n))
    (r₁ := 0) (r₂ := 0) (d₁ := false) (d₂ := false) (fd := fd)
    (by rw [duties_d m c _ (by omega)]; exact Finset.mem_singleton_self _) (by rw [duties_d m _ _ (by omega)]; exact Finset.mem_singleton_self _)
    () () N hN (amount_d m c _ (by omega) false) (amount_d m (peer n c) n (by omega) false) (OWL c S) rfl (W := W)
    (by rw [payload_send m c n hn]; exact hpay1)
    (by rw [payload_recv m _ n hn]; exact hpay2 fd)) $$ [Hsrc Hl' HO Ht1 Ht2]
  · isplitr; · iapply (recs_d m K c (28 + n) (by omega)); iexact Hr
    isplitr; · iapply (recs_d m K (peer n c) n (by omega)); iexact Hr
    isplitl [Hsrc]; · iexact Hsrc
    isplitl [Hl']; · iexact Hl'
    isplitl [HO]; · iexact HO
    isplitl [Ht1]; · iexact Ht1
    isplitr; · iapply (recs_rd m K c (28 + n) (by omega)); iexact Hr
    isplitl [Ht2]; · iexact Ht2
    iapply (recs_rd m K (peer n c) n (by omega)); iexact Hr
  iintro ⟨Hc, HO⟩
  iapply Hk
  isplitr; · iexact Hr
  isplitl [HO]; · iexists W; iexact HO
  isplitl [HS]; · iexact HS
  isplitl [Hc Hat HT]
  · iapply seqL_mk
    isplitl [Hc Hat]
    · unfold sentItem; isplitl [Hc] <;> iassumption
    · iexact HT
  isplitl [HR] <;> iassumption

/-- Waiting for the next link to arrive. -/
theorem wait_recv (c : Dev nD) (n : ℕ) (hn : n < 28) {S T R G : List ℕ} (hS : ∀ k ∈ S, n < k ∧ k < 28)
    {src dst : Memref sig .tc .vmem S128x1024 .bf16} {sem : DmaSem sig} (hs : sem = dq (cq n)) {hsrc : src.view.WordExact} {hdst : dst.view.WordExact}
    (hN : dst.view.dmaCredit = N)
    {α : Type} {Q : α → sProp 𝕄} {k : PUnit → Prog (TpuEff nD τ sig (Elt F) Λ₀ .tc) α} :
    St m K c S T (n :: R) G
      ⊢ iprop(((St m K c S T R (n :: G) ∗ recvPay m c n) -∗ WPc c (k ⟨⟩) Q) -∗ WPc c (.op (.waitDma2 sem src dst hsrc hdst) k) Q) := by
  subst hs
  unfold St
  show iprop(recs m K ∗ (∃ W, owes (c : Thread nD τ) (OWL c S) W) ∗ seqL (sendItem c) S ∗ seqL (sentItem c) T ∗ (recvItem c n ∗ seqL (recvItem c) R)
    ∗ seqL (fun k => semVal (dcell c k) 0) G) ⊢ _
  iintro ⟨#Hr, ⟨%W, HO⟩, HS, HT, ⟨HI, HR⟩, HG⟩ Hk
  unfold recvItem
  icases HI with ⟨Hc, Hat⟩
  iapply (Rounds.wp_wait_rest_token 𝒱₀ ER (rd m) (c : Thread nD τ) none (κ := K (c, ixd n))
      (wpE_waitDma2_eq 𝒱₀ (c : Thread nD τ) none Set.univ) (Set.mem_univ _) () (O := OWL c S) (W := W) (R := 0) (m := 0) (T := ∅)
      (by rw [Nat.zero_add, hN, expect_d m c n (by omega)])) $$ [Hc HO Hat]
  · isplitr; · iapply (recs_d m K c n (by omega)); iexact Hr
    isplitl [Hc]; · rw [hN]; iexact Hc
    isplitl [HO]; · iexact HO
    isplitr
    · iapply (mayWait_OWL c _ (n + 1) S (by rw [lv_recv c n hn]) (fun k hk => ⟨(hS k hk).1, (hS k hk).2⟩))
      iapply (recs_lev m K); iexact Hr
    iexact Hat
  iintro ⟨HO, Hat, -, Hpay⟩
  ihave Hp := (Entails.of_eq ((rest_d m c n (by omega)).trans (payload_recv m c n hn false))) $$ Hpay
  imod (Rounds.cell_close ER (rd m) (Set.mem_univ (K (c, ixd n))) (fun h => h) (R := 0 + 1) (duties_later m (dcell c n))) $$ [Hat] with Hz
  · isplitr; · iapply (recs_d m K c n (by omega)); iexact Hr
    iexact Hat
  iapply Hk
  isplitl [HO HS HT HR HG Hz]
  · isplitr; · iexact Hr
    isplitl [HO]; · iexists _; iexact HO
    isplitl [HS]; · iexact HS
    isplitl [HT]; · iexact HT
    isplitl [HR]; · iexact HR
    iapply seqL_mk
    isplitl [Hz] <;> iassumption
  iexact Hp

/-- Waiting for the source of a link, when nothing is owed any more. -/
theorem wait_send (c : Dev nD) (n : ℕ) (hn : n < 28) {T R G : List ℕ}
    {src dst : Memref sig .tc .vmem S128x1024 .bf16} {sem : DmaSem sig} (hs : sem = dq (cq (28 + n))) {hsrc : src.view.WordExact} {hdst : dst.view.WordExact}
    (hN : dst.view.dmaCredit = N)
    {α : Type} {Q : α → sProp 𝕄} {k : PUnit → Prog (TpuEff nD τ sig (Elt F) Λ₀ .tc) α} :
    St m K c [] (n :: T) R G
      ⊢ iprop(((St m K c [] T R ((28 + n) :: G) ∗ sendPay m c n) -∗ WPc c (k ⟨⟩) Q) -∗ WPc c (.op (.waitDma2 sem src dst hsrc hdst) k) Q) := by
  subst hs
  unfold St
  show iprop(recs m K ∗ (∃ W, owes (c : Thread nD τ) (OWL c []) W) ∗ seqL (sendItem c) [] ∗ (sentItem c n ∗ seqL (sentItem c) T) ∗ seqL (recvItem c) R
    ∗ seqL (fun k => semVal (dcell c k) 0) G) ⊢ _
  iintro ⟨#Hr, ⟨%W, HO⟩, HS, ⟨HI, HT⟩, HR, HG⟩ Hk
  unfold sentItem
  icases HI with ⟨Hc, Hat⟩
  iapply (Rounds.wp_wait_rest_token 𝒱₀ ER (rd m) (c : Thread nD τ) none (κ := K (c, ixd (28 + n)))
      (wpE_waitDma2_eq 𝒱₀ (c : Thread nD τ) none Set.univ) (Set.mem_univ _) () (O := OWL c []) (W := W) (R := 0) (m := 0) (T := ∅)
      (by rw [Nat.zero_add, hN, expect_d m c _ (by omega)])) $$ [Hc HO Hat]
  · isplitr; · iapply (recs_d m K c (28 + n) (by omega)); iexact Hr
    isplitl [Hc]; · rw [hN]; iexact Hc
    isplitl [HO]; · iexact HO
    isplitr
    · rw [show OWL c [] = 0 from rfl, MayWait_zero]; iempintro
    iexact Hat
  iintro ⟨HO, Hat, -, Hpay⟩
  ihave Hp := (Entails.of_eq ((rest_d m c _ (by omega)).trans (payload_send m c n hn false))) $$ Hpay
  imod (Rounds.cell_close ER (rd m) (Set.mem_univ (K (c, ixd (28 + n)))) (fun h => h) (R := 0 + 1) (duties_later m (dcell c (28 + n)))) $$ [Hat] with Hz
  · isplitr; · iapply (recs_d m K c (28 + n) (by omega)); iexact Hr
    iexact Hat
  iapply Hk
  isplitl [HO HS HT HR HG Hz]
  · isplitr; · iexact Hr
    isplitl [HO]; · iexists _; iexact HO
    isplitl [HS]; · iexact HS
    isplitl [HT]; · iexact HT
    isplitl [HR]; · iexact HR
    iapply seqL_mk
    isplitl [Hz] <;> iassumption
  iexact Hp

/-! ## The copies of the keys and values -/

/-- Where a head lands, before it lands. -/
def kvLand (c : Dev nD) (k : ℕ) : sProp 𝕄 := if k < 8 then iprop(∃ f, pK c k f) else iprop(∃ f, pV c (k - 8) f)
def kvItem (c : Dev nD) (k : ℕ) : sProp 𝕄 := iprop(kvLand c k ∗ dutyTok ER (kvCell c k) 0 false ∗ atPos ER (kvCell c k) 0 ∅ 0)
def kvSent (c : Dev nD) (k : ℕ) : sProp 𝕄 := iprop(cred (tallyAt (kvCell c k) () N2) ∗ atPos ER (kvCell c k) 0 ∅ 0)
/-- A device with the heads `A` to copy, `B` on their way and `C` copied. -/
def KV (c : Dev nD) (A B C : List ℕ) : sProp 𝕄 :=
  iprop(recs m K ∗ seqL (kvItem c) A ∗ seqL (kvSent c) B ∗ seqL (fun k => semVal (kvCell c k) 0) C)

/-- The array a copy of a head reads. -/
def arrP (c : Dev nD) (b : Bool) (q : PosShare TreeShare) : sProp 𝕄 :=
  if b then ((c : Thread nD τ).loc main_arg2) ↦{q} m ((c : Thread nD τ).loc main_arg2)
  else ((c : Thread nD τ).loc main_arg3) ↦{q} m ((c : Thread nD τ).loc main_arg3)

theorem copy_kv (c : Dev nD) (k : ℕ) (hk : k < 16) {A B C : List ℕ}
    {src : Memref sig .tc .hbm S2176x128 .f32} {dst : Memref sig .tc .vmem S2176x128 .f32} {sem : DmaSem sig} (hs : sem = dq (cq (56 + k)))
    {hsrc : src.view.WordExact} {hdst : dst.view.WordExact} {hsem : DmaTarget.Typed (nD := nD) (p := (c : Thread nD τ).2) .hbm (.dma sem) (.here dst)}
    {α : Type} {Q : α → sProp 𝕄} {p : PUnit → Prog (TpuEff nD τ sig (Elt F) Λ₀ .tc) α} {q : PosShare TreeShare}
    {fs : Buf (Elt F) (src.view.loc (c : Thread nD τ))}
    (hN : dst.view.amount (.dma sem) = N2)
    (harr : arrP m c (decide (k < 8)) q = (((src.view.loc (c : Thread nD τ)) ↦{q} fs : sProp 𝕄)))
    (harr' : arrP m c (decide (k < 8)) q.right = (((src.view.loc (c : Thread nD τ)) ↦{q.right} fs : sProp 𝕄)))
    (hland : (kvLand c k : sProp 𝕄) ⊢ iprop(∃ fd : Buf (Elt F) (dst.view.loc (c : Thread nD τ)), (dst.view.loc (c : Thread nD τ)) ↦[dst.view.set]{fullShare} fd))
    (hpay : ∀ fd : Buf (Elt F) (dst.view.loc (c : Thread nD τ)),
      (((dst.view.loc (c : Thread nD τ)) ↦[dst.view.set]{fullShare} (dst.view.write (Elt F) fd (src.view.read (Elt F) fs) Finset.univ) : sProp 𝕄)) ⊢ kvPay m c k) :
    iprop(KV m K c (k :: A) B C ∗ arrP m c (decide (k < 8)) q)
      ⊢ iprop(((KV m K c A (k :: B) C ∗ arrP m c (decide (k < 8)) q.right) -∗ WPc c (p ⟨⟩) Q)
          -∗ WPc c (.op (.enqueueDma src (.here dst) (.dma sem) hsrc hdst hsem) p) Q) := by
  subst hs
  rw [harr, harr']
  unfold KV
  show iprop((recs m K ∗ (kvItem c k ∗ seqL (kvItem c) A) ∗ seqL (kvSent c) B ∗ seqL (fun k => semVal (kvCell c k) 0) C) ∗ ((src.view.loc (c : Thread nD τ)) ↦{q} fs)) ⊢ _
  iintro ⟨⟨#Hr, ⟨HI, HA⟩, HB, HC⟩, Hsrc⟩ Hk
  unfold kvItem
  icases HI with ⟨Hl, Ht, Hat⟩
  ihave Hl' := hland $$ Hl
  icases Hl' with ⟨%fd, Hl'⟩
  ihave Hs := (pointsTo_share (PosShare.mem_left_op_right q)).1 $$ Hsrc
  icases Hs with ⟨Hs1, Hs2⟩
  ihave Hs1 := (pointsTo_split_subset (Finset.subset_univ src.view.set)).1 $$ Hs1
  icases Hs1 with ⟨Hs1, -⟩
  iapply (Rounds.wp_copy_pointsTo 𝒱₀ ER (rd m) (c : Thread nD τ) none (κ := K (c, ixd (56 + k))) (r := 0) (d := false) (fd := fd) (fs := fs) (q := q.left)
    (by rw [duties_d m c _ (by omega)]; exact Finset.mem_singleton_self _) () N2 hN (amount_kv m c k hk false)
    (by rw [payload_kv m c k hk]; iintro ⟨H, -⟩; iapply (hpay fd); iexact H)) $$ [Hs1 Hl' Ht]
  · isplitr; · iapply (recs_d m K c (56 + k) (by omega)); iexact Hr
    isplitl [Hs1]; · iexact Hs1
    isplitl [Hl']; · iexact Hl'
    isplitl [Ht]; · iexact Ht
    iapply (recs_rd m K c (56 + k) (by omega)); iexact Hr
  iintro Hc
  iapply Hk
  isplitl [HA HB HC Hc Hat]
  · isplitr; · iexact Hr
    isplitl [HA]; · iexact HA
    isplitl [HB Hc Hat]
    · iapply seqL_mk
      isplitl [Hc Hat]
      · unfold kvSent; isplitl [Hc] <;> iassumption
      · iexact HB
    iexact HC
  iexact Hs2

/-- Waiting for a head. -/
theorem wait_kv (c : Dev nD) (k : ℕ) (hk : k < 16) {S T R G A B C : List ℕ} (hS : ∀ k ∈ S, 0 ≤ k ∧ k < 28)
    {src : Memref sig .tc .hbm S2176x128 .f32} {dst : Memref sig .tc .vmem S2176x128 .f32} {sem : DmaSem sig} (hs : sem = dq (cq (56 + k)))
    {hsrc : src.view.WordExact} {hdst : dst.view.WordExact}
    (hN : dst.view.dmaCredit = N2)
    {α : Type} {Q : α → sProp 𝕄} {p : PUnit → Prog (TpuEff nD τ sig (Elt F) Λ₀ .tc) α} :
    iprop(St m K c S T R G ∗ KV m K c A (k :: B) C)
      ⊢ iprop(((St m K c S T R G ∗ KV m K c A B (k :: C) ∗ kvPay m c k) -∗ WPc c (p ⟨⟩) Q) -∗ WPc c (.op (.waitDma2 sem src dst hsrc hdst) p) Q) := by
  subst hs
  unfold St KV
  show iprop((recs m K ∗ (∃ W, owes (c : Thread nD τ) (OWL c S) W) ∗ seqL (sendItem c) S ∗ seqL (sentItem c) T ∗ seqL (recvItem c) R
    ∗ seqL (fun k => semVal (dcell c k) 0) G) ∗ (recs m K ∗ seqL (kvItem c) A ∗ (kvSent c k ∗ seqL (kvSent c) B) ∗ seqL (fun k => semVal (kvCell c k) 0) C)) ⊢ _
  iintro ⟨⟨#Hr, ⟨%W, HO⟩, Hrest⟩, -, HA, ⟨HI, HB⟩, HC⟩ Hk
  unfold kvSent
  icases HI with ⟨Hc, Hat⟩
  iapply (Rounds.wp_wait_rest_token 𝒱₀ ER (rd m) (c : Thread nD τ) none (κ := K (c, ixd (56 + k)))
      (wpE_waitDma2_eq 𝒱₀ (c : Thread nD τ) none Set.univ) (Set.mem_univ _) () (O := OWL c S) (W := W) (R := 0) (m := 0) (T := ∅)
      (by rw [Nat.zero_add, hN, expect_kv m c k hk])) $$ [Hc HO Hat]
  · isplitr; · iapply (recs_d m K c (56 + k) (by omega)); iexact Hr
    isplitl [Hc]; · rw [hN]; iexact Hc
    isplitl [HO]; · iexact HO
    isplitr
    · iapply (mayWait_OWL c _ 0 S (by rw [lv_d c (56 + k) (by omega) (by omega)]; omega) hS)
      iapply (recs_lev m K); iexact Hr
    iexact Hat
  iintro ⟨HO, Hat, -, Hpay⟩
  ihave Hp := (Entails.of_eq ((rest_d m c _ (by omega)).trans (payload_kv m c k hk false))) $$ Hpay
  imod (Rounds.cell_close ER (rd m) (Set.mem_univ (K (c, ixd (56 + k)))) (fun h => h) (R := 0 + 1) (duties_later m (kvCell c k))) $$ [Hat] with Hz
  · isplitr; · iapply (recs_d m K c (56 + k) (by omega)); iexact Hr
    iexact Hat
  iapply Hk
  isplitl [HO Hrest]
  · isplitr; · iexact Hr
    isplitl [HO]; · iexists _; iexact HO
    iexact Hrest
  isplitl [HA HB HC Hz]
  · isplitr; · iexact Hr
    isplitl [HA]; · iexact HA
    isplitl [HB]; · iexact HB
    iapply seqL_mk
    isplitl [Hz] <;> iassumption
  iexact Hp

end Cert.KernelIdeal.Run

end
-- ==== Proof.KI.Moves.lean ====
module

public import proofs.«01_k».proof.Proof.KI.Steps

/-! The steps of the body by what they move: rows, partial sums, heads; and the loads and stores. -/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (K : Dev nD × Fin 73 → ℕ)

section Moves
variable (c : Dev nD) {S T R G : List ℕ}

/-! ## Starting a link -/

theorem send_xl0 {α : Type} {Q : α → sProp 𝕄} {k : PUnit → Prog (TpuEff nD τ sig (Elt F) Λ₀ .tc) α} (n' : Dev nD) (n r : ℕ) (hn : n < 28) (hk : kind n = .xl) (ht : slot n = 1) (hr' : row n = r) (hr : r + 128 ≤ 256) {hin hin'}
    (hp : n' = peer n c) {ss rs : DmaSem sig} (hss : ss = dq (cq (28 + n))) (hrs : rs = dq (cq n)) {hsc hsrc hdst hsem} :
    iprop(St m K c (n :: S) T R G ∗ pX qS.left c r (XB m c))
      ⊢ iprop((St m K c S (n :: T) R G -∗ WPc c (k ⟨⟩) Q)
          -∗ WPc c (.op (.enqueueDma (hv1 r hin) (.remote (Dev.tc n' : Thread nD τ) (hvXL 1 r hin') (.dma ss) hsc) (.dma rs) hsrc hdst hsem) k) Q) := by
  have hpe : peer n c = nxt c := by unfold peer; rw [hk]; rfl
  have h := send_link m K c n' n hn hp (S := S) (T := T) (R := R) (G := G) (src := hv1 r hin) (dst := hvXL 1 r hin') hss hrs (hsc := hsc) (hsrc := hsrc) (hdst := hdst) (hsem := hsem)
    (Q := Q) (k := k) (q := qS.left) (XB m c) rfl
    (by
      unfold land; rw [hk, ht, hr']; simp only [landK]
      iintro ⟨%f, H⟩
      iexists f
      iapply (Entails.of_eq (hvXL_pts fullShare (peer n c) 1 r hin' f).symm); iexact H)
    (by rw [hv1_pts]; unfold sendPay; rw [hk, ht, hr']; exact BI.Entails.refl _)
    (fun fd => by
      rw [hvXL_write (peer n c) 1 r (by omega) hr hin' fd (XL m (peer n c)) _ (fun x => by rw [hv1_read r hr hin, XL_e4, hpe]; exact congrArg (fun d => XB m d _) ((rot_nxt c 0 (by omega)).trans (rot_eight c)).symm)]
      unfold recvPay; rw [hk, ht, hr']; exact BI.Entails.refl _)
  rw [hv1_pts] at h
  exact h

theorem send_xr0 {α : Type} {Q : α → sProp 𝕄} {k : PUnit → Prog (TpuEff nD τ sig (Elt F) Λ₀ .tc) α} (n' : Dev nD) (n r : ℕ) (hn : n < 28) (hk : kind n = .xr) (ht : slot n = 1) (hr' : row n = r) (hr : r + 128 ≤ 256) {hin hin'}
    (hp : n' = peer n c) {ss rs : DmaSem sig} (hss : ss = dq (cq (28 + n))) (hrs : rs = dq (cq n)) {hsc hsrc hdst hsem} :
    iprop(St m K c (n :: S) T R G ∗ pX qS.right c r (XB m c))
      ⊢ iprop((St m K c S (n :: T) R G -∗ WPc c (k ⟨⟩) Q)
          -∗ WPc c (.op (.enqueueDma (hv1 r hin) (.remote (Dev.tc n' : Thread nD τ) (hvXR 1 r hin') (.dma ss) hsc) (.dma rs) hsrc hdst hsem) k) Q) := by
  have hpe : peer n c = prv c := by unfold peer; rw [hk]; rfl
  have h := send_link m K c n' n hn hp (S := S) (T := T) (R := R) (G := G) (src := hv1 r hin) (dst := hvXR 1 r hin') hss hrs (hsc := hsc) (hsrc := hsrc) (hdst := hdst) (hsem := hsem)
    (Q := Q) (k := k) (q := qS.right) (XB m c) rfl
    (by
      unfold land; rw [hk, ht, hr']; simp only [landK]
      iintro ⟨%f, H⟩
      iexists f
      iapply (Entails.of_eq (hvXR_pts fullShare (peer n c) 1 r hin' f).symm); iexact H)
    (by rw [hv1_pts]; unfold sendPay; rw [hk, ht, hr']; exact BI.Entails.refl _)
    (fun fd => by
      rw [hvXR_write (peer n c) 1 r (by omega) hr hin' fd (XR m (peer n c)) _ (fun x => by rw [hv1_read r hr hin, XR_e5, hpe]; exact congrArg (fun d => XB m d _) ((rot_prv c 0).trans (rot_zero c)).symm)]
      unfold recvPay; rw [hk, ht, hr']; exact BI.Entails.refl _)
  rw [hv1_pts] at h
  exact h

theorem send_xl {α : Type} {Q : α → sProp 𝕄} {k : PUnit → Prog (TpuEff nD τ sig (Elt F) Λ₀ .tc) α} (n' : Dev nD) (n t r : ℕ) (ht0 : 0 < t) (ht4 : t + 1 < 4) (hn : n < 28) (hk : kind n = .xl) (ht : slot n = t + 1) (hr' : row n = r) (hr : r + 128 ≤ 256) {hin hin'}
    (hp : n' = peer n c) {ss rs : DmaSem sig} (hss : ss = dq (cq (28 + n))) (hrs : rs = dq (cq n)) {hsc hsrc hdst hsem} :
    iprop(St m K c (n :: S) T R G ∗ pXL qS c t r (XL m c))
      ⊢ iprop((St m K c S (n :: T) R G -∗ WPc c (k ⟨⟩) Q)
          -∗ WPc c (.op (.enqueueDma (hvXL t r hin) (.remote (Dev.tc n' : Thread nD τ) (hvXL (t + 1) r hin') (.dma ss) hsc) (.dma rs) hsrc hdst hsem) k) Q) := by
  have hpe : peer n c = nxt c := by unfold peer; rw [hk]; rfl
  have h := send_link m K c n' n hn hp (S := S) (T := T) (R := R) (G := G) (src := hvXL t r hin) (dst := hvXL (t + 1) r hin') hss hrs (hsc := hsc) (hsrc := hsrc) (hdst := hdst) (hsem := hsem)
    (Q := Q) (k := k) (q := qS) (XL m c) rfl
    (by
      unfold land; rw [hk, ht, hr']; simp only [landK]
      iintro ⟨%f, H⟩
      iexists f
      iapply (Entails.of_eq (hvXL_pts fullShare (peer n c) (t + 1) r hin' f).symm); iexact H)
    (by rw [hvXL_pts]; unfold sendPay; rw [hk, ht, hr', Nat.add_sub_cancel]; obtain ⟨t, rfl⟩ := Nat.exists_eq_add_of_lt ht0; rw [Nat.zero_add]; exact BI.Entails.refl _)
    (fun fd => by
      rw [hvXL_write (peer n c) (t + 1) r ht4 hr hin' fd (XL m (peer n c)) _ (fun x => by rw [hvXL_read t r (by omega) hr hin, XL_e4, XL_e4, hpe]; exact congrArg (fun d => XB m d _) (rot_nxt c t (by omega)).symm)]
      unfold recvPay; rw [hk, ht, hr']; exact BI.Entails.refl _)
  rw [hvXL_pts] at h
  exact h

theorem send_xr {α : Type} {Q : α → sProp 𝕄} {k : PUnit → Prog (TpuEff nD τ sig (Elt F) Λ₀ .tc) α} (n' : Dev nD) (n t r : ℕ) (ht0 : 0 < t) (ht4 : t + 1 < 5) (hn : n < 28) (hk : kind n = .xr) (ht : slot n = t + 1) (hr' : row n = r) (hr : r + 128 ≤ 256) {hin hin'}
    (hp : n' = peer n c) {ss rs : DmaSem sig} (hss : ss = dq (cq (28 + n))) (hrs : rs = dq (cq n)) {hsc hsrc hdst hsem} :
    iprop(St m K c (n :: S) T R G ∗ pXR qS c t r (XR m c))
      ⊢ iprop((St m K c S (n :: T) R G -∗ WPc c (k ⟨⟩) Q)
          -∗ WPc c (.op (.enqueueDma (hvXR t r hin) (.remote (Dev.tc n' : Thread nD τ) (hvXR (t + 1) r hin') (.dma ss) hsc) (.dma rs) hsrc hdst hsem) k) Q) := by
  have hpe : peer n c = prv c := by unfold peer; rw [hk]; rfl
  have h := send_link m K c n' n hn hp (S := S) (T := T) (R := R) (G := G) (src := hvXR t r hin) (dst := hvXR (t + 1) r hin') hss hrs (hsc := hsc) (hsrc := hsrc) (hdst := hdst) (hsem := hsem)
    (Q := Q) (k := k) (q := qS) (XR m c) rfl
    (by
      unfold land; rw [hk, ht, hr']; simp only [landK]
      iintro ⟨%f, H⟩
      iexists f
      iapply (Entails.of_eq (hvXR_pts fullShare (peer n c) (t + 1) r hin' f).symm); iexact H)
    (by rw [hvXR_pts]; unfold sendPay; rw [hk, ht, hr', Nat.add_sub_cancel]; obtain ⟨t, rfl⟩ := Nat.exists_eq_add_of_lt ht0; rw [Nat.zero_add]; exact BI.Entails.refl _)
    (fun fd => by
      rw [hvXR_write (peer n c) (t + 1) r ht4 hr hin' fd (XR m (peer n c)) _ (fun x => by rw [hvXR_read t r (by omega) hr hin, XR_e5, XR_e5, hpe]; exact congrArg (fun d => XB m d _) (rot_prv c t).symm)]
      unfold recvPay; rw [hk, ht, hr']; exact BI.Entails.refl _)
  rw [hvXR_pts] at h
  exact h

theorem send_a {α : Type} {Q : α → sProp 𝕄} {k : PUnit → Prog (TpuEff nD τ sig (Elt F) Λ₀ .tc) α} (n' : Dev nD) (n t r : ℕ) (ht4 : t + 1 < 5) (hn : n < 28) (hk : kind n = .a) (ht : slot n = t + 1) (hr' : row n = r) (hr : r + 128 ≤ 256) {hin hin'}
    (hp : n' = peer n c) {ss rs : DmaSem sig} (hss : ss = dq (cq (28 + n))) (hrs : rs = dq (cq n)) {hsc hsrc hdst hsem} :
    iprop(St m K c (n :: S) T R G ∗ pA qS c t r (AO m c))
      ⊢ iprop((St m K c S (n :: T) R G -∗ WPc c (k ⟨⟩) Q)
          -∗ WPc c (.op (.enqueueDma (hvA t r hin) (.remote (Dev.tc n' : Thread nD τ) (hvA (t + 1) r hin') (.dma ss) hsc) (.dma rs) hsrc hdst hsem) k) Q) := by
  have hpe : peer n c = prv c := by unfold peer; rw [hk]; rfl
  have h := send_link m K c n' n hn hp (S := S) (T := T) (R := R) (G := G) (src := hvA t r hin) (dst := hvA (t + 1) r hin') hss hrs (hsc := hsc) (hsrc := hsrc) (hdst := hdst) (hsem := hsem)
    (Q := Q) (k := k) (q := qS) (AO m c) rfl
    (by
      unfold land; rw [hk, ht, hr']; simp only [landK]
      iintro ⟨%f, H⟩
      iexists f
      iapply (Entails.of_eq (hvA_pts fullShare (peer n c) (t + 1) r hin' f).symm); iexact H)
    (by rw [hvA_pts]; unfold sendPay; rw [hk, ht, hr', Nat.add_sub_cancel]; exact BI.Entails.refl _)
    (fun fd => by
      rw [hvA_write (peer n c) (t + 1) r ht4 hr hin' fd (AI m (peer n c)) _ (fun x => by rw [hvA_read t r (by omega) hr hin, AO_e5, AI_e5, hpe]; exact congrArg (fun d => aval m t d _) (nxt_prv c).symm)]
      unfold recvPay; rw [hk, ht, hr']; exact BI.Entails.refl _)
  rw [hvA_pts] at h
  exact h

theorem send_b {α : Type} {Q : α → sProp 𝕄} {k : PUnit → Prog (TpuEff nD τ sig (Elt F) Λ₀ .tc) α} (n' : Dev nD) (n t r : ℕ) (ht4 : t + 1 < 4) (hn : n < 28) (hk : kind n = .b) (ht : slot n = t + 1) (hr' : row n = r) (hr : r + 128 ≤ 256) {hin hin'}
    (hp : n' = peer n c) {ss rs : DmaSem sig} (hss : ss = dq (cq (28 + n))) (hrs : rs = dq (cq n)) {hsc hsrc hdst hsem} :
    iprop(St m K c (n :: S) T R G ∗ pB qS c t r (BO m c))
      ⊢ iprop((St m K c S (n :: T) R G -∗ WPc c (k ⟨⟩) Q)
          -∗ WPc c (.op (.enqueueDma (hvB t r hin) (.remote (Dev.tc n' : Thread nD τ) (hvB (t + 1) r hin') (.dma ss) hsc) (.dma rs) hsrc hdst hsem) k) Q) := by
  have hpe : peer n c = nxt c := by unfold peer; rw [hk]; rfl
  have h := send_link m K c n' n hn hp (S := S) (T := T) (R := R) (G := G) (src := hvB t r hin) (dst := hvB (t + 1) r hin') hss hrs (hsc := hsc) (hsrc := hsrc) (hdst := hdst) (hsem := hsem)
    (Q := Q) (k := k) (q := qS) (BO m c) rfl
    (by
      unfold land; rw [hk, ht, hr']; simp only [landK]
      iintro ⟨%f, H⟩
      iexists f
      iapply (Entails.of_eq (hvB_pts fullShare (peer n c) (t + 1) r hin' f).symm); iexact H)
    (by rw [hvB_pts]; unfold sendPay; rw [hk, ht, hr', Nat.add_sub_cancel]; exact BI.Entails.refl _)
    (fun fd => by
      rw [hvB_write (peer n c) (t + 1) r ht4 hr hin' fd (BI m (peer n c)) _ (fun x => by rw [hvB_read t r (by omega) hr hin, BO_e4, BI_e4, hpe]; exact congrArg (fun d => bval m t d _) (prv_nxt c).symm)]
      unfold recvPay; rw [hk, ht, hr']; exact BI.Entails.refl _)
  rw [hvB_pts] at h
  exact h

/-! ## Waiting for a link -/

/-- Splitting a piece that arrived between the next transfer and the loads. -/
theorem halve_xl (t r : ℕ) (f : Vec F S4x256x1024 .bf16) : pXL fullShare c t r f ⊣⊢ iprop(pXL qS c t r f ∗ pXL qK c t r f) :=
  pointsTo_share (PosShare.mem_left_op_right fullShare)
theorem halve_xr (t r : ℕ) (f : Vec F S5x256x1024 .bf16) : pXR fullShare c t r f ⊣⊢ iprop(pXR qS c t r f ∗ pXR qK c t r f) :=
  pointsTo_share (PosShare.mem_left_op_right fullShare)
theorem halve_a (t r : ℕ) (f : Vec F S5x256x1024 .bf16) : pA fullShare c t r f ⊣⊢ iprop(pA qS c t r f ∗ pA qK c t r f) :=
  pointsTo_share (PosShare.mem_left_op_right fullShare)
theorem halve_b (t r : ℕ) (f : Vec F S4x256x1024 .bf16) : pB fullShare c t r f ⊣⊢ iprop(pB qS c t r f ∗ pB qK c t r f) :=
  pointsTo_share (PosShare.mem_left_op_right fullShare)
theorem got_xl (n t r : ℕ) (hk : kind n = .xl) (ht : slot n = t) (hr : row n = r) : recvPay m c n ⊢ iprop(pXL qS c t r (XL m c) ∗ pXL qK c t r (XL m c)) := by
  unfold recvPay; rw [hk, ht, hr]; exact (halve_xl c t r _).1
theorem got_xr (n t r : ℕ) (hk : kind n = .xr) (ht : slot n = t) (hr : row n = r) : recvPay m c n ⊢ iprop(pXR qS c t r (XR m c) ∗ pXR qK c t r (XR m c)) := by
  unfold recvPay; rw [hk, ht, hr]; exact (halve_xr c t r _).1
theorem got_a (n t r : ℕ) (hk : kind n = .a) (ht : slot n = t) (hr : row n = r) : recvPay m c n ⊢ pA fullShare c t r (AI m c) := by
  unfold recvPay; rw [hk, ht, hr]; exact BI.Entails.refl _
theorem got_b (n t r : ℕ) (hk : kind n = .b) (ht : slot n = t) (hr : row n = r) : recvPay m c n ⊢ pB fullShare c t r (BI m c) := by
  unfold recvPay; rw [hk, ht, hr]; exact BI.Entails.refl _

/-! ## The heads -/

theorem reshape_head (h : S2176x128.numel = S1x2176x128.numel) (x : S2176x128.Idx) :
    Shape.reshapeEquiv h x = ix3 (0 : Fin 1) (x 0 : Fin 2176) (x 1 : Fin 128) := by
  refine (Shape.reshapeEquiv_cons_one (n := 2) (d := ![2176, 128]) h x).trans ?_
  funext a
  match a with
  | ⟨0, _⟩ => rfl
  | ⟨1, _⟩ => rfl
  | ⟨2, _⟩ => rfl
theorem reshape_src (h : S2176x128.numel = S1x2176x1x128.numel) (x : S2176x128.Idx) :
    Shape.reshapeEquiv h x = ix4 (0 : Fin 1) (x 0 : Fin 2176) (0 : Fin 1) (x 1 : Fin 128) :=
  Shape.reshapeEquiv_eq_of_rowMajor h (by
    refine (Shape.rowMajor_val_four _).trans (Eq.trans ?_ (Shape.rowMajor_val_two _).symm)
    show ((0 * 2176 + (x 0).val) * 1 + 0) * 128 + (x 1).val = (x 0).val * 128 + (x 1).val
    omega)

/-- Element `x` of head `h`. -/
def eh (h : Fin 8) (x : S2176x128.Idx) : S8x2176x128.Idx := ix3 h (x 0 : Fin 2176) (x 1 : Fin 128)
theorem eh_rect (h : Fin 8) (hin) (hs : S2176x128.numel = S1x2176x128.numel) (x) :
    (Rect.unit (s := S8x2176x128) ![h.val, 0, 0] S1x2176x128.size hin).emb (Shape.reshapeEquiv hs x) = eh h x := by
  rw [reshape_head]
  funext a; refine Fin.ext ?_
  match a with
  | ⟨0, _⟩ => show h.val + 1 * 0 = h.val; omega
  | ⟨1, _⟩ => show 0 + 1 * (x 0).val = (x 0).val; omega
  | ⟨2, _⟩ => show 0 + 1 * (x 1).val = (x 1).val; omega
theorem hdS_rect (h : ℕ) (hin) : (Rect.unit (s := S8x2176x128) ![h, 0, 0] S1x2176x128.size hin).set = hdS h := by
  ext i
  rw [Rect.mem_set_unit, hdS, Finset.mem_filter]
  refine ⟨fun h' => ⟨Finset.mem_univ _, ?_⟩, fun h' a => ?_⟩
  · have h0 : h ≤ (i 0).val ∧ (i 0).val < h + 1 := h' 0
    omega
  · match a with
    | ⟨0, _⟩ => show h ≤ (i 0).val ∧ (i 0).val < h + 1; have := h'.2; omega
    | ⟨1, _⟩ => exact ⟨Nat.zero_le _, by have : (i 1).val < 2176 := (i 1).isLt; show (i 1).val < 0 + 2176; omega⟩
    | ⟨2, _⟩ => exact ⟨Nat.zero_le _, by have : (i 2).val < 128 := (i 2).isLt; show (i 2).val < 0 + 128; omega⟩
theorem eh_of_mem {h : Fin 8} {i : S8x2176x128.Idx} (hi : i ∈ hdS h.val) : ∃ x, eh h x = i := by
  rw [hdS, Finset.mem_filter] at hi
  refine ⟨ix2 (i 1 : Fin 2176) (i 2 : Fin 128), ?_⟩
  funext a; refine Fin.ext ?_
  match a with
  | ⟨0, _⟩ => exact hi.2.symm
  | ⟨1, _⟩ => rfl
  | ⟨2, _⟩ => rfl
/-- The head the source view reads. -/
theorem src_emb (h : Fin 8) (off : Fin 4 → ℕ) (ho : off = ![0, 0, 8 * c.val + h.val, 0]) (hin) (hs : S2176x128.numel = S1x2176x1x128.numel) (x) :
    (Rect.unit (s := S1x4096x64x128) off S1x2176x1x128.size hin).emb (Shape.reshapeEquiv hs x)
      = ix4 (0 : Fin 1) (⟨(x 0).val, by have : (x 0).val < 2176 := (x 0).isLt; omega⟩ : Fin 4096)
          (⟨8 * c.val + h.val, by have := c.isLt; have : nD = 8 := rfl; have := h.isLt; omega⟩ : Fin 64) (x 1 : Fin 128) := by
  subst ho
  rw [reshape_src]
  funext a; refine Fin.ext ?_
  match a with
  | ⟨0, _⟩ => rfl
  | ⟨1, _⟩ => show 0 + 1 * (x 0).val = (x 0).val; omega
  | ⟨2, _⟩ => show 8 * c.val + h.val + 1 * 0 = 8 * c.val + h.val; omega
  | ⟨3, _⟩ => show 0 + 1 * (x 1).val = (x 1).val; omega

abbrev hvK (h : ℕ) (hin : ∀ a, (![h, 0, 0] : Fin 3 → Nat) a + S1x2176x128.size a ≤ S8x2176x128.size a) : Memref sig .tc .vmem S2176x128 .f32 :=
  ((Memref.whole cc0_scratch0 : Memref sig .tc .vmem S8x2176x128 .f32).slice (Rect.unit (s := S8x2176x128) ![h, 0, 0] S1x2176x128.size hin) (fun _ => rfl)).squeeze S2176x128 squeezes_S1x2176x128_S2176x128
abbrev hvV (h : ℕ) (hin : ∀ a, (![h, 0, 0] : Fin 3 → Nat) a + S1x2176x128.size a ≤ S8x2176x128.size a) : Memref sig .tc .vmem S2176x128 .f32 :=
  ((Memref.whole cc0_scratch1 : Memref sig .tc .vmem S8x2176x128 .f32).slice (Rect.unit (s := S8x2176x128) ![h, 0, 0] S1x2176x128.size hin) (fun _ => rfl)).squeeze S2176x128 squeezes_S1x2176x128_S2176x128
abbrev srcK (off : Fin 4 → ℕ) (hin : ∀ a, off a + S1x2176x1x128.size a ≤ S1x4096x64x128.size a) : Memref sig .tc .hbm S2176x128 .f32 :=
  ((Memref.whole main_arg2 : Memref sig .tc .hbm S1x4096x64x128 .f32).slice (Rect.unit (s := S1x4096x64x128) off S1x2176x1x128.size hin) (fun _ => rfl)).squeeze S2176x128 squeezes_S1x2176x1x128_S2176x128
abbrev srcV (off : Fin 4 → ℕ) (hin : ∀ a, off a + S1x2176x1x128.size a ≤ S1x4096x64x128.size a) : Memref sig .tc .hbm S2176x128 .f32 :=
  ((Memref.whole main_arg3 : Memref sig .tc .hbm S1x4096x64x128 .f32).slice (Rect.unit (s := S1x4096x64x128) off S1x2176x1x128.size hin) (fun _ => rfl)).squeeze S2176x128 squeezes_S1x2176x1x128_S2176x128

theorem hvK_pts (h : ℕ) (hin) (f : Vec F S8x2176x128 .f32) :
    (((hvK h hin).view.loc (c : Thread nD τ)) ↦[(hvK h hin).view.set]{fullShare} f : sProp 𝕄) = pK c h f := by
  unfold pK
  rw [show (hvK h hin).view.set = hdS h from (View.set_reshape _ _).trans ((View.set_slice_whole _ _).trans (hdS_rect h hin))]
theorem hvK_write (h : Fin 8) (hin) (fd g : Vec F S8x2176x128 .f32) (w : Vec F S2176x128 .f32) (hw : ∀ x, w x = g (eh h x)) :
    (((hvK h.val hin).view.loc (c : Thread nD τ)) ↦[(hvK h.val hin).view.set]{fullShare} ((hvK h.val hin).view.write (Elt F) fd w Finset.univ) : sProp 𝕄)
      = pK c h.val g := by
  rw [hvK_pts]
  unfold pK
  refine pointsTo_congr fun i hi => ?_
  obtain ⟨x, rfl⟩ := eh_of_mem hi
  rw [← hw x, ← eh_rect h hin squeezes_S1x2176x128_S2176x128.numel_eq x]
  exact View.write_emb_of_mem (v := (hvK h.val hin).view) (Val := Elt F) fd w (Finset.mem_univ x)
theorem copy_K {α : Type} {Q : α → sProp 𝕄} {k : PUnit → Prog (TpuEff nD τ sig (Elt F) Λ₀ .tc) α} (h : Fin 8) {A B C : List ℕ} {off : Fin 4 → ℕ} (ho : off = ![0, 0, 8 * c.val + h.val, 0]) {hin hin'} {sem : DmaSem sig} (hs : sem = dq (cq (56 + (h.val))))
    {hsrc hdst hsem} {q : PosShare TreeShare} :
    iprop(KV m K c ((h.val) :: A) B C ∗ arrP m c true q)
      ⊢ iprop(((KV m K c A ((h.val) :: B) C ∗ arrP m c true q.right) -∗ WPc c (k ⟨⟩) Q)
          -∗ WPc c (.op (.enqueueDma (srcK off hin) (.here (hvK h.val hin')) (.dma sem) hsrc hdst hsem) k) Q) := by
  have hb : decide ((h.val) < 8) = true := decide_eq_true h.isLt
  have H := copy_kv m K c (h.val) (by have := h.isLt; omega) (A := A) (B := B) (C := C) (src := srcK off hin) (dst := hvK h.val hin') hs (hsrc := hsrc) (hdst := hdst) (hsem := hsem)
    (Q := Q) (p := k) (q := q) (fs := m ((c : Thread nD τ).loc main_arg2)) rfl (by rw [hb]; rfl) (by rw [hb]; rfl)
    (by
      unfold kvLand
      rw [if_pos h.isLt]
      iintro ⟨%f, H⟩
      iexists f
      iapply (Entails.of_eq (hvK_pts c h.val hin' f).symm); iexact H)
    (fun fd => by
      rw [hvK_write c h hin' fd (KF m c) ((srcK off hin).view.read (Elt F) (m ((c : Thread nD τ).loc main_arg2))) (fun x => congrArg (m ((c : Thread nD τ).loc main_arg2)) (src_emb c h off ho hin squeezes_S1x2176x1x128_S2176x128.numel_eq x))]
      unfold kvPay
      rw [if_pos h.isLt])
  rw [hb] at H
  exact H

theorem hvV_pts (h : ℕ) (hin) (f : Vec F S8x2176x128 .f32) :
    (((hvV h hin).view.loc (c : Thread nD τ)) ↦[(hvV h hin).view.set]{fullShare} f : sProp 𝕄) = pV c h f := by
  unfold pV
  rw [show (hvV h hin).view.set = hdS h from (View.set_reshape _ _).trans ((View.set_slice_whole _ _).trans (hdS_rect h hin))]
theorem hvV_write (h : Fin 8) (hin) (fd g : Vec F S8x2176x128 .f32) (w : Vec F S2176x128 .f32) (hw : ∀ x, w x = g (eh h x)) :
    (((hvV h.val hin).view.loc (c : Thread nD τ)) ↦[(hvV h.val hin).view.set]{fullShare} ((hvV h.val hin).view.write (Elt F) fd w Finset.univ) : sProp 𝕄)
      = pV c h.val g := by
  rw [hvV_pts]
  unfold pV
  refine pointsTo_congr fun i hi => ?_
  obtain ⟨x, rfl⟩ := eh_of_mem hi
  rw [← hw x, ← eh_rect h hin squeezes_S1x2176x128_S2176x128.numel_eq x]
  exact View.write_emb_of_mem (v := (hvV h.val hin).view) (Val := Elt F) fd w (Finset.mem_univ x)
theorem copy_V {α : Type} {Q : α → sProp 𝕄} {k : PUnit → Prog (TpuEff nD τ sig (Elt F) Λ₀ .tc) α} (h : Fin 8) {A B C : List ℕ} {off : Fin 4 → ℕ} (ho : off = ![0, 0, 8 * c.val + h.val, 0]) {hin hin'} {sem : DmaSem sig} (hs : sem = dq (cq (56 + (8 + h.val))))
    {hsrc hdst hsem} {q : PosShare TreeShare} :
    iprop(KV m K c ((8 + h.val) :: A) B C ∗ arrP m c false q)
      ⊢ iprop(((KV m K c A ((8 + h.val) :: B) C ∗ arrP m c false q.right) -∗ WPc c (k ⟨⟩) Q)
          -∗ WPc c (.op (.enqueueDma (srcV off hin) (.here (hvV h.val hin')) (.dma sem) hsrc hdst hsem) k) Q) := by
  have hb : decide ((8 + h.val) < 8) = false := decide_eq_false (by omega)
  have H := copy_kv m K c (8 + h.val) (by have := h.isLt; omega) (A := A) (B := B) (C := C) (src := srcV off hin) (dst := hvV h.val hin') hs (hsrc := hsrc) (hdst := hdst) (hsem := hsem)
    (Q := Q) (p := k) (q := q) (fs := m ((c : Thread nD τ).loc main_arg3)) rfl (by rw [hb]; rfl) (by rw [hb]; rfl)
    (by
      unfold kvLand
      rw [if_neg (by omega), Nat.add_sub_cancel_left]
      iintro ⟨%f, H⟩
      iexists f
      iapply (Entails.of_eq (hvV_pts c h.val hin' f).symm); iexact H)
    (fun fd => by
      rw [hvV_write c h hin' fd (VF m c) ((srcV off hin).view.read (Elt F) (m ((c : Thread nD τ).loc main_arg3))) (fun x => congrArg (m ((c : Thread nD τ).loc main_arg3)) (src_emb c h off ho hin squeezes_S1x2176x1x128_S2176x128.numel_eq x))]
      unfold kvPay
      rw [if_neg (by omega), Nat.add_sub_cancel_left])
  rw [hb] at H
  exact H

end Moves

end Cert.KernelIdeal.Run

end
-- ==== Proof.KI.Loads.lean ====
module

public import proofs.«01_k».proof.Proof.KI.Moves

/-! The loads and stores of the body. -/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## Whole buffers -/

theorem ld (c : Dev nD) {α : Type} {Q : α → sProp 𝕄} {cs : CoreSpace} {s : Shape} {e : EltTy} {mm : Memref sig .tc cs s e} {r : LoadRect s} {hl : mm.view.LoadsAt r}
    {k : (r.shape.Idx → Elt F e) → Prog (TpuEff nD τ sig (Elt F) Λ₀ .tc) α} {S : Finset (Idx (mm.view.loc (c : Thread nD τ)))} {q : PosShare TreeShare}
    {f : Buf (Elt F) (mm.view.loc (c : Thread nD τ))} {v : r.shape.Idx → Elt F e} (hS : mm.view.setOn r.set ⊆ S) (hv : mm.view.readAt (Elt F) r f = v) :
    (((mm.view.loc (c : Thread nD τ)) ↦[S]{q} f : sProp 𝕄))
      ⊢ iprop((((mm.view.loc (c : Thread nD τ)) ↦[S]{q} f) -∗ WPc c (k v) Q) -∗ WPc c (.op (.load mm r hl) k) Q) := by
  subst hv
  exact wp_load 𝒱₀ (c : Thread nD τ) none Set.univ hS

theorem z2 : (![0, 0] : Fin 2 → Nat) = fun _ => 0 := funext fun a => by fin_cases a <;> rfl
theorem z3 : (![0, 0, 0] : Fin 3 → Nat) = fun _ => 0 := funext fun a => by fin_cases a <;> rfl

theorem st (c : Dev nD) {α : Type} {Q : α → sProp 𝕄} {cs : CoreSpace} {s : Shape} {e : EltTy} {mm : Memref sig .tc cs s e} {r : Rect s} {w : r.shape.Idx → Elt F e}
    {hx : (mm.access r).Stores Finset.univ} {hm} {k : PUnit → Prog (TpuEff nD τ sig (Elt F) Λ₀ .tc) α}
    {S : Finset (Idx ((mm.access r).loc (c : Thread nD τ)))} {f g : Buf (Elt F) ((mm.access r).loc (c : Thread nD τ))}
    (hS : (mm.access r).set ⊆ S) (hg : ∀ i ∈ S, (mm.access r).write (Elt F) f w Finset.univ i = g i) :
    ((((mm.access r).loc (c : Thread nD τ)) ↦[S]{fullShare} f : sProp 𝕄))
      ⊢ iprop(((((mm.access r).loc (c : Thread nD τ)) ↦[S]{fullShare} g) -∗ WPc c (k ⟨⟩) Q) -∗ WPc c (.op (.store mm r w Finset.univ hx hm) k) Q) := by
  rw [← pointsTo_congr hg]
  exact wp_store 𝒱₀ (c : Thread nD τ) none Set.univ hS

/-! ## The buffers that are only read -/

/-- Keys, values and both weights as every contribution reads them. -/
def RO (c : Dev nD) : sProp 𝕄 :=
  iprop((((c : Thread nD τ).loc cc0_scratch2) ↦{fullShare} KB m c) ∗ (((c : Thread nD τ).loc cc0_scratch3) ↦{fullShare} VB m c)
    ∗ (((c : Thread nD τ).loc cc0_scratch5) ↦{fullShare} WQB m c) ∗ (((c : Thread nD τ).loc cc0_scratch6) ↦{fullShare} WOB m c))

theorem win_read (b : Vec F S8x2176x128 .bf16) (h : Fin 8) (j : Dev nD) {off : Fin 3 → ℕ} (ho : off = ![h.val, wst j, 0]) (hin)
    (i : S1x512x128.Idx) : b ((Rect.unit (s := S8x2176x128) off S1x512x128.size hin).emb i) = win b h j i := by
  subst ho
  unfold win
  refine congrArg b (funext fun a => Fin.ext ?_)
  match a with
  | ⟨0, _⟩ => show h.val + 1 * (i 0).val = h.val; have : (i 0).val < 1 := (i 0).isLt; omega
  | ⟨1, _⟩ => show wst j + 1 * (i 1).val = wst j + (i 1).val; omega
  | ⟨2, _⟩ => show 0 + 1 * (i 2).val = (i 2).val; omega

/-- A program that only reads these buffers and returns `v`. -/
def Rd (c : Dev nD) {β : Type} (p : Prog (TpuEff nD τ sig (Elt F) Λ₀ .tc) β) (v : β) : Prop :=
  ∀ {α : Type} (Q : α → sProp 𝕄) (k : β → Prog (TpuEff nD τ sig (Elt F) Λ₀ .tc) α),
    RO m c ⊢ iprop((RO m c -∗ WPc c (k v) Q) -∗ WPc c (p >>= k) Q)

theorem rd_ret (c : Dev nD) {β : Type} (v : β) : Rd m c (pure v) v := fun Q k => by
  show RO m c ⊢ iprop((RO m c -∗ WPc c (k v) Q) -∗ WPc c (k v) Q)
  iintro H Hk; iapply Hk; iexact H

theorem ld_kb (c : Dev nD) {α : Type} {Q : α → sProp 𝕄} (h : Fin 8) (j : Dev nD) {off : Fin 3 → ℕ} (ho : off = ![h.val, wst j, 0]) {hin hl}
    {k : Vec F S1x512x128 .bf16 → Prog (TpuEff nD τ sig (Elt F) Λ₀ .tc) α} :
    RO m c ⊢ iprop((RO m c -∗ WPc c (k (win (KB m c) h j)) Q)
      -∗ WPc c (.op (.load (Memref.whole cc0_scratch2) (Rect.unit (s := S8x2176x128) off S1x512x128.size hin).toLoadRect hl) k) Q) := by
  unfold RO
  iintro ⟨H2, H3, H5, H6⟩ Hk
  iapply (ld c (mm := (Memref.whole cc0_scratch2 : Memref sig .tc .vmem S8x2176x128 .bf16)) (r := (Rect.unit (s := S8x2176x128) off S1x512x128.size hin).toLoadRect) (f := KB m c)
    (v := win (KB m c) h j) (Finset.subset_univ _) (funext fun i => win_read (KB m c) h j ho hin i)) $$ H2; iintro H2
  iapply Hk
  isplitl [H2]; · iexact H2
  isplitl [H3]; · iexact H3
  isplitl [H5]; · iexact H5
  iexact H6
theorem rd_kb (c : Dev nD) (h : Fin 8) (j : Dev nD) {off : Fin 3 → ℕ} (ho : off = ![h.val, wst j, 0]) {hin hl} {β : Type} {v : β}
    {f : Vec F S1x512x128 .bf16 → Prog (TpuEff nD τ sig (Elt F) Λ₀ .tc) β} (H : Rd m c (f (win (KB m c) h j)) v) :
    Rd m c (Prog.lift (.load (Memref.whole cc0_scratch2) (Rect.unit (s := S8x2176x128) off S1x512x128.size hin).toLoadRect hl) >>= f) v := fun Q k => by
  have h1 := ld_kb m c h j ho (Q := Q) (hin := hin) (hl := hl) (k := fun x => f x >>= k)
  refine h1.trans (wand_mono_left ?_)
  have h2 := H Q k
  iintro Hk HR
  iapply h2 $$ HR; iexact Hk

theorem ld_vb (c : Dev nD) {α : Type} {Q : α → sProp 𝕄} (h : Fin 8) (j : Dev nD) {off : Fin 3 → ℕ} (ho : off = ![h.val, wst j, 0]) {hin hl}
    {k : Vec F S1x512x128 .bf16 → Prog (TpuEff nD τ sig (Elt F) Λ₀ .tc) α} :
    RO m c ⊢ iprop((RO m c -∗ WPc c (k (win (VB m c) h j)) Q)
      -∗ WPc c (.op (.load (Memref.whole cc0_scratch3) (Rect.unit (s := S8x2176x128) off S1x512x128.size hin).toLoadRect hl) k) Q) := by
  unfold RO
  iintro ⟨H2, H3, H5, H6⟩ Hk
  iapply (ld c (mm := (Memref.whole cc0_scratch3 : Memref sig .tc .vmem S8x2176x128 .bf16)) (r := (Rect.unit (s := S8x2176x128) off S1x512x128.size hin).toLoadRect) (f := VB m c)
    (v := win (VB m c) h j) (Finset.subset_univ _) (funext fun i => win_read (VB m c) h j ho hin i)) $$ H3; iintro H3
  iapply Hk
  isplitl [H2]; · iexact H2
  isplitl [H3]; · iexact H3
  isplitl [H5]; · iexact H5
  iexact H6
theorem rd_vb (c : Dev nD) (h : Fin 8) (j : Dev nD) {off : Fin 3 → ℕ} (ho : off = ![h.val, wst j, 0]) {hin hl} {β : Type} {v : β}
    {f : Vec F S1x512x128 .bf16 → Prog (TpuEff nD τ sig (Elt F) Λ₀ .tc) β} (H : Rd m c (f (win (VB m c) h j)) v) :
    Rd m c (Prog.lift (.load (Memref.whole cc0_scratch3) (Rect.unit (s := S8x2176x128) off S1x512x128.size hin).toLoadRect hl) >>= f) v := fun Q k => by
  have h1 := ld_vb m c h j ho (Q := Q) (hin := hin) (hl := hl) (k := fun x => f x >>= k)
  refine h1.trans (wand_mono_left ?_)
  have h2 := H Q k
  iintro Hk HR
  iapply h2 $$ HR; iexact Hk

theorem ld_wq (c : Dev nD) {α : Type} {Q : α → sProp 𝕄} {hin hl}
    {k : Vec F S1024x1024 .bf16 → Prog (TpuEff nD τ sig (Elt F) Λ₀ .tc) α} :
    RO m c ⊢ iprop((RO m c -∗ WPc c (k (WQB m c)) Q)
      -∗ WPc c (.op (.load (Memref.whole cc0_scratch5) (Rect.unit (s := S1024x1024) ![0, 0] S1024x1024.size hin).toLoadRect hl) k) Q) := by
  unfold RO
  iintro ⟨H2, H3, H5, H6⟩ Hk
  iapply (ld c (Finset.subset_univ _) (Memref.readAt_unit_zero (Elt F) cc0_scratch5 z2 _ (WQB m c))) $$ H5; iintro H5
  iapply Hk
  isplitl [H2]; · iexact H2
  isplitl [H3]; · iexact H3
  isplitl [H5]; · iexact H5
  iexact H6
theorem rd_wq (c : Dev nD) {hin hl} {β : Type} {v : β}
    {f : Vec F S1024x1024 .bf16 → Prog (TpuEff nD τ sig (Elt F) Λ₀ .tc) β} (H : Rd m c (f (WQB m c)) v) :
    Rd m c (Prog.lift (.load (Memref.whole cc0_scratch5) (Rect.unit (s := S1024x1024) ![0, 0] S1024x1024.size hin).toLoadRect hl) >>= f) v := fun Q k => by
  have h1 := ld_wq m c (Q := Q) (hin := hin) (hl := hl) (k := fun x => f x >>= k)
  refine h1.trans (wand_mono_left ?_)
  have h2 := H Q k
  iintro Hk HR
  iapply h2 $$ HR; iexact Hk

theorem ld_wo (c : Dev nD) {α : Type} {Q : α → sProp 𝕄} {hin hl}
    {k : Vec F S1024x1024 .bf16 → Prog (TpuEff nD τ sig (Elt F) Λ₀ .tc) α} :
    RO m c ⊢ iprop((RO m c -∗ WPc c (k (WOB m c)) Q)
      -∗ WPc c (.op (.load (Memref.whole cc0_scratch6) (Rect.unit (s := S1024x1024) ![0, 0] S1024x1024.size hin).toLoadRect hl) k) Q) := by
  unfold RO
  iintro ⟨H2, H3, H5, H6⟩ Hk
  iapply (ld c (Finset.subset_univ _) (Memref.readAt_unit_zero (Elt F) cc0_scratch6 z2 _ (WOB m c))) $$ H6; iintro H6
  iapply Hk
  isplitl [H2]; · iexact H2
  isplitl [H3]; · iexact H3
  isplitl [H5]; · iexact H5
  iexact H6
theorem rd_wo (c : Dev nD) {hin hl} {β : Type} {v : β}
    {f : Vec F S1024x1024 .bf16 → Prog (TpuEff nD τ sig (Elt F) Λ₀ .tc) β} (H : Rd m c (f (WOB m c)) v) :
    Rd m c (Prog.lift (.load (Memref.whole cc0_scratch6) (Rect.unit (s := S1024x1024) ![0, 0] S1024x1024.size hin).toLoadRect hl) >>= f) v := fun Q k => by
  have h1 := ld_wo m c (Q := Q) (hin := hin) (hl := hl) (k := fun x => f x >>= k)
  refine h1.trans (wand_mono_left ?_)
  have h2 := H Q k
  iintro Hk HR
  iapply h2 $$ HR; iexact Hk

/-! ## Slots and their halves -/

/-- A block as a slot holds it, and half of it. -/
def slotOf (v : FVec F S256x1024 .bf16) : Vec F S1x256x1024 .bf16 := fun i => v (ix2 (i 1) (i 2))
def halfOf (r : ℕ) (hr : r + 128 ≤ 256) (v : FVec F S256x1024 .bf16) : Vec F S1x128x1024 .bf16 :=
  fun i => v (ix2 (⟨r + (i 1).val, by have : (i 1).val < 128 := (i 1).isLt; omega⟩ : Fin 256) (i 2 : Fin 1024))

theorem slot4_emb (t : ℕ) (ht : t < 4) (hin) (i : S1x256x1024.Idx) :
    (Rect.unit (s := S4x256x1024) ![t, 0, 0] S1x256x1024.size hin).emb i = ix3 (⟨t, ht⟩ : Fin 4) (i 1 : Fin 256) (i 2 : Fin 1024) := by
  funext a; refine Fin.ext ?_
  match a with
  | ⟨0, _⟩ => show t + 1 * (i 0).val = t; have : (i 0).val < 1 := (i 0).isLt; omega
  | ⟨1, _⟩ => show 0 + 1 * (i 1).val = (i 1).val; omega
  | ⟨2, _⟩ => show 0 + 1 * (i 2).val = (i 2).val; omega
theorem half4_emb (t r : ℕ) (ht : t < 4) (hr : r + 128 ≤ 256) (hin) (i : S1x128x1024.Idx) :
    (Rect.unit (s := S4x256x1024) ![t, r, 0] S1x128x1024.size hin).emb i = e4 t r ht hr (ix2 (i 1 : Fin 128) (i 2 : Fin 1024)) := by
  funext a; refine Fin.ext ?_
  match a with
  | ⟨0, _⟩ => show t + 1 * (i 0).val = t; have : (i 0).val < 1 := (i 0).isLt; omega
  | ⟨1, _⟩ => show r + 1 * (i 1).val = r + (i 1).val; omega
  | ⟨2, _⟩ => show 0 + 1 * (i 2).val = (i 2).val; omega

theorem slot5_emb (t : ℕ) (ht : t < 5) (hin) (i : S1x256x1024.Idx) :
    (Rect.unit (s := S5x256x1024) ![t, 0, 0] S1x256x1024.size hin).emb i = ix3 (⟨t, ht⟩ : Fin 5) (i 1 : Fin 256) (i 2 : Fin 1024) := by
  funext a; refine Fin.ext ?_
  match a with
  | ⟨0, _⟩ => show t + 1 * (i 0).val = t; have : (i 0).val < 1 := (i 0).isLt; omega
  | ⟨1, _⟩ => show 0 + 1 * (i 1).val = (i 1).val; omega
  | ⟨2, _⟩ => show 0 + 1 * (i 2).val = (i 2).val; omega
theorem half5_emb (t r : ℕ) (ht : t < 5) (hr : r + 128 ≤ 256) (hin) (i : S1x128x1024.Idx) :
    (Rect.unit (s := S5x256x1024) ![t, r, 0] S1x128x1024.size hin).emb i = e5 t r ht hr (ix2 (i 1 : Fin 128) (i 2 : Fin 1024)) := by
  funext a; refine Fin.ext ?_
  match a with
  | ⟨0, _⟩ => show t + 1 * (i 0).val = t; have : (i 0).val < 1 := (i 0).isLt; omega
  | ⟨1, _⟩ => show r + 1 * (i 1).val = r + (i 1).val; omega
  | ⟨2, _⟩ => show 0 + 1 * (i 2).val = (i 2).val; omega

/-- Both halves of a slot of `cc0_scratch7`, read as one. -/
theorem ld_slotXL (c : Dev nD) {α : Type} {Q : α → sProp 𝕄} (t : ℕ) (ht : t < 4) {q : PosShare TreeShare} {f : Vec F S4x256x1024 .bf16} {v : FVec F S256x1024 .bf16} {hin hl}
    (hv : ∀ a b, f (ix3 (⟨t, ht⟩ : Fin 4) a b) = v (ix2 a b)) {k : Vec F S1x256x1024 .bf16 → Prog (TpuEff nD τ sig (Elt F) Λ₀ .tc) α} :
    iprop(pXL q c t 0 f ∗ pXL q c t 128 f) ⊢ iprop((((pXL q c t 0 f ∗ pXL q c t 128 f) -∗ WPc c (k (slotOf v)) Q))
      -∗ WPc c (.op (.load (Memref.whole cc0_scratch7) (Rect.unit (s := S4x256x1024) ![t, 0, 0] S1x256x1024.size hin).toLoadRect hl) k) Q) := by
  unfold pXL
  have hu := pointsTo_union (nD := nD) (τ := τ) (sig := sig) (Ix := Unit) (Val := Elt F) (Name := ℕ) (U := UU) (Lvl := ℕ) (ℓ := (c : Thread nD τ).loc cc0_scratch7) (q := q) (f := f) (hs4_disj t 0 t 128 (by omega))
  have h := ld c (Q := Q) (mm := (Memref.whole cc0_scratch7 : Memref sig .tc .vmem S4x256x1024 .bf16)) (r := (Rect.unit (s := S4x256x1024) ![t, 0, 0] S1x256x1024.size hin).toLoadRect) (hl := hl) (k := k)
    (S := hs4 t 0 ∪ hs4 t 128) (q := q) (f := f) (v := slotOf v)
    (Finset.Subset.antisymm_iff.mp ((View.set_slice (View.whole cc0_scratch7) (Rect.unit (s := S4x256x1024) ![t, 0, 0] S1x256x1024.size hin)).symm.trans ((View.set_slice_whole _ _).trans (sl4_rect t hin)))).1
    (funext fun i => (congrArg f (slot4_emb t ht hin i)).trans (hv _ _))
  iintro H Hk
  ihave H := hu.2 $$ H
  iapply h $$ H; iintro H
  iapply Hk
  iapply hu.1; iexact H
/-- Half of a slot. -/
theorem ld_halfXL (c : Dev nD) {α : Type} {Q : α → sProp 𝕄} (t r : ℕ) (ht : t < 4) (hr : r + 128 ≤ 256) {q : PosShare TreeShare} {f : Vec F S4x256x1024 .bf16} {v : FVec F S256x1024 .bf16} {hin hl}
    (hv : ∀ a b, f (ix3 (⟨t, ht⟩ : Fin 4) a b) = v (ix2 a b)) {k : Vec F S1x128x1024 .bf16 → Prog (TpuEff nD τ sig (Elt F) Λ₀ .tc) α} :
    pXL q c t r f ⊢ iprop(((pXL q c t r f -∗ WPc c (k (halfOf r hr v)) Q))
      -∗ WPc c (.op (.load (Memref.whole cc0_scratch7) (Rect.unit (s := S4x256x1024) ![t, r, 0] S1x128x1024.size hin).toLoadRect hl) k) Q) := by
  unfold pXL
  exact ld c (Q := Q) (mm := (Memref.whole cc0_scratch7 : Memref sig .tc .vmem S4x256x1024 .bf16)) (r := (Rect.unit (s := S4x256x1024) ![t, r, 0] S1x128x1024.size hin).toLoadRect) (hl := hl) (k := k)
    (S := hs4 t r) (q := q) (f := f) (v := halfOf r hr v)
    (Finset.Subset.antisymm_iff.mp ((View.set_slice (View.whole cc0_scratch7) (Rect.unit (s := S4x256x1024) ![t, r, 0] S1x128x1024.size hin)).symm.trans ((View.set_slice_whole _ _).trans (hs4_rect t r hin)))).1
    (funext fun i => (congrArg f (half4_emb t r ht hr hin i)).trans (hv _ _))

/-- Both halves of a slot of `cc0_scratch8`, read as one. -/
theorem ld_slotXR (c : Dev nD) {α : Type} {Q : α → sProp 𝕄} (t : ℕ) (ht : t < 5) {q : PosShare TreeShare} {f : Vec F S5x256x1024 .bf16} {v : FVec F S256x1024 .bf16} {hin hl}
    (hv : ∀ a b, f (ix3 (⟨t, ht⟩ : Fin 5) a b) = v (ix2 a b)) {k : Vec F S1x256x1024 .bf16 → Prog (TpuEff nD τ sig (Elt F) Λ₀ .tc) α} :
    iprop(pXR q c t 0 f ∗ pXR q c t 128 f) ⊢ iprop((((pXR q c t 0 f ∗ pXR q c t 128 f) -∗ WPc c (k (slotOf v)) Q))
      -∗ WPc c (.op (.load (Memref.whole cc0_scratch8) (Rect.unit (s := S5x256x1024) ![t, 0, 0] S1x256x1024.size hin).toLoadRect hl) k) Q) := by
  unfold pXR
  have hu := pointsTo_union (nD := nD) (τ := τ) (sig := sig) (Ix := Unit) (Val := Elt F) (Name := ℕ) (U := UU) (Lvl := ℕ) (ℓ := (c : Thread nD τ).loc cc0_scratch8) (q := q) (f := f) (hs5_disj t 0 t 128 (by omega))
  have h := ld c (Q := Q) (mm := (Memref.whole cc0_scratch8 : Memref sig .tc .vmem S5x256x1024 .bf16)) (r := (Rect.unit (s := S5x256x1024) ![t, 0, 0] S1x256x1024.size hin).toLoadRect) (hl := hl) (k := k)
    (S := hs5 t 0 ∪ hs5 t 128) (q := q) (f := f) (v := slotOf v)
    (Finset.Subset.antisymm_iff.mp ((View.set_slice (View.whole cc0_scratch8) (Rect.unit (s := S5x256x1024) ![t, 0, 0] S1x256x1024.size hin)).symm.trans ((View.set_slice_whole _ _).trans (sl5_rect t hin)))).1
    (funext fun i => (congrArg f (slot5_emb t ht hin i)).trans (hv _ _))
  iintro H Hk
  ihave H := hu.2 $$ H
  iapply h $$ H; iintro H
  iapply Hk
  iapply hu.1; iexact H
/-- Half of a slot. -/
theorem ld_halfXR (c : Dev nD) {α : Type} {Q : α → sProp 𝕄} (t r : ℕ) (ht : t < 5) (hr : r + 128 ≤ 256) {q : PosShare TreeShare} {f : Vec F S5x256x1024 .bf16} {v : FVec F S256x1024 .bf16} {hin hl}
    (hv : ∀ a b, f (ix3 (⟨t, ht⟩ : Fin 5) a b) = v (ix2 a b)) {k : Vec F S1x128x1024 .bf16 → Prog (TpuEff nD τ sig (Elt F) Λ₀ .tc) α} :
    pXR q c t r f ⊢ iprop(((pXR q c t r f -∗ WPc c (k (halfOf r hr v)) Q))
      -∗ WPc c (.op (.load (Memref.whole cc0_scratch8) (Rect.unit (s := S5x256x1024) ![t, r, 0] S1x128x1024.size hin).toLoadRect hl) k) Q) := by
  unfold pXR
  exact ld c (Q := Q) (mm := (Memref.whole cc0_scratch8 : Memref sig .tc .vmem S5x256x1024 .bf16)) (r := (Rect.unit (s := S5x256x1024) ![t, r, 0] S1x128x1024.size hin).toLoadRect) (hl := hl) (k := k)
    (S := hs5 t r) (q := q) (f := f) (v := halfOf r hr v)
    (Finset.Subset.antisymm_iff.mp ((View.set_slice (View.whole cc0_scratch8) (Rect.unit (s := S5x256x1024) ![t, r, 0] S1x128x1024.size hin)).symm.trans ((View.set_slice_whole _ _).trans (hs5_rect t r hin)))).1
    (funext fun i => (congrArg f (half5_emb t r ht hr hin i)).trans (hv _ _))

/-- Both halves of a slot of `cc0_scratch9`, read as one. -/
theorem ld_slotA (c : Dev nD) {α : Type} {Q : α → sProp 𝕄} (t : ℕ) (ht : t < 5) {q : PosShare TreeShare} {f : Vec F S5x256x1024 .bf16} {v : FVec F S256x1024 .bf16} {hin hl}
    (hv : ∀ a b, f (ix3 (⟨t, ht⟩ : Fin 5) a b) = v (ix2 a b)) {k : Vec F S1x256x1024 .bf16 → Prog (TpuEff nD τ sig (Elt F) Λ₀ .tc) α} :
    iprop(pA q c t 0 f ∗ pA q c t 128 f) ⊢ iprop((((pA q c t 0 f ∗ pA q c t 128 f) -∗ WPc c (k (slotOf v)) Q))
      -∗ WPc c (.op (.load (Memref.whole cc0_scratch9) (Rect.unit (s := S5x256x1024) ![t, 0, 0] S1x256x1024.size hin).toLoadRect hl) k) Q) := by
  unfold pA
  have hu := pointsTo_union (nD := nD) (τ := τ) (sig := sig) (Ix := Unit) (Val := Elt F) (Name := ℕ) (U := UU) (Lvl := ℕ) (ℓ := (c : Thread nD τ).loc cc0_scratch9) (q := q) (f := f) (hs5_disj t 0 t 128 (by omega))
  have h := ld c (Q := Q) (mm := (Memref.whole cc0_scratch9 : Memref sig .tc .vmem S5x256x1024 .bf16)) (r := (Rect.unit (s := S5x256x1024) ![t, 0, 0] S1x256x1024.size hin).toLoadRect) (hl := hl) (k := k)
    (S := hs5 t 0 ∪ hs5 t 128) (q := q) (f := f) (v := slotOf v)
    (Finset.Subset.antisymm_iff.mp ((View.set_slice (View.whole cc0_scratch9) (Rect.unit (s := S5x256x1024) ![t, 0, 0] S1x256x1024.size hin)).symm.trans ((View.set_slice_whole _ _).trans (sl5_rect t hin)))).1
    (funext fun i => (congrArg f (slot5_emb t ht hin i)).trans (hv _ _))
  iintro H Hk
  ihave H := hu.2 $$ H
  iapply h $$ H; iintro H
  iapply Hk
  iapply hu.1; iexact H
/-- Half of a slot. -/
theorem ld_halfA (c : Dev nD) {α : Type} {Q : α → sProp 𝕄} (t r : ℕ) (ht : t < 5) (hr : r + 128 ≤ 256) {q : PosShare TreeShare} {f : Vec F S5x256x1024 .bf16} {v : FVec F S256x1024 .bf16} {hin hl}
    (hv : ∀ a b, f (ix3 (⟨t, ht⟩ : Fin 5) a b) = v (ix2 a b)) {k : Vec F S1x128x1024 .bf16 → Prog (TpuEff nD τ sig (Elt F) Λ₀ .tc) α} :
    pA q c t r f ⊢ iprop(((pA q c t r f -∗ WPc c (k (halfOf r hr v)) Q))
      -∗ WPc c (.op (.load (Memref.whole cc0_scratch9) (Rect.unit (s := S5x256x1024) ![t, r, 0] S1x128x1024.size hin).toLoadRect hl) k) Q) := by
  unfold pA
  exact ld c (Q := Q) (mm := (Memref.whole cc0_scratch9 : Memref sig .tc .vmem S5x256x1024 .bf16)) (r := (Rect.unit (s := S5x256x1024) ![t, r, 0] S1x128x1024.size hin).toLoadRect) (hl := hl) (k := k)
    (S := hs5 t r) (q := q) (f := f) (v := halfOf r hr v)
    (Finset.Subset.antisymm_iff.mp ((View.set_slice (View.whole cc0_scratch9) (Rect.unit (s := S5x256x1024) ![t, r, 0] S1x128x1024.size hin)).symm.trans ((View.set_slice_whole _ _).trans (hs5_rect t r hin)))).1
    (funext fun i => (congrArg f (half5_emb t r ht hr hin i)).trans (hv _ _))

theorem st_halfA (c : Dev nD) {α : Type} {Q : α → sProp 𝕄} (t r : ℕ) (ht : t < 5) (hr : r + 128 ≤ 256) {f g : Vec F S5x256x1024 .bf16} {w : Vec F S1x128x1024 .bf16} {v : FVec F S256x1024 .bf16}
    (hw : w = halfOf r hr v) (hv : ∀ a b, g (ix3 (⟨t, ht⟩ : Fin 5) a b) = v (ix2 a b)) {hin hx hm} {k : PUnit → Prog (TpuEff nD τ sig (Elt F) Λ₀ .tc) α} :
    pA fullShare c t r f ⊢ iprop(((pA fullShare c t r g -∗ WPc c (k ⟨⟩) Q))
      -∗ WPc c (.op (.store (Memref.whole cc0_scratch9) (Rect.unit (s := S5x256x1024) ![t, r, 0] S1x128x1024.size hin) w Finset.univ hx hm) k) Q) := by
  unfold pA
  have hs : ((Memref.whole cc0_scratch9 : Memref sig .tc .vmem S5x256x1024 .bf16).access (Rect.unit (s := S5x256x1024) ![t, r, 0] S1x128x1024.size hin)).set = hs5 t r :=
    (View.set_slice_whole _ _).trans (hs5_rect t r hin)
  have h := st c (Q := Q) (mm := (Memref.whole cc0_scratch9 : Memref sig .tc .vmem S5x256x1024 .bf16)) (r := (Rect.unit (s := S5x256x1024) ![t, r, 0] S1x128x1024.size hin)) (w := w) (hx := hx) (hm := hm) (k := k)
    (S := hs5 t r) (f := f) (g := g) hs.subset (fun i hi => by
      obtain ⟨x, -, hx'⟩ := Finset.mem_map.mp (hs.symm ▸ hi)
      rw [← hx', View.write_emb_of_mem (Val := Elt F) _ _ (Finset.mem_univ x)]
      exact (congrFun hw x).trans ((congrArg g (half5_emb t r ht hr hin x)).trans (hv _ _)).symm)
  exact h
theorem st_slotA (c : Dev nD) {α : Type} {Q : α → sProp 𝕄} (t : ℕ) (ht : t < 5) {f g : Vec F S5x256x1024 .bf16} {w : Vec F S1x256x1024 .bf16} {v : FVec F S256x1024 .bf16}
    (hw : w = slotOf v) (hv : ∀ a b, g (ix3 (⟨t, ht⟩ : Fin 5) a b) = v (ix2 a b)) {hin hx hm} {k : PUnit → Prog (TpuEff nD τ sig (Elt F) Λ₀ .tc) α} :
    iprop(((c : Thread nD τ).loc cc0_scratch9) ↦[hs5 t 0 ∪ hs5 t 128]{fullShare} f) ⊢ iprop((((pA fullShare c t 0 g ∗ pA fullShare c t 128 g) -∗ WPc c (k ⟨⟩) Q))
      -∗ WPc c (.op (.store (Memref.whole cc0_scratch9) (Rect.unit (s := S5x256x1024) ![t, 0, 0] S1x256x1024.size hin) w Finset.univ hx hm) k) Q) := by
  unfold pA
  have hs : ((Memref.whole cc0_scratch9 : Memref sig .tc .vmem S5x256x1024 .bf16).access (Rect.unit (s := S5x256x1024) ![t, 0, 0] S1x256x1024.size hin)).set = hs5 t 0 ∪ hs5 t 128 :=
    (View.set_slice_whole _ _).trans (sl5_rect t hin)
  have h := st c (Q := Q) (mm := (Memref.whole cc0_scratch9 : Memref sig .tc .vmem S5x256x1024 .bf16)) (r := (Rect.unit (s := S5x256x1024) ![t, 0, 0] S1x256x1024.size hin)) (w := w) (hx := hx) (hm := hm) (k := k)
    (S := hs5 t 0 ∪ hs5 t 128) (f := f) (g := g) hs.subset (fun i hi => by
      obtain ⟨x, -, hx'⟩ := Finset.mem_map.mp (hs.symm ▸ hi)
      rw [← hx', View.write_emb_of_mem (Val := Elt F) _ _ (Finset.mem_univ x)]
      exact (congrFun hw x).trans ((congrArg g (slot5_emb t ht hin x)).trans (hv _ _)).symm)
  have hu := pointsTo_union (nD := nD) (τ := τ) (sig := sig) (Ix := Unit) (Val := Elt F) (Name := ℕ) (U := UU) (Lvl := ℕ) (ℓ := (c : Thread nD τ).loc cc0_scratch9) (q := fullShare) (f := g) (hs5_disj t 0 t 128 (by omega))
  iintro H Hk
  iapply h $$ H; iintro H
  iapply Hk
  iapply hu.1; iexact H

/-- Both halves of a slot of `cc0_scratch10`, read as one. -/
theorem ld_slotB (c : Dev nD) {α : Type} {Q : α → sProp 𝕄} (t : ℕ) (ht : t < 4) {q : PosShare TreeShare} {f : Vec F S4x256x1024 .bf16} {v : FVec F S256x1024 .bf16} {hin hl}
    (hv : ∀ a b, f (ix3 (⟨t, ht⟩ : Fin 4) a b) = v (ix2 a b)) {k : Vec F S1x256x1024 .bf16 → Prog (TpuEff nD τ sig (Elt F) Λ₀ .tc) α} :
    iprop(pB q c t 0 f ∗ pB q c t 128 f) ⊢ iprop((((pB q c t 0 f ∗ pB q c t 128 f) -∗ WPc c (k (slotOf v)) Q))
      -∗ WPc c (.op (.load (Memref.whole cc0_scratch10) (Rect.unit (s := S4x256x1024) ![t, 0, 0] S1x256x1024.size hin).toLoadRect hl) k) Q) := by
  unfold pB
  have hu := pointsTo_union (nD := nD) (τ := τ) (sig := sig) (Ix := Unit) (Val := Elt F) (Name := ℕ) (U := UU) (Lvl := ℕ) (ℓ := (c : Thread nD τ).loc cc0_scratch10) (q := q) (f := f) (hs4_disj t 0 t 128 (by omega))
  have h := ld c (Q := Q) (mm := (Memref.whole cc0_scratch10 : Memref sig .tc .vmem S4x256x1024 .bf16)) (r := (Rect.unit (s := S4x256x1024) ![t, 0, 0] S1x256x1024.size hin).toLoadRect) (hl := hl) (k := k)
    (S := hs4 t 0 ∪ hs4 t 128) (q := q) (f := f) (v := slotOf v)
    (Finset.Subset.antisymm_iff.mp ((View.set_slice (View.whole cc0_scratch10) (Rect.unit (s := S4x256x1024) ![t, 0, 0] S1x256x1024.size hin)).symm.trans ((View.set_slice_whole _ _).trans (sl4_rect t hin)))).1
    (funext fun i => (congrArg f (slot4_emb t ht hin i)).trans (hv _ _))
  iintro H Hk
  ihave H := hu.2 $$ H
  iapply h $$ H; iintro H
  iapply Hk
  iapply hu.1; iexact H
/-- Half of a slot. -/
theorem ld_halfB (c : Dev nD) {α : Type} {Q : α → sProp 𝕄} (t r : ℕ) (ht : t < 4) (hr : r + 128 ≤ 256) {q : PosShare TreeShare} {f : Vec F S4x256x1024 .bf16} {v : FVec F S256x1024 .bf16} {hin hl}
    (hv : ∀ a b, f (ix3 (⟨t, ht⟩ : Fin 4) a b) = v (ix2 a b)) {k : Vec F S1x128x1024 .bf16 → Prog (TpuEff nD τ sig (Elt F) Λ₀ .tc) α} :
    pB q c t r f ⊢ iprop(((pB q c t r f -∗ WPc c (k (halfOf r hr v)) Q))
      -∗ WPc c (.op (.load (Memref.whole cc0_scratch10) (Rect.unit (s := S4x256x1024) ![t, r, 0] S1x128x1024.size hin).toLoadRect hl) k) Q) := by
  unfold pB
  exact ld c (Q := Q) (mm := (Memref.whole cc0_scratch10 : Memref sig .tc .vmem S4x256x1024 .bf16)) (r := (Rect.unit (s := S4x256x1024) ![t, r, 0] S1x128x1024.size hin).toLoadRect) (hl := hl) (k := k)
    (S := hs4 t r) (q := q) (f := f) (v := halfOf r hr v)
    (Finset.Subset.antisymm_iff.mp ((View.set_slice (View.whole cc0_scratch10) (Rect.unit (s := S4x256x1024) ![t, r, 0] S1x128x1024.size hin)).symm.trans ((View.set_slice_whole _ _).trans (hs4_rect t r hin)))).1
    (funext fun i => (congrArg f (half4_emb t r ht hr hin i)).trans (hv _ _))

theorem st_halfB (c : Dev nD) {α : Type} {Q : α → sProp 𝕄} (t r : ℕ) (ht : t < 4) (hr : r + 128 ≤ 256) {f g : Vec F S4x256x1024 .bf16} {w : Vec F S1x128x1024 .bf16} {v : FVec F S256x1024 .bf16}
    (hw : w = halfOf r hr v) (hv : ∀ a b, g (ix3 (⟨t, ht⟩ : Fin 4) a b) = v (ix2 a b)) {hin hx hm} {k : PUnit → Prog (TpuEff nD τ sig (Elt F) Λ₀ .tc) α} :
    pB fullShare c t r f ⊢ iprop(((pB fullShare c t r g -∗ WPc c (k ⟨⟩) Q))
      -∗ WPc c (.op (.store (Memref.whole cc0_scratch10) (Rect.unit (s := S4x256x1024) ![t, r, 0] S1x128x1024.size hin) w Finset.univ hx hm) k) Q) := by
  unfold pB
  have hs : ((Memref.whole cc0_scratch10 : Memref sig .tc .vmem S4x256x1024 .bf16).access (Rect.unit (s := S4x256x1024) ![t, r, 0] S1x128x1024.size hin)).set = hs4 t r :=
    (View.set_slice_whole _ _).trans (hs4_rect t r hin)
  have h := st c (Q := Q) (mm := (Memref.whole cc0_scratch10 : Memref sig .tc .vmem S4x256x1024 .bf16)) (r := (Rect.unit (s := S4x256x1024) ![t, r, 0] S1x128x1024.size hin)) (w := w) (hx := hx) (hm := hm) (k := k)
    (S := hs4 t r) (f := f) (g := g) hs.subset (fun i hi => by
      obtain ⟨x, -, hx'⟩ := Finset.mem_map.mp (hs.symm ▸ hi)
      rw [← hx', View.write_emb_of_mem (Val := Elt F) _ _ (Finset.mem_univ x)]
      exact (congrFun hw x).trans ((congrArg g (half4_emb t r ht hr hin x)).trans (hv _ _)).symm)
  exact h
theorem st_slotB (c : Dev nD) {α : Type} {Q : α → sProp 𝕄} (t : ℕ) (ht : t < 4) {f g : Vec F S4x256x1024 .bf16} {w : Vec F S1x256x1024 .bf16} {v : FVec F S256x1024 .bf16}
    (hw : w = slotOf v) (hv : ∀ a b, g (ix3 (⟨t, ht⟩ : Fin 4) a b) = v (ix2 a b)) {hin hx hm} {k : PUnit → Prog (TpuEff nD τ sig (Elt F) Λ₀ .tc) α} :
    iprop(((c : Thread nD τ).loc cc0_scratch10) ↦[hs4 t 0 ∪ hs4 t 128]{fullShare} f) ⊢ iprop((((pB fullShare c t 0 g ∗ pB fullShare c t 128 g) -∗ WPc c (k ⟨⟩) Q))
      -∗ WPc c (.op (.store (Memref.whole cc0_scratch10) (Rect.unit (s := S4x256x1024) ![t, 0, 0] S1x256x1024.size hin) w Finset.univ hx hm) k) Q) := by
  unfold pB
  have hs : ((Memref.whole cc0_scratch10 : Memref sig .tc .vmem S4x256x1024 .bf16).access (Rect.unit (s := S4x256x1024) ![t, 0, 0] S1x256x1024.size hin)).set = hs4 t 0 ∪ hs4 t 128 :=
    (View.set_slice_whole _ _).trans (sl4_rect t hin)
  have h := st c (Q := Q) (mm := (Memref.whole cc0_scratch10 : Memref sig .tc .vmem S4x256x1024 .bf16)) (r := (Rect.unit (s := S4x256x1024) ![t, 0, 0] S1x256x1024.size hin)) (w := w) (hx := hx) (hm := hm) (k := k)
    (S := hs4 t 0 ∪ hs4 t 128) (f := f) (g := g) hs.subset (fun i hi => by
      obtain ⟨x, -, hx'⟩ := Finset.mem_map.mp (hs.symm ▸ hi)
      rw [← hx', View.write_emb_of_mem (Val := Elt F) _ _ (Finset.mem_univ x)]
      exact (congrFun hw x).trans ((congrArg g (slot4_emb t ht hin x)).trans (hv _ _)).symm)
  have hu := pointsTo_union (nD := nD) (τ := τ) (sig := sig) (Ix := Unit) (Val := Elt F) (Name := ℕ) (U := UU) (Lvl := ℕ) (ℓ := (c : Thread nD τ).loc cc0_scratch10) (q := fullShare) (f := g) (hs4_disj t 0 t 128 (by omega))
  iintro H Hk
  iapply h $$ H; iintro H
  iapply Hk
  iapply hu.1; iexact H

/-! ## Where the windows start -/

theorem off2 : ∀ (c : Dev nD) (j : Fin 7), k0_off2 c (BitVec.ofNat 32 (1 + j.val)) = ![0, wst (rot c (1 + j.val)), 0] := by decide +kernel
theorem off10 : ∀ c : Dev nD, k0_off10 c = ![0, wst c, 0] := by decide +kernel
theorem off3 : ∀ (c : Dev nD) (j : Fin 7), k0_off3 c (BitVec.ofNat 32 (1 + j.val)) = ![1, wst (rot c (1 + j.val)), 0] := by decide +kernel
theorem off11 : ∀ c : Dev nD, k0_off11 c = ![1, wst c, 0] := by decide +kernel
theorem off4 : ∀ (c : Dev nD) (j : Fin 7), k0_off4 c (BitVec.ofNat 32 (1 + j.val)) = ![2, wst (rot c (1 + j.val)), 0] := by decide +kernel
theorem off12 : ∀ c : Dev nD, k0_off12 c = ![2, wst c, 0] := by decide +kernel
theorem off5 : ∀ (c : Dev nD) (j : Fin 7), k0_off5 c (BitVec.ofNat 32 (1 + j.val)) = ![3, wst (rot c (1 + j.val)), 0] := by decide +kernel
theorem off13 : ∀ c : Dev nD, k0_off13 c = ![3, wst c, 0] := by decide +kernel
theorem off6 : ∀ (c : Dev nD) (j : Fin 7), k0_off6 c (BitVec.ofNat 32 (1 + j.val)) = ![4, wst (rot c (1 + j.val)), 0] := by decide +kernel
theorem off14 : ∀ c : Dev nD, k0_off14 c = ![4, wst c, 0] := by decide +kernel
theorem off7 : ∀ (c : Dev nD) (j : Fin 7), k0_off7 c (BitVec.ofNat 32 (1 + j.val)) = ![5, wst (rot c (1 + j.val)), 0] := by decide +kernel
theorem off15 : ∀ c : Dev nD, k0_off15 c = ![5, wst c, 0] := by decide +kernel
theorem off8 : ∀ (c : Dev nD) (j : Fin 7), k0_off8 c (BitVec.ofNat 32 (1 + j.val)) = ![6, wst (rot c (1 + j.val)), 0] := by decide +kernel
theorem off16 : ∀ c : Dev nD, k0_off16 c = ![6, wst c, 0] := by decide +kernel
theorem off9 : ∀ (c : Dev nD) (j : Fin 7), k0_off9 c (BitVec.ofNat 32 (1 + j.val)) = ![7, wst (rot c (1 + j.val)), 0] := by decide +kernel
theorem off17 : ∀ c : Dev nD, k0_off17 c = ![7, wst c, 0] := by decide +kernel

end Cert.KernelIdeal.Run

end
-- ==== Proof.KI.Reads.lean ====
module

public import proofs.«01_k».proof.Proof.KI.Loads

/-! The steps of the body that only read: one theorem per step, what it returns. -/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-- A step of the body at the buffers and semaphores of the call. -/
abbrev onArgs {β : Type 1} (f : (arg0 : Memref sig .tc .vmem S256x1024 .f32) → (harg0 : arg0.IsWhole) → (arg1 : Memref sig .tc .vmem S1024x1024 .f32) → (harg1 : arg1.IsWhole) → (arg2 : Memref sig .tc .hbm S1x4096x64x128 .f32) → (harg2 : arg2.IsWhole) → (arg3 : Memref sig .tc .hbm S1x4096x64x128 .f32) → (harg3 : arg3.IsWhole) → (arg4 : Memref sig .tc .vmem S1024x1024 .f32) → (harg4 : arg4.IsWhole) → (arg5 : Memref sig .tc .vmem S256x1024 .f32) → (harg5 : arg5.IsWhole) → (arg6 : Memref sig .tc .vmem S8x2176x128 .f32) → (harg6 : arg6.IsWhole) → (arg7 : Memref sig .tc .vmem S8x2176x128 .f32) → (harg7 : arg7.IsWhole) → (arg8 : Memref sig .tc .vmem S8x2176x128 .bf16) → (harg8 : arg8.IsWhole) → (arg9 : Memref sig .tc .vmem S8x2176x128 .bf16) → (harg9 : arg9.IsWhole) → (arg10 : Memref sig .tc .vmem S256x1024 .bf16) → (harg10 : arg10.IsWhole) → (arg11 : Memref sig .tc .vmem S1024x1024 .bf16) → (harg11 : arg11.IsWhole) → (arg12 : Memref sig .tc .vmem S1024x1024 .bf16) → (harg12 : arg12.IsWhole) → (arg13 : Memref sig .tc .vmem S4x256x1024 .bf16) → (harg13 : arg13.IsWhole) → (arg14 : Memref sig .tc .vmem S5x256x1024 .bf16) → (harg14 : arg14.IsWhole) → (arg15 : Memref sig .tc .vmem S5x256x1024 .bf16) → (harg15 : arg15.IsWhole) → (arg16 : Memref sig .tc .vmem S4x256x1024 .bf16) → (harg16 : arg16.IsWhole) → (arg17 : DmaSems sig S16) → (arg18 : DmaSems sig S8) → (arg19 : DmaSems sig S8) → (arg20 : DmaSems sig S10) → (arg21 : DmaSems sig S10) → (arg22 : DmaSems sig S10) → (arg23 : DmaSems sig S10) → (arg24 : DmaSems sig S8) → (arg25 : DmaSems sig S8) → β) : β :=
  f (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19

theorem part20 (c : Dev nD) (v507 : FVec F S256x1024 .bf16) (v511 : BitVec 32) (v513 : FVec F S256x512 .f32) (v514 : FVec F S256x128 .bf16) :
    Rd m c (onArgs (k0_part20 (F := F)) c v507 v511 v513 v514)
      ⟨k0_pay13 v513 v514 (win (KB m c) 0 (rot c 3)) (win (VB m c) 0 (rot c 3)), k0_pay14 v507 v513 (win (KB m c) 1 (rot c 3)) (win (VB m c) 1 (rot c 3)), k0_pay15 v507 v513 (win (KB m c) 2 (rot c 3)), k0_pay16 (win (VB m c) 2 (rot c 3)), k0_pay17 v507 v513 (win (KB m c) 2 (rot c 3)), (constant S256x128 .f32 0x00000000#32)⟩ := by
  rw [k0_part20_eq_skeleton]
  refine rd_kb m c 0 (rot c 3) (off2 c 2) <| rd_vb m c 0 (rot c 3) (off2 c 2) <| rd_kb m c 1 (rot c 3) (off3 c 2) <| rd_vb m c 1 (rot c 3) (off3 c 2) <| rd_kb m c 2 (rot c 3) (off4 c 2) <| rd_vb m c 2 (rot c 3) (off4 c 2) <| ?_
  exact rd_ret m c _

theorem part21 (c : Dev nD) (v507 : FVec F S256x1024 .bf16) (v511 : BitVec 32) (v513 : FVec F S256x512 .f32) (v552 : FVec F S256x512 .f32) (v555 : FVec F S512x128 .bf16) (v556 : FVec F S256x512 .bf16) (cst_550 : FVec F S256x128 .f32) :
    Rd m c (onArgs (k0_part21 (F := F)) c v507 v511 v513 v552 v555 v556 cst_550)
      ⟨k0_pay18 v552 v555 v556 cst_550, k0_pay19 v507 v513 (win (KB m c) 3 (rot c 3)) (win (VB m c) 3 (rot c 3)), k0_pay20 v507 v513 (win (KB m c) 4 (rot c 3)) (win (VB m c) 4 (rot c 3)), k0_pay21 v507 (win (KB m c) 5 (rot c 3))⟩ := by
  rw [k0_part21_eq_skeleton]
  refine rd_kb m c 3 (rot c 3) (off5 c 2) <| rd_vb m c 3 (rot c 3) (off5 c 2) <| rd_kb m c 4 (rot c 3) (off6 c 2) <| rd_vb m c 4 (rot c 3) (off6 c 2) <| rd_kb m c 5 (rot c 3) (off7 c 2) <| ?_
  exact rd_ret m c _

theorem part22 (c : Dev nD) (v507 : FVec F S256x1024 .bf16) (v511 : BitVec 32) (v513 : FVec F S256x512 .f32) (v598 : FVec F S256x512 .f32) :
    Rd m c (onArgs (k0_part22 (F := F)) c v507 v511 v513 v598)
      ⟨k0_pay22 v513 v598 (win (VB m c) 5 (rot c 3)), k0_pay23 v507 v513 (win (KB m c) 6 (rot c 3)) (win (VB m c) 6 (rot c 3)), k0_pay25 v507 v513 (win (KB m c) 7 (rot c 3)) (win (VB m c) 7 (rot c 3)), k0_pay26 v507 v513 (win (KB m c) 7 (rot c 3))⟩ := by
  rw [k0_part22_eq_skeleton]
  refine rd_vb m c 5 (rot c 3) (off7 c 2) <| rd_kb m c 6 (rot c 3) (off8 c 2) <| rd_vb m c 6 (rot c 3) (off8 c 2) <| rd_kb m c 7 (rot c 3) (off9 c 2) <| rd_vb m c 7 (rot c 3) (off9 c 2) <| ?_
  exact rd_ret m c _

theorem part25 (c : Dev nD) (v492 : FVec F S256x512 .f32) (v498 : FVec F S256x512 .f32) (v689 : BitVec 32) (v694 : FVec F S256x1024 .bf16) (v697 : BitVec 32) :
    Rd m c (onArgs (k0_part25 (F := F)) c v492 v498 v689 v694 v697)
      ⟨(v697), k0_pay29 v492 v498 v689, k0_pay30 v492 v498 v689 v694 (win (KB m c) 0 (rot c 4)) (win (VB m c) 0 (rot c 4)), k0_pay31 v492 v498 v689 v694 (win (KB m c) 1 (rot c 4)) (win (VB m c) 1 (rot c 4)), k0_pay32 v492 v498 v689 v694 (win (KB m c) 2 (rot c 4))⟩ := by
  rw [k0_part25_eq_skeleton]
  refine rd_kb m c 0 (rot c 4) (off2 c 3) <| rd_vb m c 0 (rot c 4) (off2 c 3) <| rd_kb m c 1 (rot c 4) (off3 c 3) <| rd_vb m c 1 (rot c 4) (off3 c 3) <| rd_kb m c 2 (rot c 4) (off4 c 3) <| ?_
  exact rd_ret m c _

theorem part26 (c : Dev nD) (v694 : FVec F S256x1024 .bf16) (v698 : BitVec 32) (v700 : FVec F S256x512 .f32) (v739 : FVec F S256x512 .f32) :
    Rd m c (onArgs (k0_part26 (F := F)) c v694 v698 v700 v739)
      ⟨k0_pay33 v739 (win (VB m c) 2 (rot c 4)), k0_pay34 v694 v700 (win (KB m c) 3 (rot c 4)) (win (VB m c) 3 (rot c 4)), k0_pay35 v694 v700 (win (KB m c) 4 (rot c 4)) (win (VB m c) 4 (rot c 4)), k0_pay36 v694⟩ := by
  rw [k0_part26_eq_skeleton]
  refine rd_vb m c 2 (rot c 4) (off4 c 3) <| rd_kb m c 3 (rot c 4) (off5 c 3) <| rd_vb m c 3 (rot c 4) (off5 c 3) <| rd_kb m c 4 (rot c 4) (off6 c 3) <| rd_vb m c 4 (rot c 4) (off6 c 3) <| ?_
  exact rd_ret m c _

theorem part27 (c : Dev nD) (v694 : FVec F S256x1024 .bf16) (v698 : BitVec 32) (v700 : FVec F S256x512 .f32) (v781 : FVec F S256x128 .bf16) :
    Rd m c (onArgs (k0_part27 (F := F)) c v694 v698 v700 v781)
      ⟨k0_pay37 v700 v781 (win (KB m c) 5 (rot c 4)) (win (VB m c) 5 (rot c 4)), k0_pay38 v694 v700 (win (KB m c) 6 (rot c 4)) (win (VB m c) 6 (rot c 4)), k0_pay39 v694 v700 (win (KB m c) 7 (rot c 4)), k0_pay40 (win (VB m c) 7 (rot c 4))⟩ := by
  rw [k0_part27_eq_skeleton]
  refine rd_kb m c 5 (rot c 4) (off7 c 3) <| rd_vb m c 5 (rot c 4) (off7 c 3) <| rd_kb m c 6 (rot c 4) (off8 c 3) <| rd_vb m c 6 (rot c 4) (off8 c 3) <| rd_kb m c 7 (rot c 4) (off9 c 3) <| rd_vb m c 7 (rot c 4) (off9 c 3) <| ?_
  exact rd_ret m c _

theorem part30 (c : Dev nD) (v865 : FVec F S256x1024 .bf16) (v869 : BitVec 32) (v871 : FVec F S256x512 .f32) (v888 : FVec F S256x128 .bf16) :
    Rd m c (onArgs (k0_part30 (F := F)) c v865 v869 v871 v888)
      ⟨k0_pay46 v871 v888 (win (KB m c) 1 (rot c 2)) (win (VB m c) 1 (rot c 2)), k0_pay47 v865 v871 (win (KB m c) 2 (rot c 2)) (win (VB m c) 2 (rot c 2)), k0_pay48 v865 v871 (win (KB m c) 3 (rot c 2)), k0_pay49 v865 v871 (win (KB m c) 3 (rot c 2)) (win (VB m c) 3 (rot c 2))⟩ := by
  rw [k0_part30_eq_skeleton]
  refine rd_kb m c 1 (rot c 2) (off3 c 1) <| rd_vb m c 1 (rot c 2) (off3 c 1) <| rd_kb m c 2 (rot c 2) (off4 c 1) <| rd_vb m c 2 (rot c 2) (off4 c 1) <| rd_kb m c 3 (rot c 2) (off5 c 1) <| rd_vb m c 3 (rot c 2) (off5 c 1) <| ?_
  exact rd_ret m c _

theorem part31 (c : Dev nD) (v865 : FVec F S256x1024 .bf16) (v869 : BitVec 32) (v871 : FVec F S256x512 .f32) (v926 : FVec F S256x512 .f32) (v931 : FVec F S256x128 .f32) :
    Rd m c (onArgs (k0_part31 (F := F)) c v865 v869 v871 v926 v931)
      ⟨k0_pay50 v926 v931, k0_pay51 v865 v871 (win (KB m c) 4 (rot c 2)) (win (VB m c) 4 (rot c 2)), k0_pay52 v865 v871 (win (KB m c) 5 (rot c 2)) (win (VB m c) 5 (rot c 2)), k0_pay53 v865 v871 (win (KB m c) 6 (rot c 2))⟩ := by
  rw [k0_part31_eq_skeleton]
  refine rd_kb m c 4 (rot c 2) (off6 c 1) <| rd_vb m c 4 (rot c 2) (off6 c 1) <| rd_kb m c 5 (rot c 2) (off7 c 1) <| rd_vb m c 5 (rot c 2) (off7 c 1) <| rd_kb m c 6 (rot c 2) (off8 c 1) <| ?_
  exact rd_ret m c _

theorem part32 (c : Dev nD) (v7 : BitVec 32) (v865 : FVec F S256x1024 .bf16) (v869 : BitVec 32) (v871 : FVec F S256x512 .f32) (v887 : FVec F S256x128 .f32) (v903 : FVec F S256x128 .f32) (v919 : FVec F S256x128 .f32) (v935 : FVec F S256x128 .f32) (v951 : FVec F S256x128 .f32) (v967 : FVec F S256x128 .f32) (v973 : FVec F S256x512 .f32) :
    Rd m c (onArgs (k0_part32 (F := F)) c v7 v865 v869 v871 v887 v903 v919 v935 v951 v967 v973)
      (k0_pay54 v865 v871 v887 v903 v919 v935 v951 v967 v973 (win (VB m c) 6 (rot c 2)) (win (KB m c) 7 (rot c 2)) (win (VB m c) 7 (rot c 2)) (WOB m c)) := by
  rw [k0_part32_eq_skeleton]
  refine rd_vb m c 6 (rot c 2) (off8 c 1) <| rd_kb m c 7 (rot c 2) (off9 c 1) <| rd_vb m c 7 (rot c 2) (off9 c 1) <| rd_wo m c <| ?_
  exact rd_ret m c _

theorem part35 (c : Dev nD) (v492 : FVec F S256x512 .f32) (v498 : FVec F S256x512 .f32) (v1061 : BitVec 32) (v1066 : FVec F S256x1024 .bf16) (v1069 : BitVec 32) :
    Rd m c (onArgs (k0_part35 (F := F)) c v492 v498 v1061 v1066 v1069)
      ⟨(v1069), k0_pay58 v492 v498 v1061, k0_pay59 v492 v498 v1061 v1066 (win (KB m c) 0 (rot c 5)) (win (VB m c) 0 (rot c 5)), k0_pay60 v492 v498 v1061 v1066 (win (KB m c) 1 (rot c 5)) (win (VB m c) 1 (rot c 5)), k0_pay61 v492 v498 v1061 v1066 (win (KB m c) 2 (rot c 5))⟩ := by
  rw [k0_part35_eq_skeleton]
  refine rd_kb m c 0 (rot c 5) (off2 c 4) <| rd_vb m c 0 (rot c 5) (off2 c 4) <| rd_kb m c 1 (rot c 5) (off3 c 4) <| rd_vb m c 1 (rot c 5) (off3 c 4) <| rd_kb m c 2 (rot c 5) (off4 c 4) <| ?_
  exact rd_ret m c _

theorem part36 (c : Dev nD) (v1066 : FVec F S256x1024 .bf16) (v1070 : BitVec 32) (v1072 : FVec F S256x512 .f32) (v1111 : FVec F S256x512 .f32) :
    Rd m c (onArgs (k0_part36 (F := F)) c v1066 v1070 v1072 v1111)
      ⟨k0_pay62 v1111 (win (VB m c) 2 (rot c 5)), k0_pay63 v1066 v1072 (win (KB m c) 3 (rot c 5)) (win (VB m c) 3 (rot c 5)), k0_pay64 v1066 v1072 (win (KB m c) 4 (rot c 5)) (win (VB m c) 4 (rot c 5)), k0_pay65 v1066⟩ := by
  rw [k0_part36_eq_skeleton]
  refine rd_vb m c 2 (rot c 5) (off4 c 4) <| rd_kb m c 3 (rot c 5) (off5 c 4) <| rd_vb m c 3 (rot c 5) (off5 c 4) <| rd_kb m c 4 (rot c 5) (off6 c 4) <| rd_vb m c 4 (rot c 5) (off6 c 4) <| ?_
  exact rd_ret m c _

theorem part37 (c : Dev nD) (v1066 : FVec F S256x1024 .bf16) (v1070 : BitVec 32) (v1072 : FVec F S256x512 .f32) (v1153 : FVec F S256x128 .bf16) :
    Rd m c (onArgs (k0_part37 (F := F)) c v1066 v1070 v1072 v1153)
      ⟨k0_pay66 v1072 v1153 (win (KB m c) 5 (rot c 5)) (win (VB m c) 5 (rot c 5)), k0_pay67 v1066 v1072 (win (KB m c) 6 (rot c 5)) (win (VB m c) 6 (rot c 5)), k0_pay68 v1066 v1072 (win (KB m c) 7 (rot c 5)), k0_pay69 (win (VB m c) 7 (rot c 5))⟩ := by
  rw [k0_part37_eq_skeleton]
  refine rd_kb m c 5 (rot c 5) (off7 c 4) <| rd_vb m c 5 (rot c 5) (off7 c 4) <| rd_kb m c 6 (rot c 5) (off8 c 4) <| rd_vb m c 6 (rot c 5) (off8 c 4) <| rd_kb m c 7 (rot c 5) (off9 c 4) <| rd_vb m c 7 (rot c 5) (off9 c 4) <| ?_
  exact rd_ret m c _

theorem part41 (c : Dev nD) (v1267 : FVec F S256x1024 .bf16) (v1271 : BitVec 32) (v1273 : FVec F S256x512 .f32) (v1290 : FVec F S256x128 .bf16) :
    Rd m c (onArgs (k0_part41 (F := F)) c v1267 v1271 v1273 v1290)
      ⟨k0_pay77 v1273 v1290 (win (KB m c) 1 (rot c 1)) (win (VB m c) 1 (rot c 1)), k0_pay78 v1267 v1273 (win (KB m c) 2 (rot c 1)) (win (VB m c) 2 (rot c 1)), k0_pay79 v1267 v1273 (win (KB m c) 3 (rot c 1)), k0_pay80 (win (VB m c) 3 (rot c 1)), k0_pay81 v1267 v1273 (win (KB m c) 3 (rot c 1))⟩ := by
  rw [k0_part41_eq_skeleton]
  refine rd_kb m c 1 (rot c 1) (off3 c 0) <| rd_vb m c 1 (rot c 1) (off3 c 0) <| rd_kb m c 2 (rot c 1) (off4 c 0) <| rd_vb m c 2 (rot c 1) (off4 c 0) <| rd_kb m c 3 (rot c 1) (off5 c 0) <| rd_vb m c 3 (rot c 1) (off5 c 0) <| ?_
  exact rd_ret m c _

theorem part42 (c : Dev nD) (v1267 : FVec F S256x1024 .bf16) (v1271 : BitVec 32) (v1273 : FVec F S256x512 .f32) (v1328 : FVec F S256x512 .f32) (v1331 : FVec F S512x128 .bf16) (v1332 : FVec F S256x512 .bf16) :
    Rd m c (onArgs (k0_part42 (F := F)) c v1267 v1271 v1273 v1328 v1331 v1332)
      ⟨k0_pay82 v1328 v1331 v1332, k0_pay83 v1267 v1273 (win (KB m c) 4 (rot c 1)) (win (VB m c) 4 (rot c 1)), k0_pay84 v1267 v1273 (win (KB m c) 5 (rot c 1)) (win (VB m c) 5 (rot c 1)), k0_pay85 v1267, k0_pay86 (win (KB m c) 6 (rot c 1)), (constant S256x512 .f32 0x00000000#32)⟩ := by
  rw [k0_part42_eq_skeleton]
  refine rd_kb m c 4 (rot c 1) (off6 c 0) <| rd_vb m c 4 (rot c 1) (off6 c 0) <| rd_kb m c 5 (rot c 1) (off7 c 0) <| rd_vb m c 5 (rot c 1) (off7 c 0) <| rd_kb m c 6 (rot c 1) (off8 c 0) <| ?_
  exact rd_ret m c _

theorem part43 (c : Dev nD) (v7 : BitVec 32) (v1267 : FVec F S256x1024 .bf16) (v1271 : BitVec 32) (v1273 : FVec F S256x512 .f32) (v1289 : FVec F S256x128 .f32) (v1305 : FVec F S256x128 .f32) (v1321 : FVec F S256x128 .f32) (v1337 : FVec F S256x128 .f32) (v1353 : FVec F S256x128 .f32) (v1369 : FVec F S256x128 .f32) (v1370 : FVec F S256x128 .bf16) (v1373 : FVec F S512x128 .bf16) (cst_1028 : FVec F S256x512 .f32) :
    Rd m c (onArgs (k0_part43 (F := F)) c v7 v1267 v1271 v1273 v1289 v1305 v1321 v1337 v1353 v1369 v1370 v1373 cst_1028)
      (k0_pay87 v1267 v1273 v1289 v1305 v1321 v1337 v1353 v1369 v1370 v1373 cst_1028 (win (VB m c) 6 (rot c 1)) (win (KB m c) 7 (rot c 1)) (win (VB m c) 7 (rot c 1)) (WOB m c)) := by
  rw [k0_part43_eq_skeleton]
  refine rd_vb m c 6 (rot c 1) (off8 c 0) <| rd_kb m c 7 (rot c 1) (off9 c 0) <| rd_vb m c 7 (rot c 1) (off9 c 0) <| rd_wo m c <| ?_
  exact rd_ret m c _

theorem part46 (c : Dev nD) (v492 : FVec F S256x512 .f32) (v498 : FVec F S256x512 .f32) (v1463 : BitVec 32) (v1468 : FVec F S256x1024 .bf16) (v1470 : BitVec 32) :
    Rd m c (onArgs (k0_part46 (F := F)) c v492 v498 v1463 v1468 v1470)
      ⟨((Scalar.maxsi v1470 0#32)), k0_pay91 v492 v498 v1463, k0_pay92 v492 v498 v1463 v1468 (win (KB m c) 0 (rot c 6)) (win (VB m c) 0 (rot c 6)), k0_pay93 v492 v498 v1463 v1468 (win (KB m c) 1 (rot c 6)) (win (VB m c) 1 (rot c 6)), k0_pay94 v1468 (win (KB m c) 2 (rot c 6))⟩ := by
  rw [k0_part46_eq_skeleton]
  refine rd_kb m c 0 (rot c 6) (off2 c 5) <| rd_vb m c 0 (rot c 6) (off2 c 5) <| rd_kb m c 1 (rot c 6) (off3 c 5) <| rd_vb m c 1 (rot c 6) (off3 c 5) <| rd_kb m c 2 (rot c 6) (off4 c 5) <| ?_
  exact rd_ret m c _

theorem part47 (c : Dev nD) (v1468 : FVec F S256x1024 .bf16) (v1472 : BitVec 32) (v1474 : FVec F S256x512 .f32) (v1511 : FVec F S256x512 .f32) :
    Rd m c (onArgs (k0_part47 (F := F)) c v1468 v1472 v1474 v1511)
      ⟨k0_pay95 v1474 v1511 (win (VB m c) 2 (rot c 6)), k0_pay96 v1468 v1474 (win (KB m c) 3 (rot c 6)) (win (VB m c) 3 (rot c 6)), k0_pay98 v1468 v1474 (win (KB m c) 4 (rot c 6)) (win (VB m c) 4 (rot c 6)), k0_pay99 v1468 v1474 (win (KB m c) 4 (rot c 6))⟩ := by
  rw [k0_part47_eq_skeleton]
  refine rd_vb m c 2 (rot c 6) (off4 c 5) <| rd_kb m c 3 (rot c 6) (off5 c 5) <| rd_vb m c 3 (rot c 6) (off5 c 5) <| rd_kb m c 4 (rot c 6) (off6 c 5) <| rd_vb m c 4 (rot c 6) (off6 c 5) <| ?_
  exact rd_ret m c _

theorem part48 (c : Dev nD) (v1468 : FVec F S256x1024 .bf16) (v1472 : BitVec 32) (v1474 : FVec F S256x512 .f32) (v1550 : FVec F S256x128 .f32) (v1553 : FVec F S256x128 .f32) :
    Rd m c (onArgs (k0_part48 (F := F)) c v1468 v1472 v1474 v1550 v1553)
      ⟨k0_pay100 v1550 v1553, k0_pay101 v1468 v1474 (win (KB m c) 5 (rot c 6)) (win (VB m c) 5 (rot c 6)), k0_pay102 v1468 v1474 (win (KB m c) 6 (rot c 6)) (win (VB m c) 6 (rot c 6)), k0_pay103 v1468 v1474 (win (KB m c) 7 (rot c 6))⟩ := by
  rw [k0_part48_eq_skeleton]
  refine rd_kb m c 5 (rot c 6) (off7 c 5) <| rd_vb m c 5 (rot c 6) (off7 c 5) <| rd_kb m c 6 (rot c 6) (off8 c 5) <| rd_vb m c 6 (rot c 6) (off8 c 5) <| rd_kb m c 7 (rot c 6) (off9 c 5) <| ?_
  exact rd_ret m c _

theorem part52 (c : Dev nD) (v1669 : FVec F S256x1024 .bf16) (v1673 : BitVec 32) (v1675 : FVec F S256x512 .f32) :
    Rd m c (onArgs (k0_part52 (F := F)) c v1669 v1673 v1675)
      ⟨k0_pay110 v1669 v1675 (win (KB m c) 1 (rot c 7)) (win (VB m c) 1 (rot c 7)), k0_pay111 v1669 v1675 (win (KB m c) 2 (rot c 7)) (win (VB m c) 2 (rot c 7)), k0_pay112 v1669 v1675 (win (KB m c) 3 (rot c 7)), (win (VB m c) 3 (rot c 7))⟩ := by
  rw [k0_part52_eq_skeleton]
  refine rd_kb m c 1 (rot c 7) (off3 c 6) <| rd_vb m c 1 (rot c 7) (off3 c 6) <| rd_kb m c 2 (rot c 7) (off4 c 6) <| rd_vb m c 2 (rot c 7) (off4 c 6) <| rd_kb m c 3 (rot c 7) (off5 c 6) <| rd_vb m c 3 (rot c 7) (off5 c 6) <| ?_
  exact rd_ret m c _

theorem part53 (c : Dev nD) (v1669 : FVec F S256x1024 .bf16) (v1673 : BitVec 32) (v1675 : FVec F S256x512 .f32) (v1730 : FVec F S256x512 .f32) (v1732 : Vec F S1x512x128 .bf16) :
    Rd m c (onArgs (k0_part53 (F := F)) c v1669 v1673 v1675 v1730 v1732)
      ⟨k0_pay113 v1730 v1732, k0_pay114 v1669 v1675 (win (KB m c) 4 (rot c 7)) (win (VB m c) 4 (rot c 7)), k0_pay115 v1669 v1675 (win (KB m c) 5 (rot c 7)) (win (VB m c) 5 (rot c 7)), k0_pay116 v1669, (win (KB m c) 6 (rot c 7))⟩ := by
  rw [k0_part53_eq_skeleton]
  refine rd_kb m c 4 (rot c 7) (off6 c 6) <| rd_vb m c 4 (rot c 7) (off6 c 6) <| rd_kb m c 5 (rot c 7) (off7 c 6) <| rd_vb m c 5 (rot c 7) (off7 c 6) <| rd_kb m c 6 (rot c 7) (off8 c 6) <| ?_
  exact rd_ret m c _

theorem part54 (c : Dev nD) (v4 : BitVec 32) (v1669 : FVec F S256x1024 .bf16) (v1673 : BitVec 32) (v1675 : FVec F S256x512 .f32) (v1691 : FVec F S256x128 .f32) (v1707 : FVec F S256x128 .f32) (v1723 : FVec F S256x128 .f32) (v1739 : FVec F S256x128 .f32) (v1755 : FVec F S256x128 .f32) (v1771 : FVec F S256x128 .f32) (v1772 : FVec F S256x128 .bf16) (v1774 : Vec F S1x512x128 .bf16) :
    Rd m c (onArgs (k0_part54 (F := F)) c v4 v1669 v1673 v1675 v1691 v1707 v1723 v1739 v1755 v1771 v1772 v1774)
      (k0_pay117 v1669 v1675 v1691 v1707 v1723 v1739 v1755 v1771 v1772 v1774 (win (VB m c) 6 (rot c 7)) (win (KB m c) 7 (rot c 7)) (win (VB m c) 7 (rot c 7)) (WOB m c)) := by
  rw [k0_part54_eq_skeleton]
  refine rd_vb m c 6 (rot c 7) (off8 c 6) <| rd_kb m c 7 (rot c 7) (off9 c 6) <| rd_vb m c 7 (rot c 7) (off9 c 6) <| rd_wo m c <| ?_
  exact rd_ret m c _

theorem part57 (c : Dev nD) (v2 : BitVec 32) (v492 : FVec F S256x512 .f32) (v498 : FVec F S256x512 .f32) (v1867 : FVec F S256x1024 .bf16) (v1871 : BitVec 32) (c0_i32_1352 : BitVec 32) :
    Rd m c (onArgs (k0_part57 (F := F)) c v2 v492 v498 v1867 v1871 c0_i32_1352)
      ⟨k0_pay121 v2 v492 v498 c0_i32_1352, k0_pay122 v2 v492 v498 v1867 c0_i32_1352 (win (KB m c) 0 c) (win (VB m c) 0 c), k0_pay123 v2 v492 v498 v1867 c0_i32_1352 (win (KB m c) 1 c) (win (VB m c) 1 c), k0_pay124 v2 v492 v498 v1867 c0_i32_1352 (win (KB m c) 2 c)⟩ := by
  rw [k0_part57_eq_skeleton]
  refine rd_kb m c 0 c (off10 c) <| rd_vb m c 0 c (off10 c) <| rd_kb m c 1 c (off11 c) <| rd_vb m c 1 c (off11 c) <| rd_kb m c 2 c (off12 c) <| ?_
  exact rd_ret m c _

theorem part58 (c : Dev nD) (v1867 : FVec F S256x1024 .bf16) (v1871 : BitVec 32) (v1873 : FVec F S256x512 .f32) (v1912 : FVec F S256x512 .f32) :
    Rd m c (onArgs (k0_part58 (F := F)) c v1867 v1871 v1873 v1912)
      ⟨k0_pay125 v1912 (win (VB m c) 2 c), k0_pay126 v1867 v1873 (win (KB m c) 3 c) (win (VB m c) 3 c), k0_pay127 v1867 v1873 (win (KB m c) 4 c) (win (VB m c) 4 c), k0_pay128 v1867⟩ := by
  rw [k0_part58_eq_skeleton]
  refine rd_vb m c 2 c (off12 c) <| rd_kb m c 3 c (off13 c) <| rd_vb m c 3 c (off13 c) <| rd_kb m c 4 c (off14 c) <| rd_vb m c 4 c (off14 c) <| ?_
  exact rd_ret m c _

theorem part59 (c : Dev nD) (v1867 : FVec F S256x1024 .bf16) (v1871 : BitVec 32) (v1873 : FVec F S256x512 .f32) (v1954 : FVec F S256x128 .bf16) :
    Rd m c (onArgs (k0_part59 (F := F)) c v1867 v1871 v1873 v1954)
      ⟨k0_pay129 v1873 v1954 (win (KB m c) 5 c) (win (VB m c) 5 c), k0_pay130 v1867 v1873 (win (KB m c) 6 c) (win (VB m c) 6 c), k0_pay131 v1867 v1873 (win (KB m c) 7 c), k0_pay132 (win (VB m c) 7 c), k0_pay133 v1867 v1873 (win (KB m c) 7 c), (constant S256x128 .f32 0x00000000#32)⟩ := by
  rw [k0_part59_eq_skeleton]
  refine rd_kb m c 5 c (off15 c) <| rd_vb m c 5 c (off15 c) <| rd_kb m c 6 c (off16 c) <| rd_vb m c 6 c (off16 c) <| rd_kb m c 7 c (off17 c) <| rd_vb m c 7 c (off17 c) <| ?_
  exact rd_ret m c _

end Cert.KernelIdeal.Run

end
-- ==== Proof.KI.Chains.lean ====
module

public import proofs.«01_k».proof.Proof.KI.Reads

/-! What the steps of one contribution return, together: the contribution. -/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-- A device's place as the body computes it. -/
abbrev wd2 (c : Dev nD) : BitVec 32 := Scalar.remsi (Scalar.divsi (Dev.word c) 1#32) 8#32

theorem mask_of (w : BitVec 1) (j : Dev nD) (h : w = if j.val = 0 then 1#1 else 0#1) : Scalar.select w (k0_pay9 (F := F)) (k0_pay8 (F := F)) = maskOf j := by
  subst h; unfold maskOf; split <;> rfl
theorem word_own : ∀ c : Dev nD, Scalar.cmpi .eq (wd2 c) 0#32 = if c.val = 0 then 1#1 else 0#1 := by decide +kernel
theorem word_rot : ∀ (c : Dev nD) (k : Fin 8), Scalar.cmpi .eq (Scalar.remsi (Scalar.addi (wd2 c) (BitVec.ofNat 32 k.val)) 8#32) 0#32
    = if (rot c k.val).val = 0 then 1#1 else 0#1 := by decide +kernel

theorem unslot (v : FVec F S256x1024 .bf16) (h : S1x256x1024.ShapeCasts S256x1024) : shapeCast S256x1024 (slotOf v) h = v := by
  funext j
  refine congrArg v ?_
  have e := Shape.reshapeEquiv_cons_one (n := 2) (d := ![256, 1024]) h j
  funext a; refine Fin.ext ?_
  match a with
  | ⟨0, _⟩ => exact congrArg (fun x : S1x256x1024.Idx => (x 1).val) e
  | ⟨1, _⟩ => exact congrArg (fun x : S1x256x1024.Idx => (x 2).val) e
theorem flat_slot (h : S256x1024.numel = S1x256x1024.numel) (i : S1x256x1024.Idx) : Shape.reshapeEquiv h.symm i = ix2 (i 1 : Fin 256) (i 2 : Fin 1024) :=
  Shape.reshapeEquiv_eq_of_rowMajor _ (by
    refine (Shape.rowMajor_val_two _).trans (Eq.trans ?_ (Shape.rowMajor_val_three _).symm)
    have : (i 0).val < 1 := (i 0).isLt
    show (i 1).val * 1024 + (i 2).val = ((i 0).val * 256 + (i 1).val) * 1024 + (i 2).val
    omega)
theorem flat_half (h : S128x1024.numel = S1x128x1024.numel) (i : S1x128x1024.Idx) : Shape.reshapeEquiv h.symm i = ix2 (i 1 : Fin 128) (i 2 : Fin 1024) :=
  Shape.reshapeEquiv_eq_of_rowMajor _ (by
    refine (Shape.rowMajor_val_two _).trans (Eq.trans ?_ (Shape.rowMajor_val_three _).symm)
    have : (i 0).val < 1 := (i 0).isLt
    show (i 1).val * 1024 + (i 2).val = ((i 0).val * 128 + (i 1).val) * 1024 + (i 2).val
    omega)
theorem toslot (v : FVec F S256x1024 .bf16) (h : S256x1024.ShapeCasts S1x256x1024) : shapeCast S1x256x1024 v h = slotOf v :=
  funext fun i => congrArg v (flat_slot h.symm i)
theorem upd (r : ℕ) (hr : r + 128 ≤ 256) (a : FVec F S256x1024 .bf16) (t : FVec F S256x1024 .f32) (hs : S256x1024.Slices ![r, 0] S128x1024) :
    shapeCast S1x128x1024 (truncf .bf16 (addf (extf .f32 (shapeCast S128x1024 (halfOf r hr a) shapeCasts_S1x128x1024_S128x1024) bitsLt_bf16_f32)
      (extractStridedSlice S128x1024 ![r, 0] t hs)) bitsLt_bf16_f32) shapeCasts_S128x1024_S1x128x1024 = halfOf r hr (accStep a t) := by
  funext i
  refine (congrArg (truncf .bf16 (addf (extf .f32 (shapeCast S128x1024 (halfOf r hr a) shapeCasts_S1x128x1024_S128x1024) bitsLt_bf16_f32)
      (extractStridedSlice S128x1024 ![r, 0] t hs)) bitsLt_bf16_f32) (flat_half shapeCasts_S1x128x1024_S128x1024.symm i)).trans ?_
  have e1 : shapeCast S128x1024 (halfOf r hr a) shapeCasts_S1x128x1024_S128x1024 (ix2 (i 1 : Fin 128) (i 2 : Fin 1024))
      = a (ix2 (⟨r + (i 1).val, by have : (i 1).val < 128 := (i 1).isLt; omega⟩ : Fin 256) (i 2 : Fin 1024)) :=
    (congrArg (halfOf r hr a) (reshape_half shapeCasts_S1x128x1024_S128x1024 (ix2 (i 1 : Fin 128) (i 2 : Fin 1024)))).trans rfl
  have e2 : extractStridedSlice S128x1024 ![r, 0] t hs (ix2 (i 1 : Fin 128) (i 2 : Fin 1024))
      = t (ix2 (⟨r + (i 1).val, by have : (i 1).val < 128 := (i 1).isLt; omega⟩ : Fin 256) (i 2 : Fin 1024)) := by
    refine congrArg t (funext fun a => Fin.ext ?_)
    match a with
    | ⟨0, _⟩ => rfl
    | ⟨1, _⟩ => show 0 + (i 2).val = (i 2).val; omega
  show FloatOps.truncf .bf16 _ (FloatOps.addf (FloatOps.extf .f32 _ (shapeCast S128x1024 (halfOf r hr a) shapeCasts_S1x128x1024_S128x1024 (ix2 (i 1 : Fin 128) (i 2 : Fin 1024))))
    (extractStridedSlice S128x1024 ![r, 0] t hs (ix2 (i 1 : Fin 128) (i 2 : Fin 1024)))) = _
  rw [e1, e2]; rfl

theorem sum3 (w : BitVec 32) (s : Vec F S1x256x1024 .bf16) (wq wo : FVec F S1024x1024 .bf16) (kb vb : Vec F S8x2176x128 .bf16) (j : Dev nD)
    (hw : Scalar.cmpi .eq (Scalar.remsi (Scalar.addi w 3#32) 8#32) 0#32 = if j.val = 0 then 1#1 else 0#1) :
    (k0_pay27 (k0_pay13 (k0_pay11 (F := F) w) (k0_pay12 s wq) (win kb 0 j) (win vb 0 j)) (k0_pay14 (k0_pay10 s wq) (k0_pay11 (F := F) w) (win kb 1 j) (win vb 1 j)) (k0_pay18 (k0_pay15 (k0_pay10 s wq) (k0_pay11 (F := F) w) (win kb 2 j)) (k0_pay16 (win vb 2 j)) (k0_pay17 (k0_pay10 s wq) (k0_pay11 (F := F) w) (win kb 2 j)) (constant S256x128 .f32 0x00000000#32)) (k0_pay19 (k0_pay10 s wq) (k0_pay11 (F := F) w) (win kb 3 j) (win vb 3 j)) (k0_pay20 (k0_pay10 s wq) (k0_pay11 (F := F) w) (win kb 4 j) (win vb 4 j)) (k0_pay22 (k0_pay11 (F := F) w) (k0_pay21 (k0_pay10 s wq) (win kb 5 j)) (win vb 5 j)) (k0_pay23 (k0_pay10 s wq) (k0_pay11 (F := F) w) (win kb 6 j) (win vb 6 j)) (k0_pay25 (k0_pay10 s wq) (k0_pay11 (F := F) w) (win kb 7 j) (win vb 7 j)) (k0_pay26 (k0_pay10 s wq) (k0_pay11 (F := F) w) (win kb 7 j)) wo)
      = shapeCast S1x256x1024 (truncf .bf16 (contribQ (qOf (shapeCast S256x1024 s shapeCasts_S1x256x1024_S256x1024) wq) kb vb wo j) bitsLt_bf16_f32) shapeCasts_S256x1024_S1x256x1024 := by
  unfold contribQ; rw [← mask_of _ j hw]; rfl
theorem chain3 (c : Dev nD) :
    (k0_pay27 (k0_pay13 (k0_pay11 (F := F) (wd2 c)) (k0_pay12 (slotOf (XB m (rot c 3))) (WQB m c)) (win (KB m c) 0 (rot c 3)) (win (VB m c) 0 (rot c 3))) (k0_pay14 (k0_pay10 (slotOf (XB m (rot c 3))) (WQB m c)) (k0_pay11 (F := F) (wd2 c)) (win (KB m c) 1 (rot c 3)) (win (VB m c) 1 (rot c 3))) (k0_pay18 (k0_pay15 (k0_pay10 (slotOf (XB m (rot c 3))) (WQB m c)) (k0_pay11 (F := F) (wd2 c)) (win (KB m c) 2 (rot c 3))) (k0_pay16 (win (VB m c) 2 (rot c 3))) (k0_pay17 (k0_pay10 (slotOf (XB m (rot c 3))) (WQB m c)) (k0_pay11 (F := F) (wd2 c)) (win (KB m c) 2 (rot c 3))) (constant S256x128 .f32 0x00000000#32)) (k0_pay19 (k0_pay10 (slotOf (XB m (rot c 3))) (WQB m c)) (k0_pay11 (F := F) (wd2 c)) (win (KB m c) 3 (rot c 3)) (win (VB m c) 3 (rot c 3))) (k0_pay20 (k0_pay10 (slotOf (XB m (rot c 3))) (WQB m c)) (k0_pay11 (F := F) (wd2 c)) (win (KB m c) 4 (rot c 3)) (win (VB m c) 4 (rot c 3))) (k0_pay22 (k0_pay11 (F := F) (wd2 c)) (k0_pay21 (k0_pay10 (slotOf (XB m (rot c 3))) (WQB m c)) (win (KB m c) 5 (rot c 3))) (win (VB m c) 5 (rot c 3))) (k0_pay23 (k0_pay10 (slotOf (XB m (rot c 3))) (WQB m c)) (k0_pay11 (F := F) (wd2 c)) (win (KB m c) 6 (rot c 3)) (win (VB m c) 6 (rot c 3))) (k0_pay25 (k0_pay10 (slotOf (XB m (rot c 3))) (WQB m c)) (k0_pay11 (F := F) (wd2 c)) (win (KB m c) 7 (rot c 3)) (win (VB m c) 7 (rot c 3))) (k0_pay26 (k0_pay10 (slotOf (XB m (rot c 3))) (WQB m c)) (k0_pay11 (F := F) (wd2 c)) (win (KB m c) 7 (rot c 3))) (WOB m c))
      = slotOf (bval m 0 c) :=
  (sum3 (wd2 c) (slotOf (XB m (rot c 3))) (WQB m c) (WOB m c) (KB m c) (VB m c) (rot c 3) (word_rot c 3)).trans (by rw [unslot, toslot]; rfl)

theorem sum4 (w : BitVec 32) (s : Vec F S1x256x1024 .bf16) (wq wo : FVec F S1024x1024 .bf16) (kb vb : Vec F S8x2176x128 .bf16) (j : Dev nD)
    (hw : Scalar.cmpi .eq (Scalar.remsi (Scalar.addi w 4#32) 8#32) 0#32 = if j.val = 0 then 1#1 else 0#1) :
    (k0_pay41 (k0_pay30 (k0_pay8 (F := F)) (k0_pay9 (F := F)) (Scalar.remsi (Scalar.addi w 4#32) 8#32) (k0_pay28 s wq) (win kb 0 j) (win vb 0 j)) (k0_pay31 (k0_pay8 (F := F)) (k0_pay9 (F := F)) (Scalar.remsi (Scalar.addi w 4#32) 8#32) (k0_pay28 s wq) (win kb 1 j) (win vb 1 j)) (k0_pay33 (k0_pay32 (k0_pay8 (F := F)) (k0_pay9 (F := F)) (Scalar.remsi (Scalar.addi w 4#32) 8#32) (k0_pay28 s wq) (win kb 2 j)) (win vb 2 j)) (k0_pay34 (k0_pay28 s wq) (k0_pay29 (k0_pay8 (F := F)) (k0_pay9 (F := F)) (Scalar.remsi (Scalar.addi w 4#32) 8#32)) (win kb 3 j) (win vb 3 j)) (k0_pay35 (k0_pay28 s wq) (k0_pay29 (k0_pay8 (F := F)) (k0_pay9 (F := F)) (Scalar.remsi (Scalar.addi w 4#32) 8#32)) (win kb 4 j) (win vb 4 j)) (k0_pay37 (k0_pay29 (k0_pay8 (F := F)) (k0_pay9 (F := F)) (Scalar.remsi (Scalar.addi w 4#32) 8#32)) (k0_pay36 (k0_pay28 s wq)) (win kb 5 j) (win vb 5 j)) (k0_pay38 (k0_pay28 s wq) (k0_pay29 (k0_pay8 (F := F)) (k0_pay9 (F := F)) (Scalar.remsi (Scalar.addi w 4#32) 8#32)) (win kb 6 j) (win vb 6 j)) (k0_pay39 (k0_pay28 s wq) (k0_pay29 (k0_pay8 (F := F)) (k0_pay9 (F := F)) (Scalar.remsi (Scalar.addi w 4#32) 8#32)) (win kb 7 j)) (k0_pay40 (win vb 7 j)) wo)
      = shapeCast S1x256x1024 (truncf .bf16 (contribQ (qOf (shapeCast S256x1024 s shapeCasts_S1x256x1024_S256x1024) wq) kb vb wo j) bitsLt_bf16_f32) shapeCasts_S256x1024_S1x256x1024 := by
  unfold contribQ; rw [← mask_of _ j hw]; rfl
theorem chain4 (c : Dev nD) :
    (k0_pay41 (k0_pay30 (k0_pay8 (F := F)) (k0_pay9 (F := F)) (Scalar.remsi (Scalar.addi (wd2 c) 4#32) 8#32) (k0_pay28 (slotOf (XB m (rot c 4))) (WQB m c)) (win (KB m c) 0 (rot c 4)) (win (VB m c) 0 (rot c 4))) (k0_pay31 (k0_pay8 (F := F)) (k0_pay9 (F := F)) (Scalar.remsi (Scalar.addi (wd2 c) 4#32) 8#32) (k0_pay28 (slotOf (XB m (rot c 4))) (WQB m c)) (win (KB m c) 1 (rot c 4)) (win (VB m c) 1 (rot c 4))) (k0_pay33 (k0_pay32 (k0_pay8 (F := F)) (k0_pay9 (F := F)) (Scalar.remsi (Scalar.addi (wd2 c) 4#32) 8#32) (k0_pay28 (slotOf (XB m (rot c 4))) (WQB m c)) (win (KB m c) 2 (rot c 4))) (win (VB m c) 2 (rot c 4))) (k0_pay34 (k0_pay28 (slotOf (XB m (rot c 4))) (WQB m c)) (k0_pay29 (k0_pay8 (F := F)) (k0_pay9 (F := F)) (Scalar.remsi (Scalar.addi (wd2 c) 4#32) 8#32)) (win (KB m c) 3 (rot c 4)) (win (VB m c) 3 (rot c 4))) (k0_pay35 (k0_pay28 (slotOf (XB m (rot c 4))) (WQB m c)) (k0_pay29 (k0_pay8 (F := F)) (k0_pay9 (F := F)) (Scalar.remsi (Scalar.addi (wd2 c) 4#32) 8#32)) (win (KB m c) 4 (rot c 4)) (win (VB m c) 4 (rot c 4))) (k0_pay37 (k0_pay29 (k0_pay8 (F := F)) (k0_pay9 (F := F)) (Scalar.remsi (Scalar.addi (wd2 c) 4#32) 8#32)) (k0_pay36 (k0_pay28 (slotOf (XB m (rot c 4))) (WQB m c))) (win (KB m c) 5 (rot c 4)) (win (VB m c) 5 (rot c 4))) (k0_pay38 (k0_pay28 (slotOf (XB m (rot c 4))) (WQB m c)) (k0_pay29 (k0_pay8 (F := F)) (k0_pay9 (F := F)) (Scalar.remsi (Scalar.addi (wd2 c) 4#32) 8#32)) (win (KB m c) 6 (rot c 4)) (win (VB m c) 6 (rot c 4))) (k0_pay39 (k0_pay28 (slotOf (XB m (rot c 4))) (WQB m c)) (k0_pay29 (k0_pay8 (F := F)) (k0_pay9 (F := F)) (Scalar.remsi (Scalar.addi (wd2 c) 4#32) 8#32)) (win (KB m c) 7 (rot c 4))) (k0_pay40 (win (VB m c) 7 (rot c 4))) (WOB m c))
      = slotOf (aval m 0 c) :=
  (sum4 (wd2 c) (slotOf (XB m (rot c 4))) (WQB m c) (WOB m c) (KB m c) (VB m c) (rot c 4) (word_rot c 4)).trans (by rw [unslot, toslot]; rfl)

theorem sum2 (w : BitVec 32) (s : Vec F S1x256x1024 .bf16) (wq wo : FVec F S1024x1024 .bf16) (kb vb : Vec F S8x2176x128 .bf16) (j : Dev nD)
    (hw : Scalar.cmpi .eq (Scalar.remsi (Scalar.addi w 2#32) 8#32) 0#32 = if j.val = 0 then 1#1 else 0#1) :
    (k0_pay54 (k0_pay42 s wq) (k0_pay43 w (k0_pay8 (F := F)) (k0_pay9 (F := F))) (k0_pay44 w (k0_pay8 (F := F)) (k0_pay9 (F := F)) s wq (win kb 0 j) (win vb 0 j)) (k0_pay46 (k0_pay43 w (k0_pay8 (F := F)) (k0_pay9 (F := F))) (k0_pay45 s wq) (win kb 1 j) (win vb 1 j)) (k0_pay47 (k0_pay42 s wq) (k0_pay43 w (k0_pay8 (F := F)) (k0_pay9 (F := F))) (win kb 2 j) (win vb 2 j)) (k0_pay50 (k0_pay48 (k0_pay42 s wq) (k0_pay43 w (k0_pay8 (F := F)) (k0_pay9 (F := F))) (win kb 3 j)) (k0_pay49 (k0_pay42 s wq) (k0_pay43 w (k0_pay8 (F := F)) (k0_pay9 (F := F))) (win kb 3 j) (win vb 3 j))) (k0_pay51 (k0_pay42 s wq) (k0_pay43 w (k0_pay8 (F := F)) (k0_pay9 (F := F))) (win kb 4 j) (win vb 4 j)) (k0_pay52 (k0_pay42 s wq) (k0_pay43 w (k0_pay8 (F := F)) (k0_pay9 (F := F))) (win kb 5 j) (win vb 5 j)) (k0_pay53 (k0_pay42 s wq) (k0_pay43 w (k0_pay8 (F := F)) (k0_pay9 (F := F))) (win kb 6 j)) (win vb 6 j) (win kb 7 j) (win vb 7 j) wo)
      = contribQ (qOf (shapeCast S256x1024 s shapeCasts_S1x256x1024_S256x1024) wq) kb vb wo j := by
  unfold contribQ; rw [← mask_of _ j hw]; rfl
theorem chain2 (c : Dev nD) :
    (k0_pay54 (k0_pay42 (slotOf (XB m (rot c 2))) (WQB m c)) (k0_pay43 (wd2 c) (k0_pay8 (F := F)) (k0_pay9 (F := F))) (k0_pay44 (wd2 c) (k0_pay8 (F := F)) (k0_pay9 (F := F)) (slotOf (XB m (rot c 2))) (WQB m c) (win (KB m c) 0 (rot c 2)) (win (VB m c) 0 (rot c 2))) (k0_pay46 (k0_pay43 (wd2 c) (k0_pay8 (F := F)) (k0_pay9 (F := F))) (k0_pay45 (slotOf (XB m (rot c 2))) (WQB m c)) (win (KB m c) 1 (rot c 2)) (win (VB m c) 1 (rot c 2))) (k0_pay47 (k0_pay42 (slotOf (XB m (rot c 2))) (WQB m c)) (k0_pay43 (wd2 c) (k0_pay8 (F := F)) (k0_pay9 (F := F))) (win (KB m c) 2 (rot c 2)) (win (VB m c) 2 (rot c 2))) (k0_pay50 (k0_pay48 (k0_pay42 (slotOf (XB m (rot c 2))) (WQB m c)) (k0_pay43 (wd2 c) (k0_pay8 (F := F)) (k0_pay9 (F := F))) (win (KB m c) 3 (rot c 2))) (k0_pay49 (k0_pay42 (slotOf (XB m (rot c 2))) (WQB m c)) (k0_pay43 (wd2 c) (k0_pay8 (F := F)) (k0_pay9 (F := F))) (win (KB m c) 3 (rot c 2)) (win (VB m c) 3 (rot c 2)))) (k0_pay51 (k0_pay42 (slotOf (XB m (rot c 2))) (WQB m c)) (k0_pay43 (wd2 c) (k0_pay8 (F := F)) (k0_pay9 (F := F))) (win (KB m c) 4 (rot c 2)) (win (VB m c) 4 (rot c 2))) (k0_pay52 (k0_pay42 (slotOf (XB m (rot c 2))) (WQB m c)) (k0_pay43 (wd2 c) (k0_pay8 (F := F)) (k0_pay9 (F := F))) (win (KB m c) 5 (rot c 2)) (win (VB m c) 5 (rot c 2))) (k0_pay53 (k0_pay42 (slotOf (XB m (rot c 2))) (WQB m c)) (k0_pay43 (wd2 c) (k0_pay8 (F := F)) (k0_pay9 (F := F))) (win (KB m c) 6 (rot c 2))) (win (VB m c) 6 (rot c 2)) (win (KB m c) 7 (rot c 2)) (win (VB m c) 7 (rot c 2)) (WOB m c))
      = ctr m c (rot c 2) :=
  (sum2 (wd2 c) (slotOf (XB m (rot c 2))) (WQB m c) (WOB m c) (KB m c) (VB m c) (rot c 2) (word_rot c 2)).trans (by rw [unslot]; rfl)

theorem sum5 (w : BitVec 32) (s : Vec F S1x256x1024 .bf16) (wq wo : FVec F S1024x1024 .bf16) (kb vb : Vec F S8x2176x128 .bf16) (j : Dev nD)
    (hw : Scalar.cmpi .eq (Scalar.remsi (Scalar.addi w 5#32) 8#32) 0#32 = if j.val = 0 then 1#1 else 0#1) :
    (k0_pay70 (k0_pay59 (k0_pay8 (F := F)) (k0_pay9 (F := F)) (Scalar.remsi (Scalar.addi w 5#32) 8#32) (k0_pay57 s wq) (win kb 0 j) (win vb 0 j)) (k0_pay60 (k0_pay8 (F := F)) (k0_pay9 (F := F)) (Scalar.remsi (Scalar.addi w 5#32) 8#32) (k0_pay57 s wq) (win kb 1 j) (win vb 1 j)) (k0_pay62 (k0_pay61 (k0_pay8 (F := F)) (k0_pay9 (F := F)) (Scalar.remsi (Scalar.addi w 5#32) 8#32) (k0_pay57 s wq) (win kb 2 j)) (win vb 2 j)) (k0_pay63 (k0_pay57 s wq) (k0_pay58 (k0_pay8 (F := F)) (k0_pay9 (F := F)) (Scalar.remsi (Scalar.addi w 5#32) 8#32)) (win kb 3 j) (win vb 3 j)) (k0_pay64 (k0_pay57 s wq) (k0_pay58 (k0_pay8 (F := F)) (k0_pay9 (F := F)) (Scalar.remsi (Scalar.addi w 5#32) 8#32)) (win kb 4 j) (win vb 4 j)) (k0_pay66 (k0_pay58 (k0_pay8 (F := F)) (k0_pay9 (F := F)) (Scalar.remsi (Scalar.addi w 5#32) 8#32)) (k0_pay65 (k0_pay57 s wq)) (win kb 5 j) (win vb 5 j)) (k0_pay67 (k0_pay57 s wq) (k0_pay58 (k0_pay8 (F := F)) (k0_pay9 (F := F)) (Scalar.remsi (Scalar.addi w 5#32) 8#32)) (win kb 6 j) (win vb 6 j)) (k0_pay68 (k0_pay57 s wq) (k0_pay58 (k0_pay8 (F := F)) (k0_pay9 (F := F)) (Scalar.remsi (Scalar.addi w 5#32) 8#32)) (win kb 7 j)) (k0_pay69 (win vb 7 j)) wo)
      = contribQ (qOf (shapeCast S256x1024 s shapeCasts_S1x256x1024_S256x1024) wq) kb vb wo j := by
  unfold contribQ; rw [← mask_of _ j hw]; rfl
theorem chain5 (c : Dev nD) :
    (k0_pay70 (k0_pay59 (k0_pay8 (F := F)) (k0_pay9 (F := F)) (Scalar.remsi (Scalar.addi (wd2 c) 5#32) 8#32) (k0_pay57 (slotOf (XB m (rot c 5))) (WQB m c)) (win (KB m c) 0 (rot c 5)) (win (VB m c) 0 (rot c 5))) (k0_pay60 (k0_pay8 (F := F)) (k0_pay9 (F := F)) (Scalar.remsi (Scalar.addi (wd2 c) 5#32) 8#32) (k0_pay57 (slotOf (XB m (rot c 5))) (WQB m c)) (win (KB m c) 1 (rot c 5)) (win (VB m c) 1 (rot c 5))) (k0_pay62 (k0_pay61 (k0_pay8 (F := F)) (k0_pay9 (F := F)) (Scalar.remsi (Scalar.addi (wd2 c) 5#32) 8#32) (k0_pay57 (slotOf (XB m (rot c 5))) (WQB m c)) (win (KB m c) 2 (rot c 5))) (win (VB m c) 2 (rot c 5))) (k0_pay63 (k0_pay57 (slotOf (XB m (rot c 5))) (WQB m c)) (k0_pay58 (k0_pay8 (F := F)) (k0_pay9 (F := F)) (Scalar.remsi (Scalar.addi (wd2 c) 5#32) 8#32)) (win (KB m c) 3 (rot c 5)) (win (VB m c) 3 (rot c 5))) (k0_pay64 (k0_pay57 (slotOf (XB m (rot c 5))) (WQB m c)) (k0_pay58 (k0_pay8 (F := F)) (k0_pay9 (F := F)) (Scalar.remsi (Scalar.addi (wd2 c) 5#32) 8#32)) (win (KB m c) 4 (rot c 5)) (win (VB m c) 4 (rot c 5))) (k0_pay66 (k0_pay58 (k0_pay8 (F := F)) (k0_pay9 (F := F)) (Scalar.remsi (Scalar.addi (wd2 c) 5#32) 8#32)) (k0_pay65 (k0_pay57 (slotOf (XB m (rot c 5))) (WQB m c))) (win (KB m c) 5 (rot c 5)) (win (VB m c) 5 (rot c 5))) (k0_pay67 (k0_pay57 (slotOf (XB m (rot c 5))) (WQB m c)) (k0_pay58 (k0_pay8 (F := F)) (k0_pay9 (F := F)) (Scalar.remsi (Scalar.addi (wd2 c) 5#32) 8#32)) (win (KB m c) 6 (rot c 5)) (win (VB m c) 6 (rot c 5))) (k0_pay68 (k0_pay57 (slotOf (XB m (rot c 5))) (WQB m c)) (k0_pay58 (k0_pay8 (F := F)) (k0_pay9 (F := F)) (Scalar.remsi (Scalar.addi (wd2 c) 5#32) 8#32)) (win (KB m c) 7 (rot c 5))) (k0_pay69 (win (VB m c) 7 (rot c 5))) (WOB m c))
      = ctr m c (rot c 5) :=
  (sum5 (wd2 c) (slotOf (XB m (rot c 5))) (WQB m c) (WOB m c) (KB m c) (VB m c) (rot c 5) (word_rot c 5)).trans (by rw [unslot]; rfl)

theorem sum1 (w : BitVec 32) (s : Vec F S1x256x1024 .bf16) (wq wo : FVec F S1024x1024 .bf16) (kb vb : Vec F S8x2176x128 .bf16) (j : Dev nD)
    (hw : Scalar.cmpi .eq (Scalar.remsi (Scalar.addi w 1#32) 8#32) 0#32 = if j.val = 0 then 1#1 else 0#1) :
    (k0_pay87 (k0_pay73 s wq) (k0_pay74 w (k0_pay8 (F := F)) (k0_pay9 (F := F))) (k0_pay75 w (k0_pay8 (F := F)) (k0_pay9 (F := F)) s wq (win kb 0 j) (win vb 0 j)) (k0_pay77 (k0_pay74 w (k0_pay8 (F := F)) (k0_pay9 (F := F))) (k0_pay76 s wq) (win kb 1 j) (win vb 1 j)) (k0_pay78 (k0_pay73 s wq) (k0_pay74 w (k0_pay8 (F := F)) (k0_pay9 (F := F))) (win kb 2 j) (win vb 2 j)) (k0_pay82 (k0_pay79 (k0_pay73 s wq) (k0_pay74 w (k0_pay8 (F := F)) (k0_pay9 (F := F))) (win kb 3 j)) (k0_pay80 (win vb 3 j)) (k0_pay81 (k0_pay73 s wq) (k0_pay74 w (k0_pay8 (F := F)) (k0_pay9 (F := F))) (win kb 3 j))) (k0_pay83 (k0_pay73 s wq) (k0_pay74 w (k0_pay8 (F := F)) (k0_pay9 (F := F))) (win kb 4 j) (win vb 4 j)) (k0_pay84 (k0_pay73 s wq) (k0_pay74 w (k0_pay8 (F := F)) (k0_pay9 (F := F))) (win kb 5 j) (win vb 5 j)) (k0_pay85 (k0_pay73 s wq)) (k0_pay86 (win kb 6 j)) (constant S256x512 .f32 0x00000000#32) (win vb 6 j) (win kb 7 j) (win vb 7 j) wo)
      = contribQ (qOf (shapeCast S256x1024 s shapeCasts_S1x256x1024_S256x1024) wq) kb vb wo j := by
  unfold contribQ; rw [← mask_of _ j hw]; rfl
theorem chain1 (c : Dev nD) :
    (k0_pay87 (k0_pay73 (slotOf (XB m (rot c 1))) (WQB m c)) (k0_pay74 (wd2 c) (k0_pay8 (F := F)) (k0_pay9 (F := F))) (k0_pay75 (wd2 c) (k0_pay8 (F := F)) (k0_pay9 (F := F)) (slotOf (XB m (rot c 1))) (WQB m c) (win (KB m c) 0 (rot c 1)) (win (VB m c) 0 (rot c 1))) (k0_pay77 (k0_pay74 (wd2 c) (k0_pay8 (F := F)) (k0_pay9 (F := F))) (k0_pay76 (slotOf (XB m (rot c 1))) (WQB m c)) (win (KB m c) 1 (rot c 1)) (win (VB m c) 1 (rot c 1))) (k0_pay78 (k0_pay73 (slotOf (XB m (rot c 1))) (WQB m c)) (k0_pay74 (wd2 c) (k0_pay8 (F := F)) (k0_pay9 (F := F))) (win (KB m c) 2 (rot c 1)) (win (VB m c) 2 (rot c 1))) (k0_pay82 (k0_pay79 (k0_pay73 (slotOf (XB m (rot c 1))) (WQB m c)) (k0_pay74 (wd2 c) (k0_pay8 (F := F)) (k0_pay9 (F := F))) (win (KB m c) 3 (rot c 1))) (k0_pay80 (win (VB m c) 3 (rot c 1))) (k0_pay81 (k0_pay73 (slotOf (XB m (rot c 1))) (WQB m c)) (k0_pay74 (wd2 c) (k0_pay8 (F := F)) (k0_pay9 (F := F))) (win (KB m c) 3 (rot c 1)))) (k0_pay83 (k0_pay73 (slotOf (XB m (rot c 1))) (WQB m c)) (k0_pay74 (wd2 c) (k0_pay8 (F := F)) (k0_pay9 (F := F))) (win (KB m c) 4 (rot c 1)) (win (VB m c) 4 (rot c 1))) (k0_pay84 (k0_pay73 (slotOf (XB m (rot c 1))) (WQB m c)) (k0_pay74 (wd2 c) (k0_pay8 (F := F)) (k0_pay9 (F := F))) (win (KB m c) 5 (rot c 1)) (win (VB m c) 5 (rot c 1))) (k0_pay85 (k0_pay73 (slotOf (XB m (rot c 1))) (WQB m c))) (k0_pay86 (win (KB m c) 6 (rot c 1))) (constant S256x512 .f32 0x00000000#32) (win (VB m c) 6 (rot c 1)) (win (KB m c) 7 (rot c 1)) (win (VB m c) 7 (rot c 1)) (WOB m c))
      = ctr m c (rot c 1) :=
  (sum1 (wd2 c) (slotOf (XB m (rot c 1))) (WQB m c) (WOB m c) (KB m c) (VB m c) (rot c 1) (word_rot c 1)).trans (by rw [unslot]; rfl)

theorem sum6 (w : BitVec 32) (s : Vec F S1x256x1024 .bf16) (wq wo : FVec F S1024x1024 .bf16) (kb vb : Vec F S8x2176x128 .bf16) (j : Dev nD)
    (hw : Scalar.cmpi .eq (Scalar.remsi (Scalar.addi w 6#32) 8#32) 0#32 = if j.val = 0 then 1#1 else 0#1) :
    (k0_pay104 (k0_pay92 (k0_pay8 (F := F)) (k0_pay9 (F := F)) (Scalar.remsi (Scalar.addi w 6#32) 8#32) (k0_pay90 s wq) (win kb 0 j) (win vb 0 j)) (k0_pay93 (k0_pay8 (F := F)) (k0_pay9 (F := F)) (Scalar.remsi (Scalar.addi w 6#32) 8#32) (k0_pay90 s wq) (win kb 1 j) (win vb 1 j)) (k0_pay95 (k0_pay91 (k0_pay8 (F := F)) (k0_pay9 (F := F)) (Scalar.remsi (Scalar.addi w 6#32) 8#32)) (k0_pay94 (k0_pay90 s wq) (win kb 2 j)) (win vb 2 j)) (k0_pay96 (k0_pay90 s wq) (k0_pay91 (k0_pay8 (F := F)) (k0_pay9 (F := F)) (Scalar.remsi (Scalar.addi w 6#32) 8#32)) (win kb 3 j) (win vb 3 j)) (k0_pay100 (k0_pay98 (k0_pay90 s wq) (k0_pay91 (k0_pay8 (F := F)) (k0_pay9 (F := F)) (Scalar.remsi (Scalar.addi w 6#32) 8#32)) (win kb 4 j) (win vb 4 j)) (k0_pay99 (k0_pay90 s wq) (k0_pay91 (k0_pay8 (F := F)) (k0_pay9 (F := F)) (Scalar.remsi (Scalar.addi w 6#32) 8#32)) (win kb 4 j))) (k0_pay101 (k0_pay90 s wq) (k0_pay91 (k0_pay8 (F := F)) (k0_pay9 (F := F)) (Scalar.remsi (Scalar.addi w 6#32) 8#32)) (win kb 5 j) (win vb 5 j)) (k0_pay102 (k0_pay90 s wq) (k0_pay91 (k0_pay8 (F := F)) (k0_pay9 (F := F)) (Scalar.remsi (Scalar.addi w 6#32) 8#32)) (win kb 6 j) (win vb 6 j)) (k0_pay103 (k0_pay90 s wq) (k0_pay91 (k0_pay8 (F := F)) (k0_pay9 (F := F)) (Scalar.remsi (Scalar.addi w 6#32) 8#32)) (win kb 7 j)) (win vb 7 j) wo)
      = contribQ (qOf (shapeCast S256x1024 s shapeCasts_S1x256x1024_S256x1024) wq) kb vb wo j := by
  unfold contribQ; rw [← mask_of _ j hw]; rfl
theorem chain6 (c : Dev nD) :
    (k0_pay104 (k0_pay92 (k0_pay8 (F := F)) (k0_pay9 (F := F)) (Scalar.remsi (Scalar.addi (wd2 c) 6#32) 8#32) (k0_pay90 (slotOf (XB m (rot c 6))) (WQB m c)) (win (KB m c) 0 (rot c 6)) (win (VB m c) 0 (rot c 6))) (k0_pay93 (k0_pay8 (F := F)) (k0_pay9 (F := F)) (Scalar.remsi (Scalar.addi (wd2 c) 6#32) 8#32) (k0_pay90 (slotOf (XB m (rot c 6))) (WQB m c)) (win (KB m c) 1 (rot c 6)) (win (VB m c) 1 (rot c 6))) (k0_pay95 (k0_pay91 (k0_pay8 (F := F)) (k0_pay9 (F := F)) (Scalar.remsi (Scalar.addi (wd2 c) 6#32) 8#32)) (k0_pay94 (k0_pay90 (slotOf (XB m (rot c 6))) (WQB m c)) (win (KB m c) 2 (rot c 6))) (win (VB m c) 2 (rot c 6))) (k0_pay96 (k0_pay90 (slotOf (XB m (rot c 6))) (WQB m c)) (k0_pay91 (k0_pay8 (F := F)) (k0_pay9 (F := F)) (Scalar.remsi (Scalar.addi (wd2 c) 6#32) 8#32)) (win (KB m c) 3 (rot c 6)) (win (VB m c) 3 (rot c 6))) (k0_pay100 (k0_pay98 (k0_pay90 (slotOf (XB m (rot c 6))) (WQB m c)) (k0_pay91 (k0_pay8 (F := F)) (k0_pay9 (F := F)) (Scalar.remsi (Scalar.addi (wd2 c) 6#32) 8#32)) (win (KB m c) 4 (rot c 6)) (win (VB m c) 4 (rot c 6))) (k0_pay99 (k0_pay90 (slotOf (XB m (rot c 6))) (WQB m c)) (k0_pay91 (k0_pay8 (F := F)) (k0_pay9 (F := F)) (Scalar.remsi (Scalar.addi (wd2 c) 6#32) 8#32)) (win (KB m c) 4 (rot c 6)))) (k0_pay101 (k0_pay90 (slotOf (XB m (rot c 6))) (WQB m c)) (k0_pay91 (k0_pay8 (F := F)) (k0_pay9 (F := F)) (Scalar.remsi (Scalar.addi (wd2 c) 6#32) 8#32)) (win (KB m c) 5 (rot c 6)) (win (VB m c) 5 (rot c 6))) (k0_pay102 (k0_pay90 (slotOf (XB m (rot c 6))) (WQB m c)) (k0_pay91 (k0_pay8 (F := F)) (k0_pay9 (F := F)) (Scalar.remsi (Scalar.addi (wd2 c) 6#32) 8#32)) (win (KB m c) 6 (rot c 6)) (win (VB m c) 6 (rot c 6))) (k0_pay103 (k0_pay90 (slotOf (XB m (rot c 6))) (WQB m c)) (k0_pay91 (k0_pay8 (F := F)) (k0_pay9 (F := F)) (Scalar.remsi (Scalar.addi (wd2 c) 6#32) 8#32)) (win (KB m c) 7 (rot c 6))) (win (VB m c) 7 (rot c 6)) (WOB m c))
      = ctr m c (rot c 6) :=
  (sum6 (wd2 c) (slotOf (XB m (rot c 6))) (WQB m c) (WOB m c) (KB m c) (VB m c) (rot c 6) (word_rot c 6)).trans (by rw [unslot]; rfl)

theorem sum7 (w : BitVec 32) (s : Vec F S1x256x1024 .bf16) (wq wo : FVec F S1024x1024 .bf16) (kb vb : Vec F S8x2176x128 .bf16) (j : Dev nD)
    (hw : Scalar.cmpi .eq (Scalar.remsi (Scalar.addi w 7#32) 8#32) 0#32 = if j.val = 0 then 1#1 else 0#1) :
    (k0_pay117 (k0_pay107 s wq) (k0_pay108 w (k0_pay8 (F := F)) (k0_pay9 (F := F))) (k0_pay109 w (k0_pay8 (F := F)) (k0_pay9 (F := F)) s wq (win kb 0 j) (win vb 0 j)) (k0_pay110 (k0_pay107 s wq) (k0_pay108 w (k0_pay8 (F := F)) (k0_pay9 (F := F))) (win kb 1 j) (win vb 1 j)) (k0_pay111 (k0_pay107 s wq) (k0_pay108 w (k0_pay8 (F := F)) (k0_pay9 (F := F))) (win kb 2 j) (win vb 2 j)) (k0_pay113 (k0_pay112 (k0_pay107 s wq) (k0_pay108 w (k0_pay8 (F := F)) (k0_pay9 (F := F))) (win kb 3 j)) (win vb 3 j)) (k0_pay114 (k0_pay107 s wq) (k0_pay108 w (k0_pay8 (F := F)) (k0_pay9 (F := F))) (win kb 4 j) (win vb 4 j)) (k0_pay115 (k0_pay107 s wq) (k0_pay108 w (k0_pay8 (F := F)) (k0_pay9 (F := F))) (win kb 5 j) (win vb 5 j)) (k0_pay116 (k0_pay107 s wq)) (win kb 6 j) (win vb 6 j) (win kb 7 j) (win vb 7 j) wo)
      = contribQ (qOf (shapeCast S256x1024 s shapeCasts_S1x256x1024_S256x1024) wq) kb vb wo j := by
  unfold contribQ; rw [← mask_of _ j hw]; rfl
theorem chain7 (c : Dev nD) :
    (k0_pay117 (k0_pay107 (slotOf (XB m (rot c 7))) (WQB m c)) (k0_pay108 (wd2 c) (k0_pay8 (F := F)) (k0_pay9 (F := F))) (k0_pay109 (wd2 c) (k0_pay8 (F := F)) (k0_pay9 (F := F)) (slotOf (XB m (rot c 7))) (WQB m c) (win (KB m c) 0 (rot c 7)) (win (VB m c) 0 (rot c 7))) (k0_pay110 (k0_pay107 (slotOf (XB m (rot c 7))) (WQB m c)) (k0_pay108 (wd2 c) (k0_pay8 (F := F)) (k0_pay9 (F := F))) (win (KB m c) 1 (rot c 7)) (win (VB m c) 1 (rot c 7))) (k0_pay111 (k0_pay107 (slotOf (XB m (rot c 7))) (WQB m c)) (k0_pay108 (wd2 c) (k0_pay8 (F := F)) (k0_pay9 (F := F))) (win (KB m c) 2 (rot c 7)) (win (VB m c) 2 (rot c 7))) (k0_pay113 (k0_pay112 (k0_pay107 (slotOf (XB m (rot c 7))) (WQB m c)) (k0_pay108 (wd2 c) (k0_pay8 (F := F)) (k0_pay9 (F := F))) (win (KB m c) 3 (rot c 7))) (win (VB m c) 3 (rot c 7))) (k0_pay114 (k0_pay107 (slotOf (XB m (rot c 7))) (WQB m c)) (k0_pay108 (wd2 c) (k0_pay8 (F := F)) (k0_pay9 (F := F))) (win (KB m c) 4 (rot c 7)) (win (VB m c) 4 (rot c 7))) (k0_pay115 (k0_pay107 (slotOf (XB m (rot c 7))) (WQB m c)) (k0_pay108 (wd2 c) (k0_pay8 (F := F)) (k0_pay9 (F := F))) (win (KB m c) 5 (rot c 7)) (win (VB m c) 5 (rot c 7))) (k0_pay116 (k0_pay107 (slotOf (XB m (rot c 7))) (WQB m c))) (win (KB m c) 6 (rot c 7)) (win (VB m c) 6 (rot c 7)) (win (KB m c) 7 (rot c 7)) (win (VB m c) 7 (rot c 7)) (WOB m c))
      = ctr m c (rot c 7) :=
  (sum7 (wd2 c) (slotOf (XB m (rot c 7))) (WQB m c) (WOB m c) (KB m c) (VB m c) (rot c 7) (word_rot c 7)).trans (by rw [unslot]; rfl)

theorem sum0 (w : BitVec 32) (s : FVec F S256x1024 .bf16) (wq wo : FVec F S1024x1024 .bf16) (kb vb : Vec F S8x2176x128 .bf16) (j : Dev nD)
    (hw : Scalar.cmpi .eq w 0#32 = if j.val = 0 then 1#1 else 0#1) :
    (k0_pay134 (k0_pay122 w (k0_pay8 (F := F)) (k0_pay9 (F := F)) (k0_pay120 s wq) 0#32 (win kb 0 j) (win vb 0 j)) (k0_pay123 w (k0_pay8 (F := F)) (k0_pay9 (F := F)) (k0_pay120 s wq) 0#32 (win kb 1 j) (win vb 1 j)) (k0_pay125 (k0_pay124 w (k0_pay8 (F := F)) (k0_pay9 (F := F)) (k0_pay120 s wq) 0#32 (win kb 2 j)) (win vb 2 j)) (k0_pay126 (k0_pay120 s wq) (k0_pay121 w (k0_pay8 (F := F)) (k0_pay9 (F := F)) 0#32) (win kb 3 j) (win vb 3 j)) (k0_pay127 (k0_pay120 s wq) (k0_pay121 w (k0_pay8 (F := F)) (k0_pay9 (F := F)) 0#32) (win kb 4 j) (win vb 4 j)) (k0_pay129 (k0_pay121 w (k0_pay8 (F := F)) (k0_pay9 (F := F)) 0#32) (k0_pay128 (k0_pay120 s wq)) (win kb 5 j) (win vb 5 j)) (k0_pay130 (k0_pay120 s wq) (k0_pay121 w (k0_pay8 (F := F)) (k0_pay9 (F := F)) 0#32) (win kb 6 j) (win vb 6 j)) (k0_pay131 (k0_pay120 s wq) (k0_pay121 w (k0_pay8 (F := F)) (k0_pay9 (F := F)) 0#32) (win kb 7 j)) (k0_pay132 (win vb 7 j)) (k0_pay133 (k0_pay120 s wq) (k0_pay121 w (k0_pay8 (F := F)) (k0_pay9 (F := F)) 0#32) (win kb 7 j)) (constant S256x128 .f32 0x00000000#32) wo)
      = contribQ (qOf s wq) kb vb wo j := by
  unfold contribQ; rw [← mask_of _ j hw]; rfl
theorem chain0 (c : Dev nD) :
    (k0_pay134 (k0_pay122 (wd2 c) (k0_pay8 (F := F)) (k0_pay9 (F := F)) (k0_pay120 (XB m c) (WQB m c)) 0#32 (win (KB m c) 0 c) (win (VB m c) 0 c)) (k0_pay123 (wd2 c) (k0_pay8 (F := F)) (k0_pay9 (F := F)) (k0_pay120 (XB m c) (WQB m c)) 0#32 (win (KB m c) 1 c) (win (VB m c) 1 c)) (k0_pay125 (k0_pay124 (wd2 c) (k0_pay8 (F := F)) (k0_pay9 (F := F)) (k0_pay120 (XB m c) (WQB m c)) 0#32 (win (KB m c) 2 c)) (win (VB m c) 2 c)) (k0_pay126 (k0_pay120 (XB m c) (WQB m c)) (k0_pay121 (wd2 c) (k0_pay8 (F := F)) (k0_pay9 (F := F)) 0#32) (win (KB m c) 3 c) (win (VB m c) 3 c)) (k0_pay127 (k0_pay120 (XB m c) (WQB m c)) (k0_pay121 (wd2 c) (k0_pay8 (F := F)) (k0_pay9 (F := F)) 0#32) (win (KB m c) 4 c) (win (VB m c) 4 c)) (k0_pay129 (k0_pay121 (wd2 c) (k0_pay8 (F := F)) (k0_pay9 (F := F)) 0#32) (k0_pay128 (k0_pay120 (XB m c) (WQB m c))) (win (KB m c) 5 c) (win (VB m c) 5 c)) (k0_pay130 (k0_pay120 (XB m c) (WQB m c)) (k0_pay121 (wd2 c) (k0_pay8 (F := F)) (k0_pay9 (F := F)) 0#32) (win (KB m c) 6 c) (win (VB m c) 6 c)) (k0_pay131 (k0_pay120 (XB m c) (WQB m c)) (k0_pay121 (wd2 c) (k0_pay8 (F := F)) (k0_pay9 (F := F)) 0#32) (win (KB m c) 7 c)) (k0_pay132 (win (VB m c) 7 c)) (k0_pay133 (k0_pay120 (XB m c) (WQB m c)) (k0_pay121 (wd2 c) (k0_pay8 (F := F)) (k0_pay9 (F := F)) 0#32) (win (KB m c) 7 c)) (constant S256x128 .f32 0x00000000#32) (WOB m c))
      = ctr m c c :=
  (sum0 (wd2 c) (XB m c) (WQB m c) (WOB m c) (KB m c) (VB m c) c (word_own c)).trans rfl

end Cert.KernelIdeal.Run

end
-- ==== Proof.KI.State.lean ====
module

public import proofs.«01_k».proof.Proof.KI.Chains

/-! The state of a device during the body, counted by the links it has started and the arrivals it has waited for, and one step of each kind on it. -/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (K : Dev nD × Fin 73 → ℕ) (c : Dev nD)

/-- The links from `n` on, and those before `n`, the last first. -/
def dn (n : ℕ) : List ℕ := List.range' n (28 - n)
def up : ℕ → List ℕ
  | 0 => []
  | n + 1 => n :: up n
/-- The arrivals in the order the body waits for them, those from the `i`-th on, and those before it, the last first. -/
def rord : List ℕ := [0, 1, 2, 3, 4, 5, 6, 7, 8, 9, 10, 11, 12, 13, 14, 15, 16, 17, 18, 19, 20, 21, 24, 25, 22, 26, 23, 27]
def rl (i : ℕ) : List ℕ := rord.drop i
def gl : ℕ → List ℕ
  | 0 => []
  | i + 1 => rord.getD i 0 :: gl i
/-- The heads in the order they are copied, the first half of the state of their copies. -/
def kord : List ℕ := [0, 8, 1, 9, 2, 10, 3, 11, 4, 12, 5, 13, 6, 14, 7, 15]
def kl (i : ℕ) : List ℕ := kord.drop i
def kg : ℕ → List ℕ
  | 0 => []
  | i + 1 => kord.getD i 0 :: kg i

theorem dn_cons (n : ℕ) (h : n < 28) : dn n = n :: dn (n + 1) := by
  unfold dn
  rw [show 28 - n = (28 - (n + 1)) + 1 by omega]; rfl
theorem dn_mem {n k : ℕ} (h : k ∈ dn n) : n ≤ k ∧ k < 28 := by
  unfold dn at h
  rw [List.mem_range'_1] at h
  omega
theorem rl_cons (i : ℕ) (h : i < 28) : rl i = rord.getD i 0 :: rl (i + 1) := by
  have : ∀ i : Fin 28, rl i.val = rord.getD i.val 0 :: rl (i.val + 1) := by decide +kernel
  exact this ⟨i, h⟩
theorem kl_cons (i : ℕ) (h : i < 16) : kl i = kord.getD i 0 :: kl (i + 1) := by
  have : ∀ i : Fin 16, kl i.val = kord.getD i.val 0 :: kl (i.val + 1) := by decide +kernel
  exact this ⟨i, h⟩

/-- Between the barrier and the last waits: `s` links are started and `r` arrivals waited for. -/
def Sq (s r : ℕ) : sProp 𝕄 := St m K c (dn s) (up s) (rl r) (gl r)
/-- At the end: the first `w` links are waited for, and their sources are back. -/
def Fq (w : ℕ) : sProp 𝕄 :=
  iprop((∃ G : List ℕ, ⌜∃ w', w' = w ∧ G = (up w').map (28 + ·) ++ gl 28⌝ ∗ St m K c [] (dn w) [] G) ∗ seqL (sendPay m c) (up w))

/-- What a transfer of half a slot, and of a head, credits. -/
theorem creditN (mm : Memref sig .tc .vmem S128x1024 .bf16) : mm.view.dmaCredit = N := rfl
theorem creditN2 (mm : Memref sig .tc .vmem S2176x128 .f32) : mm.view.dmaCredit = N2 := rfl

section Steps
variable {α : Type}

theorem go_xl0 (n r : ℕ) (hn : n < 28) (hk : kind n = .xl) (ht : slot n = 1) (hr' : row n = r) (hr : r + 128 ≤ 256) {n' : Dev nD} (hp : n' = peer n c) {rr : ℕ} {Q : α → sProp 𝕄} {k : PUnit → Prog (TpuEff nD τ sig (Elt F) Λ₀ .tc) α}
    {hin hin'} {ss rs : DmaSem sig} (hss : ss = dq (cq (28 + n))) (hrs : rs = dq (cq n)) {hsc hsrc hdst hsem} :
    iprop(Sq m K c n rr ∗ pX qS.left c r (XB m c)) ⊢ iprop((Sq m K c (n + 1) rr -∗ WPc c (k ⟨⟩) Q)
      -∗ WPc c (.op (.enqueueDma (hv1 r hin) (.remote (Dev.tc n' : Thread nD τ) (hvXL 1 r hin') (.dma ss) hsc) (.dma rs) hsrc hdst hsem) k) Q) := by
  unfold Sq
  rw [dn_cons n hn]
  exact send_xl0 m K c n' n r hn hk ht hr' hr hp hss hrs

theorem go_xr0 (n r : ℕ) (hn : n < 28) (hk : kind n = .xr) (ht : slot n = 1) (hr' : row n = r) (hr : r + 128 ≤ 256) {n' : Dev nD} (hp : n' = peer n c) {rr : ℕ} {Q : α → sProp 𝕄} {k : PUnit → Prog (TpuEff nD τ sig (Elt F) Λ₀ .tc) α}
    {hin hin'} {ss rs : DmaSem sig} (hss : ss = dq (cq (28 + n))) (hrs : rs = dq (cq n)) {hsc hsrc hdst hsem} :
    iprop(Sq m K c n rr ∗ pX qS.right c r (XB m c)) ⊢ iprop((Sq m K c (n + 1) rr -∗ WPc c (k ⟨⟩) Q)
      -∗ WPc c (.op (.enqueueDma (hv1 r hin) (.remote (Dev.tc n' : Thread nD τ) (hvXR 1 r hin') (.dma ss) hsc) (.dma rs) hsrc hdst hsem) k) Q) := by
  unfold Sq
  rw [dn_cons n hn]
  exact send_xr0 m K c n' n r hn hk ht hr' hr hp hss hrs

theorem go_xl (n t r : ℕ) (ht0 : 0 < t) (ht4 : t + 1 < 4) (hn : n < 28) (hk : kind n = .xl) (ht : slot n = t + 1) (hr' : row n = r) (hr : r + 128 ≤ 256) {n' : Dev nD} (hp : n' = peer n c) {rr : ℕ} {Q : α → sProp 𝕄} {k : PUnit → Prog (TpuEff nD τ sig (Elt F) Λ₀ .tc) α}
    {hin hin'} {ss rs : DmaSem sig} (hss : ss = dq (cq (28 + n))) (hrs : rs = dq (cq n)) {hsc hsrc hdst hsem} :
    iprop(Sq m K c n rr ∗ pXL qS c t r (XL m c)) ⊢ iprop((Sq m K c (n + 1) rr -∗ WPc c (k ⟨⟩) Q)
      -∗ WPc c (.op (.enqueueDma (hvXL t r hin) (.remote (Dev.tc n' : Thread nD τ) (hvXL (t + 1) r hin') (.dma ss) hsc) (.dma rs) hsrc hdst hsem) k) Q) := by
  unfold Sq
  rw [dn_cons n hn]
  exact send_xl m K c n' n t r ht0 ht4 hn hk ht hr' hr hp hss hrs

theorem go_xr (n t r : ℕ) (ht0 : 0 < t) (ht4 : t + 1 < 5) (hn : n < 28) (hk : kind n = .xr) (ht : slot n = t + 1) (hr' : row n = r) (hr : r + 128 ≤ 256) {n' : Dev nD} (hp : n' = peer n c) {rr : ℕ} {Q : α → sProp 𝕄} {k : PUnit → Prog (TpuEff nD τ sig (Elt F) Λ₀ .tc) α}
    {hin hin'} {ss rs : DmaSem sig} (hss : ss = dq (cq (28 + n))) (hrs : rs = dq (cq n)) {hsc hsrc hdst hsem} :
    iprop(Sq m K c n rr ∗ pXR qS c t r (XR m c)) ⊢ iprop((Sq m K c (n + 1) rr -∗ WPc c (k ⟨⟩) Q)
      -∗ WPc c (.op (.enqueueDma (hvXR t r hin) (.remote (Dev.tc n' : Thread nD τ) (hvXR (t + 1) r hin') (.dma ss) hsc) (.dma rs) hsrc hdst hsem) k) Q) := by
  unfold Sq
  rw [dn_cons n hn]
  exact send_xr m K c n' n t r ht0 ht4 hn hk ht hr' hr hp hss hrs

theorem go_a (n t r : ℕ) (ht4 : t + 1 < 5) (hn : n < 28) (hk : kind n = .a) (ht : slot n = t + 1) (hr' : row n = r) (hr : r + 128 ≤ 256) {n' : Dev nD} (hp : n' = peer n c) {rr : ℕ} {Q : α → sProp 𝕄} {k : PUnit → Prog (TpuEff nD τ sig (Elt F) Λ₀ .tc) α}
    {hin hin'} {ss rs : DmaSem sig} (hss : ss = dq (cq (28 + n))) (hrs : rs = dq (cq n)) {hsc hsrc hdst hsem} :
    iprop(Sq m K c n rr ∗ pA qS c t r (AO m c)) ⊢ iprop((Sq m K c (n + 1) rr -∗ WPc c (k ⟨⟩) Q)
      -∗ WPc c (.op (.enqueueDma (hvA t r hin) (.remote (Dev.tc n' : Thread nD τ) (hvA (t + 1) r hin') (.dma ss) hsc) (.dma rs) hsrc hdst hsem) k) Q) := by
  unfold Sq
  rw [dn_cons n hn]
  exact send_a m K c n' n t r ht4 hn hk ht hr' hr hp hss hrs

theorem go_b (n t r : ℕ) (ht4 : t + 1 < 4) (hn : n < 28) (hk : kind n = .b) (ht : slot n = t + 1) (hr' : row n = r) (hr : r + 128 ≤ 256) {n' : Dev nD} (hp : n' = peer n c) {rr : ℕ} {Q : α → sProp 𝕄} {k : PUnit → Prog (TpuEff nD τ sig (Elt F) Λ₀ .tc) α}
    {hin hin'} {ss rs : DmaSem sig} (hss : ss = dq (cq (28 + n))) (hrs : rs = dq (cq n)) {hsc hsrc hdst hsem} :
    iprop(Sq m K c n rr ∗ pB qS c t r (BO m c)) ⊢ iprop((Sq m K c (n + 1) rr -∗ WPc c (k ⟨⟩) Q)
      -∗ WPc c (.op (.enqueueDma (hvB t r hin) (.remote (Dev.tc n' : Thread nD τ) (hvB (t + 1) r hin') (.dma ss) hsc) (.dma rs) hsrc hdst hsem) k) Q) := by
  unfold Sq
  rw [dn_cons n hn]
  exact send_b m K c n' n t r ht4 hn hk ht hr' hr hp hss hrs

/-- Waiting for the `i`-th arrival. -/
theorem await (s i n : ℕ) (hi : i < 28) (hn : rord.getD i 0 = n) (hs : n < s) {src dst : Memref sig .tc .vmem S128x1024 .bf16} {sem : DmaSem sig} (hsem : sem = dq (cq n))
    {hsrc : src.view.WordExact} {hdst : dst.view.WordExact}
    {Q : α → sProp 𝕄} {k : PUnit → Prog (TpuEff nD τ sig (Elt F) Λ₀ .tc) α} :
    Sq m K c s i ⊢ iprop(((Sq m K c s (i + 1) ∗ recvPay m c n) -∗ WPc c (k ⟨⟩) Q) -∗ WPc c (.op (.waitDma2 sem src dst hsrc hdst) k) Q) := by
  have hn28 : n < 28 := by
    subst hn
    have : ∀ i : Fin 28, rord.getD i.val 0 < 28 := by decide +kernel
    exact this ⟨i, hi⟩
  unfold Sq
  rw [rl_cons i hi, show gl (i + 1) = rord.getD i 0 :: gl i from rfl, hn]
  exact wait_recv m K c n hn28 (fun k hk => ⟨Nat.lt_of_lt_of_le hs (dn_mem hk).1, (dn_mem hk).2⟩) hsem (creditN dst)

theorem await_xl (s i n t r : ℕ) (hi : i < 28) (hn : rord.getD i 0 = n) (hs : n < s) (hk : kind n = .xl) (ht : slot n = t) (hr : row n = r) {src dst : Memref sig .tc .vmem S128x1024 .bf16} {sem : DmaSem sig}
    (hsem : sem = dq (cq n)) {hsrc : src.view.WordExact} {hdst : dst.view.WordExact}
    {Q : α → sProp 𝕄} {k : PUnit → Prog (TpuEff nD τ sig (Elt F) Λ₀ .tc) α} :
    Sq m K c s i ⊢ iprop(((Sq m K c s (i + 1) ∗ pXL qS c t r (XL m c) ∗ pXL qK c t r (XL m c)) -∗ WPc c (k ⟨⟩) Q) -∗ WPc c (.op (.waitDma2 sem src dst hsrc hdst) k) Q) :=
  (await m K c s i n hi hn hs hsem).trans (wand_mono_left (wand_mono_left (sep_mono_right (got_xl m c n t r hk ht hr))))

theorem await_xr (s i n t r : ℕ) (hi : i < 28) (hn : rord.getD i 0 = n) (hs : n < s) (hk : kind n = .xr) (ht : slot n = t) (hr : row n = r) {src dst : Memref sig .tc .vmem S128x1024 .bf16} {sem : DmaSem sig}
    (hsem : sem = dq (cq n)) {hsrc : src.view.WordExact} {hdst : dst.view.WordExact}
    {Q : α → sProp 𝕄} {k : PUnit → Prog (TpuEff nD τ sig (Elt F) Λ₀ .tc) α} :
    Sq m K c s i ⊢ iprop(((Sq m K c s (i + 1) ∗ pXR qS c t r (XR m c) ∗ pXR qK c t r (XR m c)) -∗ WPc c (k ⟨⟩) Q) -∗ WPc c (.op (.waitDma2 sem src dst hsrc hdst) k) Q) :=
  (await m K c s i n hi hn hs hsem).trans (wand_mono_left (wand_mono_left (sep_mono_right (got_xr m c n t r hk ht hr))))

theorem await_a (s i n t r : ℕ) (hi : i < 28) (hn : rord.getD i 0 = n) (hs : n < s) (hk : kind n = .a) (ht : slot n = t) (hr : row n = r) {src dst : Memref sig .tc .vmem S128x1024 .bf16} {sem : DmaSem sig}
    (hsem : sem = dq (cq n)) {hsrc : src.view.WordExact} {hdst : dst.view.WordExact}
    {Q : α → sProp 𝕄} {k : PUnit → Prog (TpuEff nD τ sig (Elt F) Λ₀ .tc) α} :
    Sq m K c s i ⊢ iprop(((Sq m K c s (i + 1) ∗ pA fullShare c t r (AI m c)) -∗ WPc c (k ⟨⟩) Q) -∗ WPc c (.op (.waitDma2 sem src dst hsrc hdst) k) Q) :=
  (await m K c s i n hi hn hs hsem).trans (wand_mono_left (wand_mono_left (sep_mono_right (got_a m c n t r hk ht hr))))

theorem await_b (s i n t r : ℕ) (hi : i < 28) (hn : rord.getD i 0 = n) (hs : n < s) (hk : kind n = .b) (ht : slot n = t) (hr : row n = r) {src dst : Memref sig .tc .vmem S128x1024 .bf16} {sem : DmaSem sig}
    (hsem : sem = dq (cq n)) {hsrc : src.view.WordExact} {hdst : dst.view.WordExact}
    {Q : α → sProp 𝕄} {k : PUnit → Prog (TpuEff nD τ sig (Elt F) Λ₀ .tc) α} :
    Sq m K c s i ⊢ iprop(((Sq m K c s (i + 1) ∗ pB fullShare c t r (BI m c)) -∗ WPc c (k ⟨⟩) Q) -∗ WPc c (.op (.waitDma2 sem src dst hsrc hdst) k) Q) :=
  (await m K c s i n hi hn hs hsem).trans (wand_mono_left (wand_mono_left (sep_mono_right (got_b m c n t r hk ht hr))))

/-- Waiting for the `i`-th head. -/
theorem await_kv (s r i k : ℕ) (hi : i < 16) (hk : kord.getD i 0 = k) {src : Memref sig .tc .hbm S2176x128 .f32} {dst : Memref sig .tc .vmem S2176x128 .f32} {sem : DmaSem sig} (hsem : sem = dq (cq (56 + k)))
    {hsrc : src.view.WordExact} {hdst : dst.view.WordExact}
    {Q : α → sProp 𝕄} {p : PUnit → Prog (TpuEff nD τ sig (Elt F) Λ₀ .tc) α} :
    iprop(Sq m K c s r ∗ KV m K c [] (kl i) (kg i))
      ⊢ iprop(((Sq m K c s r ∗ KV m K c [] (kl (i + 1)) (kg (i + 1)) ∗ kvPay m c k) -∗ WPc c (p ⟨⟩) Q) -∗ WPc c (.op (.waitDma2 sem src dst hsrc hdst) p) Q) := by
  have hk16 : k < 16 := by
    subst hk
    have : ∀ i : Fin 16, kord.getD i.val 0 < 16 := by decide +kernel
    exact this ⟨i, hi⟩
  unfold Sq
  rw [kl_cons i hi, show kg (i + 1) = kord.getD i 0 :: kg i from rfl, hk]
  exact wait_kv m K c k hk16 (fun k hk => ⟨Nat.zero_le _, (dn_mem hk).2⟩) (src := src) (dst := dst) hsem (hsrc := hsrc) (hdst := hdst) (creditN2 dst)

/-- Waiting at the end for link `w`. -/
theorem await_send (w : ℕ) (hw : w < 28) {src dst : Memref sig .tc .vmem S128x1024 .bf16} {sem : DmaSem sig} (hsem : sem = dq (cq (28 + w)))
    {hsrc : src.view.WordExact} {hdst : dst.view.WordExact}
    {Q : α → sProp 𝕄} {k : PUnit → Prog (TpuEff nD τ sig (Elt F) Λ₀ .tc) α} :
    Fq m K c w ⊢ iprop((Fq m K c (w + 1) -∗ WPc c (k ⟨⟩) Q) -∗ WPc c (.op (.waitDma2 sem src dst hsrc hdst) k) Q) := by
  unfold Fq
  rw [dn_cons w hw]
  iintro ⟨⟨%G, %hG, HS⟩, HP⟩ Hk
  iapply (wait_send m K c w hw hsem (creditN _)) $$ HS
  iintro ⟨HS, Hp⟩
  iapply Hk
  isplitl [HS]
  · iexists ((28 + w) :: G)
    isplitr [HS]
    · ipureintro
      obtain ⟨w', rfl, rfl⟩ := hG
      exact ⟨w' + 1, rfl, rfl⟩
    · iexact HS
  · iapply (seqL_mk (Φ := sendPay m c) (i := w) (l := up w))
    isplitl [Hp]
    · iexact Hp
    · iexact HP

end Steps

/-- From the last arrival to the last waits. -/
theorem Sq_Fq : Sq m K c 28 28 ⊢ Fq m K c 0 := by
  unfold Sq Fq
  iintro HS
  isplitl [HS]
  · iexists (gl 28)
    isplitr [HS]
    · ipureintro; exact ⟨0, rfl, rfl⟩
    · unfold St
      icases HS with ⟨#Hr, HO, HA, HT, HR, HG⟩
      isplitr
      · iexact Hr
      isplitl [HO]
      · iexact HO
      isplitl [HA]
      · iexact HA
      isplitl [HT]
      · iapply (seqL_perm (Φ := sentItem c) (l := up 28) (l' := dn 0) (by decide +kernel)); iexact HT
      isplitl [HR]
      · iexact HR
      · iexact HG
  · unfold up seqL; iempintro

end Cert.KernelIdeal.Run
-- ==== Proof.KI.Barrier.lean ====
module

public import proofs.«01_k».proof.Proof.KI.State

/-! The barrier: what a device holds before it, its two signals, and its wait. -/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (K : Dev nD × Fin 73 → ℕ) (c : Dev nD)

/-- What it takes to start link `n`, but for the place it lands in. -/
def sendTok (n : ℕ) : sProp 𝕄 :=
  iprop(dutyTok ER (sendCell c n) 0 false ∗ dutyTok ER (recvCell (peer n c) n) 0 false ∗ atPos ER (sendCell c n) 0 ∅ 0)

/-- What stays as it is from the start to the barrier's wait. -/
def Br : sProp 𝕄 :=
  iprop(recs m K ∗ atPos ER (barCell c) 0 ∅ 0 ∗ cred (tallyAt (barCell c) () 2) ∗ seqL (sendTok c) (List.range 28) ∗ seqL (recvItem c) rord)

/-- At the start, after the first signal, and after the second. -/
def B0 : sProp 𝕄 :=
  iprop(Br m K c ∗ (∃ W, owes (c : Thread nD τ) (O₀ c) W) ∗ dutyTok ER (barCell (prv c)) 0 true ∗ dutyTok ER (barCell (nxt c)) 0 false
    ∗ seqL (land (F := F) c) toR ∗ seqL (land (F := F) c) toL)
def B1 : sProp 𝕄 :=
  iprop(Br m K c ∗ (∃ W, owes (c : Thread nD τ) (O₁ c) W) ∗ dutyTok ER (barCell (nxt c)) 0 false ∗ seqL (land (F := F) c) toL)
def B2 : sProp 𝕄 := iprop(Br m K c ∗ (∃ W, owes (c : Thread nD τ) (OWL c (List.range 28)) W))

theorem dev1_eq : ∀ c : Dev nD, (⟨k0_dev1 c, k0_dev1_lt c⟩ : Dev nD) = prv c := by decide +kernel
theorem dev2_eq : ∀ c : Dev nD, (⟨k0_dev2 c, k0_dev2_lt c⟩ : Dev nD) = nxt c := by decide +kernel

/-- The first signal, to the left neighbour: with it go the places its links land in on this device. -/
theorem signal_left {n' : Dev nD} (hn : n' = prv c) {sem : Sem sig} {α : Type} {Q : α → sProp 𝕄} {k : PUnit → Prog (TpuEff nD τ sig (Elt F) Λ₀ .tc) α} (hs : sem = barS) :
    B0 m K c ⊢ iprop((B1 m K c -∗ WPc c (k ⟨⟩) Q) -∗ WPc c (.op (.semSignal (Dev.tc n' : Thread nD τ) sem (1#32 : BitVec 32).toInt) k) Q) := by
  subst hn hs
  unfold B0 B1 Br
  iintro ⟨⟨#Hr, HatB, HcB, Hst, Hri⟩, ⟨%W, HO⟩, HtP, HtN, HlR, HlL⟩ Hk
  ihave #HIP := (recs_bar m K (prv c)) $$ Hr
  ihave #HRP := (recs_rbar m K (prv c)) $$ Hr
  iapply (Rounds.wp_signal 𝒱₀ ER (rd m) (c : Thread nD τ) none (dst := (prv c : Thread nD τ)) (κ := K (prv c, ixd 72))
      (d := true) (by rw [duties_bar]; exact Finset.mem_univ _) ((amount_bar m (prv c) true).trans (by decide)) () (O₁ c) rfl)
    $$ [HO HtP HlR]
  · isplitr; · iexact HIP
    isplitl [HO]; · iexact HO
    isplitl [HtP]; · iexact HtP
    isplitl [HlR]
    · rw [payload_bar]; unfold barPay; rw [if_pos rfl, nxt_prv]; iexact HlR
    · iexact HRP
  iintro HO
  iapply Hk
  isplitl [HatB HcB Hst Hri]
  · isplitr; · iexact Hr
    isplitl [HatB]; · iexact HatB
    isplitl [HcB]; · iexact HcB
    isplitl [Hst]; · iexact Hst
    iexact Hri
  isplitl [HO]; · iexists W; iexact HO
  isplitl [HtN]; · iexact HtN
  iexact HlL

/-- The second signal, to the right neighbour. -/
theorem signal_right {n' : Dev nD} (hn : n' = nxt c) {sem : Sem sig} {α : Type} {Q : α → sProp 𝕄} {k : PUnit → Prog (TpuEff nD τ sig (Elt F) Λ₀ .tc) α} (hs : sem = barS) :
    B1 m K c ⊢ iprop((B2 m K c -∗ WPc c (k ⟨⟩) Q) -∗ WPc c (.op (.semSignal (Dev.tc n' : Thread nD τ) sem (1#32 : BitVec 32).toInt) k) Q) := by
  subst hn hs
  unfold B1 B2 Br O₁
  iintro ⟨⟨#Hr, HatB, HcB, Hst, Hri⟩, ⟨%W, HO⟩, HtN, HlL⟩ Hk
  ihave #HIP := (recs_bar m K (nxt c)) $$ Hr
  ihave #HRP := (recs_rbar m K (nxt c)) $$ Hr
  iapply (Rounds.wp_signal 𝒱₀ ER (rd m) (c : Thread nD τ) none (dst := (nxt c : Thread nD τ)) (κ := K (nxt c, ixd 72))
      (d := false) (by rw [duties_bar]; exact Finset.mem_univ _) ((amount_bar m (nxt c) false).trans (by decide)) () (OWL c (List.range 28)) rfl)
    $$ [HO HtN HlL]
  · isplitr; · iexact HIP
    isplitl [HO]; · iexact HO
    isplitl [HtN]; · iexact HtN
    isplitl [HlL]
    · rw [payload_bar]; unfold barPay; rw [if_neg (by decide), prv_nxt]; iexact HlL
    · iexact HRP
  iintro HO
  iapply Hk
  isplitl [HatB HcB Hst Hri]
  · isplitr; · iexact Hr
    isplitl [HatB]; · iexact HatB
    isplitl [HcB]; · iexact HcB
    isplitl [Hst]; · iexact Hst
    iexact Hri
  iexists W; iexact HO

theorem peer_toR : ∀ n ∈ toR, peer n c = nxt c := by
  intro n hn
  unfold peer
  have : (kind n).right = true := (List.mem_filter.mp hn).2
  rw [this]; rfl
theorem peer_toL : ∀ n ∈ toL, peer n c = prv c := by
  intro n hn
  unfold peer
  have : (kind n).right = false := by have := (List.mem_filter.mp hn).2; simpa using this
  rw [this]; rfl

/-- The places both neighbours hand over are those of all links. -/
theorem lands : iprop(barPay (F := F) c false ∗ barPay (F := F) c true) ⊢ seqL (fun n => land (F := F) (peer n c) n) (List.range 28) := by
  unfold barPay
  rw [if_neg (by decide), if_pos rfl]
  have hL : seqL (land (F := F) (prv c)) toL ⊢ seqL (fun n => land (F := F) (peer n c) n) toL :=
    seqL_mono fun n hn => by rw [peer_toL c n hn]
  have hR : seqL (land (F := F) (nxt c)) toR ⊢ seqL (fun n => land (F := F) (peer n c) n) toR :=
    seqL_mono fun n hn => by rw [peer_toR c n hn]
  refine (Idealize.SL.BI.sep_mono hL hR).trans ((seqL_append toL toR).2.trans (seqL_perm (by decide +kernel)))

/-- The wait: the neighbours' places come with it, and the links may start. -/
theorem wait_bar {sem : Sem sig} {α : Type} {Q : α → sProp 𝕄} {k : PUnit → Prog (TpuEff nD τ sig (Elt F) Λ₀ .tc) α} (hs : sem = barS) :
    B2 m K c ⊢ iprop(((Sq m K c 0 0 ∗ semVal (barCell c) 0) -∗ WPc c (k ⟨⟩) Q) -∗ WPc c (.op (.semWait sem (2#32 : BitVec 32).toInt) k) Q) := by
  subst hs
  unfold B2 Br
  iintro ⟨⟨#Hr, HatB, HcB, Hst, Hri⟩, ⟨%W, HO⟩⟩ Hk
  ihave #HIB := (recs_bar m K c) $$ Hr
  ihave #Hlev := (recs_lev m K) $$ Hr
  iapply (Rounds.wp_wait_rest_token 𝒱₀ ER (rd m) (c : Thread nD τ) none (κ := K (c, ixd 72))
      (wpE_semWait_eq 𝒱₀ (c : Thread nD τ) none Set.univ) (Set.mem_univ _) () (O := OWL c (List.range 28)) (W := W) (R := 0) (m := 0) (T := ∅)
      (by rw [expect_bar]; decide)) $$ [HcB HO HatB]
  · isplitr; · iexact HIB
    isplitl [HcB]; · iexact HcB
    isplitl [HO]; · iexact HO
    isplitr; · iapply (mayWait_OWL c (.reg barS) 0 (List.range 28) (Nat.le_refl 1) (fun k hk => ⟨Nat.zero_le _, List.mem_range.mp hk⟩)); iexact Hlev
    iexact HatB
  iintro ⟨HO, HatB, -, Hpay⟩
  ihave Hp := (Entails.of_eq (rest_bar m c)) $$ Hpay
  ihave Hl := (lands c) $$ Hp
  imod (Rounds.cell_close ER (rd m) (Set.mem_univ (K (c, ixd 72))) (fun h => h) (R := 0 + 1) (duties_later m (barCell c))) $$ [HatB] with HzB
  · isplitr; · iexact HIB
    iexact HatB
  iapply Hk
  isplitr [HzB]
  · unfold Sq St
    isplitr; · iexact Hr
    isplitl [HO]; · iexists _; iexact HO
    isplitl [Hl Hst]
    · iapply ((seqL_sep (Φ := fun n => land (F := F) (peer n c) n) (Ψ := sendTok c) (List.range 28)).2)
      isplitl [Hl]; · iexact Hl
      iexact Hst
    isplitr; · unfold up seqL; iempintro
    isplitl [Hri]; · iexact Hri
    unfold gl seqL; iempintro
  · iexact HzB

end Cert.KernelIdeal.Run
-- ==== Proof.KI.Ends.lean ====
module

public import proofs.«01_k».proof.Proof.KI.Barrier

/-! How the buffers come apart into the pieces that travel, and come together again. -/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## A buffer and a list of pieces of it -/

def un {ι J : Type} [DecidableEq J] (S : ι → Finset J) : List ι → Finset J
  | [] => ∅
  | i :: l => S i ∪ un S l

theorem mem_un {ι J : Type} [DecidableEq J] {S : ι → Finset J} {l : List ι} {x : J} : x ∈ un S l ↔ ∃ i ∈ l, x ∈ S i := by
  induction l with
  | nil => simp [un]
  | cons i l ih => rw [un, Finset.mem_union, ih]; simp

theorem disjoint_un {ι J : Type} [DecidableEq J] {S : ι → Finset J} {l : List ι} {i : ι} (h : ∀ j ∈ l, Disjoint (S i) (S j)) : Disjoint (S i) (un S l) := by
  rw [Finset.disjoint_left]
  intro x hx hx'
  obtain ⟨j, hj, hxj⟩ := mem_un.mp hx'
  exact Finset.disjoint_left.mp (h j hj) hx hxj

theorem pts_list {ℓ : Loc nD τ sig} {ι : Type} (S : ι → Finset (Idx ℓ)) (q : PosShare TreeShare) (f : Buf (Elt F) ℓ) (l : List ι)
    (hd : l.Pairwise fun i j => Disjoint (S i) (S j)) :
    (ℓ ↦[un S l]{q} f : sProp 𝕄) ⊣⊢ seqL (fun i => (ℓ ↦[S i]{q} f : sProp 𝕄)) l := by
  induction l with
  | nil =>
    have e : (ℓ ↦[un S []]{q} f : sProp 𝕄) = BI.emp := pointsTo_empty
    rw [e]; exact ⟨BI.Entails.refl _, BI.Entails.refl _⟩
  | cons i l ih =>
    obtain ⟨h1, h2⟩ := List.pairwise_cons.mp hd
    have hu := pointsTo_union (nD := nD) (τ := τ) (sig := sig) (Ix := Unit) (Val := Elt F) (Name := ℕ) (U := UU) (Lvl := ℕ) (ℓ := ℓ) (q := q) (f := f) (disjoint_un h1)
    exact ⟨hu.1.trans (sep_mono_right (ih h2).1), (sep_mono_right (ih h2).2).trans hu.2⟩

theorem pts_join {ℓ : Loc nD τ sig} {ι : Type} (S : ι → Finset (Idx ℓ)) (q : PosShare TreeShare) (f₀ : Buf (Elt F) ℓ) (l : List ι)
    (hd : l.Pairwise fun i j => Disjoint (S i) (S j)) :
    seqL (fun i => (iprop(∃ f, ℓ ↦[S i]{q} f) : sProp 𝕄)) l ⊢ (iprop(∃ f, ℓ ↦[un S l]{q} f) : sProp 𝕄) := by
  induction l with
  | nil =>
    have e : (ℓ ↦[un S []]{q} f₀ : sProp 𝕄) = BI.emp := pointsTo_empty
    show iprop(emp) ⊢ _
    iintro H
    iexists f₀
    rw [e]; iempintro
  | cons i l ih =>
    obtain ⟨h1, h2⟩ := List.pairwise_cons.mp hd
    show iprop((∃ f, ℓ ↦[S i]{q} f) ∗ seqL (fun i => (iprop(∃ f, ℓ ↦[S i]{q} f) : sProp 𝕄)) l) ⊢ _
    iintro ⟨⟨%f, H⟩, HL⟩
    ihave HL := (ih h2) $$ HL
    icases HL with ⟨%g, HL⟩
    iexists ((un S l).piecewise g f)
    iapply (pointsTo_join (disjoint_un h1))
    isplitl [H]; · iexact H
    iexact HL

/-! ## The pieces of the buffers -/

def cells (n : ℕ) : List (ℕ × ℕ) := (List.range n).flatMap fun t => [(t, 0), (t, 128)]
theorem cells_mem {n t : ℕ} (h : t < n) {r : ℕ} (hr : r = 0 ∨ r = 128) : (t, r) ∈ cells n :=
  List.mem_flatMap.mpr ⟨t, List.mem_range.mpr h, by rcases hr with rfl | rfl <;> simp⟩
theorem row_of (x : ℕ) (h : x < 256) : ∃ r, (r = 0 ∨ r = 128) ∧ r ≤ x ∧ x < r + 128 := by
  by_cases hx : x < 128
  · exact ⟨0, .inl rfl, Nat.zero_le _, by omega⟩
  · exact ⟨128, .inr rfl, by omega, by omega⟩
theorem cells4_pw : (cells 4).Pairwise fun p p' => p.1 ≠ p'.1 ∨ p.2 + 128 ≤ p'.2 ∨ p'.2 + 128 ≤ p.2 := by decide +kernel
theorem cells5_pw : (cells 5).Pairwise fun p p' => p.1 ≠ p'.1 ∨ p.2 + 128 ≤ p'.2 ∨ p'.2 + 128 ≤ p.2 := by decide +kernel
theorem cells4_un : un (fun p : ℕ × ℕ => hs4 p.1 p.2) (cells 4) = Finset.univ := Finset.eq_univ_iff_forall.mpr fun i => by
  obtain ⟨r, hr, h1, h2⟩ := row_of (i 1).val (i 1).isLt
  exact mem_un.mpr ⟨((i 0).val, r), cells_mem (i 0).isLt hr, Finset.mem_filter.mpr ⟨Finset.mem_univ _, rfl, h1, h2⟩⟩
theorem cells5_un : un (fun p : ℕ × ℕ => hs5 p.1 p.2) (cells 5) = Finset.univ := Finset.eq_univ_iff_forall.mpr fun i => by
  obtain ⟨r, hr, h1, h2⟩ := row_of (i 1).val (i 1).isLt
  exact mem_un.mpr ⟨((i 0).val, r), cells_mem (i 0).isLt hr, Finset.mem_filter.mpr ⟨Finset.mem_univ _, rfl, h1, h2⟩⟩
theorem rows_un : un hs1 [0, 128] = Finset.univ := Finset.eq_univ_iff_forall.mpr fun i => by
  obtain ⟨r, hr, h1, h2⟩ := row_of (i 0).val (i 0).isLt
  exact mem_un.mpr ⟨r, by rcases hr with rfl | rfl <;> simp, Finset.mem_filter.mpr ⟨Finset.mem_univ _, h1, h2⟩⟩
theorem rows_pw : ([0, 128] : List ℕ).Pairwise fun r r' => Disjoint (hs1 r) (hs1 r') := by
  refine List.pairwise_cons.mpr ⟨fun r hr => ?_, List.pairwise_singleton _ _⟩
  rw [List.mem_singleton.mp hr, Finset.disjoint_left]
  intro i h1 h2
  have := (Finset.mem_filter.mp h1).2; have := (Finset.mem_filter.mp h2).2; omega
theorem heads_un : un hdS (List.range 8) = Finset.univ := Finset.eq_univ_iff_forall.mpr fun i =>
  mem_un.mpr ⟨(i 0).val, List.mem_range.mpr (i 0).isLt, Finset.mem_filter.mpr ⟨Finset.mem_univ _, rfl⟩⟩
theorem heads_pw : (List.range 8).Pairwise fun h h' => Disjoint (hdS h) (hdS h') := by
  refine List.Pairwise.imp (R := fun a b => a ≠ b) (fun {a b} hab => ?_) (by decide +kernel)
  rw [Finset.disjoint_left]
  intro i h1 h2
  exact hab ((Finset.mem_filter.mp h1).2.symm.trans (Finset.mem_filter.mp h2).2)

variable (c : Dev nD)

theorem open_xl : (iprop(∃ f, ((c : Thread nD τ).loc cc0_scratch7) ↦{fullShare} f) : sProp 𝕄) ⊢ seqL (fun p : ℕ × ℕ => landK (F := F) .xl c p.1 p.2) (cells 4) := by
  iintro ⟨%f, H⟩
  have e := (pts_list (F := F) (ℓ := (c : Thread nD τ).loc cc0_scratch7) (fun p : ℕ × ℕ => hs4 p.1 p.2) fullShare f (cells 4) (cells4_pw.imp fun h => hs4_disj _ _ _ _ h)).1
  rw [cells4_un] at e
  iapply (e.trans (seqL_mono fun p _ => exists_intro (Φ := fun f : Vec F S4x256x1024 .bf16 => pXL fullShare c p.1 p.2 f) f))
  iexact H
include m in
theorem shut_xl : seqL (fun p : ℕ × ℕ => landK (F := F) .xl c p.1 p.2) (cells 4) ⊢ (iprop(∃ f, ((c : Thread nD τ).loc cc0_scratch7) ↦{fullShare} f) : sProp 𝕄) := by
  have e := pts_join (F := F) (ℓ := (c : Thread nD τ).loc cc0_scratch7) (fun p : ℕ × ℕ => hs4 p.1 p.2) fullShare (m _) (cells 4) (cells4_pw.imp fun h => hs4_disj _ _ _ _ h)
  rw [cells4_un] at e
  exact e

theorem open_xr : (iprop(∃ f, ((c : Thread nD τ).loc cc0_scratch8) ↦{fullShare} f) : sProp 𝕄) ⊢ seqL (fun p : ℕ × ℕ => landK (F := F) .xr c p.1 p.2) (cells 5) := by
  iintro ⟨%f, H⟩
  have e := (pts_list (F := F) (ℓ := (c : Thread nD τ).loc cc0_scratch8) (fun p : ℕ × ℕ => hs5 p.1 p.2) fullShare f (cells 5) (cells5_pw.imp fun h => hs5_disj _ _ _ _ h)).1
  rw [cells5_un] at e
  iapply (e.trans (seqL_mono fun p _ => exists_intro (Φ := fun f : Vec F S5x256x1024 .bf16 => pXR fullShare c p.1 p.2 f) f))
  iexact H
include m in
theorem shut_xr : seqL (fun p : ℕ × ℕ => landK (F := F) .xr c p.1 p.2) (cells 5) ⊢ (iprop(∃ f, ((c : Thread nD τ).loc cc0_scratch8) ↦{fullShare} f) : sProp 𝕄) := by
  have e := pts_join (F := F) (ℓ := (c : Thread nD τ).loc cc0_scratch8) (fun p : ℕ × ℕ => hs5 p.1 p.2) fullShare (m _) (cells 5) (cells5_pw.imp fun h => hs5_disj _ _ _ _ h)
  rw [cells5_un] at e
  exact e

theorem open_a : (iprop(∃ f, ((c : Thread nD τ).loc cc0_scratch9) ↦{fullShare} f) : sProp 𝕄) ⊢ seqL (fun p : ℕ × ℕ => landK (F := F) .a c p.1 p.2) (cells 5) := by
  iintro ⟨%f, H⟩
  have e := (pts_list (F := F) (ℓ := (c : Thread nD τ).loc cc0_scratch9) (fun p : ℕ × ℕ => hs5 p.1 p.2) fullShare f (cells 5) (cells5_pw.imp fun h => hs5_disj _ _ _ _ h)).1
  rw [cells5_un] at e
  iapply (e.trans (seqL_mono fun p _ => exists_intro (Φ := fun f : Vec F S5x256x1024 .bf16 => pA fullShare c p.1 p.2 f) f))
  iexact H
include m in
theorem shut_a : seqL (fun p : ℕ × ℕ => landK (F := F) .a c p.1 p.2) (cells 5) ⊢ (iprop(∃ f, ((c : Thread nD τ).loc cc0_scratch9) ↦{fullShare} f) : sProp 𝕄) := by
  have e := pts_join (F := F) (ℓ := (c : Thread nD τ).loc cc0_scratch9) (fun p : ℕ × ℕ => hs5 p.1 p.2) fullShare (m _) (cells 5) (cells5_pw.imp fun h => hs5_disj _ _ _ _ h)
  rw [cells5_un] at e
  exact e

theorem open_b : (iprop(∃ f, ((c : Thread nD τ).loc cc0_scratch10) ↦{fullShare} f) : sProp 𝕄) ⊢ seqL (fun p : ℕ × ℕ => landK (F := F) .b c p.1 p.2) (cells 4) := by
  iintro ⟨%f, H⟩
  have e := (pts_list (F := F) (ℓ := (c : Thread nD τ).loc cc0_scratch10) (fun p : ℕ × ℕ => hs4 p.1 p.2) fullShare f (cells 4) (cells4_pw.imp fun h => hs4_disj _ _ _ _ h)).1
  rw [cells4_un] at e
  iapply (e.trans (seqL_mono fun p _ => exists_intro (Φ := fun f : Vec F S4x256x1024 .bf16 => pB fullShare c p.1 p.2 f) f))
  iexact H
include m in
theorem shut_b : seqL (fun p : ℕ × ℕ => landK (F := F) .b c p.1 p.2) (cells 4) ⊢ (iprop(∃ f, ((c : Thread nD τ).loc cc0_scratch10) ↦{fullShare} f) : sProp 𝕄) := by
  have e := pts_join (F := F) (ℓ := (c : Thread nD τ).loc cc0_scratch10) (fun p : ℕ × ℕ => hs4 p.1 p.2) fullShare (m _) (cells 4) (cells4_pw.imp fun h => hs4_disj _ _ _ _ h)
  rw [cells4_un] at e
  exact e

/-! ## The heads -/

theorem open_k : (iprop(∃ f, ((c : Thread nD τ).loc cc0_scratch0) ↦{fullShare} f) : sProp 𝕄) ⊢ seqL (fun h => iprop(∃ f, pK (F := F) c h f)) (List.range 8) := by
  iintro ⟨%f, H⟩
  have e := (pts_list (F := F) (ℓ := (c : Thread nD τ).loc cc0_scratch0) hdS fullShare f (List.range 8) heads_pw).1
  rw [heads_un] at e
  iapply (e.trans (seqL_mono fun h _ => exists_intro (Φ := fun f : Vec F S8x2176x128 .f32 => pK c h f) f))
  iexact H
theorem join_k : seqL (fun h => pK c h (KF m c)) (List.range 8) ⊢ (((c : Thread nD τ).loc cc0_scratch0) ↦{fullShare} KF m c : sProp 𝕄) := by
  have e := (pts_list (F := F) (ℓ := (c : Thread nD τ).loc cc0_scratch0) hdS fullShare (KF m c) (List.range 8) heads_pw).2
  rw [heads_un] at e
  exact e

theorem open_v : (iprop(∃ f, ((c : Thread nD τ).loc cc0_scratch1) ↦{fullShare} f) : sProp 𝕄) ⊢ seqL (fun h => iprop(∃ f, pV (F := F) c h f)) (List.range 8) := by
  iintro ⟨%f, H⟩
  have e := (pts_list (F := F) (ℓ := (c : Thread nD τ).loc cc0_scratch1) hdS fullShare f (List.range 8) heads_pw).1
  rw [heads_un] at e
  iapply (e.trans (seqL_mono fun h _ => exists_intro (Φ := fun f : Vec F S8x2176x128 .f32 => pV c h f) f))
  iexact H
theorem join_v : seqL (fun h => pV c h (VF m c)) (List.range 8) ⊢ (((c : Thread nD τ).loc cc0_scratch1) ↦{fullShare} VF m c : sProp 𝕄) := by
  have e := (pts_list (F := F) (ℓ := (c : Thread nD τ).loc cc0_scratch1) hdS fullShare (VF m c) (List.range 8) heads_pw).2
  rw [heads_un] at e
  exact e

/-- What the copies of the heads land in. -/
theorem open_kv : iprop((∃ f, ((c : Thread nD τ).loc cc0_scratch0) ↦{fullShare} f) ∗ (∃ f, ((c : Thread nD τ).loc cc0_scratch1) ↦{fullShare} f))
    ⊢ seqL (kvLand (F := F) c) (kl 0) := by
  have h1 : seqL (fun h => iprop(∃ f, pK (F := F) c h f)) (List.range 8) ⊢ seqL (kvLand (F := F) c) (List.range 8) :=
    seqL_mono fun h hh => by
      unfold kvLand
      rw [if_pos (List.mem_range.mp hh)]
  have h2 : seqL (fun h => iprop(∃ f, pV (F := F) c h f)) (List.range 8) ⊢ seqL (kvLand (F := F) c) ((List.range 8).map (8 + ·)) := by
    rw [seqL_map]
    refine seqL_mono fun h hh => ?_
    unfold kvLand
    rw [if_neg (by omega), show 8 + h - 8 = h by omega]
  exact (Idealize.SL.BI.sep_mono ((open_k c).trans h1) ((open_v c).trans h2)).trans ((seqL_append _ _).2.trans (seqL_perm (by decide +kernel)))

/-- The copied heads make up the keys and the values. -/
theorem join_kf : iprop(kvPay m c 0 ∗ kvPay m c 1 ∗ kvPay m c 2 ∗ kvPay m c 3 ∗ kvPay m c 4 ∗ kvPay m c 5 ∗ kvPay m c 6 ∗ kvPay m c 7)
    ⊢ (((c : Thread nD τ).loc cc0_scratch0) ↦{fullShare} KF m c : sProp 𝕄) := by
  iintro ⟨H0, H1, H2, H3, H4, H5, H6, H7⟩
  iapply (join_k m c)
  iapply (Entails.of_eq (show iprop(kvPay m c 0 ∗ kvPay m c 1 ∗ kvPay m c 2 ∗ kvPay m c 3 ∗ kvPay m c 4 ∗ kvPay m c 5 ∗ kvPay m c 6 ∗ kvPay m c 7 ∗ emp)
    = seqL (fun h => pK c h (KF m c)) (List.range 8) from rfl))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iempintro
theorem join_vf : iprop(kvPay m c 8 ∗ kvPay m c 9 ∗ kvPay m c 10 ∗ kvPay m c 11 ∗ kvPay m c 12 ∗ kvPay m c 13 ∗ kvPay m c 14 ∗ kvPay m c 15)
    ⊢ (((c : Thread nD τ).loc cc0_scratch1) ↦{fullShare} VF m c : sProp 𝕄) := by
  iintro ⟨H0, H1, H2, H3, H4, H5, H6, H7⟩
  iapply (join_v m c)
  iapply (Entails.of_eq (show iprop(kvPay m c 8 ∗ kvPay m c 9 ∗ kvPay m c 10 ∗ kvPay m c 11 ∗ kvPay m c 12 ∗ kvPay m c 13 ∗ kvPay m c 14 ∗ kvPay m c 15 ∗ emp)
    = seqL (fun h => pV c h (VF m c)) (List.range 8) from rfl))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iempintro

/-! ## The device's own rows -/

/-- Two parts of one share of both halves travel, the other share is for the loads. -/
theorem split_x (f : Vec F S256x1024 .bf16) : (((c : Thread nD τ).loc cc0_scratch4) ↦{fullShare} f : sProp 𝕄)
    ⊣⊢ iprop(((pX qS.left c 0 f ∗ pX qS.right c 0 f) ∗ (pX qS.left c 128 f ∗ pX qS.right c 128 f) ∗ emp)
      ∗ ((c : Thread nD τ).loc cc0_scratch4) ↦{fullShare.right} f) := by
  have e0 : (((c : Thread nD τ).loc cc0_scratch4) ↦{fullShare} f : sProp 𝕄) ⊣⊢ _ := pointsTo_share (PosShare.mem_left_op_right fullShare)
  have e1 := pts_list (F := F) (ℓ := (c : Thread nD τ).loc cc0_scratch4) hs1 qS f [0, 128] rows_pw
  rw [rows_un] at e1
  have e2 (r : ℕ) : pX qS c r f ⊣⊢ iprop(pX qS.left c r f ∗ pX qS.right c r f) := pointsTo_share (PosShare.mem_left_op_right qS)
  exact ⟨e0.1.trans (sep_mono_left (e1.1.trans (Idealize.SL.BI.sep_mono (e2 0).1 (sep_mono_left (e2 128).1)))),
    (sep_mono_left ((Idealize.SL.BI.sep_mono (e2 0).2 (sep_mono_left (e2 128).2)).trans e1.2)).trans e0.2⟩

/-! ## Where the links land, and what they read -/

def key (n : ℕ) : Kind × ℕ × ℕ := (kind n, slot n, row n)
def key' (n : ℕ) : Kind × ℕ × ℕ := (kind n, slot n - 1, row n)
def pc (x : Kind × ℕ × ℕ) : sProp 𝕄 := landK (F := F) x.1 c x.2.1 x.2.2
def allc : List (Kind × ℕ × ℕ) :=
  (cells 4).map (fun p => (Kind.xl, p)) ++ ((cells 5).map (fun p => (Kind.xr, p)) ++ ((cells 5).map (fun p => (Kind.a, p)) ++ (cells 4).map (fun p => (Kind.b, p))))
/-- No link lands in the first slots; no link reads the last. -/
def first : List (Kind × ℕ × ℕ) := [(.xl, 0, 0), (.xl, 0, 128), (.xr, 0, 0), (.xr, 0, 128), (.a, 0, 0), (.a, 0, 128), (.b, 0, 0), (.b, 0, 128)]
def last : List (Kind × ℕ × ℕ) := [(.xl, 0, 0), (.xl, 0, 128), (.xr, 0, 0), (.xr, 0, 128), (.xl, 3, 0), (.xl, 3, 128), (.xr, 4, 0), (.xr, 4, 128),
  (.a, 4, 0), (.a, 4, 128), (.b, 3, 0), (.b, 3, 128)]

def four : sProp 𝕄 :=
  iprop((∃ f, ((c : Thread nD τ).loc cc0_scratch7) ↦{fullShare} f) ∗ (∃ f, ((c : Thread nD τ).loc cc0_scratch8) ↦{fullShare} f)
    ∗ (∃ f, ((c : Thread nD τ).loc cc0_scratch9) ↦{fullShare} f) ∗ (∃ f, ((c : Thread nD τ).loc cc0_scratch10) ↦{fullShare} f))

theorem seqL_pc (k : Kind) (l : List (ℕ × ℕ)) : seqL (pc (F := F) c) (l.map fun p => (k, p)) = seqL (fun p => landK (F := F) k c p.1 p.2) l := seqL_map (fun p => (k, p)) l
theorem open_four : four (F := F) c ⊢ seqL (pc (F := F) c) allc := by
  unfold four allc
  refine (Idealize.SL.BI.sep_mono (open_xl c) (Idealize.SL.BI.sep_mono (open_xr c) (Idealize.SL.BI.sep_mono (open_a c) (open_b c)))).trans ?_
  rw [← seqL_pc, ← seqL_pc, ← seqL_pc, ← seqL_pc]
  exact (sep_mono_right (sep_mono_right (seqL_append _ _).2)).trans ((sep_mono_right (seqL_append _ _).2).trans (seqL_append _ _).2)
include m in
theorem shut_four : seqL (pc (F := F) c) allc ⊢ four (F := F) c := by
  unfold four allc
  refine BI.Entails.trans ?_ (Idealize.SL.BI.sep_mono (shut_xl m c) (Idealize.SL.BI.sep_mono (shut_xr m c) (Idealize.SL.BI.sep_mono (shut_a m c) (shut_b m c))))
  rw [← seqL_pc, ← seqL_pc, ← seqL_pc, ← seqL_pc]
  exact (seqL_append _ _).1.trans ((sep_mono_right (seqL_append _ _).1).trans (sep_mono_right (sep_mono_right (seqL_append _ _).1)))

/-- At the start: what the neighbours' links land in, and the first slots. -/
theorem open_lands : four (F := F) c ⊢ iprop(seqL (land (F := F) c) toR ∗ seqL (land (F := F) c) toL ∗ seqL (pc (F := F) c) first) := by
  refine (open_four c).trans ((seqL_perm (l' := toR.map key ++ (toL.map key ++ first)) (by decide +kernel)).trans ?_)
  refine (seqL_append _ _).1.trans ?_
  rw [seqL_map]
  refine sep_mono_right ((seqL_append _ _).1.trans ?_)
  rw [seqL_map]
  exact BI.Entails.refl _

/-- What stays behind of the source of a link, and both together again. -/
def keepK (k : Kind) (t r : ℕ) : sProp 𝕄 :=
  match k, t with
  | .xl, 0 => iprop(emp)
  | .xr, 0 => iprop(emp)
  | .xl, t + 1 => pXL qK c (t + 1) r (XL m c)
  | .xr, t + 1 => pXR qK c (t + 1) r (XR m c)
  | .a, t => pA qK c t r (AO m c)
  | .b, t => pB qK c t r (BO m c)
def keep (n : ℕ) : sProp 𝕄 := keepK m c (kind n) (slot n - 1) (row n)
def backK (k : Kind) (t r : ℕ) : sProp 𝕄 :=
  match k, t with
  | .xl, 0 => pX qS.left c r (XB m c)
  | .xr, 0 => pX qS.right c r (XB m c)
  | k, t => landK (F := F) k c t r
def back (n : ℕ) : sProp 𝕄 := backK m c (kind n) (slot n - 1) (row n)

theorem back_of (k : Kind) (t r : ℕ) : iprop(outK m k c t r ∗ keepK m c k t r) ⊢ backK m c k t r := by
  match k, t with
  | .xl, 0 => exact Idealize.SL.BI.sep_emp.1
  | .xr, 0 => exact Idealize.SL.BI.sep_emp.1
  | .xl, t + 1 => exact (halve_xl c (t + 1) r (XL m c)).2.trans (exists_intro (Φ := fun f : Vec F S4x256x1024 .bf16 => pXL fullShare c (t + 1) r f) _)
  | .xr, t + 1 => exact (halve_xr c (t + 1) r (XR m c)).2.trans (exists_intro (Φ := fun f : Vec F S5x256x1024 .bf16 => pXR fullShare c (t + 1) r f) _)
  | .a, t => exact (halve_a c t r (AO m c)).2.trans (exists_intro (Φ := fun f : Vec F S5x256x1024 .bf16 => pA fullShare c t r f) _)
  | .b, t => exact (halve_b c t r (BO m c)).2.trans (exists_intro (Φ := fun f : Vec F S4x256x1024 .bf16 => pB fullShare c t r f) _)

theorem back_pc : ∀ n ∈ List.range' 4 24, back m c n ⊢ pc (F := F) c (key' n) := by
  intro n hn
  have h : ∀ n ∈ List.range' 4 24, ∀ P : Kind → ℕ → ℕ → Prop, (∀ k t r, (k = .xl → t ≠ 0) → (k = .xr → t ≠ 0) → P k t r) → P (kind n) (slot n - 1) (row n) := by
    intro n hn P hP
    have : ∀ n ∈ List.range' 4 24, (kind n = .xl → slot n - 1 ≠ 0) ∧ (kind n = .xr → slot n - 1 ≠ 0) := by decide +kernel
    exact hP _ _ _ (this n hn).1 (this n hn).2
  refine h n hn (fun k t r => backK m c k t r ⊢ pc (F := F) c (k, t, r)) fun k t r h1 h2 => ?_
  match k, t with
  | .xl, 0 => exact absurd rfl (h1 rfl)
  | .xr, 0 => exact absurd rfl (h2 rfl)
  | .xl, t + 1 => exact BI.Entails.refl _
  | .xr, t + 1 => exact BI.Entails.refl _
  | .a, t => exact BI.Entails.refl _
  | .b, t => exact BI.Entails.refl _

/-- At the end: the sources of the links, what stayed behind of them, and the other slots make up the buffers. -/
theorem shut_all : iprop(seqL (sendPay m c) (up 28) ∗ seqL (keep m c) (up 28) ∗ seqL (pc (F := F) c) last ∗ ((c : Thread nD τ).loc cc0_scratch4) ↦{fullShare.right} XB m c)
    ⊢ iprop((((c : Thread nD τ).loc cc0_scratch4) ↦{fullShare} XB m c) ∗ four (F := F) c) := by
  iintro ⟨HS, HK, HL, HX⟩
  ihave HB := (((seqL_sep (Φ := sendPay m c) (Ψ := keep m c) (up 28)).2.trans (seqL_mono (Ψ := back m c) fun n _ => back_of m c (kind n) (slot n - 1) (row n))).trans
    ((seqL_perm (l' := [0, 1, 2, 3] ++ List.range' 4 24) (by decide +kernel)).trans (seqL_append _ _).1)) $$ [HS HK]
  · isplitl [HS]; · iexact HS
    iexact HK
  icases HB with ⟨HA, HB⟩
  ihave HB := ((seqL_mono (back_pc m c)).trans (Entails.of_eq (seqL_map (Φ := pc (F := F) c) key' (List.range' 4 24)).symm)) $$ HB
  isplitl [HA HX]
  · ihave HA := (Entails.of_eq (show seqL (back m c) [0, 1, 2, 3] = iprop(pX qS.left c 0 (XB m c) ∗ pX qS.right c 0 (XB m c) ∗ pX qS.left c 128 (XB m c) ∗ pX qS.right c 128 (XB m c) ∗ emp) from rfl)) $$ HA
    icases HA with ⟨H1, H2, H3, H4, -⟩
    iapply ((split_x c (XB m c)).2)
    isplitr [HX]
    · isplitl [H1 H2]
      · isplitl [H1]; · iexact H1
        iexact H2
      isplitl [H3 H4]
      · isplitl [H3]; · iexact H3
        iexact H4
      iempintro
    iexact HX
  · iapply (((seqL_append ((List.range' 4 24).map key') last).2.trans (seqL_perm (by decide +kernel))).trans (shut_four m c))
    isplitl [HB]; · iexact HB
    iexact HL

end Cert.KernelIdeal.Run
-- ==== Proof.KI.PartsA.lean ====
module

public import proofs.«01_k».proof.Proof.KI.Ends

/-! The steps of the body up to the first contribution: the copies of the heads, the barrier, and the exchange of the inputs. -/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! The devices the links go to, and where the heads of a device lie in the arrays. -/

theorem dev0 : ∀ c : Dev nD, (⟨k0_dev3 c, k0_dev3_lt c⟩ : Dev nD) = peer 0 c := by decide +kernel
theorem dev1 : ∀ c : Dev nD, (⟨k0_dev4 c, k0_dev4_lt c⟩ : Dev nD) = peer 1 c := by decide +kernel
theorem dev2 : ∀ c : Dev nD, (⟨k0_dev5 c, k0_dev5_lt c⟩ : Dev nD) = peer 2 c := by decide +kernel
theorem dev3 : ∀ c : Dev nD, (⟨k0_dev6 c, k0_dev6_lt c⟩ : Dev nD) = peer 3 c := by decide +kernel
theorem dev4 : ∀ c : Dev nD, (⟨k0_dev7 c, k0_dev7_lt c⟩ : Dev nD) = peer 4 c := by decide +kernel
theorem dev5 : ∀ c : Dev nD, (⟨k0_dev8 c, k0_dev8_lt c⟩ : Dev nD) = peer 5 c := by decide +kernel
theorem dev6 : ∀ c : Dev nD, (⟨k0_dev9 c, k0_dev9_lt c⟩ : Dev nD) = peer 6 c := by decide +kernel
theorem dev7 : ∀ c : Dev nD, (⟨k0_dev10 c, k0_dev10_lt c⟩ : Dev nD) = peer 7 c := by decide +kernel
theorem dev8 : ∀ c : Dev nD, (⟨k0_dev11 c, k0_dev11_lt c⟩ : Dev nD) = peer 8 c := by decide +kernel
theorem dev9 : ∀ c : Dev nD, (⟨k0_dev12 c, k0_dev12_lt c⟩ : Dev nD) = peer 9 c := by decide +kernel
theorem dev10 : ∀ c : Dev nD, (⟨k0_dev13 c, k0_dev13_lt c⟩ : Dev nD) = peer 10 c := by decide +kernel
theorem dev11 : ∀ c : Dev nD, (⟨k0_dev14 c, k0_dev14_lt c⟩ : Dev nD) = peer 11 c := by decide +kernel
theorem dev12 : ∀ c : Dev nD, (⟨k0_dev15 c, k0_dev15_lt c⟩ : Dev nD) = peer 12 c := by decide +kernel
theorem dev13 : ∀ c : Dev nD, (⟨k0_dev16 c, k0_dev16_lt c⟩ : Dev nD) = peer 13 c := by decide +kernel
theorem dev14 : ∀ c : Dev nD, (⟨k0_dev17 c, k0_dev17_lt c⟩ : Dev nD) = peer 14 c := by decide +kernel
theorem dev15 : ∀ c : Dev nD, (⟨k0_dev18 c, k0_dev18_lt c⟩ : Dev nD) = peer 15 c := by decide +kernel
theorem dev16 : ∀ c : Dev nD, (⟨k0_dev19 c, k0_dev19_lt c⟩ : Dev nD) = peer 16 c := by decide +kernel
theorem dev17 : ∀ c : Dev nD, (⟨k0_dev20 c, k0_dev20_lt c⟩ : Dev nD) = peer 17 c := by decide +kernel
theorem dev18 : ∀ c : Dev nD, (⟨k0_dev21 c, k0_dev21_lt c⟩ : Dev nD) = peer 18 c := by decide +kernel
theorem dev19 : ∀ c : Dev nD, (⟨k0_dev22 c, k0_dev22_lt c⟩ : Dev nD) = peer 19 c := by decide +kernel
theorem dev20 : ∀ c : Dev nD, (⟨k0_dev23 c, k0_dev23_lt c⟩ : Dev nD) = peer 20 c := by decide +kernel
theorem dev21 : ∀ c : Dev nD, (⟨k0_dev24 c, k0_dev24_lt c⟩ : Dev nD) = peer 21 c := by decide +kernel
theorem dev22 : ∀ c : Dev nD, (⟨k0_dev25 c, k0_dev25_lt c⟩ : Dev nD) = peer 22 c := by decide +kernel
theorem dev23 : ∀ c : Dev nD, (⟨k0_dev26 c, k0_dev26_lt c⟩ : Dev nD) = peer 23 c := by decide +kernel
theorem dev24 : ∀ c : Dev nD, (⟨k0_dev27 c, k0_dev27_lt c⟩ : Dev nD) = peer 24 c := by decide +kernel
theorem dev25 : ∀ c : Dev nD, (⟨k0_dev28 c, k0_dev28_lt c⟩ : Dev nD) = peer 25 c := by decide +kernel
theorem dev26 : ∀ c : Dev nD, (⟨k0_dev29 c, k0_dev29_lt c⟩ : Dev nD) = peer 26 c := by decide +kernel
theorem dev27 : ∀ c : Dev nD, (⟨k0_dev30 c, k0_dev30_lt c⟩ : Dev nD) = peer 27 c := by decide +kernel

theorem off1 : ∀ (c : Dev nD) (j : Fin 8), k0_off1 c (BitVec.ofNat 32 j.val) = ![0, 0, 8 * c.val + j.val, 0] := by decide +kernel

theorem sub4 (t : ℕ) (hin) : (Memref.whole cc0_scratch10 : Memref sig .tc .vmem S4x256x1024 .bf16).view.setOn (Rect.unit (s := S4x256x1024) ![t, 0, 0] S1x256x1024.size hin).toLoadRect.set ⊆ hs4 t 0 ∪ hs4 t 128 :=
  (Finset.Subset.antisymm_iff.mp ((View.set_slice (View.whole cc0_scratch10) (Rect.unit (s := S4x256x1024) ![t, 0, 0] S1x256x1024.size hin)).symm.trans ((View.set_slice_whole _ _).trans (sl4_rect t hin)))).1
theorem sub5 (t : ℕ) (hin) : (Memref.whole cc0_scratch9 : Memref sig .tc .vmem S5x256x1024 .bf16).view.setOn (Rect.unit (s := S5x256x1024) ![t, 0, 0] S1x256x1024.size hin).toLoadRect.set ⊆ hs5 t 0 ∪ hs5 t 128 :=
  (Finset.Subset.antisymm_iff.mp ((View.set_slice (View.whole cc0_scratch9) (Rect.unit (s := S5x256x1024) ![t, 0, 0] S1x256x1024.size hin)).symm.trans ((View.set_slice_whole _ _).trans (sl5_rect t hin)))).1

variable (K : Dev nD × Fin 73 → ℕ) (c : Dev nD)

theorem part1   {α : Type} {Q : α → sProp 𝕄} {k : _ → Prog (TpuEff nD τ sig (Elt F) Λ₀ .tc) α} :
    iprop(KV m K c (kl 0) (kg 0) [] ∗ arrP m c true fullShare ∗ arrP m c false fullShare)
      ⊢ iprop(((arrP m c true fullShare.right ∗ KV m K c (kl 2) (kg 2) [] ∗ arrP m c false fullShare.right) -∗ WPc c (k ⟨c, (Scalar.remsi (Scalar.divsi (Dev.word c) 1#32) 8#32), (Scalar.remsi (Scalar.addi (Scalar.remsi (Scalar.divsi (Dev.word c) 1#32) 8#32) 1#32) 8#32), (Scalar.remsi (Scalar.subi (Scalar.addi (Scalar.remsi (Scalar.divsi (Dev.word c) 1#32) 8#32) 8#32) 1#32) 8#32), (Scalar.muli 8#32 (Scalar.remsi (Scalar.divsi (Dev.word c) 1#32) 8#32))⟩) Q)
        -∗ WPc c (onArgs (k0_part1 (F := F))  >>= k) Q) := by
  rw [k0_part1_eq_skeleton]; unfold onArgs k0_part1_skel
  simp only [semSignalWord, semWaitWord, Prog.lift, Prog.bind_op, Prog.bind_ret, Prog.pure_eq_ret, wp_deviceId]
  iintro ⟨HKV, Harrt, Harrf⟩ Hk
  iapply (copy_K m K c 0 (A := kl 1) (B := kg 0) (C := []) (off1 c 0) rfl) $$ [HKV Harrt]
  · isplitl [HKV]; · iexact HKV
    iexact Harrt
  iintro ⟨HKV, Harrt⟩
  iapply (copy_V m K c 0 (A := kl 2) (B := kg 1) (C := []) (off1 c 0) rfl) $$ [HKV Harrf]
  · isplitl [HKV]; · iexact HKV
    iexact Harrf
  iintro ⟨HKV, Harrf⟩
  iapply Hk
  isplitl [Harrt]; · iexact Harrt
  isplitl [HKV]; · iexact HKV
  iexact Harrf

theorem part2 (v8 : BitVec 32)  {α : Type} {Q : α → sProp 𝕄} {k : _ → Prog (TpuEff nD τ sig (Elt F) Λ₀ .tc) α} :
    iprop(KV m K c (kl 2) (kg 2) [] ∗ arrP m c true fullShare.right ∗ arrP m c false fullShare.right)
      ⊢ iprop(((arrP m c true fullShare.right.right.right ∗ KV m K c (kl 6) (kg 6) [] ∗ arrP m c false fullShare.right.right.right) -∗ WPc c (k ⟨⟩) Q)
        -∗ WPc c (onArgs (k0_part2 (F := F)) c v8 >>= k) Q) := by
  rw [k0_part2_eq_skeleton]; unfold onArgs k0_part2_skel
  simp only [semSignalWord, semWaitWord, Prog.lift, Prog.bind_op, Prog.bind_ret, Prog.pure_eq_ret, wp_deviceId]
  iintro ⟨HKV, Harrt, Harrf⟩ Hk
  iapply (copy_K m K c 1 (A := kl 3) (B := kg 2) (C := []) (off1 c 1) rfl) $$ [HKV Harrt]
  · isplitl [HKV]; · iexact HKV
    iexact Harrt
  iintro ⟨HKV, Harrt⟩
  iapply (copy_V m K c 1 (A := kl 4) (B := kg 3) (C := []) (off1 c 1) rfl) $$ [HKV Harrf]
  · isplitl [HKV]; · iexact HKV
    iexact Harrf
  iintro ⟨HKV, Harrf⟩
  iapply (copy_K m K c 2 (A := kl 5) (B := kg 4) (C := []) (off1 c 2) rfl) $$ [HKV Harrt]
  · isplitl [HKV]; · iexact HKV
    iexact Harrt
  iintro ⟨HKV, Harrt⟩
  iapply (copy_V m K c 2 (A := kl 6) (B := kg 5) (C := []) (off1 c 2) rfl) $$ [HKV Harrf]
  · isplitl [HKV]; · iexact HKV
    iexact Harrf
  iintro ⟨HKV, Harrf⟩
  iapply Hk
  isplitl [Harrt]; · iexact Harrt
  isplitl [HKV]; · iexact HKV
  iexact Harrf

theorem part3 (v8 : BitVec 32)  {α : Type} {Q : α → sProp 𝕄} {k : _ → Prog (TpuEff nD τ sig (Elt F) Λ₀ .tc) α} :
    iprop(KV m K c (kl 6) (kg 6) [] ∗ arrP m c true fullShare.right.right.right ∗ arrP m c false fullShare.right.right.right)
      ⊢ iprop(((arrP m c true fullShare.right.right.right.right.right ∗ KV m K c (kl 10) (kg 10) [] ∗ arrP m c false fullShare.right.right.right.right.right) -∗ WPc c (k ⟨⟩) Q)
        -∗ WPc c (onArgs (k0_part3 (F := F)) c v8 >>= k) Q) := by
  rw [k0_part3_eq_skeleton]; unfold onArgs k0_part3_skel
  simp only [semSignalWord, semWaitWord, Prog.lift, Prog.bind_op, Prog.bind_ret, Prog.pure_eq_ret, wp_deviceId]
  iintro ⟨HKV, Harrt, Harrf⟩ Hk
  iapply (copy_K m K c 3 (A := kl 7) (B := kg 6) (C := []) (off1 c 3) rfl) $$ [HKV Harrt]
  · isplitl [HKV]; · iexact HKV
    iexact Harrt
  iintro ⟨HKV, Harrt⟩
  iapply (copy_V m K c 3 (A := kl 8) (B := kg 7) (C := []) (off1 c 3) rfl) $$ [HKV Harrf]
  · isplitl [HKV]; · iexact HKV
    iexact Harrf
  iintro ⟨HKV, Harrf⟩
  iapply (copy_K m K c 4 (A := kl 9) (B := kg 8) (C := []) (off1 c 4) rfl) $$ [HKV Harrt]
  · isplitl [HKV]; · iexact HKV
    iexact Harrt
  iintro ⟨HKV, Harrt⟩
  iapply (copy_V m K c 4 (A := kl 10) (B := kg 9) (C := []) (off1 c 4) rfl) $$ [HKV Harrf]
  · isplitl [HKV]; · iexact HKV
    iexact Harrf
  iintro ⟨HKV, Harrf⟩
  iapply Hk
  isplitl [Harrt]; · iexact Harrt
  isplitl [HKV]; · iexact HKV
  iexact Harrf

theorem part4 (v8 : BitVec 32)  {α : Type} {Q : α → sProp 𝕄} {k : _ → Prog (TpuEff nD τ sig (Elt F) Λ₀ .tc) α} :
    iprop(KV m K c (kl 10) (kg 10) [] ∗ arrP m c true fullShare.right.right.right.right.right ∗ arrP m c false fullShare.right.right.right.right.right)
      ⊢ iprop(((arrP m c false fullShare.right.right.right.right.right.right ∗ KV m K c (kl 13) (kg 13) [] ∗ arrP m c true fullShare.right.right.right.right.right.right.right) -∗ WPc c (k ⟨⟩) Q)
        -∗ WPc c (onArgs (k0_part4 (F := F)) c v8 >>= k) Q) := by
  rw [k0_part4_eq_skeleton]; unfold onArgs k0_part4_skel
  simp only [semSignalWord, semWaitWord, Prog.lift, Prog.bind_op, Prog.bind_ret, Prog.pure_eq_ret, wp_deviceId]
  iintro ⟨HKV, Harrt, Harrf⟩ Hk
  iapply (copy_K m K c 5 (A := kl 11) (B := kg 10) (C := []) (off1 c 5) rfl) $$ [HKV Harrt]
  · isplitl [HKV]; · iexact HKV
    iexact Harrt
  iintro ⟨HKV, Harrt⟩
  iapply (copy_V m K c 5 (A := kl 12) (B := kg 11) (C := []) (off1 c 5) rfl) $$ [HKV Harrf]
  · isplitl [HKV]; · iexact HKV
    iexact Harrf
  iintro ⟨HKV, Harrf⟩
  iapply (copy_K m K c 6 (A := kl 13) (B := kg 12) (C := []) (off1 c 6) rfl) $$ [HKV Harrt]
  · isplitl [HKV]; · iexact HKV
    iexact Harrt
  iintro ⟨HKV, Harrt⟩
  iapply Hk
  isplitl [Harrf]; · iexact Harrf
  isplitl [HKV]; · iexact HKV
  iexact Harrt

theorem part5 (v4 : BitVec 32) (v7 : BitVec 32) (v8 : BitVec 32)  {α : Type} {Q : α → sProp 𝕄} {k : _ → Prog (TpuEff nD τ sig (Elt F) Λ₀ .tc) α} :
    iprop(KV m K c (kl 13) (kg 13) [] ∗ arrP m c false fullShare.right.right.right.right.right.right ∗ arrP m c true fullShare.right.right.right.right.right.right.right ∗ (((c : Thread nD τ).loc cc0_stg0_0) ↦{fullShare} xstg m c) ∗ (∃ f, (((c : Thread nD τ).loc cc0_scratch4) ↦{fullShare} f)) ∗ B0 m K c)
      ⊢ iprop(((arrP m c true fullShare.right.right.right.right.right.right.right.right ∗ KV m K c (kl 16) (kg 16) [] ∗ arrP m c false fullShare.right.right.right.right.right.right.right.right ∗ (((c : Thread nD τ).loc cc0_stg0_0) ↦{fullShare} xstg m c) ∗ (((c : Thread nD τ).loc cc0_scratch4) ↦{fullShare} XB m c) ∗ B2 m K c) -∗ WPc c (k (SemArray.scalar (sig.barrier 0 rfl))) Q)
        -∗ WPc c (onArgs (k0_part5 (F := F)) c v4 v7 v8 >>= k) Q) := by
  rw [k0_part5_eq_skeleton]; unfold onArgs k0_part5_skel
  simp only [semSignalWord, semWaitWord, Prog.lift, Prog.bind_op, Prog.bind_ret, Prog.pure_eq_ret, wp_deviceId]
  iintro ⟨HKV, Harrf, Harrt, Hw_arg0_, Hw0_arg10, HS⟩ Hk
  iapply (copy_V m K c 6 (A := kl 14) (B := kg 13) (C := []) (off1 c 6) rfl) $$ [HKV Harrf]
  · isplitl [HKV]; · iexact HKV
    iexact Harrf
  iintro ⟨HKV, Harrf⟩
  iapply (copy_K m K c 7 (A := kl 15) (B := kg 14) (C := []) (off1 c 7) rfl) $$ [HKV Harrt]
  · isplitl [HKV]; · iexact HKV
    iexact Harrt
  iintro ⟨HKV, Harrt⟩
  iapply (copy_V m K c 7 (A := kl 16) (B := kg 15) (C := []) (off1 c 7) rfl) $$ [HKV Harrf]
  · isplitl [HKV]; · iexact HKV
    iexact Harrf
  iintro ⟨HKV, Harrf⟩
  iapply (ld c (mm := (Memref.whole cc0_stg0_0 : Memref sig .tc .vmem S256x1024 .f32)) (f := xstg m c) (Finset.subset_univ _) (Memref.readAt_unit_zero (Elt F) cc0_stg0_0 z2 _ (xstg m c))) $$ Hw_arg0_
  iintro Hw_arg0_
  icases Hw0_arg10 with ⟨%farg10, Hw0_arg10⟩
  iapply (ld c (mm := (Memref.whole cc0_scratch4 : Memref sig .tc .vmem S256x1024 .bf16)) (f := farg10) (Finset.subset_univ _) (Memref.readAt_unit_zero (Elt F) cc0_scratch4 z2 _ farg10)) $$ Hw0_arg10
  iintro Hw0_arg10
  iapply (st c (mm := (Memref.whole cc0_scratch4 : Memref sig .tc .vmem S256x1024 .bf16)) (r := Rect.unit (s := S256x1024) ![0, 0] S256x1024.size inb_S256x1024_S256x1024_0_0) (f := farg10) (g := XB m c) (Finset.subset_univ _) (fun i _ => congrFun ((Memref.write_access_unit_zero_univ (Elt F) cc0_scratch4 z2 _ farg10 _).trans (rfl)) i)) $$ Hw0_arg10
  iintro Hw_arg10_
  iapply (signal_left m K c (dev1_eq c) rfl) $$ HS
  iintro HS
  iapply (signal_right m K c (dev2_eq c) rfl) $$ HS
  iintro HS
  iapply Hk
  isplitl [Harrt]; · iexact Harrt
  isplitl [HKV]; · iexact HKV
  isplitl [Harrf]; · iexact Harrf
  isplitl [Hw_arg0_]; · iexact Hw_arg0_
  isplitl [Hw_arg10_]; · iexact Hw_arg10_
  iexact HS

theorem part6 (v4 : BitVec 32) (v7 : BitVec 32) (v127 : Sems sig S_) (hb : v127.sem = barS) {α : Type} {Q : α → sProp 𝕄} {k : _ → Prog (TpuEff nD τ sig (Elt F) Λ₀ .tc) α} :
    iprop(B2 m K c ∗ pX qS.left c 0 (XB m c) ∗ pX qS.right c 0 (XB m c) ∗ pX qS.left c 128 (XB m c))
      ⊢ iprop(((semVal (barCell c) 0 ∗ Sq m K c 3 0) -∗ WPc c (k ⟨⟩) Q)
        -∗ WPc c (onArgs (k0_part6 (F := F)) c v4 v7 v127 >>= k) Q) := by
  rw [k0_part6_eq_skeleton]; unfold onArgs k0_part6_skel
  simp only [semSignalWord, semWaitWord, Prog.lift, Prog.bind_op, Prog.bind_ret, Prog.pure_eq_ret, wp_deviceId]
  iintro ⟨HS, HXl0, HXr0, HXl128⟩ Hk
  iapply (wait_bar m K c hb) $$ HS
  iintro ⟨HS, Hbar⟩
  iapply (go_xl0 m K c 0 0 (by decide) rfl rfl rfl (by decide) (dev0 c) rfl rfl) $$ [HS HXl0]
  · isplitl [HS]; · iexact HS
    iexact HXl0
  iintro HS
  iapply (go_xr0 m K c 1 0 (by decide) rfl rfl rfl (by decide) (dev1 c) rfl rfl) $$ [HS HXr0]
  · isplitl [HS]; · iexact HS
    iexact HXr0
  iintro HS
  iapply (go_xl0 m K c 2 128 (by decide) rfl rfl rfl (by decide) (dev2 c) rfl rfl) $$ [HS HXl128]
  · isplitl [HS]; · iexact HS
    iexact HXl128
  iintro HS
  iapply Hk
  isplitl [Hbar]; · iexact Hbar
  iexact HS

theorem part7 (v4 : BitVec 32) (v7 : BitVec 32)  {α : Type} {Q : α → sProp 𝕄} {k : _ → Prog (TpuEff nD τ sig (Elt F) Λ₀ .tc) α} :
    iprop(Sq m K c 3 0 ∗ pX qS.right c 128 (XB m c))
      ⊢ iprop(((pXL qK c 1 0 (XL m c) ∗ Sq m K c 5 1) -∗ WPc c (k ⟨⟩) Q)
        -∗ WPc c (onArgs (k0_part7 (F := F)) c v4 v7 >>= k) Q) := by
  rw [k0_part7_eq_skeleton]; unfold onArgs k0_part7_skel
  simp only [semSignalWord, semWaitWord, Prog.lift, Prog.bind_op, Prog.bind_ret, Prog.pure_eq_ret, wp_deviceId]
  iintro ⟨HS, HXr128⟩ Hk
  iapply (go_xr0 m K c 3 128 (by decide) rfl rfl rfl (by decide) (dev3 c) rfl rfl) $$ [HS HXr128]
  · isplitl [HS]; · iexact HS
    iexact HXr128
  iintro HS
  iapply (await_xl m K c 4 0 0 1 0 (by decide) rfl (by decide) rfl rfl rfl rfl) $$ HS
  iintro ⟨HS, Hxl1_0S, Hxl1_0K⟩
  iapply (go_xl m K c 4 1 0 (by decide) (by decide) (by decide) rfl rfl rfl (by decide) (dev4 c) rfl rfl) $$ [HS Hxl1_0S]
  · isplitl [HS]; · iexact HS
    iexact Hxl1_0S
  iintro HS
  iapply Hk
  isplitl [Hxl1_0K]; · iexact Hxl1_0K
  iexact HS

theorem part8 (v4 : BitVec 32) (v7 : BitVec 32)  {α : Type} {Q : α → sProp 𝕄} {k : _ → Prog (TpuEff nD τ sig (Elt F) Λ₀ .tc) α} :
    iprop(Sq m K c 5 1)
      ⊢ iprop(((pXR qK c 1 0 (XR m c) ∗ Sq m K c 6 3 ∗ pXL qS c 1 128 (XL m c) ∗ pXL qK c 1 128 (XL m c)) -∗ WPc c (k ⟨⟩) Q)
        -∗ WPc c (onArgs (k0_part8 (F := F)) c v4 v7 >>= k) Q) := by
  rw [k0_part8_eq_skeleton]; unfold onArgs k0_part8_skel
  simp only [semSignalWord, semWaitWord, Prog.lift, Prog.bind_op, Prog.bind_ret, Prog.pure_eq_ret, wp_deviceId]
  iintro HS Hk
  iapply (await_xr m K c 5 1 1 1 0 (by decide) rfl (by decide) rfl rfl rfl rfl) $$ HS
  iintro ⟨HS, Hxr1_0S, Hxr1_0K⟩
  iapply (go_xr m K c 5 1 0 (by decide) (by decide) (by decide) rfl rfl rfl (by decide) (dev5 c) rfl rfl) $$ [HS Hxr1_0S]
  · isplitl [HS]; · iexact HS
    iexact Hxr1_0S
  iintro HS
  iapply (await_xl m K c 6 2 2 1 128 (by decide) rfl (by decide) rfl rfl rfl rfl) $$ HS
  iintro ⟨HS, Hxl1_128S, Hxl1_128K⟩
  iapply Hk
  isplitl [Hxr1_0K]; · iexact Hxr1_0K
  isplitl [HS]; · iexact HS
  isplitl [Hxl1_128S]; · iexact Hxl1_128S
  iexact Hxl1_128K

theorem part9 (v4 : BitVec 32) (v7 : BitVec 32)  {α : Type} {Q : α → sProp 𝕄} {k : _ → Prog (TpuEff nD τ sig (Elt F) Λ₀ .tc) α} :
    iprop(Sq m K c 6 3 ∗ pXL qS c 1 128 (XL m c) ∗ (((c : Thread nD τ).loc cc0_stg1_0) ↦{fullShare} wqstg m c))
      ⊢ iprop(((pXR qK c 1 128 (XR m c) ∗ Sq m K c 8 4 ∗ (((c : Thread nD τ).loc cc0_stg1_0) ↦{fullShare} wqstg m c)) -∗ WPc c (k (wqstg m c)) Q)
        -∗ WPc c (onArgs (k0_part9 (F := F)) c v4 v7 >>= k) Q) := by
  rw [k0_part9_eq_skeleton]; unfold onArgs k0_part9_skel
  simp only [semSignalWord, semWaitWord, Prog.lift, Prog.bind_op, Prog.bind_ret, Prog.pure_eq_ret, wp_deviceId]
  iintro ⟨HS, Hxl1_128S, Hw_arg1_⟩ Hk
  iapply (go_xl m K c 6 1 128 (by decide) (by decide) (by decide) rfl rfl rfl (by decide) (dev6 c) rfl rfl) $$ [HS Hxl1_128S]
  · isplitl [HS]; · iexact HS
    iexact Hxl1_128S
  iintro HS
  iapply (await_xr m K c 7 3 3 1 128 (by decide) rfl (by decide) rfl rfl rfl rfl) $$ HS
  iintro ⟨HS, Hxr1_128S, Hxr1_128K⟩
  iapply (go_xr m K c 7 1 128 (by decide) (by decide) (by decide) rfl rfl rfl (by decide) (dev7 c) rfl rfl) $$ [HS Hxr1_128S]
  · isplitl [HS]; · iexact HS
    iexact Hxr1_128S
  iintro HS
  iapply (ld c (mm := (Memref.whole cc0_stg1_0 : Memref sig .tc .vmem S1024x1024 .f32)) (f := wqstg m c) (Finset.subset_univ _) (Memref.readAt_unit_zero (Elt F) cc0_stg1_0 z2 _ (wqstg m c))) $$ Hw_arg1_
  iintro Hw_arg1_
  iapply Hk
  isplitl [Hxr1_128K]; · iexact Hxr1_128K
  isplitl [HS]; · iexact HS
  iexact Hw_arg1_

theorem part10 (v4 : BitVec 32) (v7 : BitVec 32) (v240 : Vec F S1024x1024 .f32) (h : v240 = wqstg m c) {α : Type} {Q : α → sProp 𝕄} {k : _ → Prog (TpuEff nD τ sig (Elt F) Λ₀ .tc) α} :
    iprop((∃ f, (((c : Thread nD τ).loc cc0_scratch5) ↦{fullShare} f)) ∗ (((c : Thread nD τ).loc cc0_stg2_0) ↦{fullShare} wostg m c) ∗ (∃ f, (((c : Thread nD τ).loc cc0_scratch6) ↦{fullShare} f)) ∗ Sq m K c 8 4)
      ⊢ iprop((((((c : Thread nD τ).loc cc0_scratch5) ↦{fullShare} WQB m c) ∗ (((c : Thread nD τ).loc cc0_stg2_0) ↦{fullShare} wostg m c) ∗ (((c : Thread nD τ).loc cc0_scratch6) ↦{fullShare} WOB m c) ∗ pXL qK c 2 0 (XL m c) ∗ Sq m K c 9 5) -∗ WPc c (k ⟨⟩) Q)
        -∗ WPc c (onArgs (k0_part10 (F := F)) c v4 v7 v240 >>= k) Q) := by
  rw [k0_part10_eq_skeleton]; unfold onArgs k0_part10_skel
  simp only [semSignalWord, semWaitWord, Prog.lift, Prog.bind_op, Prog.bind_ret, Prog.pure_eq_ret, wp_deviceId]
  iintro ⟨Hw0_arg11, Hw_arg4_, Hw0_arg12, HS⟩ Hk
  icases Hw0_arg11 with ⟨%farg11, Hw0_arg11⟩
  iapply (ld c (mm := (Memref.whole cc0_scratch5 : Memref sig .tc .vmem S1024x1024 .bf16)) (f := farg11) (Finset.subset_univ _) (Memref.readAt_unit_zero (Elt F) cc0_scratch5 z2 _ farg11)) $$ Hw0_arg11
  iintro Hw0_arg11
  iapply (st c (mm := (Memref.whole cc0_scratch5 : Memref sig .tc .vmem S1024x1024 .bf16)) (r := Rect.unit (s := S1024x1024) ![0, 0] S1024x1024.size inb_S1024x1024_S1024x1024_0_0) (f := farg11) (g := WQB m c) (Finset.subset_univ _) (fun i _ => congrFun ((Memref.write_access_unit_zero_univ (Elt F) cc0_scratch5 z2 _ farg11 _).trans (by subst h; rfl)) i)) $$ Hw0_arg11
  iintro Hw_arg11_
  iapply (ld c (mm := (Memref.whole cc0_stg2_0 : Memref sig .tc .vmem S1024x1024 .f32)) (f := wostg m c) (Finset.subset_univ _) (Memref.readAt_unit_zero (Elt F) cc0_stg2_0 z2 _ (wostg m c))) $$ Hw_arg4_
  iintro Hw_arg4_
  icases Hw0_arg12 with ⟨%farg12, Hw0_arg12⟩
  iapply (ld c (mm := (Memref.whole cc0_scratch6 : Memref sig .tc .vmem S1024x1024 .bf16)) (f := farg12) (Finset.subset_univ _) (Memref.readAt_unit_zero (Elt F) cc0_scratch6 z2 _ farg12)) $$ Hw0_arg12
  iintro Hw0_arg12
  iapply (st c (mm := (Memref.whole cc0_scratch6 : Memref sig .tc .vmem S1024x1024 .bf16)) (r := Rect.unit (s := S1024x1024) ![0, 0] S1024x1024.size inb_S1024x1024_S1024x1024_0_0) (f := farg12) (g := WOB m c) (Finset.subset_univ _) (fun i _ => congrFun ((Memref.write_access_unit_zero_univ (Elt F) cc0_scratch6 z2 _ farg12 _).trans (rfl)) i)) $$ Hw0_arg12
  iintro Hw_arg12_
  iapply (await_xl m K c 8 4 4 2 0 (by decide) rfl (by decide) rfl rfl rfl rfl) $$ HS
  iintro ⟨HS, Hxl2_0S, Hxl2_0K⟩
  iapply (go_xl m K c 8 2 0 (by decide) (by decide) (by decide) rfl rfl rfl (by decide) (dev8 c) rfl rfl) $$ [HS Hxl2_0S]
  · isplitl [HS]; · iexact HS
    iexact Hxl2_0S
  iintro HS
  iapply Hk
  isplitl [Hw_arg11_]; · iexact Hw_arg11_
  isplitl [Hw_arg4_]; · iexact Hw_arg4_
  isplitl [Hw_arg12_]; · iexact Hw_arg12_
  isplitl [Hxl2_0K]; · iexact Hxl2_0K
  iexact HS

theorem part11 (v4 : BitVec 32) (v7 : BitVec 32)  {α : Type} {Q : α → sProp 𝕄} {k : _ → Prog (TpuEff nD τ sig (Elt F) Λ₀ .tc) α} :
    iprop(Sq m K c 9 5)
      ⊢ iprop(((pXR qK c 2 0 (XR m c) ∗ Sq m K c 10 7 ∗ pXL qS c 2 128 (XL m c) ∗ pXL qK c 2 128 (XL m c)) -∗ WPc c (k ⟨⟩) Q)
        -∗ WPc c (onArgs (k0_part11 (F := F)) c v4 v7 >>= k) Q) := by
  rw [k0_part11_eq_skeleton]; unfold onArgs k0_part11_skel
  simp only [semSignalWord, semWaitWord, Prog.lift, Prog.bind_op, Prog.bind_ret, Prog.pure_eq_ret, wp_deviceId]
  iintro HS Hk
  iapply (await_xr m K c 9 5 5 2 0 (by decide) rfl (by decide) rfl rfl rfl rfl) $$ HS
  iintro ⟨HS, Hxr2_0S, Hxr2_0K⟩
  iapply (go_xr m K c 9 2 0 (by decide) (by decide) (by decide) rfl rfl rfl (by decide) (dev9 c) rfl rfl) $$ [HS Hxr2_0S]
  · isplitl [HS]; · iexact HS
    iexact Hxr2_0S
  iintro HS
  iapply (await_xl m K c 10 6 6 2 128 (by decide) rfl (by decide) rfl rfl rfl rfl) $$ HS
  iintro ⟨HS, Hxl2_128S, Hxl2_128K⟩
  iapply Hk
  isplitl [Hxr2_0K]; · iexact Hxr2_0K
  isplitl [HS]; · iexact HS
  isplitl [Hxl2_128S]; · iexact Hxl2_128S
  iexact Hxl2_128K

theorem part12 (v4 : BitVec 32) (v7 : BitVec 32)  {α : Type} {Q : α → sProp 𝕄} {k : _ → Prog (TpuEff nD τ sig (Elt F) Λ₀ .tc) α} :
    iprop(Sq m K c 10 7 ∗ pXL qS c 2 128 (XL m c))
      ⊢ iprop(((pXR qK c 2 128 (XR m c) ∗ Sq m K c 12 8) -∗ WPc c (k ⟨⟩) Q)
        -∗ WPc c (onArgs (k0_part12 (F := F)) c v4 v7 >>= k) Q) := by
  rw [k0_part12_eq_skeleton]; unfold onArgs k0_part12_skel
  simp only [semSignalWord, semWaitWord, Prog.lift, Prog.bind_op, Prog.bind_ret, Prog.pure_eq_ret, wp_deviceId]
  iintro ⟨HS, Hxl2_128S⟩ Hk
  iapply (go_xl m K c 10 2 128 (by decide) (by decide) (by decide) rfl rfl rfl (by decide) (dev10 c) rfl rfl) $$ [HS Hxl2_128S]
  · isplitl [HS]; · iexact HS
    iexact Hxl2_128S
  iintro HS
  iapply (await_xr m K c 11 7 7 2 128 (by decide) rfl (by decide) rfl rfl rfl rfl) $$ HS
  iintro ⟨HS, Hxr2_128S, Hxr2_128K⟩
  iapply (go_xr m K c 11 2 128 (by decide) (by decide) (by decide) rfl rfl rfl (by decide) (dev11 c) rfl rfl) $$ [HS Hxr2_128S]
  · isplitl [HS]; · iexact HS
    iexact Hxr2_128S
  iintro HS
  iapply Hk
  isplitl [Hxr2_128K]; · iexact Hxr2_128K
  iexact HS

theorem part13 (v4 : BitVec 32) (v7 : BitVec 32)  {α : Type} {Q : α → sProp 𝕄} {k : _ → Prog (TpuEff nD τ sig (Elt F) Λ₀ .tc) α} :
    iprop(Sq m K c 12 8)
      ⊢ iprop(((pXL qS c 3 0 (XL m c) ∗ pXL qK c 3 0 (XL m c) ∗ pXR qK c 3 0 (XR m c) ∗ Sq m K c 13 10) -∗ WPc c (k ⟨⟩) Q)
        -∗ WPc c (onArgs (k0_part13 (F := F)) c v4 v7 >>= k) Q) := by
  rw [k0_part13_eq_skeleton]; unfold onArgs k0_part13_skel
  simp only [semSignalWord, semWaitWord, Prog.lift, Prog.bind_op, Prog.bind_ret, Prog.pure_eq_ret, wp_deviceId]
  iintro HS Hk
  iapply (await_xl m K c 12 8 8 3 0 (by decide) rfl (by decide) rfl rfl rfl rfl) $$ HS
  iintro ⟨HS, Hxl3_0S, Hxl3_0K⟩
  iapply (await_xr m K c 12 9 9 3 0 (by decide) rfl (by decide) rfl rfl rfl rfl) $$ HS
  iintro ⟨HS, Hxr3_0S, Hxr3_0K⟩
  iapply (go_xr m K c 12 3 0 (by decide) (by decide) (by decide) rfl rfl rfl (by decide) (dev12 c) rfl rfl) $$ [HS Hxr3_0S]
  · isplitl [HS]; · iexact HS
    iexact Hxr3_0S
  iintro HS
  iapply Hk
  isplitl [Hxl3_0S]; · iexact Hxl3_0S
  isplitl [Hxl3_0K]; · iexact Hxl3_0K
  isplitl [Hxr3_0K]; · iexact Hxr3_0K
  iexact HS

theorem part14 (v4 : BitVec 32) (v7 : BitVec 32)  {α : Type} {Q : α → sProp 𝕄} {k : _ → Prog (TpuEff nD τ sig (Elt F) Λ₀ .tc) α} :
    iprop(Sq m K c 13 10)
      ⊢ iprop(((pXL qS c 3 128 (XL m c) ∗ pXL qK c 3 128 (XL m c) ∗ pXR qK c 3 128 (XR m c) ∗ Sq m K c 14 12) -∗ WPc c (k ⟨⟩) Q)
        -∗ WPc c (onArgs (k0_part14 (F := F)) c v4 v7 >>= k) Q) := by
  rw [k0_part14_eq_skeleton]; unfold onArgs k0_part14_skel
  simp only [semSignalWord, semWaitWord, Prog.lift, Prog.bind_op, Prog.bind_ret, Prog.pure_eq_ret, wp_deviceId]
  iintro HS Hk
  iapply (await_xl m K c 13 10 10 3 128 (by decide) rfl (by decide) rfl rfl rfl rfl) $$ HS
  iintro ⟨HS, Hxl3_128S, Hxl3_128K⟩
  iapply (await_xr m K c 13 11 11 3 128 (by decide) rfl (by decide) rfl rfl rfl rfl) $$ HS
  iintro ⟨HS, Hxr3_128S, Hxr3_128K⟩
  iapply (go_xr m K c 13 3 128 (by decide) (by decide) (by decide) rfl rfl rfl (by decide) (dev13 c) rfl rfl) $$ [HS Hxr3_128S]
  · isplitl [HS]; · iexact HS
    iexact Hxr3_128S
  iintro HS
  iapply Hk
  isplitl [Hxl3_128S]; · iexact Hxl3_128S
  isplitl [Hxl3_128K]; · iexact Hxl3_128K
  isplitl [Hxr3_128K]; · iexact Hxr3_128K
  iexact HS

theorem part15   {α : Type} {Q : α → sProp 𝕄} {k : _ → Prog (TpuEff nD τ sig (Elt F) Λ₀ .tc) α} :
    iprop(Sq m K c 14 12 ∗ KV m K c [] (kl 0) (kg 0))
      ⊢ iprop(((kvPay m c 0 ∗ kvPay m c 8 ∗ kvPay m c 1 ∗ Sq m K c 14 12 ∗ KV m K c [] (kl 4) (kg 4) ∗ kvPay m c 9) -∗ WPc c (k ⟨⟩) Q)
        -∗ WPc c (onArgs (k0_part15 (F := F)) c  >>= k) Q) := by
  rw [k0_part15_eq_skeleton]; unfold onArgs k0_part15_skel
  simp only [semSignalWord, semWaitWord, Prog.lift, Prog.bind_op, Prog.bind_ret, Prog.pure_eq_ret, wp_deviceId]
  iintro ⟨HS, HKV⟩ Hk
  iapply (await_kv m K c 14 12 0 0 (by decide) rfl rfl) $$ [HS HKV]
  · isplitl [HS]; · iexact HS
    iexact HKV
  iintro ⟨HS, HKV, Hkvp_0⟩
  iapply (await_kv m K c 14 12 1 8 (by decide) rfl rfl) $$ [HS HKV]
  · isplitl [HS]; · iexact HS
    iexact HKV
  iintro ⟨HS, HKV, Hkvp_8⟩
  iapply (await_kv m K c 14 12 2 1 (by decide) rfl rfl) $$ [HS HKV]
  · isplitl [HS]; · iexact HS
    iexact HKV
  iintro ⟨HS, HKV, Hkvp_1⟩
  iapply (await_kv m K c 14 12 3 9 (by decide) rfl rfl) $$ [HS HKV]
  · isplitl [HS]; · iexact HS
    iexact HKV
  iintro ⟨HS, HKV, Hkvp_9⟩
  iapply Hk
  isplitl [Hkvp_0]; · iexact Hkvp_0
  isplitl [Hkvp_8]; · iexact Hkvp_8
  isplitl [Hkvp_1]; · iexact Hkvp_1
  isplitl [HS]; · iexact HS
  isplitl [HKV]; · iexact HKV
  iexact Hkvp_9

theorem part16   {α : Type} {Q : α → sProp 𝕄} {k : _ → Prog (TpuEff nD τ sig (Elt F) Λ₀ .tc) α} :
    iprop(Sq m K c 14 12 ∗ KV m K c [] (kl 4) (kg 4))
      ⊢ iprop(((kvPay m c 2 ∗ kvPay m c 10 ∗ kvPay m c 3 ∗ Sq m K c 14 12 ∗ KV m K c [] (kl 8) (kg 8) ∗ kvPay m c 11) -∗ WPc c (k ⟨⟩) Q)
        -∗ WPc c (onArgs (k0_part16 (F := F)) c  >>= k) Q) := by
  rw [k0_part16_eq_skeleton]; unfold onArgs k0_part16_skel
  simp only [semSignalWord, semWaitWord, Prog.lift, Prog.bind_op, Prog.bind_ret, Prog.pure_eq_ret, wp_deviceId]
  iintro ⟨HS, HKV⟩ Hk
  iapply (await_kv m K c 14 12 4 2 (by decide) rfl rfl) $$ [HS HKV]
  · isplitl [HS]; · iexact HS
    iexact HKV
  iintro ⟨HS, HKV, Hkvp_2⟩
  iapply (await_kv m K c 14 12 5 10 (by decide) rfl rfl) $$ [HS HKV]
  · isplitl [HS]; · iexact HS
    iexact HKV
  iintro ⟨HS, HKV, Hkvp_10⟩
  iapply (await_kv m K c 14 12 6 3 (by decide) rfl rfl) $$ [HS HKV]
  · isplitl [HS]; · iexact HS
    iexact HKV
  iintro ⟨HS, HKV, Hkvp_3⟩
  iapply (await_kv m K c 14 12 7 11 (by decide) rfl rfl) $$ [HS HKV]
  · isplitl [HS]; · iexact HS
    iexact HKV
  iintro ⟨HS, HKV, Hkvp_11⟩
  iapply Hk
  isplitl [Hkvp_2]; · iexact Hkvp_2
  isplitl [Hkvp_10]; · iexact Hkvp_10
  isplitl [Hkvp_3]; · iexact Hkvp_3
  isplitl [HS]; · iexact HS
  isplitl [HKV]; · iexact HKV
  iexact Hkvp_11

theorem part17   {α : Type} {Q : α → sProp 𝕄} {k : _ → Prog (TpuEff nD τ sig (Elt F) Λ₀ .tc) α} :
    iprop(Sq m K c 14 12 ∗ KV m K c [] (kl 8) (kg 8))
      ⊢ iprop(((kvPay m c 4 ∗ kvPay m c 12 ∗ kvPay m c 5 ∗ kvPay m c 13 ∗ Sq m K c 14 12 ∗ KV m K c [] (kl 13) (kg 13) ∗ kvPay m c 6) -∗ WPc c (k ⟨⟩) Q)
        -∗ WPc c (onArgs (k0_part17 (F := F)) c  >>= k) Q) := by
  rw [k0_part17_eq_skeleton]; unfold onArgs k0_part17_skel
  simp only [semSignalWord, semWaitWord, Prog.lift, Prog.bind_op, Prog.bind_ret, Prog.pure_eq_ret, wp_deviceId]
  iintro ⟨HS, HKV⟩ Hk
  iapply (await_kv m K c 14 12 8 4 (by decide) rfl rfl) $$ [HS HKV]
  · isplitl [HS]; · iexact HS
    iexact HKV
  iintro ⟨HS, HKV, Hkvp_4⟩
  iapply (await_kv m K c 14 12 9 12 (by decide) rfl rfl) $$ [HS HKV]
  · isplitl [HS]; · iexact HS
    iexact HKV
  iintro ⟨HS, HKV, Hkvp_12⟩
  iapply (await_kv m K c 14 12 10 5 (by decide) rfl rfl) $$ [HS HKV]
  · isplitl [HS]; · iexact HS
    iexact HKV
  iintro ⟨HS, HKV, Hkvp_5⟩
  iapply (await_kv m K c 14 12 11 13 (by decide) rfl rfl) $$ [HS HKV]
  · isplitl [HS]; · iexact HS
    iexact HKV
  iintro ⟨HS, HKV, Hkvp_13⟩
  iapply (await_kv m K c 14 12 12 6 (by decide) rfl rfl) $$ [HS HKV]
  · isplitl [HS]; · iexact HS
    iexact HKV
  iintro ⟨HS, HKV, Hkvp_6⟩
  iapply Hk
  isplitl [Hkvp_4]; · iexact Hkvp_4
  isplitl [Hkvp_12]; · iexact Hkvp_12
  isplitl [Hkvp_5]; · iexact Hkvp_5
  isplitl [Hkvp_13]; · iexact Hkvp_13
  isplitl [HS]; · iexact HS
  isplitl [HKV]; · iexact HKV
  iexact Hkvp_6

theorem part18   {α : Type} {Q : α → sProp 𝕄} {k : _ → Prog (TpuEff nD τ sig (Elt F) Λ₀ .tc) α} :
    iprop(Sq m K c 14 12 ∗ KV m K c [] (kl 13) (kg 13) ∗ kvPay m c 0 ∗ kvPay m c 1 ∗ kvPay m c 2 ∗ kvPay m c 3 ∗ kvPay m c 4 ∗ kvPay m c 5 ∗ kvPay m c 6 ∗ (∃ f, (((c : Thread nD τ).loc cc0_scratch2) ↦{fullShare} f)) ∗ kvPay m c 8 ∗ kvPay m c 9 ∗ kvPay m c 10 ∗ kvPay m c 11 ∗ kvPay m c 12 ∗ kvPay m c 13)
      ⊢ iprop(((Sq m K c 14 12 ∗ KV m K c [] (kl 16) (kg 16) ∗ (((c : Thread nD τ).loc cc0_scratch0) ↦{fullShare} KF m c) ∗ (((c : Thread nD τ).loc cc0_scratch2) ↦{fullShare} KB m c) ∗ (((c : Thread nD τ).loc cc0_scratch1) ↦{fullShare} VF m c)) -∗ WPc c (k (k0_pay5 (VF m c))) Q)
        -∗ WPc c (onArgs (k0_part18 (F := F)) c  >>= k) Q) := by
  rw [k0_part18_eq_skeleton]; unfold onArgs k0_part18_skel
  simp only [semSignalWord, semWaitWord, Prog.lift, Prog.bind_op, Prog.bind_ret, Prog.pure_eq_ret, wp_deviceId]
  iintro ⟨HS, HKV, Hkvp_0, Hkvp_1, Hkvp_2, Hkvp_3, Hkvp_4, Hkvp_5, Hkvp_6, Hw0_arg8, Hkvp_8, Hkvp_9, Hkvp_10, Hkvp_11, Hkvp_12, Hkvp_13⟩ Hk
  iapply (await_kv m K c 14 12 13 14 (by decide) rfl rfl) $$ [HS HKV]
  · isplitl [HS]; · iexact HS
    iexact HKV
  iintro ⟨HS, HKV, Hkvp_14⟩
  iapply (await_kv m K c 14 12 14 7 (by decide) rfl rfl) $$ [HS HKV]
  · isplitl [HS]; · iexact HS
    iexact HKV
  iintro ⟨HS, HKV, Hkvp_7⟩
  iapply (await_kv m K c 14 12 15 15 (by decide) rfl rfl) $$ [HS HKV]
  · isplitl [HS]; · iexact HS
    iexact HKV
  iintro ⟨HS, HKV, Hkvp_15⟩
  ihave Hw_arg6_ := (join_kf m c) $$ [Hkvp_0 Hkvp_1 Hkvp_2 Hkvp_3 Hkvp_4 Hkvp_5 Hkvp_6 Hkvp_7]
  · isplitl [Hkvp_0]; · iexact Hkvp_0
    isplitl [Hkvp_1]; · iexact Hkvp_1
    isplitl [Hkvp_2]; · iexact Hkvp_2
    isplitl [Hkvp_3]; · iexact Hkvp_3
    isplitl [Hkvp_4]; · iexact Hkvp_4
    isplitl [Hkvp_5]; · iexact Hkvp_5
    isplitl [Hkvp_6]; · iexact Hkvp_6
    iexact Hkvp_7
  iapply (ld c (mm := (Memref.whole cc0_scratch0 : Memref sig .tc .vmem S8x2176x128 .f32)) (f := KF m c) (Finset.subset_univ _) (Memref.readAt_unit_zero (Elt F) cc0_scratch0 z3 _ (KF m c))) $$ Hw_arg6_
  iintro Hw_arg6_
  icases Hw0_arg8 with ⟨%farg8, Hw0_arg8⟩
  iapply (ld c (mm := (Memref.whole cc0_scratch2 : Memref sig .tc .vmem S8x2176x128 .bf16)) (f := farg8) (Finset.subset_univ _) (Memref.readAt_unit_zero (Elt F) cc0_scratch2 z3 _ farg8)) $$ Hw0_arg8
  iintro Hw0_arg8
  iapply (st c (mm := (Memref.whole cc0_scratch2 : Memref sig .tc .vmem S8x2176x128 .bf16)) (r := Rect.unit (s := S8x2176x128) ![0, 0, 0] S8x2176x128.size inb_S8x2176x128_S8x2176x128_0_0_0) (f := farg8) (g := KB m c) (Finset.subset_univ _) (fun i _ => congrFun ((Memref.write_access_unit_zero_univ (Elt F) cc0_scratch2 z3 _ farg8 _).trans (rfl)) i)) $$ Hw0_arg8
  iintro Hw_arg8_
  ihave Hw_arg7_ := (join_vf m c) $$ [Hkvp_8 Hkvp_9 Hkvp_10 Hkvp_11 Hkvp_12 Hkvp_13 Hkvp_14 Hkvp_15]
  · isplitl [Hkvp_8]; · iexact Hkvp_8
    isplitl [Hkvp_9]; · iexact Hkvp_9
    isplitl [Hkvp_10]; · iexact Hkvp_10
    isplitl [Hkvp_11]; · iexact Hkvp_11
    isplitl [Hkvp_12]; · iexact Hkvp_12
    isplitl [Hkvp_13]; · iexact Hkvp_13
    isplitl [Hkvp_14]; · iexact Hkvp_14
    iexact Hkvp_15
  iapply (ld c (mm := (Memref.whole cc0_scratch1 : Memref sig .tc .vmem S8x2176x128 .f32)) (f := VF m c) (Finset.subset_univ _) (Memref.readAt_unit_zero (Elt F) cc0_scratch1 z3 _ (VF m c))) $$ Hw_arg7_
  iintro Hw_arg7_
  iapply Hk
  isplitl [HS]; · iexact HS
  isplitl [HKV]; · iexact HKV
  isplitl [Hw_arg6_]; · iexact Hw_arg6_
  isplitl [Hw_arg8_]; · iexact Hw_arg8_
  iexact Hw_arg7_

theorem part19 (v2 : BitVec 32) (v478 : FVec F S8x2176x128 .bf16) (h : v478 = k0_pay5 (VF m c)) {α : Type} {Q : α → sProp 𝕄} {k : _ → Prog (TpuEff nD τ sig (Elt F) Λ₀ .tc) α} :
    iprop((∃ f, (((c : Thread nD τ).loc cc0_scratch3) ↦{fullShare} f)) ∗ pXR qK c 3 0 (XR m c) ∗ pXR qK c 3 128 (XR m c) ∗ (((c : Thread nD τ).loc cc0_scratch5) ↦{fullShare} WQB m c))
      ⊢ iprop((((((c : Thread nD τ).loc cc0_scratch3) ↦{fullShare} VB m c) ∗ pXR qK c 3 0 (XR m c) ∗ pXR qK c 3 128 (XR m c) ∗ (((c : Thread nD τ).loc cc0_scratch5) ↦{fullShare} WQB m c)) -∗ WPc c (k ⟨k0_pay8 (F := F), k0_pay9 (F := F), k0_pay10 (slotOf (XB m (rot c 3))) (WQB m c), ((Scalar.maxsi (Scalar.subi (Scalar.muli 256#32 (Scalar.remsi (Scalar.addi v2 3#32) 8#32)) 128#32) 0#32)), k0_pay11 (F := F) v2, k0_pay12 (slotOf (XB m (rot c 3))) (WQB m c)⟩) Q)
        -∗ WPc c (onArgs (k0_part19 (F := F)) v2 v478 >>= k) Q) := by
  rw [k0_part19_eq_skeleton]; unfold onArgs k0_part19_skel
  simp only [semSignalWord, semWaitWord, Prog.lift, Prog.bind_op, Prog.bind_ret, Prog.pure_eq_ret, wp_deviceId]
  iintro ⟨Hw0_arg9, Hxr3_0K, Hxr3_128K, Hw_arg11_⟩ Hk
  icases Hw0_arg9 with ⟨%farg9, Hw0_arg9⟩
  iapply (ld c (mm := (Memref.whole cc0_scratch3 : Memref sig .tc .vmem S8x2176x128 .bf16)) (f := farg9) (Finset.subset_univ _) (Memref.readAt_unit_zero (Elt F) cc0_scratch3 z3 _ farg9)) $$ Hw0_arg9
  iintro Hw0_arg9
  iapply (st c (mm := (Memref.whole cc0_scratch3 : Memref sig .tc .vmem S8x2176x128 .bf16)) (r := Rect.unit (s := S8x2176x128) ![0, 0, 0] S8x2176x128.size inb_S8x2176x128_S8x2176x128_0_0_0) (f := farg9) (g := VB m c) (Finset.subset_univ _) (fun i _ => congrFun ((Memref.write_access_unit_zero_univ (Elt F) cc0_scratch3 z3 _ farg9 _).trans (by subst h; rfl)) i)) $$ Hw0_arg9
  iintro Hw_arg9_
  iapply (ld_slotXR c 3 (by decide) (f := XR m c) (v := XB m (rot c 3)) (fun _ _ => rfl)) $$ [Hxr3_0K Hxr3_128K]
  · isplitl [Hxr3_0K]; · iexact Hxr3_0K
    iexact Hxr3_128K
  iintro ⟨Hxr3_0K, Hxr3_128K⟩
  iapply (ld c (mm := (Memref.whole cc0_scratch5 : Memref sig .tc .vmem S1024x1024 .bf16)) (f := WQB m c) (Finset.subset_univ _) (Memref.readAt_unit_zero (Elt F) cc0_scratch5 z2 _ (WQB m c))) $$ Hw_arg11_
  iintro Hw_arg11_
  iapply Hk
  isplitl [Hw_arg9_]; · iexact Hw_arg9_
  isplitl [Hxr3_0K]; · iexact Hxr3_0K
  isplitl [Hxr3_128K]; · iexact Hxr3_128K
  iexact Hw_arg11_

end Cert.KernelIdeal.Run
-- ==== Proof.KI.PartsB.lean ====
module

public import proofs.«01_k».proof.Proof.KI.PartsA

/-! The steps of the body that move or update the partial sums, the result, and the last waits. -/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (K : Dev nD × Fin 73 → ℕ) (c : Dev nD)

/-- The result is the sum of both finished chains and the device's own contribution. -/
theorem out_eq : k0_pay135 (ctr m c c) (slotOf (aval m 3 (nxt c))) (slotOf (bval m 2 (prv c))) = outAt m c := by
  show addf (addf (extf .f32 (shapeCast S256x1024 (slotOf (aval m 3 (nxt c))) shapeCasts_S1x256x1024_S256x1024) bitsLt_bf16_f32)
    (extf .f32 (shapeCast S256x1024 (slotOf (bval m 2 (prv c))) shapeCasts_S1x256x1024_S256x1024) bitsLt_bf16_f32)) (ctr m c c) = _
  rw [unslot, unslot]
  rfl

theorem part23 (v4 : BitVec 32) (v529 : FVec F S256x128 .f32) (v545 : FVec F S256x128 .f32) (v561 : FVec F S256x128 .f32) (v577 : FVec F S256x128 .f32) (v593 : FVec F S256x128 .f32) (v609 : FVec F S256x128 .f32) (v625 : FVec F S256x128 .f32) (v637 : FVec F S256x128 .f32) (v640 : FVec F S256x128 .f32) (h : k0_pay27 v529 v545 v561 v577 v593 v609 v625 v637 v640 (WOB m c) = slotOf (bval m 0 c)) {α : Type} {Q : α → sProp 𝕄} {k : _ → Prog (TpuEff nD τ sig (Elt F) Λ₀ .tc) α} :
    iprop(RO m c ∗ (∃ f, (((c : Thread nD τ).loc cc0_scratch10) ↦[hs4 0 0 ∪ hs4 0 128]{fullShare} f)) ∗ Sq m K c 14 12)
      ⊢ iprop(((RO m c ∗ pB qK c 0 0 (BO m c) ∗ pB qK c 0 128 (BO m c) ∗ Sq m K c 16 12) -∗ WPc c (k ⟨⟩) Q)
        -∗ WPc c (onArgs (k0_part23 (F := F)) c v4 v529 v545 v561 v577 v593 v609 v625 v637 v640 >>= k) Q) := by
  rw [k0_part23_eq_skeleton]; unfold onArgs k0_part23_skel
  simp only [semSignalWord, semWaitWord, Prog.lift, Prog.bind_op, Prog.bind_ret, Prog.pure_eq_ret, wp_deviceId]
  iintro ⟨HR, Hs0_b, HS⟩ Hk
  iapply (ld_wo m c) $$ HR
  iintro HR
  icases Hs0_b with ⟨%f0, Hs0_b⟩
  iapply (ld c (mm := (Memref.whole cc0_scratch10 : Memref sig .tc .vmem S4x256x1024 .bf16)) (f := f0) (sub4 0 _) rfl) $$ Hs0_b
  iintro Hs0_b
  iapply (st_slotB c 0 (by decide) (g := BO m c) (v := bval m 0 c) h (fun _ _ => rfl)) $$ Hs0_b
  iintro ⟨Hb0_0O, Hb0_128O⟩
  ihave Hb0_0O := (halve_b c 0 0 (BO m c)).1 $$ Hb0_0O
  icases Hb0_0O with ⟨Hb0_0S, Hb0_0K⟩
  ihave Hb0_128O := (halve_b c 0 128 (BO m c)).1 $$ Hb0_128O
  icases Hb0_128O with ⟨Hb0_128S, Hb0_128K⟩
  iapply (go_b m K c 14 0 0 (by decide) (by decide) rfl rfl rfl (by decide) (dev14 c) rfl rfl) $$ [HS Hb0_0S]
  · isplitl [HS]; · iexact HS
    iexact Hb0_0S
  iintro HS
  iapply (go_b m K c 15 0 128 (by decide) (by decide) rfl rfl rfl (by decide) (dev15 c) rfl rfl) $$ [HS Hb0_128S]
  · isplitl [HS]; · iexact HS
    iexact Hb0_128S
  iintro HS
  iapply Hk
  isplitl [HR]; · iexact HR
  isplitl [Hb0_0K]; · iexact Hb0_0K
  isplitl [Hb0_128K]; · iexact Hb0_128K
  iexact HS

theorem part24 (v2 : BitVec 32) (v4 : BitVec 32)  {α : Type} {Q : α → sProp 𝕄} {k : _ → Prog (TpuEff nD τ sig (Elt F) Λ₀ .tc) α} :
    iprop(Sq m K c 16 12 ∗ RO m c)
      ⊢ iprop(((pXR qS c 4 0 (XR m c) ∗ Sq m K c 16 14 ∗ pXR qS c 4 128 (XR m c) ∗ pXR qK c 4 0 (XR m c) ∗ pXR qK c 4 128 (XR m c) ∗ RO m c) -∗ WPc c (k ⟨(Scalar.remsi (Scalar.addi v2 4#32) 8#32), k0_pay28 (slotOf (XB m (rot c 4))) (WQB m c), (Scalar.maxsi (Scalar.subi (Scalar.muli 256#32 (Scalar.remsi (Scalar.addi v2 4#32) 8#32)) 128#32) 0#32)⟩) Q)
        -∗ WPc c (onArgs (k0_part24 (F := F)) v2 v4 >>= k) Q) := by
  rw [k0_part24_eq_skeleton]; unfold onArgs k0_part24_skel
  simp only [semSignalWord, semWaitWord, Prog.lift, Prog.bind_op, Prog.bind_ret, Prog.pure_eq_ret, wp_deviceId]
  iintro ⟨HS, HR⟩ Hk
  iapply (await_xr m K c 16 12 12 4 0 (by decide) rfl (by decide) rfl rfl rfl rfl) $$ HS
  iintro ⟨HS, Hxr4_0S, Hxr4_0K⟩
  iapply (await_xr m K c 16 13 13 4 128 (by decide) rfl (by decide) rfl rfl rfl rfl) $$ HS
  iintro ⟨HS, Hxr4_128S, Hxr4_128K⟩
  iapply (ld_slotXR c 4 (by decide) (f := XR m c) (v := XB m (rot c 4)) (fun _ _ => rfl)) $$ [Hxr4_0K Hxr4_128K]
  · isplitl [Hxr4_0K]; · iexact Hxr4_0K
    iexact Hxr4_128K
  iintro ⟨Hxr4_0K, Hxr4_128K⟩
  iapply (ld_wq m c) $$ HR
  iintro HR
  iapply Hk
  isplitl [Hxr4_0S]; · iexact Hxr4_0S
  isplitl [HS]; · iexact HS
  isplitl [Hxr4_128S]; · iexact Hxr4_128S
  isplitl [Hxr4_0K]; · iexact Hxr4_0K
  isplitl [Hxr4_128K]; · iexact Hxr4_128K
  iexact HR

theorem part28 (v7 : BitVec 32) (v716 : FVec F S256x128 .f32) (v732 : FVec F S256x128 .f32) (v748 : FVec F S256x128 .f32) (v764 : FVec F S256x128 .f32) (v780 : FVec F S256x128 .f32) (v796 : FVec F S256x128 .f32) (v812 : FVec F S256x128 .f32) (v819 : FVec F S256x512 .f32) (v822 : FVec F S512x128 .bf16) (h : k0_pay41 v716 v732 v748 v764 v780 v796 v812 v819 v822 (WOB m c) = slotOf (aval m 0 c)) {α : Type} {Q : α → sProp 𝕄} {k : _ → Prog (TpuEff nD τ sig (Elt F) Λ₀ .tc) α} :
    iprop(RO m c ∗ (∃ f, (((c : Thread nD τ).loc cc0_scratch9) ↦[hs5 0 0 ∪ hs5 0 128]{fullShare} f)) ∗ Sq m K c 16 14)
      ⊢ iprop(((RO m c ∗ pA qK c 0 0 (AO m c) ∗ pA qS c 0 128 (AO m c) ∗ pA qK c 0 128 (AO m c) ∗ Sq m K c 17 14) -∗ WPc c (k ⟨⟩) Q)
        -∗ WPc c (onArgs (k0_part28 (F := F)) c v7 v716 v732 v748 v764 v780 v796 v812 v819 v822 >>= k) Q) := by
  rw [k0_part28_eq_skeleton]; unfold onArgs k0_part28_skel
  simp only [semSignalWord, semWaitWord, Prog.lift, Prog.bind_op, Prog.bind_ret, Prog.pure_eq_ret, wp_deviceId]
  iintro ⟨HR, Hs0_a, HS⟩ Hk
  iapply (ld_wo m c) $$ HR
  iintro HR
  icases Hs0_a with ⟨%f0, Hs0_a⟩
  iapply (ld c (mm := (Memref.whole cc0_scratch9 : Memref sig .tc .vmem S5x256x1024 .bf16)) (f := f0) (sub5 0 _) rfl) $$ Hs0_a
  iintro Hs0_a
  iapply (st_slotA c 0 (by decide) (g := AO m c) (v := aval m 0 c) h (fun _ _ => rfl)) $$ Hs0_a
  iintro ⟨Ha0_0O, Ha0_128O⟩
  ihave Ha0_0O := (halve_a c 0 0 (AO m c)).1 $$ Ha0_0O
  icases Ha0_0O with ⟨Ha0_0S, Ha0_0K⟩
  ihave Ha0_128O := (halve_a c 0 128 (AO m c)).1 $$ Ha0_128O
  icases Ha0_128O with ⟨Ha0_128S, Ha0_128K⟩
  iapply (go_a m K c 16 0 0 (by decide) (by decide) rfl rfl rfl (by decide) (dev16 c) rfl rfl) $$ [HS Ha0_0S]
  · isplitl [HS]; · iexact HS
    iexact Ha0_0S
  iintro HS
  iapply Hk
  isplitl [HR]; · iexact HR
  isplitl [Ha0_0K]; · iexact Ha0_0K
  isplitl [Ha0_128S]; · iexact Ha0_128S
  isplitl [Ha0_128K]; · iexact Ha0_128K
  iexact HS

theorem part29 (v2 : BitVec 32) (v492 : FVec F S256x512 .f32) (v498 : FVec F S256x512 .f32)  {α : Type} {Q : α → sProp 𝕄} {k : _ → Prog (TpuEff nD τ sig (Elt F) Λ₀ .tc) α} :
    iprop(Sq m K c 17 14 ∗ pA qS c 0 128 (AO m c) ∗ pXR qK c 2 0 (XR m c) ∗ pXR qK c 2 128 (XR m c) ∗ RO m c)
      ⊢ iprop(((Sq m K c 18 14 ∗ pXR qK c 2 0 (XR m c) ∗ pXR qK c 2 128 (XR m c) ∗ RO m c) -∗ WPc c (k ⟨k0_pay42 (slotOf (XB m (rot c 2))) (WQB m c), ((Scalar.maxsi (Scalar.subi (Scalar.muli 256#32 (Scalar.remsi (Scalar.addi v2 2#32) 8#32)) 128#32) 0#32)), k0_pay43 v2 v492 v498, k0_pay44 v2 v492 v498 (slotOf (XB m (rot c 2))) (WQB m c) (win (KB m c) 0 (rot c 2)) (win (VB m c) 0 (rot c 2)), k0_pay45 (slotOf (XB m (rot c 2))) (WQB m c)⟩) Q)
        -∗ WPc c (onArgs (k0_part29 (F := F)) c v2 v492 v498 >>= k) Q) := by
  rw [k0_part29_eq_skeleton]; unfold onArgs k0_part29_skel
  simp only [semSignalWord, semWaitWord, Prog.lift, Prog.bind_op, Prog.bind_ret, Prog.pure_eq_ret, wp_deviceId]
  iintro ⟨HS, Ha0_128S, Hxr2_0K, Hxr2_128K, HR⟩ Hk
  iapply (go_a m K c 17 0 128 (by decide) (by decide) rfl rfl rfl (by decide) (dev17 c) rfl rfl) $$ [HS Ha0_128S]
  · isplitl [HS]; · iexact HS
    iexact Ha0_128S
  iintro HS
  iapply (ld_slotXR c 2 (by decide) (f := XR m c) (v := XB m (rot c 2)) (fun _ _ => rfl)) $$ [Hxr2_0K Hxr2_128K]
  · isplitl [Hxr2_0K]; · iexact Hxr2_0K
    iexact Hxr2_128K
  iintro ⟨Hxr2_0K, Hxr2_128K⟩
  iapply (ld_wq m c) $$ HR
  iintro HR
  iapply (ld_kb m c 0 (rot c 2) (off2 c 1)) $$ HR
  iintro HR
  iapply (ld_vb m c 0 (rot c 2) (off2 c 1)) $$ HR
  iintro HR
  iapply Hk
  isplitl [HS]; · iexact HS
  isplitl [Hxr2_0K]; · iexact Hxr2_0K
  isplitl [Hxr2_128K]; · iexact Hxr2_128K
  iexact HR

theorem part33 (v4 : BitVec 32) (v7 : BitVec 32) (v1003 : FVec F S256x1024 .f32) (h : v1003 = ctr m c (rot c 2)) {α : Type} {Q : α → sProp 𝕄} {k : _ → Prog (TpuEff nD τ sig (Elt F) Λ₀ .tc) α} :
    iprop(Sq m K c 18 14)
      ⊢ iprop(((pB qK c 1 0 (BO m c) ∗ Sq m K c 19 16 ∗ pB fullShare c 1 128 (BI m c)) -∗ WPc c (k ⟨⟩) Q)
        -∗ WPc c (onArgs (k0_part33 (F := F)) c v4 v7 v1003 >>= k) Q) := by
  rw [k0_part33_eq_skeleton]; unfold onArgs k0_part33_skel
  simp only [semSignalWord, semWaitWord, Prog.lift, Prog.bind_op, Prog.bind_ret, Prog.pure_eq_ret, wp_deviceId]
  iintro HS Hk
  iapply (await_b m K c 18 14 14 1 0 (by decide) rfl (by decide) rfl rfl rfl rfl) $$ HS
  iintro ⟨HS, Hb1_0F⟩
  iapply (ld_halfB c 1 0 (by decide) (by decide) (f := BI m c) (v := bval m 0 (prv c)) (fun _ _ => rfl)) $$ Hb1_0F
  iintro Hb1_0F
  iapply (ld_halfB c 1 0 (by decide) (by decide) (f := BI m c) (v := bval m 0 (prv c)) (fun _ _ => rfl)) $$ Hb1_0F
  iintro Hb1_0F
  iapply (st_halfB c 1 0 (by decide) (by decide) (g := BO m c) (v := bval m 1 c) (by subst h; exact upd 0 (by decide) _ _ _) (fun _ _ => rfl)) $$ Hb1_0F
  iintro Hb1_0O
  ihave Hb1_0O := (halve_b c 1 0 (BO m c)).1 $$ Hb1_0O
  icases Hb1_0O with ⟨Hb1_0S, Hb1_0K⟩
  iapply (go_b m K c 18 1 0 (by decide) (by decide) rfl rfl rfl (by decide) (dev18 c) rfl rfl) $$ [HS Hb1_0S]
  · isplitl [HS]; · iexact HS
    iexact Hb1_0S
  iintro HS
  iapply (await_b m K c 19 15 15 1 128 (by decide) rfl (by decide) rfl rfl rfl rfl) $$ HS
  iintro ⟨HS, Hb1_128F⟩
  iapply Hk
  isplitl [Hb1_0K]; · iexact Hb1_0K
  isplitl [HS]; · iexact HS
  iexact Hb1_128F

theorem part34 (v2 : BitVec 32) (v4 : BitVec 32) (v1003 : FVec F S256x1024 .f32) (h : v1003 = ctr m c (rot c 2)) {α : Type} {Q : α → sProp 𝕄} {k : _ → Prog (TpuEff nD τ sig (Elt F) Λ₀ .tc) α} :
    iprop(pB fullShare c 1 128 (BI m c) ∗ Sq m K c 19 16 ∗ pXL qK c 3 0 (XL m c) ∗ pXL qK c 3 128 (XL m c) ∗ RO m c)
      ⊢ iprop(((pB qK c 1 128 (BO m c) ∗ Sq m K c 20 16 ∗ pXL qK c 3 0 (XL m c) ∗ pXL qK c 3 128 (XL m c) ∗ RO m c) -∗ WPc c (k ⟨(Scalar.remsi (Scalar.addi v2 5#32) 8#32), k0_pay57 (slotOf (XB m (rot c 5))) (WQB m c), (Scalar.maxsi (Scalar.subi (Scalar.muli 256#32 (Scalar.remsi (Scalar.addi v2 5#32) 8#32)) 128#32) 0#32)⟩) Q)
        -∗ WPc c (onArgs (k0_part34 (F := F)) c v2 v4 v1003 >>= k) Q) := by
  rw [k0_part34_eq_skeleton]; unfold onArgs k0_part34_skel
  simp only [semSignalWord, semWaitWord, Prog.lift, Prog.bind_op, Prog.bind_ret, Prog.pure_eq_ret, wp_deviceId]
  iintro ⟨Hb1_128F, HS, Hxl3_0K, Hxl3_128K, HR⟩ Hk
  iapply (ld_halfB c 1 128 (by decide) (by decide) (f := BI m c) (v := bval m 0 (prv c)) (fun _ _ => rfl)) $$ Hb1_128F
  iintro Hb1_128F
  iapply (ld_halfB c 1 128 (by decide) (by decide) (f := BI m c) (v := bval m 0 (prv c)) (fun _ _ => rfl)) $$ Hb1_128F
  iintro Hb1_128F
  iapply (st_halfB c 1 128 (by decide) (by decide) (g := BO m c) (v := bval m 1 c) (by subst h; exact upd 128 (by decide) _ _ _) (fun _ _ => rfl)) $$ Hb1_128F
  iintro Hb1_128O
  ihave Hb1_128O := (halve_b c 1 128 (BO m c)).1 $$ Hb1_128O
  icases Hb1_128O with ⟨Hb1_128S, Hb1_128K⟩
  iapply (go_b m K c 19 1 128 (by decide) (by decide) rfl rfl rfl (by decide) (dev19 c) rfl rfl) $$ [HS Hb1_128S]
  · isplitl [HS]; · iexact HS
    iexact Hb1_128S
  iintro HS
  iapply (ld_slotXL c 3 (by decide) (f := XL m c) (v := XB m (rot c 5)) (fun _ _ => rfl)) $$ [Hxl3_0K Hxl3_128K]
  · isplitl [Hxl3_0K]; · iexact Hxl3_0K
    iexact Hxl3_128K
  iintro ⟨Hxl3_0K, Hxl3_128K⟩
  iapply (ld_wq m c) $$ HR
  iintro HR
  iapply Hk
  isplitl [Hb1_128K]; · iexact Hb1_128K
  isplitl [HS]; · iexact HS
  isplitl [Hxl3_0K]; · iexact Hxl3_0K
  isplitl [Hxl3_128K]; · iexact Hxl3_128K
  iexact HR

theorem part38 (v4 : BitVec 32) (v7 : BitVec 32) (v1088 : FVec F S256x128 .f32) (v1104 : FVec F S256x128 .f32) (v1120 : FVec F S256x128 .f32) (v1136 : FVec F S256x128 .f32) (v1152 : FVec F S256x128 .f32) (v1168 : FVec F S256x128 .f32) (v1184 : FVec F S256x128 .f32) (v1191 : FVec F S256x512 .f32) (v1194 : FVec F S512x128 .bf16) (h : k0_pay70 v1088 v1104 v1120 v1136 v1152 v1168 v1184 v1191 v1194 (WOB m c) = ctr m c (rot c 5)) {α : Type} {Q : α → sProp 𝕄} {k : _ → Prog (TpuEff nD τ sig (Elt F) Λ₀ .tc) α} :
    iprop(RO m c ∗ Sq m K c 20 16)
      ⊢ iprop(((RO m c ∗ Sq m K c 20 17 ∗ pA qS c 1 0 (AO m c) ∗ pA qK c 1 0 (AO m c)) -∗ WPc c (k (k0_pay70 v1088 v1104 v1120 v1136 v1152 v1168 v1184 v1191 v1194 (WOB m c))) Q)
        -∗ WPc c (onArgs (k0_part38 (F := F)) v4 v7 v1088 v1104 v1120 v1136 v1152 v1168 v1184 v1191 v1194 >>= k) Q) := by
  rw [k0_part38_eq_skeleton]; unfold onArgs k0_part38_skel
  simp only [semSignalWord, semWaitWord, Prog.lift, Prog.bind_op, Prog.bind_ret, Prog.pure_eq_ret, wp_deviceId]
  iintro ⟨HR, HS⟩ Hk
  iapply (ld_wo m c) $$ HR
  iintro HR
  iapply (await_a m K c 20 16 16 1 0 (by decide) rfl (by decide) rfl rfl rfl rfl) $$ HS
  iintro ⟨HS, Ha1_0F⟩
  iapply (ld_halfA c 1 0 (by decide) (by decide) (f := AI m c) (v := aval m 0 (nxt c)) (fun _ _ => rfl)) $$ Ha1_0F
  iintro Ha1_0F
  iapply (ld_halfA c 1 0 (by decide) (by decide) (f := AI m c) (v := aval m 0 (nxt c)) (fun _ _ => rfl)) $$ Ha1_0F
  iintro Ha1_0F
  iapply (st_halfA c 1 0 (by decide) (by decide) (g := AO m c) (v := aval m 1 c) ((upd 0 (by decide) (aval m 0 (nxt c)) (k0_pay70 v1088 v1104 v1120 v1136 v1152 v1168 v1184 v1191 v1194 (WOB m c)) slices_S256x1024_o0_0_S128x1024).trans (by rw [h]; rfl)) (fun _ _ => rfl)) $$ Ha1_0F
  iintro Ha1_0O
  ihave Ha1_0O := (halve_a c 1 0 (AO m c)).1 $$ Ha1_0O
  icases Ha1_0O with ⟨Ha1_0S, Ha1_0K⟩
  iapply Hk
  isplitl [HR]; · iexact HR
  isplitl [HS]; · iexact HS
  isplitl [Ha1_0S]; · iexact Ha1_0S
  iexact Ha1_0K

theorem part39 (v4 : BitVec 32) (v7 : BitVec 32) (v1204 : FVec F S256x1024 .f32) (h : v1204 = ctr m c (rot c 5)) {α : Type} {Q : α → sProp 𝕄} {k : _ → Prog (TpuEff nD τ sig (Elt F) Λ₀ .tc) α} :
    iprop(Sq m K c 20 17 ∗ pA qS c 1 0 (AO m c))
      ⊢ iprop(((Sq m K c 21 18 ∗ pA qS c 1 128 (AO m c) ∗ pA qK c 1 128 (AO m c)) -∗ WPc c (k ⟨⟩) Q)
        -∗ WPc c (onArgs (k0_part39 (F := F)) c v4 v7 v1204 >>= k) Q) := by
  rw [k0_part39_eq_skeleton]; unfold onArgs k0_part39_skel
  simp only [semSignalWord, semWaitWord, Prog.lift, Prog.bind_op, Prog.bind_ret, Prog.pure_eq_ret, wp_deviceId]
  iintro ⟨HS, Ha1_0S⟩ Hk
  iapply (go_a m K c 20 1 0 (by decide) (by decide) rfl rfl rfl (by decide) (dev20 c) rfl rfl) $$ [HS Ha1_0S]
  · isplitl [HS]; · iexact HS
    iexact Ha1_0S
  iintro HS
  iapply (await_a m K c 21 17 17 1 128 (by decide) rfl (by decide) rfl rfl rfl rfl) $$ HS
  iintro ⟨HS, Ha1_128F⟩
  iapply (ld_halfA c 1 128 (by decide) (by decide) (f := AI m c) (v := aval m 0 (nxt c)) (fun _ _ => rfl)) $$ Ha1_128F
  iintro Ha1_128F
  iapply (ld_halfA c 1 128 (by decide) (by decide) (f := AI m c) (v := aval m 0 (nxt c)) (fun _ _ => rfl)) $$ Ha1_128F
  iintro Ha1_128F
  iapply (st_halfA c 1 128 (by decide) (by decide) (g := AO m c) (v := aval m 1 c) (by subst h; exact upd 128 (by decide) _ _ _) (fun _ _ => rfl)) $$ Ha1_128F
  iintro Ha1_128O
  ihave Ha1_128O := (halve_a c 1 128 (AO m c)).1 $$ Ha1_128O
  icases Ha1_128O with ⟨Ha1_128S, Ha1_128K⟩
  iapply Hk
  isplitl [HS]; · iexact HS
  isplitl [Ha1_128S]; · iexact Ha1_128S
  iexact Ha1_128K

theorem part40 (v2 : BitVec 32) (v492 : FVec F S256x512 .f32) (v498 : FVec F S256x512 .f32)  {α : Type} {Q : α → sProp 𝕄} {k : _ → Prog (TpuEff nD τ sig (Elt F) Λ₀ .tc) α} :
    iprop(Sq m K c 21 18 ∗ pA qS c 1 128 (AO m c) ∗ pXR qK c 1 0 (XR m c) ∗ pXR qK c 1 128 (XR m c) ∗ RO m c)
      ⊢ iprop(((Sq m K c 22 18 ∗ pXR qK c 1 0 (XR m c) ∗ pXR qK c 1 128 (XR m c) ∗ RO m c) -∗ WPc c (k ⟨k0_pay73 (slotOf (XB m (rot c 1))) (WQB m c), ((Scalar.maxsi (Scalar.subi (Scalar.muli 256#32 (Scalar.remsi (Scalar.addi v2 1#32) 8#32)) 128#32) 0#32)), k0_pay74 v2 v492 v498, k0_pay75 v2 v492 v498 (slotOf (XB m (rot c 1))) (WQB m c) (win (KB m c) 0 (rot c 1)) (win (VB m c) 0 (rot c 1)), k0_pay76 (slotOf (XB m (rot c 1))) (WQB m c)⟩) Q)
        -∗ WPc c (onArgs (k0_part40 (F := F)) c v2 v492 v498 >>= k) Q) := by
  rw [k0_part40_eq_skeleton]; unfold onArgs k0_part40_skel
  simp only [semSignalWord, semWaitWord, Prog.lift, Prog.bind_op, Prog.bind_ret, Prog.pure_eq_ret, wp_deviceId]
  iintro ⟨HS, Ha1_128S, Hxr1_0K, Hxr1_128K, HR⟩ Hk
  iapply (go_a m K c 21 1 128 (by decide) (by decide) rfl rfl rfl (by decide) (dev21 c) rfl rfl) $$ [HS Ha1_128S]
  · isplitl [HS]; · iexact HS
    iexact Ha1_128S
  iintro HS
  iapply (ld_slotXR c 1 (by decide) (f := XR m c) (v := XB m (rot c 1)) (fun _ _ => rfl)) $$ [Hxr1_0K Hxr1_128K]
  · isplitl [Hxr1_0K]; · iexact Hxr1_0K
    iexact Hxr1_128K
  iintro ⟨Hxr1_0K, Hxr1_128K⟩
  iapply (ld_wq m c) $$ HR
  iintro HR
  iapply (ld_kb m c 0 (rot c 1) (off2 c 0)) $$ HR
  iintro HR
  iapply (ld_vb m c 0 (rot c 1) (off2 c 0)) $$ HR
  iintro HR
  iapply Hk
  isplitl [HS]; · iexact HS
  isplitl [Hxr1_0K]; · iexact Hxr1_0K
  isplitl [Hxr1_128K]; · iexact Hxr1_128K
  iexact HR

theorem part44 (v4 : BitVec 32) (v7 : BitVec 32) (v1405 : FVec F S256x1024 .f32) (h : v1405 = ctr m c (rot c 1)) {α : Type} {Q : α → sProp 𝕄} {k : _ → Prog (TpuEff nD τ sig (Elt F) Λ₀ .tc) α} :
    iprop(Sq m K c 22 18)
      ⊢ iprop(((pB qK c 2 0 (BO m c) ∗ Sq m K c 23 19) -∗ WPc c (k ⟨⟩) Q)
        -∗ WPc c (onArgs (k0_part44 (F := F)) c v4 v7 v1405 >>= k) Q) := by
  rw [k0_part44_eq_skeleton]; unfold onArgs k0_part44_skel
  simp only [semSignalWord, semWaitWord, Prog.lift, Prog.bind_op, Prog.bind_ret, Prog.pure_eq_ret, wp_deviceId]
  iintro HS Hk
  iapply (await_b m K c 22 18 18 2 0 (by decide) rfl (by decide) rfl rfl rfl rfl) $$ HS
  iintro ⟨HS, Hb2_0F⟩
  iapply (ld_halfB c 2 0 (by decide) (by decide) (f := BI m c) (v := bval m 1 (prv c)) (fun _ _ => rfl)) $$ Hb2_0F
  iintro Hb2_0F
  iapply (ld_halfB c 2 0 (by decide) (by decide) (f := BI m c) (v := bval m 1 (prv c)) (fun _ _ => rfl)) $$ Hb2_0F
  iintro Hb2_0F
  iapply (st_halfB c 2 0 (by decide) (by decide) (g := BO m c) (v := bval m 2 c) (by subst h; exact upd 0 (by decide) _ _ _) (fun _ _ => rfl)) $$ Hb2_0F
  iintro Hb2_0O
  ihave Hb2_0O := (halve_b c 2 0 (BO m c)).1 $$ Hb2_0O
  icases Hb2_0O with ⟨Hb2_0S, Hb2_0K⟩
  iapply (go_b m K c 22 2 0 (by decide) (by decide) rfl rfl rfl (by decide) (dev22 c) rfl rfl) $$ [HS Hb2_0S]
  · isplitl [HS]; · iexact HS
    iexact Hb2_0S
  iintro HS
  iapply Hk
  isplitl [Hb2_0K]; · iexact Hb2_0K
  iexact HS

theorem part45 (v2 : BitVec 32) (v4 : BitVec 32) (v1405 : FVec F S256x1024 .f32) (h : v1405 = ctr m c (rot c 1)) {α : Type} {Q : α → sProp 𝕄} {k : _ → Prog (TpuEff nD τ sig (Elt F) Λ₀ .tc) α} :
    iprop(Sq m K c 23 19 ∗ pXL qK c 2 0 (XL m c) ∗ pXL qK c 2 128 (XL m c) ∗ RO m c)
      ⊢ iprop(((pB qK c 2 128 (BO m c) ∗ Sq m K c 24 20 ∗ pXL qK c 2 0 (XL m c) ∗ pXL qK c 2 128 (XL m c) ∗ RO m c) -∗ WPc c (k ⟨(Scalar.remsi (Scalar.addi v2 6#32) 8#32), k0_pay90 (slotOf (XB m (rot c 6))) (WQB m c), (Scalar.subi (Scalar.muli 256#32 (Scalar.remsi (Scalar.addi v2 6#32) 8#32)) 128#32)⟩) Q)
        -∗ WPc c (onArgs (k0_part45 (F := F)) c v2 v4 v1405 >>= k) Q) := by
  rw [k0_part45_eq_skeleton]; unfold onArgs k0_part45_skel
  simp only [semSignalWord, semWaitWord, Prog.lift, Prog.bind_op, Prog.bind_ret, Prog.pure_eq_ret, wp_deviceId]
  iintro ⟨HS, Hxl2_0K, Hxl2_128K, HR⟩ Hk
  iapply (await_b m K c 23 19 19 2 128 (by decide) rfl (by decide) rfl rfl rfl rfl) $$ HS
  iintro ⟨HS, Hb2_128F⟩
  iapply (ld_halfB c 2 128 (by decide) (by decide) (f := BI m c) (v := bval m 1 (prv c)) (fun _ _ => rfl)) $$ Hb2_128F
  iintro Hb2_128F
  iapply (ld_halfB c 2 128 (by decide) (by decide) (f := BI m c) (v := bval m 1 (prv c)) (fun _ _ => rfl)) $$ Hb2_128F
  iintro Hb2_128F
  iapply (st_halfB c 2 128 (by decide) (by decide) (g := BO m c) (v := bval m 2 c) (by subst h; exact upd 128 (by decide) _ _ _) (fun _ _ => rfl)) $$ Hb2_128F
  iintro Hb2_128O
  ihave Hb2_128O := (halve_b c 2 128 (BO m c)).1 $$ Hb2_128O
  icases Hb2_128O with ⟨Hb2_128S, Hb2_128K⟩
  iapply (go_b m K c 23 2 128 (by decide) (by decide) rfl rfl rfl (by decide) (dev23 c) rfl rfl) $$ [HS Hb2_128S]
  · isplitl [HS]; · iexact HS
    iexact Hb2_128S
  iintro HS
  iapply (ld_slotXL c 2 (by decide) (f := XL m c) (v := XB m (rot c 6)) (fun _ _ => rfl)) $$ [Hxl2_0K Hxl2_128K]
  · isplitl [Hxl2_0K]; · iexact Hxl2_0K
    iexact Hxl2_128K
  iintro ⟨Hxl2_0K, Hxl2_128K⟩
  iapply (ld_wq m c) $$ HR
  iintro HR
  iapply Hk
  isplitl [Hb2_128K]; · iexact Hb2_128K
  isplitl [HS]; · iexact HS
  isplitl [Hxl2_0K]; · iexact Hxl2_0K
  isplitl [Hxl2_128K]; · iexact Hxl2_128K
  iexact HR

theorem part49 (v4 : BitVec 32) (v7 : BitVec 32) (v1490 : FVec F S256x128 .f32) (v1506 : FVec F S256x128 .f32) (v1522 : FVec F S256x128 .f32) (v1538 : FVec F S256x128 .f32) (v1554 : FVec F S256x128 .f32) (v1570 : FVec F S256x128 .f32) (v1586 : FVec F S256x128 .f32) (v1593 : FVec F S256x512 .f32) (h : k0_pay104 v1490 v1506 v1522 v1538 v1554 v1570 v1586 v1593 (win (VB m c) 7 (rot c 6)) (WOB m c) = ctr m c (rot c 6)) {α : Type} {Q : α → sProp 𝕄} {k : _ → Prog (TpuEff nD τ sig (Elt F) Λ₀ .tc) α} :
    iprop(RO m c ∗ Sq m K c 24 20)
      ⊢ iprop(((RO m c ∗ Sq m K c 24 21 ∗ pA qS c 2 0 (AO m c) ∗ pA qK c 2 0 (AO m c)) -∗ WPc c (k (k0_pay104 v1490 v1506 v1522 v1538 v1554 v1570 v1586 v1593 (win (VB m c) 7 (rot c 6)) (WOB m c))) Q)
        -∗ WPc c (onArgs (k0_part49 (F := F)) c v4 v7 v1490 v1506 v1522 v1538 v1554 v1570 v1586 v1593 >>= k) Q) := by
  rw [k0_part49_eq_skeleton]; unfold onArgs k0_part49_skel
  simp only [semSignalWord, semWaitWord, Prog.lift, Prog.bind_op, Prog.bind_ret, Prog.pure_eq_ret, wp_deviceId]
  iintro ⟨HR, HS⟩ Hk
  iapply (ld_vb m c 7 (rot c 6) (off9 c 5)) $$ HR
  iintro HR
  iapply (ld_wo m c) $$ HR
  iintro HR
  iapply (await_a m K c 24 20 20 2 0 (by decide) rfl (by decide) rfl rfl rfl rfl) $$ HS
  iintro ⟨HS, Ha2_0F⟩
  iapply (ld_halfA c 2 0 (by decide) (by decide) (f := AI m c) (v := aval m 1 (nxt c)) (fun _ _ => rfl)) $$ Ha2_0F
  iintro Ha2_0F
  iapply (ld_halfA c 2 0 (by decide) (by decide) (f := AI m c) (v := aval m 1 (nxt c)) (fun _ _ => rfl)) $$ Ha2_0F
  iintro Ha2_0F
  iapply (st_halfA c 2 0 (by decide) (by decide) (g := AO m c) (v := aval m 2 c) ((upd 0 (by decide) (aval m 1 (nxt c)) (k0_pay104 v1490 v1506 v1522 v1538 v1554 v1570 v1586 v1593 (win (VB m c) 7 (rot c 6)) (WOB m c)) slices_S256x1024_o0_0_S128x1024).trans (by rw [h]; rfl)) (fun _ _ => rfl)) $$ Ha2_0F
  iintro Ha2_0O
  ihave Ha2_0O := (halve_a c 2 0 (AO m c)).1 $$ Ha2_0O
  icases Ha2_0O with ⟨Ha2_0S, Ha2_0K⟩
  iapply Hk
  isplitl [HR]; · iexact HR
  isplitl [HS]; · iexact HS
  isplitl [Ha2_0S]; · iexact Ha2_0S
  iexact Ha2_0K

theorem part50 (v4 : BitVec 32) (v7 : BitVec 32) (v1606 : FVec F S256x1024 .f32) (h : v1606 = ctr m c (rot c 6)) {α : Type} {Q : α → sProp 𝕄} {k : _ → Prog (TpuEff nD τ sig (Elt F) Λ₀ .tc) α} :
    iprop(Sq m K c 24 21 ∗ pA qS c 2 0 (AO m c))
      ⊢ iprop(((Sq m K c 25 22 ∗ pA qS c 2 128 (AO m c) ∗ pA qK c 2 128 (AO m c)) -∗ WPc c (k ⟨⟩) Q)
        -∗ WPc c (onArgs (k0_part50 (F := F)) c v4 v7 v1606 >>= k) Q) := by
  rw [k0_part50_eq_skeleton]; unfold onArgs k0_part50_skel
  simp only [semSignalWord, semWaitWord, Prog.lift, Prog.bind_op, Prog.bind_ret, Prog.pure_eq_ret, wp_deviceId]
  iintro ⟨HS, Ha2_0S⟩ Hk
  iapply (go_a m K c 24 2 0 (by decide) (by decide) rfl rfl rfl (by decide) (dev24 c) rfl rfl) $$ [HS Ha2_0S]
  · isplitl [HS]; · iexact HS
    iexact Ha2_0S
  iintro HS
  iapply (await_a m K c 25 21 21 2 128 (by decide) rfl (by decide) rfl rfl rfl rfl) $$ HS
  iintro ⟨HS, Ha2_128F⟩
  iapply (ld_halfA c 2 128 (by decide) (by decide) (f := AI m c) (v := aval m 1 (nxt c)) (fun _ _ => rfl)) $$ Ha2_128F
  iintro Ha2_128F
  iapply (ld_halfA c 2 128 (by decide) (by decide) (f := AI m c) (v := aval m 1 (nxt c)) (fun _ _ => rfl)) $$ Ha2_128F
  iintro Ha2_128F
  iapply (st_halfA c 2 128 (by decide) (by decide) (g := AO m c) (v := aval m 2 c) (by subst h; exact upd 128 (by decide) _ _ _) (fun _ _ => rfl)) $$ Ha2_128F
  iintro Ha2_128O
  ihave Ha2_128O := (halve_a c 2 128 (AO m c)).1 $$ Ha2_128O
  icases Ha2_128O with ⟨Ha2_128S, Ha2_128K⟩
  iapply Hk
  isplitl [HS]; · iexact HS
  isplitl [Ha2_128S]; · iexact Ha2_128S
  iexact Ha2_128K

theorem part51 (v2 : BitVec 32) (v492 : FVec F S256x512 .f32) (v498 : FVec F S256x512 .f32)  {α : Type} {Q : α → sProp 𝕄} {k : _ → Prog (TpuEff nD τ sig (Elt F) Λ₀ .tc) α} :
    iprop(Sq m K c 25 22 ∗ pA qS c 2 128 (AO m c) ∗ pXL qK c 1 0 (XL m c) ∗ pXL qK c 1 128 (XL m c) ∗ RO m c)
      ⊢ iprop(((Sq m K c 26 22 ∗ pXL qK c 1 0 (XL m c) ∗ pXL qK c 1 128 (XL m c) ∗ RO m c) -∗ WPc c (k ⟨k0_pay107 (slotOf (XB m (rot c 7))) (WQB m c), ((Scalar.maxsi (Scalar.subi (Scalar.muli 256#32 (Scalar.remsi (Scalar.addi v2 7#32) 8#32)) 128#32) 0#32)), k0_pay108 v2 v492 v498, k0_pay109 v2 v492 v498 (slotOf (XB m (rot c 7))) (WQB m c) (win (KB m c) 0 (rot c 7)) (win (VB m c) 0 (rot c 7))⟩) Q)
        -∗ WPc c (onArgs (k0_part51 (F := F)) c v2 v492 v498 >>= k) Q) := by
  rw [k0_part51_eq_skeleton]; unfold onArgs k0_part51_skel
  simp only [semSignalWord, semWaitWord, Prog.lift, Prog.bind_op, Prog.bind_ret, Prog.pure_eq_ret, wp_deviceId]
  iintro ⟨HS, Ha2_128S, Hxl1_0K, Hxl1_128K, HR⟩ Hk
  iapply (go_a m K c 25 2 128 (by decide) (by decide) rfl rfl rfl (by decide) (dev25 c) rfl rfl) $$ [HS Ha2_128S]
  · isplitl [HS]; · iexact HS
    iexact Ha2_128S
  iintro HS
  iapply (ld_slotXL c 1 (by decide) (f := XL m c) (v := XB m (rot c 7)) (fun _ _ => rfl)) $$ [Hxl1_0K Hxl1_128K]
  · isplitl [Hxl1_0K]; · iexact Hxl1_0K
    iexact Hxl1_128K
  iintro ⟨Hxl1_0K, Hxl1_128K⟩
  iapply (ld_wq m c) $$ HR
  iintro HR
  iapply (ld_kb m c 0 (rot c 7) (off2 c 6)) $$ HR
  iintro HR
  iapply (ld_vb m c 0 (rot c 7) (off2 c 6)) $$ HR
  iintro HR
  iapply Hk
  isplitl [HS]; · iexact HS
  isplitl [Hxl1_0K]; · iexact Hxl1_0K
  isplitl [Hxl1_128K]; · iexact Hxl1_128K
  iexact HR

theorem part55 (v4 : BitVec 32) (v7 : BitVec 32) (v1807 : FVec F S256x1024 .f32) (h : v1807 = ctr m c (rot c 7)) {α : Type} {Q : α → sProp 𝕄} {k : _ → Prog (TpuEff nD τ sig (Elt F) Λ₀ .tc) α} :
    iprop(Sq m K c 26 22)
      ⊢ iprop(((pA qK c 3 0 (AO m c) ∗ Sq m K c 27 23) -∗ WPc c (k ⟨⟩) Q)
        -∗ WPc c (onArgs (k0_part55 (F := F)) c v4 v7 v1807 >>= k) Q) := by
  rw [k0_part55_eq_skeleton]; unfold onArgs k0_part55_skel
  simp only [semSignalWord, semWaitWord, Prog.lift, Prog.bind_op, Prog.bind_ret, Prog.pure_eq_ret, wp_deviceId]
  iintro HS Hk
  iapply (await_a m K c 26 22 24 3 0 (by decide) rfl (by decide) rfl rfl rfl rfl) $$ HS
  iintro ⟨HS, Ha3_0F⟩
  iapply (ld_halfA c 3 0 (by decide) (by decide) (f := AI m c) (v := aval m 2 (nxt c)) (fun _ _ => rfl)) $$ Ha3_0F
  iintro Ha3_0F
  iapply (ld_halfA c 3 0 (by decide) (by decide) (f := AI m c) (v := aval m 2 (nxt c)) (fun _ _ => rfl)) $$ Ha3_0F
  iintro Ha3_0F
  iapply (st_halfA c 3 0 (by decide) (by decide) (g := AO m c) (v := aval m 3 c) (by subst h; exact upd 0 (by decide) _ _ _) (fun _ _ => rfl)) $$ Ha3_0F
  iintro Ha3_0O
  ihave Ha3_0O := (halve_a c 3 0 (AO m c)).1 $$ Ha3_0O
  icases Ha3_0O with ⟨Ha3_0S, Ha3_0K⟩
  iapply (go_a m K c 26 3 0 (by decide) (by decide) rfl rfl rfl (by decide) (dev26 c) rfl rfl) $$ [HS Ha3_0S]
  · isplitl [HS]; · iexact HS
    iexact Ha3_0S
  iintro HS
  iapply Hk
  isplitl [Ha3_0K]; · iexact Ha3_0K
  iexact HS

theorem part56 (v2 : BitVec 32) (v7 : BitVec 32) (v1807 : FVec F S256x1024 .f32) (h : v1807 = ctr m c (rot c 7)) {α : Type} {Q : α → sProp 𝕄} {k : _ → Prog (TpuEff nD τ sig (Elt F) Λ₀ .tc) α} :
    iprop(Sq m K c 27 23 ∗ (((c : Thread nD τ).loc cc0_scratch4) ↦{fullShare.right} XB m c) ∗ RO m c)
      ⊢ iprop(((pA qK c 3 128 (AO m c) ∗ Sq m K c 28 24 ∗ (((c : Thread nD τ).loc cc0_scratch4) ↦{fullShare.right} XB m c) ∗ RO m c) -∗ WPc c (k ⟨k0_pay120 (XB m c) (WQB m c), ((Scalar.maxsi (Scalar.subi (Scalar.muli 256#32 v2) 128#32) 0#32)), 0#32⟩) Q)
        -∗ WPc c (onArgs (k0_part56 (F := F)) c v2 v7 v1807 >>= k) Q) := by
  rw [k0_part56_eq_skeleton]; unfold onArgs k0_part56_skel
  simp only [semSignalWord, semWaitWord, Prog.lift, Prog.bind_op, Prog.bind_ret, Prog.pure_eq_ret, wp_deviceId]
  iintro ⟨HS, Hw_arg10_K, HR⟩ Hk
  iapply (await_a m K c 27 23 25 3 128 (by decide) rfl (by decide) rfl rfl rfl rfl) $$ HS
  iintro ⟨HS, Ha3_128F⟩
  iapply (ld_halfA c 3 128 (by decide) (by decide) (f := AI m c) (v := aval m 2 (nxt c)) (fun _ _ => rfl)) $$ Ha3_128F
  iintro Ha3_128F
  iapply (ld_halfA c 3 128 (by decide) (by decide) (f := AI m c) (v := aval m 2 (nxt c)) (fun _ _ => rfl)) $$ Ha3_128F
  iintro Ha3_128F
  iapply (st_halfA c 3 128 (by decide) (by decide) (g := AO m c) (v := aval m 3 c) (by subst h; exact upd 128 (by decide) _ _ _) (fun _ _ => rfl)) $$ Ha3_128F
  iintro Ha3_128O
  ihave Ha3_128O := (halve_a c 3 128 (AO m c)).1 $$ Ha3_128O
  icases Ha3_128O with ⟨Ha3_128S, Ha3_128K⟩
  iapply (go_a m K c 27 3 128 (by decide) (by decide) rfl rfl rfl (by decide) (dev27 c) rfl rfl) $$ [HS Ha3_128S]
  · isplitl [HS]; · iexact HS
    iexact Ha3_128S
  iintro HS
  iapply (ld c (mm := (Memref.whole cc0_scratch4 : Memref sig .tc .vmem S256x1024 .bf16)) (f := XB m c) (Finset.subset_univ _) (Memref.readAt_unit_zero (Elt F) cc0_scratch4 z2 _ (XB m c))) $$ Hw_arg10_K
  iintro Hw_arg10_K
  iapply (ld_wq m c) $$ HR
  iintro HR
  iapply Hk
  isplitl [Ha3_128K]; · iexact Ha3_128K
  isplitl [HS]; · iexact HS
  isplitl [Hw_arg10_K]; · iexact Hw_arg10_K
  iexact HR

theorem part60 (v4 : BitVec 32) (v7 : BitVec 32) (v1889 : FVec F S256x128 .f32) (v1905 : FVec F S256x128 .f32) (v1921 : FVec F S256x128 .f32) (v1937 : FVec F S256x128 .f32) (v1953 : FVec F S256x128 .f32) (v1969 : FVec F S256x128 .f32) (v1985 : FVec F S256x128 .f32) (v1992 : FVec F S256x512 .f32) (v1995 : FVec F S512x128 .bf16) (v1996 : FVec F S256x512 .bf16) (cst_1407 : FVec F S256x128 .f32)  {α : Type} {Q : α → sProp 𝕄} {k : _ → Prog (TpuEff nD τ sig (Elt F) Λ₀ .tc) α} :
    iprop(RO m c ∗ Sq m K c 28 24)
      ⊢ iprop(((RO m c ∗ pB fullShare c 3 0 (BI m c) ∗ Sq m K c 28 26 ∗ pA fullShare c 4 0 (AI m c)) -∗ WPc c (k (k0_pay134 v1889 v1905 v1921 v1937 v1953 v1969 v1985 v1992 v1995 v1996 cst_1407 (WOB m c))) Q)
        -∗ WPc c (onArgs (k0_part60 (F := F)) v4 v7 v1889 v1905 v1921 v1937 v1953 v1969 v1985 v1992 v1995 v1996 cst_1407 >>= k) Q) := by
  rw [k0_part60_eq_skeleton]; unfold onArgs k0_part60_skel
  simp only [semSignalWord, semWaitWord, Prog.lift, Prog.bind_op, Prog.bind_ret, Prog.pure_eq_ret, wp_deviceId]
  iintro ⟨HR, HS⟩ Hk
  iapply (ld_wo m c) $$ HR
  iintro HR
  iapply (await_b m K c 28 24 22 3 0 (by decide) rfl (by decide) rfl rfl rfl rfl) $$ HS
  iintro ⟨HS, Hb3_0F⟩
  iapply (await_a m K c 28 25 26 4 0 (by decide) rfl (by decide) rfl rfl rfl rfl) $$ HS
  iintro ⟨HS, Ha4_0F⟩
  iapply Hk
  isplitl [HR]; · iexact HR
  isplitl [Hb3_0F]; · iexact Hb3_0F
  isplitl [HS]; · iexact HS
  iexact Ha4_0F

theorem part61 (v4 : BitVec 32) (v2005 : FVec F S256x1024 .f32) (h : v2005 = ctr m c c) {α : Type} {Q : α → sProp 𝕄} {k : _ → Prog (TpuEff nD τ sig (Elt F) Λ₀ .tc) α} :
    iprop(Sq m K c 28 26 ∗ pA fullShare c 4 0 (AI m c) ∗ pB fullShare c 3 0 (BI m c) ∗ (∃ f, (((c : Thread nD τ).loc cc0_stg3_0) ↦{fullShare} f)))
      ⊢ iprop(((Sq m K c 28 28 ∗ pA fullShare c 4 0 (AI m c) ∗ pA fullShare c 4 128 (AI m c) ∗ pB fullShare c 3 0 (BI m c) ∗ pB fullShare c 3 128 (BI m c) ∗ (((c : Thread nD τ).loc cc0_stg3_0) ↦{fullShare} outAt m c)) -∗ WPc c (k ⟨⟩) Q)
        -∗ WPc c (onArgs (k0_part61 (F := F)) v4 v2005 >>= k) Q) := by
  rw [k0_part61_eq_skeleton]; unfold onArgs k0_part61_skel
  simp only [semSignalWord, semWaitWord, Prog.lift, Prog.bind_op, Prog.bind_ret, Prog.pure_eq_ret, wp_deviceId]
  iintro ⟨HS, Ha4_0F, Hb3_0F, Hw0_arg5⟩ Hk
  iapply (await_b m K c 28 26 23 3 128 (by decide) rfl (by decide) rfl rfl rfl rfl) $$ HS
  iintro ⟨HS, Hb3_128F⟩
  iapply (await_a m K c 28 27 27 4 128 (by decide) rfl (by decide) rfl rfl rfl rfl) $$ HS
  iintro ⟨HS, Ha4_128F⟩
  iapply (ld_slotA c 4 (by decide) (f := AI m c) (v := aval m 3 (nxt c)) (fun _ _ => rfl)) $$ [Ha4_0F Ha4_128F]
  · isplitl [Ha4_0F]; · iexact Ha4_0F
    iexact Ha4_128F
  iintro ⟨Ha4_0F, Ha4_128F⟩
  iapply (ld_slotB c 3 (by decide) (f := BI m c) (v := bval m 2 (prv c)) (fun _ _ => rfl)) $$ [Hb3_0F Hb3_128F]
  · isplitl [Hb3_0F]; · iexact Hb3_0F
    iexact Hb3_128F
  iintro ⟨Hb3_0F, Hb3_128F⟩
  icases Hw0_arg5 with ⟨%farg5, Hw0_arg5⟩
  iapply (ld c (mm := (Memref.whole cc0_stg3_0 : Memref sig .tc .vmem S256x1024 .f32)) (f := farg5) (Finset.subset_univ _) (Memref.readAt_unit_zero (Elt F) cc0_stg3_0 z2 _ farg5)) $$ Hw0_arg5
  iintro Hw0_arg5
  iapply (st c (mm := (Memref.whole cc0_stg3_0 : Memref sig .tc .vmem S256x1024 .f32)) (r := Rect.unit (s := S256x1024) ![0, 0] S256x1024.size inb_S256x1024_S256x1024_0_0) (f := farg5) (g := outAt m c) (Finset.subset_univ _) (fun i _ => congrFun ((Memref.write_access_unit_zero_univ (Elt F) cc0_stg3_0 z2 _ farg5 _).trans (by subst h; exact out_eq m c)) i)) $$ Hw0_arg5
  iintro Hw_arg5_
  iapply Hk
  isplitl [HS]; · iexact HS
  isplitl [Ha4_0F]; · iexact Ha4_0F
  isplitl [Ha4_128F]; · iexact Ha4_128F
  isplitl [Hb3_0F]; · iexact Hb3_0F
  isplitl [Hb3_128F]; · iexact Hb3_128F
  iexact Hw_arg5_

theorem part62   {α : Type} {Q : α → sProp 𝕄} {k : _ → Prog (TpuEff nD τ sig (Elt F) Λ₀ .tc) α} :
    iprop(Fq m K c 0)
      ⊢ iprop(((Fq m K c 5) -∗ WPc c (k ⟨⟩) Q)
        -∗ WPc c (onArgs (k0_part62 (F := F))  >>= k) Q) := by
  rw [k0_part62_eq_skeleton]; unfold onArgs k0_part62_skel
  simp only [semSignalWord, semWaitWord, Prog.lift, Prog.bind_op, Prog.bind_ret, Prog.pure_eq_ret, wp_deviceId]
  iintro HS Hk
  iapply (await_send m K c 0 (by decide) rfl) $$ HS
  iintro HS
  iapply (await_send m K c 1 (by decide) rfl) $$ HS
  iintro HS
  iapply (await_send m K c 2 (by decide) rfl) $$ HS
  iintro HS
  iapply (await_send m K c 3 (by decide) rfl) $$ HS
  iintro HS
  iapply (await_send m K c 4 (by decide) rfl) $$ HS
  iintro HS
  iapply Hk
  iexact HS

theorem part63   {α : Type} {Q : α → sProp 𝕄} {k : _ → Prog (TpuEff nD τ sig (Elt F) Λ₀ .tc) α} :
    iprop(Fq m K c 5)
      ⊢ iprop(((Fq m K c 8) -∗ WPc c (k ⟨⟩) Q)
        -∗ WPc c (onArgs (k0_part63 (F := F))  >>= k) Q) := by
  rw [k0_part63_eq_skeleton]; unfold onArgs k0_part63_skel
  simp only [semSignalWord, semWaitWord, Prog.lift, Prog.bind_op, Prog.bind_ret, Prog.pure_eq_ret, wp_deviceId]
  iintro HS Hk
  iapply (await_send m K c 5 (by decide) rfl) $$ HS
  iintro HS
  iapply (await_send m K c 6 (by decide) rfl) $$ HS
  iintro HS
  iapply (await_send m K c 7 (by decide) rfl) $$ HS
  iintro HS
  iapply Hk
  iexact HS

theorem part64   {α : Type} {Q : α → sProp 𝕄} {k : _ → Prog (TpuEff nD τ sig (Elt F) Λ₀ .tc) α} :
    iprop(Fq m K c 8)
      ⊢ iprop(((Fq m K c 12) -∗ WPc c (k ⟨⟩) Q)
        -∗ WPc c (onArgs (k0_part64 (F := F))  >>= k) Q) := by
  rw [k0_part64_eq_skeleton]; unfold onArgs k0_part64_skel
  simp only [semSignalWord, semWaitWord, Prog.lift, Prog.bind_op, Prog.bind_ret, Prog.pure_eq_ret, wp_deviceId]
  iintro HS Hk
  iapply (await_send m K c 8 (by decide) rfl) $$ HS
  iintro HS
  iapply (await_send m K c 9 (by decide) rfl) $$ HS
  iintro HS
  iapply (await_send m K c 10 (by decide) rfl) $$ HS
  iintro HS
  iapply (await_send m K c 11 (by decide) rfl) $$ HS
  iintro HS
  iapply Hk
  iexact HS

theorem part65   {α : Type} {Q : α → sProp 𝕄} {k : _ → Prog (TpuEff nD τ sig (Elt F) Λ₀ .tc) α} :
    iprop(Fq m K c 12)
      ⊢ iprop(((Fq m K c 16) -∗ WPc c (k ⟨⟩) Q)
        -∗ WPc c (onArgs (k0_part65 (F := F))  >>= k) Q) := by
  rw [k0_part65_eq_skeleton]; unfold onArgs k0_part65_skel
  simp only [semSignalWord, semWaitWord, Prog.lift, Prog.bind_op, Prog.bind_ret, Prog.pure_eq_ret, wp_deviceId]
  iintro HS Hk
  iapply (await_send m K c 12 (by decide) rfl) $$ HS
  iintro HS
  iapply (await_send m K c 13 (by decide) rfl) $$ HS
  iintro HS
  iapply (await_send m K c 14 (by decide) rfl) $$ HS
  iintro HS
  iapply (await_send m K c 15 (by decide) rfl) $$ HS
  iintro HS
  iapply Hk
  iexact HS

theorem part66   {α : Type} {Q : α → sProp 𝕄} {k : _ → Prog (TpuEff nD τ sig (Elt F) Λ₀ .tc) α} :
    iprop(Fq m K c 16)
      ⊢ iprop(((Fq m K c 20) -∗ WPc c (k ⟨⟩) Q)
        -∗ WPc c (onArgs (k0_part66 (F := F))  >>= k) Q) := by
  rw [k0_part66_eq_skeleton]; unfold onArgs k0_part66_skel
  simp only [semSignalWord, semWaitWord, Prog.lift, Prog.bind_op, Prog.bind_ret, Prog.pure_eq_ret, wp_deviceId]
  iintro HS Hk
  iapply (await_send m K c 16 (by decide) rfl) $$ HS
  iintro HS
  iapply (await_send m K c 17 (by decide) rfl) $$ HS
  iintro HS
  iapply (await_send m K c 18 (by decide) rfl) $$ HS
  iintro HS
  iapply (await_send m K c 19 (by decide) rfl) $$ HS
  iintro HS
  iapply Hk
  iexact HS

theorem part67   {α : Type} {Q : α → sProp 𝕄} {k : _ → Prog (TpuEff nD τ sig (Elt F) Λ₀ .tc) α} :
    iprop(Fq m K c 20)
      ⊢ iprop(((Fq m K c 23) -∗ WPc c (k ⟨⟩) Q)
        -∗ WPc c (onArgs (k0_part67 (F := F))  >>= k) Q) := by
  rw [k0_part67_eq_skeleton]; unfold onArgs k0_part67_skel
  simp only [semSignalWord, semWaitWord, Prog.lift, Prog.bind_op, Prog.bind_ret, Prog.pure_eq_ret, wp_deviceId]
  iintro HS Hk
  iapply (await_send m K c 20 (by decide) rfl) $$ HS
  iintro HS
  iapply (await_send m K c 21 (by decide) rfl) $$ HS
  iintro HS
  iapply (await_send m K c 22 (by decide) rfl) $$ HS
  iintro HS
  iapply Hk
  iexact HS

theorem part68   {α : Type} {Q : α → sProp 𝕄} {k : _ → Prog (TpuEff nD τ sig (Elt F) Λ₀ .tc) α} :
    iprop(Fq m K c 23)
      ⊢ iprop(((Fq m K c 27) -∗ WPc c (k ⟨⟩) Q)
        -∗ WPc c (onArgs (k0_part68 (F := F))  >>= k) Q) := by
  rw [k0_part68_eq_skeleton]; unfold onArgs k0_part68_skel
  simp only [semSignalWord, semWaitWord, Prog.lift, Prog.bind_op, Prog.bind_ret, Prog.pure_eq_ret, wp_deviceId]
  iintro HS Hk
  iapply (await_send m K c 23 (by decide) rfl) $$ HS
  iintro HS
  iapply (await_send m K c 24 (by decide) rfl) $$ HS
  iintro HS
  iapply (await_send m K c 25 (by decide) rfl) $$ HS
  iintro HS
  iapply (await_send m K c 26 (by decide) rfl) $$ HS
  iintro HS
  iapply Hk
  iexact HS

end Cert.KernelIdeal.Run
-- ==== Proof.KI.Body.lean ====
module

public import proofs.«01_k».proof.Proof.KI.PartsB

/-! The body of one device, from the barrier to the last wait. -/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (K : Dev nD × Fin 73 → ℕ) (c : Dev nD)

theorem WPc_bind {α β : Type} (p : Prog (TpuEff nD τ sig (Elt F) Λ₀ .tc) α) (k : α → Prog (TpuEff nD τ sig (Elt F) Λ₀ .tc) β) (Q : β → sProp 𝕄) :
    WPc c (p >>= k) Q = WPc c p (fun a => WPc c (k a) Q) := wp_bind _ _ _ p k Q
theorem WPc_ret {α : Type} (a : α) (Q : α → sProp 𝕄) : Q a ⊢ WPc c (.ret a) Q := by
  unfold WPc
  rw [wp_ret]
  iintro H
  imodintro
  iexact H

theorem join_a (f g : Vec F S5x256x1024 .bf16) : iprop(pA fullShare c 0 0 f ∗ pA fullShare c 0 128 g)
    ⊢ (((c : Thread nD τ).loc cc0_scratch9) ↦[hs5 0 0 ∪ hs5 0 128]{fullShare} ((hs5 0 128).piecewise g f) : sProp 𝕄) :=
  pointsTo_join (hs5_disj _ _ _ _ (.inr (.inl (le_refl 128))))
theorem join_b (f g : Vec F S4x256x1024 .bf16) : iprop(pB fullShare c 0 0 f ∗ pB fullShare c 0 128 g)
    ⊢ (((c : Thread nD τ).loc cc0_scratch10) ↦[hs4 0 0 ∪ hs4 0 128]{fullShare} ((hs4 0 128).piecewise g f) : sProp 𝕄) :=
  pointsTo_join (hs4_disj _ _ _ _ (.inr (.inl (le_refl 128))))
theorem land_xl (t r : ℕ) (f : Vec F S4x256x1024 .bf16) : pXL fullShare c t r f ⊢ landK (F := F) .xl c t r :=
  exists_intro (Φ := fun f : Vec F S4x256x1024 .bf16 => pXL fullShare c t r f) f
theorem land_xr (t r : ℕ) (f : Vec F S5x256x1024 .bf16) : pXR fullShare c t r f ⊢ landK (F := F) .xr c t r :=
  exists_intro (Φ := fun f : Vec F S5x256x1024 .bf16 => pXR fullShare c t r f) f
theorem land_a (t r : ℕ) (f : Vec F S5x256x1024 .bf16) : pA fullShare c t r f ⊢ landK (F := F) .a c t r :=
  exists_intro (Φ := fun f : Vec F S5x256x1024 .bf16 => pA fullShare c t r f) f
theorem land_b (t r : ℕ) (f : Vec F S4x256x1024 .bf16) : pB fullShare c t r f ⊢ landK (F := F) .b c t r :=
  exists_intro (Φ := fun f : Vec F S4x256x1024 .bf16 => pB fullShare c t r f) f

/-- The shares which stay behind of the sources of the links. -/
theorem keeps : iprop(pA qK c 3 128 (AO m c) ∗ pA qK c 3 0 (AO m c) ∗ pA qK c 2 128 (AO m c) ∗ pA qK c 2 0 (AO m c) ∗ pB qK c 2 128 (BO m c) ∗ pB qK c 2 0 (BO m c) ∗ pA qK c 1 128 (AO m c) ∗ pA qK c 1 0 (AO m c) ∗ pB qK c 1 128 (BO m c) ∗ pB qK c 1 0 (BO m c) ∗ pA qK c 0 128 (AO m c) ∗ pA qK c 0 0 (AO m c) ∗ pB qK c 0 128 (BO m c) ∗ pB qK c 0 0 (BO m c) ∗ pXR qK c 3 128 (XR m c) ∗ pXR qK c 3 0 (XR m c) ∗ pXR qK c 2 128 (XR m c) ∗ pXL qK c 2 128 (XL m c) ∗ pXR qK c 2 0 (XR m c) ∗ pXL qK c 2 0 (XL m c) ∗ pXR qK c 1 128 (XR m c) ∗ pXL qK c 1 128 (XL m c) ∗ pXR qK c 1 0 (XR m c) ∗ pXL qK c 1 0 (XL m c)) ⊢ seqL (keep m c) (up 28) := by
  iintro ⟨Ha3_128K, Ha3_0K, Ha2_128K, Ha2_0K, Hb2_128K, Hb2_0K, Ha1_128K, Ha1_0K, Hb1_128K, Hb1_0K, Ha0_128K, Ha0_0K, Hb0_128K, Hb0_0K, Hxr3_128K, Hxr3_0K, Hxr2_128K, Hxl2_128K, Hxr2_0K, Hxl2_0K, Hxr1_128K, Hxl1_128K, Hxr1_0K, Hxl1_0K⟩
  iapply (Entails.of_eq (show iprop(pA qK c 3 128 (AO m c) ∗ pA qK c 3 0 (AO m c) ∗ pA qK c 2 128 (AO m c) ∗ pA qK c 2 0 (AO m c) ∗ pB qK c 2 128 (BO m c) ∗ pB qK c 2 0 (BO m c) ∗ pA qK c 1 128 (AO m c) ∗ pA qK c 1 0 (AO m c) ∗ pB qK c 1 128 (BO m c) ∗ pB qK c 1 0 (BO m c) ∗ pA qK c 0 128 (AO m c) ∗ pA qK c 0 0 (AO m c) ∗ pB qK c 0 128 (BO m c) ∗ pB qK c 0 0 (BO m c) ∗ pXR qK c 3 128 (XR m c) ∗ pXR qK c 3 0 (XR m c) ∗ pXR qK c 2 128 (XR m c) ∗ pXL qK c 2 128 (XL m c) ∗ pXR qK c 2 0 (XR m c) ∗ pXL qK c 2 0 (XL m c) ∗ pXR qK c 1 128 (XR m c) ∗ pXL qK c 1 128 (XL m c) ∗ pXR qK c 1 0 (XR m c) ∗ pXL qK c 1 0 (XL m c) ∗ emp ∗ emp ∗ emp ∗ emp ∗ emp)
    = seqL (keep m c) (up 28) from rfl))
  isplitl [Ha3_128K]; · iexact Ha3_128K
  isplitl [Ha3_0K]; · iexact Ha3_0K
  isplitl [Ha2_128K]; · iexact Ha2_128K
  isplitl [Ha2_0K]; · iexact Ha2_0K
  isplitl [Hb2_128K]; · iexact Hb2_128K
  isplitl [Hb2_0K]; · iexact Hb2_0K
  isplitl [Ha1_128K]; · iexact Ha1_128K
  isplitl [Ha1_0K]; · iexact Ha1_0K
  isplitl [Hb1_128K]; · iexact Hb1_128K
  isplitl [Hb1_0K]; · iexact Hb1_0K
  isplitl [Ha0_128K]; · iexact Ha0_128K
  isplitl [Ha0_0K]; · iexact Ha0_0K
  isplitl [Hb0_128K]; · iexact Hb0_128K
  isplitl [Hb0_0K]; · iexact Hb0_0K
  isplitl [Hxr3_128K]; · iexact Hxr3_128K
  isplitl [Hxr3_0K]; · iexact Hxr3_0K
  isplitl [Hxr2_128K]; · iexact Hxr2_128K
  isplitl [Hxl2_128K]; · iexact Hxl2_128K
  isplitl [Hxr2_0K]; · iexact Hxr2_0K
  isplitl [Hxl2_0K]; · iexact Hxl2_0K
  isplitl [Hxr1_128K]; · iexact Hxr1_128K
  isplitl [Hxl1_128K]; · iexact Hxl1_128K
  isplitl [Hxr1_0K]; · iexact Hxr1_0K
  isplitl [Hxl1_0K]; · iexact Hxl1_0K
  isplitr; · iempintro
  isplitr; · iempintro
  isplitr; · iempintro
  isplitr; · iempintro
  iempintro

/-- The slots which no link reads. -/
theorem lasts : iprop(landK (F := F) .xl c 0 0 ∗ landK (F := F) .xl c 0 128 ∗ landK (F := F) .xr c 0 0 ∗ landK (F := F) .xr c 0 128 ∗ pXL qS c 3 0 (XL m c) ∗ pXL qK c 3 0 (XL m c) ∗ pXL qS c 3 128 (XL m c) ∗ pXL qK c 3 128 (XL m c) ∗ pXR qS c 4 0 (XR m c) ∗ pXR qK c 4 0 (XR m c) ∗ pXR qS c 4 128 (XR m c) ∗ pXR qK c 4 128 (XR m c) ∗ pA fullShare c 4 0 (AI m c) ∗ pA fullShare c 4 128 (AI m c) ∗ pB fullShare c 3 0 (BI m c) ∗ pB fullShare c 3 128 (BI m c)) ⊢ seqL (pc (F := F) c) last := by
  iintro ⟨HF0, HF1, HF2, HF3, Hxl3_0S, Hxl3_0K, Hxl3_128S, Hxl3_128K, Hxr4_0S, Hxr4_0K, Hxr4_128S, Hxr4_128K, Ha4_0F, Ha4_128F, Hb3_0F, Hb3_128F⟩
  iapply (Entails.of_eq (show iprop(landK (F := F) .xl c 0 0 ∗ landK (F := F) .xl c 0 128 ∗ landK (F := F) .xr c 0 0 ∗ landK (F := F) .xr c 0 128 ∗ landK (F := F) .xl c 3 0 ∗ landK (F := F) .xl c 3 128 ∗ landK (F := F) .xr c 4 0 ∗ landK (F := F) .xr c 4 128 ∗ landK (F := F) .a c 4 0 ∗ landK (F := F) .a c 4 128 ∗ landK (F := F) .b c 3 0 ∗ landK (F := F) .b c 3 128 ∗ emp)
    = seqL (pc (F := F) c) last from rfl))
  isplitl [HF0]; · iexact HF0
  isplitl [HF1]; · iexact HF1
  isplitl [HF2]; · iexact HF2
  isplitl [HF3]; · iexact HF3
  isplitl [Hxl3_0S Hxl3_0K]
  · iapply ((halve_xl c 3 0 (XL m c)).2.trans (land_xl c 3 0 _))
    isplitl [Hxl3_0S]; · iexact Hxl3_0S
    iexact Hxl3_0K
  isplitl [Hxl3_128S Hxl3_128K]
  · iapply ((halve_xl c 3 128 (XL m c)).2.trans (land_xl c 3 128 _))
    isplitl [Hxl3_128S]; · iexact Hxl3_128S
    iexact Hxl3_128K
  isplitl [Hxr4_0S Hxr4_0K]
  · iapply ((halve_xr c 4 0 (XR m c)).2.trans (land_xr c 4 0 _))
    isplitl [Hxr4_0S]; · iexact Hxr4_0S
    iexact Hxr4_0K
  isplitl [Hxr4_128S Hxr4_128K]
  · iapply ((halve_xr c 4 128 (XR m c)).2.trans (land_xr c 4 128 _))
    isplitl [Hxr4_128S]; · iexact Hxr4_128S
    iexact Hxr4_128K
  isplitl [Ha4_0F]
  · iapply (land_a c 4 0 _)
    iexact Ha4_0F
  isplitl [Ha4_128F]
  · iapply (land_a c 4 128 _)
    iexact Ha4_128F
  isplitl [Hb3_0F]
  · iapply (land_b c 3 0 _)
    iexact Hb3_0F
  isplitl [Hb3_128F]
  · iapply (land_b c 3 128 _)
    iexact Hb3_128F
  iempintro

/-- The slots in which no link lands: the first of the partial sums are written as a whole. -/
theorem firsts : seqL (pc (F := F) c) first ⊢ iprop(landK (F := F) .xl c 0 0 ∗ landK (F := F) .xl c 0 128 ∗ landK (F := F) .xr c 0 0 ∗ landK (F := F) .xr c 0 128 ∗ (∃ f, (((c : Thread nD τ).loc cc0_scratch9) ↦[hs5 0 0 ∪ hs5 0 128]{fullShare} f)) ∗ (∃ f, (((c : Thread nD τ).loc cc0_scratch10) ↦[hs4 0 0 ∪ hs4 0 128]{fullShare} f))) := by
  refine (Entails.of_eq (show seqL (pc (F := F) c) first = iprop(landK (F := F) .xl c 0 0 ∗ landK (F := F) .xl c 0 128 ∗ landK (F := F) .xr c 0 0 ∗ landK (F := F) .xr c 0 128 ∗ (∃ f, pA fullShare c 0 0 f) ∗ (∃ f, pA fullShare c 0 128 f)
    ∗ (∃ f, pB fullShare c 0 0 f) ∗ (∃ f, pB fullShare c 0 128 f) ∗ emp) from rfl)).trans ?_
  iintro ⟨HF0, HF1, HF2, HF3, ⟨%f0, HA0⟩, ⟨%f1, HA1⟩, ⟨%g0, HB0⟩, ⟨%g1, HB1⟩, -⟩
  isplitl [HF0]; · iexact HF0
  isplitl [HF1]; · iexact HF1
  isplitl [HF2]; · iexact HF2
  isplitl [HF3]; · iexact HF3
  isplitl [HA0 HA1]
  · iexists ((hs5 0 128).piecewise f1 f0)
    iapply (join_a c f0 f1)
    isplitl [HA0]; · iexact HA0
    iexact HA1
  · iexists ((hs4 0 128).piecewise g1 g0)
    iapply (join_b c g0 g1)
    isplitl [HB0]; · iexact HB0
    iexact HB1

/-- The copies of the heads have all begun. -/
theorem KV_turn : KV m K c (kl 16) (kg 16) [] ⊢ KV m K c [] (kl 0) (kg 0) := by
  unfold KV
  rw [show kl 16 = [] by decide +kernel, show kg 0 = [] by decide +kernel]
  exact sep_mono_right (sep_mono_right (sep_mono_left (seqL_perm (by decide +kernel))))

/-- What the body takes, and what it leaves. -/
def bodyIn : sProp 𝕄 :=
  iprop(KV m K c (kl 0) (kg 0) [] ∗ arrP m c true fullShare ∗ arrP m c false fullShare ∗ (((c : Thread nD τ).loc cc0_stg0_0) ↦{fullShare} xstg m c) ∗ (∃ f, (((c : Thread nD τ).loc cc0_scratch4) ↦{fullShare} f)) ∗ B0 m K c ∗ (((c : Thread nD τ).loc cc0_stg1_0) ↦{fullShare} wqstg m c) ∗ (∃ f, (((c : Thread nD τ).loc cc0_scratch5) ↦{fullShare} f)) ∗ (((c : Thread nD τ).loc cc0_stg2_0) ↦{fullShare} wostg m c) ∗ (∃ f, (((c : Thread nD τ).loc cc0_scratch6) ↦{fullShare} f)) ∗ (∃ f, (((c : Thread nD τ).loc cc0_scratch2) ↦{fullShare} f)) ∗ (∃ f, (((c : Thread nD τ).loc cc0_scratch3) ↦{fullShare} f)) ∗ (∃ f, (((c : Thread nD τ).loc cc0_stg3_0) ↦{fullShare} f)) ∗ seqL (pc (F := F) c) first)
def bodyOut : sProp 𝕄 :=
  iprop(arrP m c true fullShare.right.right.right.right.right.right.right.right ∗ arrP m c false fullShare.right.right.right.right.right.right.right.right ∗ (((c : Thread nD τ).loc cc0_stg0_0) ↦{fullShare} xstg m c) ∗ semVal (barCell c) 0 ∗ (((c : Thread nD τ).loc cc0_stg1_0) ↦{fullShare} wqstg m c) ∗ (((c : Thread nD τ).loc cc0_stg2_0) ↦{fullShare} wostg m c) ∗ KV m K c [] (kl 16) (kg 16) ∗ (((c : Thread nD τ).loc cc0_scratch0) ↦{fullShare} KF m c) ∗ (((c : Thread nD τ).loc cc0_scratch1) ↦{fullShare} VF m c) ∗ RO m c ∗ (((c : Thread nD τ).loc cc0_stg3_0) ↦{fullShare} outAt m c) ∗ (((c : Thread nD τ).loc cc0_scratch4) ↦{fullShare} XB m c) ∗ four (F := F) c ∗ (∃ G, ⌜∃ w', w' = 28 ∧ G = (up w').map (28 + ·) ++ gl 28⌝ ∗ St m K c [] (dn 28) [] G))

theorem body {Q : PUnit → sProp 𝕄} :
    bodyIn m K c ⊢ iprop((bodyOut m K c -∗ Q ⟨⟩) -∗ WPc c (onArgs (cc0__body (F := F))) Q) := by
  unfold bodyIn
  rw [cc0__body_eq_skeleton]; unfold onArgs cc0__body_skel
  iintro ⟨HKV, Harrt, Harrf, Hw_arg0_, Hw0_arg10, HS, Hw_arg1_, Hw0_arg11, Hw_arg4_, Hw0_arg12, Hw0_arg8, Hw0_arg9, Hw0_arg5, HF⟩ Hk
  ihave HF := (firsts c) $$ HF
  icases HF with ⟨HF0, HF1, HF2, HF3, Hs0_a, Hs0_b⟩
  rw [WPc_bind, k0_part69_eq_skeleton]; unfold k0_part69_skel
  iapply (part1 m K c) $$ [HKV Harrt Harrf]
  · isplitl [HKV]; · iexact HKV
    isplitl [Harrt]; · iexact Harrt
    iexact Harrf
  iintro ⟨Harrt, HKV, Harrf⟩
  iapply (part2 m K c _) $$ [HKV Harrt Harrf]
  · isplitl [HKV]; · iexact HKV
    isplitl [Harrt]; · iexact Harrt
    iexact Harrf
  iintro ⟨Harrt, HKV, Harrf⟩
  iapply (part3 m K c _) $$ [HKV Harrt Harrf]
  · isplitl [HKV]; · iexact HKV
    isplitl [Harrt]; · iexact Harrt
    iexact Harrf
  iintro ⟨Harrt, HKV, Harrf⟩
  iapply (part4 m K c _) $$ [HKV Harrt Harrf]
  · isplitl [HKV]; · iexact HKV
    isplitl [Harrt]; · iexact Harrt
    iexact Harrf
  iintro ⟨Harrf, HKV, Harrt⟩
  iapply (part5 m K c _ _ _) $$ [HKV Harrf Harrt Hw_arg0_ Hw0_arg10 HS]
  · isplitl [HKV]; · iexact HKV
    isplitl [Harrf]; · iexact Harrf
    isplitl [Harrt]; · iexact Harrt
    isplitl [Hw_arg0_]; · iexact Hw_arg0_
    isplitl [Hw0_arg10]; · iexact Hw0_arg10
    iexact HS
  iintro ⟨Harrt, HKV, Harrf, Hw_arg0_, Hw_arg10_, HS⟩
  ihave HX := (split_x c (XB m c)).1 $$ Hw_arg10_
  icases HX with ⟨⟨⟨HXl0, HXr0⟩, ⟨HXl128, HXr128⟩, -⟩, Hw_arg10_K⟩
  iapply (part6 m K c _ _ _ rfl) $$ [HS HXl0 HXr0 HXl128]
  · isplitl [HS]; · iexact HS
    isplitl [HXl0]; · iexact HXl0
    isplitl [HXr0]; · iexact HXr0
    iexact HXl128
  iintro ⟨Hbar, HS⟩
  iapply (part7 m K c _ _) $$ [HS HXr128]
  · isplitl [HS]; · iexact HS
    iexact HXr128
  iintro ⟨Hxl1_0K, HS⟩
  iapply (part8 m K c _ _) $$ HS
  iintro ⟨Hxr1_0K, HS, Hxl1_128S, Hxl1_128K⟩
  iapply (part9 m K c _ _) $$ [HS Hxl1_128S Hw_arg1_]
  · isplitl [HS]; · iexact HS
    isplitl [Hxl1_128S]; · iexact Hxl1_128S
    iexact Hw_arg1_
  iintro ⟨Hxr1_128K, HS, Hw_arg1_⟩
  iapply (part10 m K c _ _ _ rfl) $$ [Hw0_arg11 Hw_arg4_ Hw0_arg12 HS]
  · isplitl [Hw0_arg11]; · iexact Hw0_arg11
    isplitl [Hw_arg4_]; · iexact Hw_arg4_
    isplitl [Hw0_arg12]; · iexact Hw0_arg12
    iexact HS
  iintro ⟨Hw_arg11_, Hw_arg4_, Hw_arg12_, Hxl2_0K, HS⟩
  iapply (part11 m K c _ _) $$ HS
  iintro ⟨Hxr2_0K, HS, Hxl2_128S, Hxl2_128K⟩
  iapply (part12 m K c _ _) $$ [HS Hxl2_128S]
  · isplitl [HS]; · iexact HS
    iexact Hxl2_128S
  iintro ⟨Hxr2_128K, HS⟩
  iapply (part13 m K c _ _) $$ HS
  iintro ⟨Hxl3_0S, Hxl3_0K, Hxr3_0K, HS⟩
  iapply (part14 m K c _ _) $$ HS
  iintro ⟨Hxl3_128S, Hxl3_128K, Hxr3_128K, HS⟩
  ihave HKV := (KV_turn m K c) $$ HKV
  iapply (part15 m K c) $$ [HS HKV]
  · isplitl [HS]; · iexact HS
    iexact HKV
  iintro ⟨Hkvp_0, Hkvp_8, Hkvp_1, HS, HKV, Hkvp_9⟩
  iapply (part16 m K c) $$ [HS HKV]
  · isplitl [HS]; · iexact HS
    iexact HKV
  iintro ⟨Hkvp_2, Hkvp_10, Hkvp_3, HS, HKV, Hkvp_11⟩
  iapply (part17 m K c) $$ [HS HKV]
  · isplitl [HS]; · iexact HS
    iexact HKV
  iintro ⟨Hkvp_4, Hkvp_12, Hkvp_5, Hkvp_13, HS, HKV, Hkvp_6⟩
  iapply (part18 m K c) $$ [HS HKV Hkvp_0 Hkvp_1 Hkvp_2 Hkvp_3 Hkvp_4 Hkvp_5 Hkvp_6 Hw0_arg8 Hkvp_8 Hkvp_9 Hkvp_10 Hkvp_11 Hkvp_12 Hkvp_13]
  · isplitl [HS]; · iexact HS
    isplitl [HKV]; · iexact HKV
    isplitl [Hkvp_0]; · iexact Hkvp_0
    isplitl [Hkvp_1]; · iexact Hkvp_1
    isplitl [Hkvp_2]; · iexact Hkvp_2
    isplitl [Hkvp_3]; · iexact Hkvp_3
    isplitl [Hkvp_4]; · iexact Hkvp_4
    isplitl [Hkvp_5]; · iexact Hkvp_5
    isplitl [Hkvp_6]; · iexact Hkvp_6
    isplitl [Hw0_arg8]; · iexact Hw0_arg8
    isplitl [Hkvp_8]; · iexact Hkvp_8
    isplitl [Hkvp_9]; · iexact Hkvp_9
    isplitl [Hkvp_10]; · iexact Hkvp_10
    isplitl [Hkvp_11]; · iexact Hkvp_11
    isplitl [Hkvp_12]; · iexact Hkvp_12
    iexact Hkvp_13
  iintro ⟨HS, HKV, Hw_arg6_, Hw_arg8_, Hw_arg7_⟩
  iapply (part19 m c _ _ rfl) $$ [Hw0_arg9 Hxr3_0K Hxr3_128K Hw_arg11_]
  · isplitl [Hw0_arg9]; · iexact Hw0_arg9
    isplitl [Hxr3_0K]; · iexact Hxr3_0K
    isplitl [Hxr3_128K]; · iexact Hxr3_128K
    iexact Hw_arg11_
  iintro ⟨Hw_arg9_, Hxr3_0K, Hxr3_128K, Hw_arg11_⟩
  ihave HR := (Entails.of_eq (show iprop((((c : Thread nD τ).loc cc0_scratch2) ↦{fullShare} KB m c) ∗ (((c : Thread nD τ).loc cc0_scratch3) ↦{fullShare} VB m c) ∗ (((c : Thread nD τ).loc cc0_scratch5) ↦{fullShare} WQB m c) ∗ (((c : Thread nD τ).loc cc0_scratch6) ↦{fullShare} WOB m c)) = RO m c from rfl)) $$ [Hw_arg8_ Hw_arg9_ Hw_arg11_ Hw_arg12_]
  · isplitl [Hw_arg8_]; · iexact Hw_arg8_
    isplitl [Hw_arg9_]; · iexact Hw_arg9_
    isplitl [Hw_arg11_]; · iexact Hw_arg11_
    iexact Hw_arg12_
  iapply (part20 m c _ _ _ _) $$ HR
  iintro HR
  iapply (part21 m c _ _ _ _ _ _ _) $$ HR
  iintro HR
  iapply (part22 m c _ _ _ _) $$ HR
  iintro HR
  iapply (part23 m K c _ _ _ _ _ _ _ _ _ _ (chain3 m c)) $$ [HR Hs0_b HS]
  · isplitl [HR]; · iexact HR
    isplitl [Hs0_b]; · iexact Hs0_b
    iexact HS
  iintro ⟨HR, Hb0_0K, Hb0_128K, HS⟩
  iapply (part24 m K c _ _) $$ [HS HR]
  · isplitl [HS]; · iexact HS
    iexact HR
  iintro ⟨Hxr4_0S, HS, Hxr4_128S, Hxr4_0K, Hxr4_128K, HR⟩
  iapply (part25 m c _ _ _ _ _) $$ HR
  iintro HR
  iapply (part26 m c _ _ _ _) $$ HR
  iintro HR
  iapply (part27 m c _ _ _ _) $$ HR
  iintro HR
  iapply (part28 m K c _ _ _ _ _ _ _ _ _ _ (chain4 m c)) $$ [HR Hs0_a HS]
  · isplitl [HR]; · iexact HR
    isplitl [Hs0_a]; · iexact Hs0_a
    iexact HS
  iintro ⟨HR, Ha0_0K, Ha0_128S, Ha0_128K, HS⟩
  iapply (part29 m K c _ _ _) $$ [HS Ha0_128S Hxr2_0K Hxr2_128K HR]
  · isplitl [HS]; · iexact HS
    isplitl [Ha0_128S]; · iexact Ha0_128S
    isplitl [Hxr2_0K]; · iexact Hxr2_0K
    isplitl [Hxr2_128K]; · iexact Hxr2_128K
    iexact HR
  iintro ⟨HS, Hxr2_0K, Hxr2_128K, HR⟩
  iapply (part30 m c _ _ _ _) $$ HR
  iintro HR
  iapply (part31 m c _ _ _ _ _) $$ HR
  iintro HR
  iapply (part32 m c _ _ _ _ _ _ _ _ _ _ _) $$ HR
  iintro HR
  iapply (part33 m K c _ _ _ (chain2 m c)) $$ HS
  iintro ⟨Hb1_0K, HS, Hb1_128F⟩
  iapply (part34 m K c _ _ _ (chain2 m c)) $$ [Hb1_128F HS Hxl3_0K Hxl3_128K HR]
  · isplitl [Hb1_128F]; · iexact Hb1_128F
    isplitl [HS]; · iexact HS
    isplitl [Hxl3_0K]; · iexact Hxl3_0K
    isplitl [Hxl3_128K]; · iexact Hxl3_128K
    iexact HR
  iintro ⟨Hb1_128K, HS, Hxl3_0K, Hxl3_128K, HR⟩
  iapply (part35 m c _ _ _ _ _) $$ HR
  iintro HR
  iapply (part36 m c _ _ _ _) $$ HR
  iintro HR
  iapply (part37 m c _ _ _ _) $$ HR
  iintro HR
  iapply (part38 m K c _ _ _ _ _ _ _ _ _ _ _ (chain5 m c)) $$ [HR HS]
  · isplitl [HR]; · iexact HR
    iexact HS
  iintro ⟨HR, HS, Ha1_0S, Ha1_0K⟩
  iapply (part39 m K c _ _ _ (chain5 m c)) $$ [HS Ha1_0S]
  · isplitl [HS]; · iexact HS
    iexact Ha1_0S
  iintro ⟨HS, Ha1_128S, Ha1_128K⟩
  iapply (part40 m K c _ _ _) $$ [HS Ha1_128S Hxr1_0K Hxr1_128K HR]
  · isplitl [HS]; · iexact HS
    isplitl [Ha1_128S]; · iexact Ha1_128S
    isplitl [Hxr1_0K]; · iexact Hxr1_0K
    isplitl [Hxr1_128K]; · iexact Hxr1_128K
    iexact HR
  iintro ⟨HS, Hxr1_0K, Hxr1_128K, HR⟩
  iapply (part41 m c _ _ _ _) $$ HR
  iintro HR
  iapply (part42 m c _ _ _ _ _ _) $$ HR
  iintro HR
  iapply (part43 m c _ _ _ _ _ _ _ _ _ _ _ _ _) $$ HR
  iintro HR
  iapply (part44 m K c _ _ _ (chain1 m c)) $$ HS
  iintro ⟨Hb2_0K, HS⟩
  iapply (part45 m K c _ _ _ (chain1 m c)) $$ [HS Hxl2_0K Hxl2_128K HR]
  · isplitl [HS]; · iexact HS
    isplitl [Hxl2_0K]; · iexact Hxl2_0K
    isplitl [Hxl2_128K]; · iexact Hxl2_128K
    iexact HR
  iintro ⟨Hb2_128K, HS, Hxl2_0K, Hxl2_128K, HR⟩
  iapply (part46 m c _ _ _ _ _) $$ HR
  iintro HR
  iapply (part47 m c _ _ _ _) $$ HR
  iintro HR
  iapply (part48 m c _ _ _ _ _) $$ HR
  iintro HR
  iapply (part49 m K c _ _ _ _ _ _ _ _ _ _ (chain6 m c)) $$ [HR HS]
  · isplitl [HR]; · iexact HR
    iexact HS
  iintro ⟨HR, HS, Ha2_0S, Ha2_0K⟩
  iapply (part50 m K c _ _ _ (chain6 m c)) $$ [HS Ha2_0S]
  · isplitl [HS]; · iexact HS
    iexact Ha2_0S
  iintro ⟨HS, Ha2_128S, Ha2_128K⟩
  iapply (part51 m K c _ _ _) $$ [HS Ha2_128S Hxl1_0K Hxl1_128K HR]
  · isplitl [HS]; · iexact HS
    isplitl [Ha2_128S]; · iexact Ha2_128S
    isplitl [Hxl1_0K]; · iexact Hxl1_0K
    isplitl [Hxl1_128K]; · iexact Hxl1_128K
    iexact HR
  iintro ⟨HS, Hxl1_0K, Hxl1_128K, HR⟩
  iapply (part52 m c _ _ _) $$ HR
  iintro HR
  iapply (part53 m c _ _ _ _ _) $$ HR
  iintro HR
  iapply (part54 m c _ _ _ _ _ _ _ _ _ _ _ _) $$ HR
  iintro HR
  iapply (part55 m K c _ _ _ (chain7 m c)) $$ HS
  iintro ⟨Ha3_0K, HS⟩
  iapply (part56 m K c _ _ _ (chain7 m c)) $$ [HS Hw_arg10_K HR]
  · isplitl [HS]; · iexact HS
    isplitl [Hw_arg10_K]; · iexact Hw_arg10_K
    iexact HR
  iintro ⟨Ha3_128K, HS, Hw_arg10_K, HR⟩
  iapply (part57 m c _ _ _ _ _ _) $$ HR
  iintro HR
  iapply (part58 m c _ _ _ _) $$ HR
  iintro HR
  iapply (part59 m c _ _ _ _) $$ HR
  iintro HR
  iapply (part60 m K c _ _ _ _ _ _ _ _ _ _ _ _ _) $$ [HR HS]
  · isplitl [HR]; · iexact HR
    iexact HS
  iintro ⟨HR, Hb3_0F, HS, Ha4_0F⟩
  iapply (WPc_ret c (⟨_, _⟩ : Σ' (v4 : BitVec 32), FVec F S256x1024 .f32))
  iapply (part61 m K c _ _ (chain0 m c)) $$ [HS Ha4_0F Hb3_0F Hw0_arg5]
  · isplitl [HS]; · iexact HS
    isplitl [Ha4_0F]; · iexact Ha4_0F
    isplitl [Hb3_0F]; · iexact Hb3_0F
    iexact Hw0_arg5
  iintro ⟨HS, Ha4_0F, Ha4_128F, Hb3_0F, Hb3_128F, Hw_arg5_⟩
  ihave HS := (Sq_Fq m K c) $$ HS
  iapply (part62 m K c) $$ HS
  iintro HS
  iapply (part63 m K c) $$ HS
  iintro HS
  iapply (part64 m K c) $$ HS
  iintro HS
  iapply (part65 m K c) $$ HS
  iintro HS
  iapply (part66 m K c) $$ HS
  iintro HS
  iapply (part67 m K c) $$ HS
  iintro HS
  iapply (part68 m K c) $$ HS
  iintro HS
  simp only [Prog.lift, Prog.bind_op, Prog.bind_ret, Prog.pure_eq_ret]
  iapply (await_send m K c 27 (by decide) rfl) $$ HS
  iintro HS
  iapply (WPc_ret c ⟨⟩)
  unfold Fq
  icases HS with ⟨HS, HP⟩
  ihave HKs := (keeps m c) $$ [Ha3_128K Ha3_0K Ha2_128K Ha2_0K Hb2_128K Hb2_0K Ha1_128K Ha1_0K Hb1_128K Hb1_0K Ha0_128K Ha0_0K Hb0_128K Hb0_0K Hxr3_128K Hxr3_0K Hxr2_128K Hxl2_128K Hxr2_0K Hxl2_0K Hxr1_128K Hxl1_128K Hxr1_0K Hxl1_0K]
  · isplitl [Ha3_128K]; · iexact Ha3_128K
    isplitl [Ha3_0K]; · iexact Ha3_0K
    isplitl [Ha2_128K]; · iexact Ha2_128K
    isplitl [Ha2_0K]; · iexact Ha2_0K
    isplitl [Hb2_128K]; · iexact Hb2_128K
    isplitl [Hb2_0K]; · iexact Hb2_0K
    isplitl [Ha1_128K]; · iexact Ha1_128K
    isplitl [Ha1_0K]; · iexact Ha1_0K
    isplitl [Hb1_128K]; · iexact Hb1_128K
    isplitl [Hb1_0K]; · iexact Hb1_0K
    isplitl [Ha0_128K]; · iexact Ha0_128K
    isplitl [Ha0_0K]; · iexact Ha0_0K
    isplitl [Hb0_128K]; · iexact Hb0_128K
    isplitl [Hb0_0K]; · iexact Hb0_0K
    isplitl [Hxr3_128K]; · iexact Hxr3_128K
    isplitl [Hxr3_0K]; · iexact Hxr3_0K
    isplitl [Hxr2_128K]; · iexact Hxr2_128K
    isplitl [Hxl2_128K]; · iexact Hxl2_128K
    isplitl [Hxr2_0K]; · iexact Hxr2_0K
    isplitl [Hxl2_0K]; · iexact Hxl2_0K
    isplitl [Hxr1_128K]; · iexact Hxr1_128K
    isplitl [Hxl1_128K]; · iexact Hxl1_128K
    isplitl [Hxr1_0K]; · iexact Hxr1_0K
    iexact Hxl1_0K
  ihave HLs := (lasts m c) $$ [HF0 HF1 HF2 HF3 Hxl3_0S Hxl3_0K Hxl3_128S Hxl3_128K Hxr4_0S Hxr4_0K Hxr4_128S Hxr4_128K Ha4_0F Ha4_128F Hb3_0F Hb3_128F]
  · isplitl [HF0]; · iexact HF0
    isplitl [HF1]; · iexact HF1
    isplitl [HF2]; · iexact HF2
    isplitl [HF3]; · iexact HF3
    isplitl [Hxl3_0S]; · iexact Hxl3_0S
    isplitl [Hxl3_0K]; · iexact Hxl3_0K
    isplitl [Hxl3_128S]; · iexact Hxl3_128S
    isplitl [Hxl3_128K]; · iexact Hxl3_128K
    isplitl [Hxr4_0S]; · iexact Hxr4_0S
    isplitl [Hxr4_0K]; · iexact Hxr4_0K
    isplitl [Hxr4_128S]; · iexact Hxr4_128S
    isplitl [Hxr4_128K]; · iexact Hxr4_128K
    isplitl [Ha4_0F]; · iexact Ha4_0F
    isplitl [Ha4_128F]; · iexact Ha4_128F
    isplitl [Hb3_0F]; · iexact Hb3_0F
    iexact Hb3_128F
  ihave HZ := (shut_all m c) $$ [HP HKs HLs Hw_arg10_K]
  · isplitl [HP]; · iexact HP
    isplitl [HKs]; · iexact HKs
    isplitl [HLs]; · iexact HLs
    iexact Hw_arg10_K
  icases HZ with ⟨HZ4, HZ⟩
  iapply Hk
  unfold bodyOut
  isplitl [Harrt]; · iexact Harrt
  isplitl [Harrf]; · iexact Harrf
  isplitl [Hw_arg0_]; · iexact Hw_arg0_
  isplitl [Hbar]; · iexact Hbar
  isplitl [Hw_arg1_]; · iexact Hw_arg1_
  isplitl [Hw_arg4_]; · iexact Hw_arg4_
  isplitl [HKV]; · iexact HKV
  isplitl [Hw_arg6_]; · iexact Hw_arg6_
  isplitl [Hw_arg7_]; · iexact Hw_arg7_
  isplitl [HR]; · iexact HR
  isplitl [Hw_arg5_]; · iexact Hw_arg5_
  isplitl [HZ4]; · iexact HZ4
  isplitl [HZ]; · iexact HZ
  iexact HS

end Cert.KernelIdeal.Run
-- ==== Proof.KI.Obl.lean ====
module

public import proofs.«01_k».proof.Proof.KI.Body
public import proofs.«01_k».proof.Proof.Gen.KernelIdeal.Points

/-! The kernel's body as the pipeline calls it. -/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (K : Dev nD × Fin 73 → ℕ) (c : Dev nD)

/-! ## What a device holds when the kernel is entered, and when it is left -/

/-- The cells' invariants, and that every cell is at its round. -/
def cellRecs : sProp 𝕄 :=
  iprop((bigSep Finset.univ fun x => cellInv ER (rd m) (K x) (kcell x)) ∗ bigSep Finset.univ fun x => reached ER (kcell x) 0)
instance cellRecs_persistent : BI.Persistent (cellRecs m K) := by unfold cellRecs; infer_instance

/-- A device's positions, and the tokens of what it pays. -/
def lin : sProp 𝕄 :=
  iprop(atPos ER (barCell c) 0 ∅ 0 ∗ seqL (sendTok (F := F) c) (List.range 28) ∗ seqL (fun n => atPos ER (recvCell c n) 0 ∅ 0) (List.range 28)
    ∗ seqL (fun k => iprop(dutyTok ER (kvCell c k) 0 false ∗ atPos ER (kvCell c k) 0 ∅ 0)) (List.range 16)
    ∗ dutyTok ER (barCell (prv c)) 0 true ∗ dutyTok ER (barCell (nxt c)) 0 false)
/-- What it is owed. -/
def creds : sProp 𝕄 :=
  iprop(cred (tallyAt (barCell c) () 2) ∗ seqL (fun n => cred (tallyAt (recvCell c n) () N)) (List.range 28))

/-- The semaphores of the kernel's own that it never touches. -/
def spareL : List ℕ := [20, 21, 28, 29, 36, 37, 46, 47, 56, 57, 66, 67, 76, 77, 84, 85]
def spare : sProp 𝕄 := seqL (fun q => semVal ((c : Thread nD τ), .dma (dq q)) 0) spareL

def start : sProp 𝕄 :=
  iprop((∃ K, cellRecs m K ∗ lin (F := F) c) ∗ creds (F := F) c ∗ levAts L lv ∗ spare (F := F) c ∗ arrP m c true fullShare ∗ arrP m c false fullShare)
def Φ₀ : sProp 𝕄 := iprop(start m c ∗ Pipeline.scopedRest cfg0.spec c)
abbrev qEnd : PosShare TreeShare := fullShare.right.right.right.right.right.right.right.right
def Φ₁ : sProp 𝕄 :=
  iprop(arrP m c true qEnd ∗ arrP m c false qEnd ∗ semVal (barCell c) 0 ∗ seqL (fun k => semVal (dcell c k) 0) (List.range 72) ∗ spare (F := F) c
    ∗ Pipeline.scopedRest cfg0.spec c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wqstg m c
    | ⟨2, _⟩ => wostg m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer that holds `X`. -/
abbrev held (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the device holds, sorted as the body takes it. -/
theorem enter :
    iprop(cellRecs m K ∗ lin (F := F) c ∗ creds (F := F) c ∗ levAts L lv ∗ arrP m c true fullShare ∗ arrP m c false fullShare
        ∗ Pipeline.scopedRest cfg0.spec c ∗ (∃ W, owes (c : Thread nD τ) (O₀ c) W)
        ∗ (((c : Thread nD τ).loc cc0_stg0_0) ↦{fullShare} xstg m c) ∗ (((c : Thread nD τ).loc cc0_stg1_0) ↦{fullShare} wqstg m c)
        ∗ (((c : Thread nD τ).loc cc0_stg2_0) ↦{fullShare} wostg m c) ∗ (∃ f, (((c : Thread nD τ).loc cc0_stg3_0) ↦{fullShare} f)))
      ⊢ bodyIn m K c := by
  rw [scopedRest0_eq]
  unfold cellRecs lin creds bodyIn KV B0 Br recs
  iintro ⟨⟨#HI, #HR⟩, ⟨Hab, Hst, Hat, Hkv, Htp, Htn⟩, ⟨Hcb, Hcr⟩, #HL, Ha2, Ha3, ⟨H0, H1, H2, H3, H4, H5, H6, H7, H8, H9, H10⟩, HO, Hx, Hwq, Hwo, Hout⟩
  ihave Hland := (open_kv (F := F) c) $$ [H0 H1]
  · isplitl [H0]; · iexact H0
    iexact H1
  ihave Hfour := (open_lands (F := F) c) $$ [H7 H8 H9 H10]
  · unfold four
    isplitl [H7]; · iexact H7
    isplitl [H8]; · iexact H8
    isplitl [H9]; · iexact H9
    iexact H10
  icases Hfour with ⟨HtoR, HtoL, Hfirst⟩
  isplitl [Hland Hkv]
  · isplitr
    · isplitr; · iexact HI
      isplitr; · iexact HR
      iexact HL
    isplitl
    · unfold kvItem
      iapply ((seqL_sep (Φ := kvLand (F := F) c) (Ψ := fun k => iprop(dutyTok ER (kvCell c k) 0 false ∗ atPos ER (kvCell c k) 0 ∅ 0)) (kl 0)).2)
      isplitl [Hland]; · iexact Hland
      iapply (seqL_perm (l := List.range 16) (l' := kl 0) (by decide +kernel)); iexact Hkv
    isplitr
    · unfold kg seqL; iempintro
    · unfold seqL; iempintro
  isplitl [Ha2]; · iexact Ha2
  isplitl [Ha3]; · iexact Ha3
  isplitl [Hx]; · iexact Hx
  isplitl [H4]; · iexact H4
  isplitl [Hab Hst Hat Htp Htn Hcb Hcr HO HtoR HtoL]
  · isplitl [Hab Hst Hat Hcb Hcr]
    · isplitr
      · isplitr; · iexact HI
        isplitr; · iexact HR
        iexact HL
      isplitl [Hab]; · iexact Hab
      isplitl [Hcb]; · iexact Hcb
      isplitl [Hst]; · iexact Hst
      iapply (seqL_perm (l := List.range 28) (l' := rord) (by decide +kernel))
      unfold recvItem
      iapply ((seqL_sep (Φ := fun n => cred (tallyAt (recvCell c n) () N)) (Ψ := fun n => atPos ER (recvCell c n) 0 ∅ 0) (List.range 28)).2)
      isplitl [Hcr]; · iexact Hcr
      iexact Hat
    isplitl [HO]; · iexact HO
    isplitl [Htp]; · iexact Htp
    isplitl [Htn]; · iexact Htn
    isplitl [HtoR]; · iexact HtoR
    iexact HtoL
  isplitl [Hwq]; · iexact Hwq
  isplitl [H5]; · iexact H5
  isplitl [Hwo]; · iexact Hwo
  isplitl [H6]; · iexact H6
  isplitl [H2]; · iexact H2
  isplitl [H3]; · iexact H3
  isplitl [Hout]; · iexact Hout
  iexact Hfirst

/-- What the body leaves, as the pipeline takes it back. -/
theorem leave :
    iprop(bodyOut m K c ∗ spare (F := F) c)
      ⊢ iprop(Φ₁ m c ∗ (∃ W, owes (c : Thread nD τ) 0 W) ∗ (((c : Thread nD τ).loc cc0_stg0_0) ↦{fullShare} xstg m c)
        ∗ (((c : Thread nD τ).loc cc0_stg1_0) ↦{fullShare} wqstg m c) ∗ (((c : Thread nD τ).loc cc0_stg2_0) ↦{fullShare} wostg m c)
        ∗ (((c : Thread nD τ).loc cc0_stg3_0) ↦{fullShare} outAt m c)) := by
  unfold Φ₁
  rw [scopedRest0_eq]
  unfold bodyOut KV RO four
  iintro ⟨⟨Ha2, Ha3, Hx, Hb, Hwq, Hwo, ⟨-, -, -, Hkv⟩, H0, H1, ⟨H2, H3, H5, H6⟩, Hout, H4, ⟨H7, H8, H9, H10⟩, ⟨%G, %hG, HSt⟩⟩, Hsp⟩
  obtain ⟨w', rfl, rfl⟩ := hG
  unfold St
  icases HSt with ⟨-, HO, -, -, -, HG⟩
  isplitl [Ha2 Ha3 Hb Hkv HG Hsp H0 H1 H2 H3 H4 H5 H6 H7 H8 H9 H10]
  · isplitl [Ha2]; · iexact Ha2
    isplitl [Ha3]; · iexact Ha3
    isplitl [Hb]; · iexact Hb
    isplitl [Hkv HG]
    · iapply (seqL_perm (l := (kg 16).map (56 + ·) ++ ((up 28).map (28 + ·) ++ gl 28)) (l' := List.range 72) (by decide +kernel))
      iapply ((seqL_append _ _).2)
      isplitl [Hkv]
      · rw [seqL_map]; iexact Hkv
      iexact HG
    isplitl [Hsp]; · iexact Hsp
    isplitl [H0]; · (iexists _; iexact H0)
    isplitl [H1]; · (iexists _; iexact H1)
    isplitl [H2]; · (iexists _; iexact H2)
    isplitl [H3]; · (iexists _; iexact H3)
    isplitl [H4]; · (iexists _; iexact H4)
    isplitl [H5]; · (iexists _; iexact H5)
    isplitl [H6]; · (iexists _; iexact H6)
    isplitl [H7]; · iexact H7
    isplitl [H8]; · iexact H8
    isplitl [H9]; · iexact H9
    iexact H10
  isplitl [HO]; · iexact HO
  isplitl [Hx]; · iexact Hx
  isplitl [Hwq]; · iexact Hwq
  isplitl [Hwo]; · iexact Hwo
  iexact Hout

/-! ## The obligation -/

def pre : sProp 𝕄 :=
  iprop(Φ₀ m c ∗ (dats m 0 c).owesAt () t0_0.castSucc
    ∗ (∃ d, held c cc0_stg0_0 ((dats m 0 c).before (0 : Fin 4) t0_0 d)) ∗ (∃ d, held c cc0_stg1_0 ((dats m 0 c).before (1 : Fin 4) t0_0 d))
    ∗ (∃ d, held c cc0_stg2_0 ((dats m 0 c).before (2 : Fin 4) t0_0 d)) ∗ (∃ d, held c cc0_stg3_0 ((dats m 0 c).before (3 : Fin 4) t0_0 d)))
def post : sProp 𝕄 :=
  iprop(Φ₁ m c ∗ (dats m 0 c).owesAt () t0_0.succ
    ∗ held c cc0_stg0_0 (xstg m c) ∗ held c cc0_stg1_0 (wqstg m c) ∗ held c cc0_stg2_0 (wostg m c) ∗ held c cc0_stg3_0 (outAt m c))

theorem sound : pre m c ⊢ WPc c (onArgs (cc0__body (F := F))) fun _ => post m c := by
  unfold pre Φ₀ start Dat.owesAt Pipeline.owesWithin
  iintro ⟨⟨⟨⟨%K, HI, Hlin⟩, Hcr, HL, Hsp, Ha2, Ha3⟩, Hrest⟩, ⟨%W, %hW, HO⟩, ⟨%d0, %g0, %hg0, Hx⟩, ⟨%d1, %g1, %hg1, Hwq⟩, ⟨%d2, %g2, %hg2, Hwo⟩, ⟨%d3, %g3, %hg3, Hout⟩⟩
  have h0 : g0 = xstg m c := by rw [hg0]; unfold Dat.before; rw [if_pos (fetch0_0 t0_0)]; rfl
  have h1 : g1 = wqstg m c := by rw [hg1]; unfold Dat.before; rw [if_pos (fetch0_1 t0_0)]; rfl
  have h2 : g2 = wostg m c := by rw [hg2]; unfold Dat.before; rw [if_pos (fetch0_2 t0_0)]; rfl
  subst h0 h1 h2
  rw [show (dats m 0 c).owed t0_0.castSucc = O₀ c from rfl]
  ihave Hin := (enter m K c) $$ [HI Hlin Hcr HL Ha2 Ha3 Hrest HO Hx Hwq Hwo Hout]
  · isplitl [HI]; · iexact HI
    isplitl [Hlin]; · iexact Hlin
    isplitl [Hcr]; · iexact Hcr
    isplitl [HL]; · iexact HL
    isplitl [Ha2]; · iexact Ha2
    isplitl [Ha3]; · iexact Ha3
    isplitl [Hrest]; · iexact Hrest
    isplitl [HO]; · (iexists W; iexact HO)
    isplitl [Hx]; · iexact Hx
    isplitl [Hwq]; · iexact Hwq
    isplitl [Hwo]; · iexact Hwo
    iexists g3; iexact Hout
  iapply (body m K c) $$ Hin
  iintro Hb
  ihave Hl := (leave m K c) $$ [Hb Hsp]
  · isplitl [Hb]; · iexact Hb
    iexact Hsp
  icases Hl with ⟨HΦ, ⟨%W', HO⟩, Hx, Hwq, Hwo, Hout⟩
  unfold post Dat.owesAt Pipeline.owesWithin
  rw [show (dats m 0 c).owed t0_0.succ = 0 from rfl]
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Hout

set_option maxRecDepth 40000 in
theorem obligation : BodyObligation (dats (F := F) m 0 c) (defs₀ (F := F)) 𝒱₀ () Set.univ := fun t => by
  rw [fin_N0 t]
  rw [bigSep_W, bigSep_W]
  simp only [owns_buf]
  show pre m c ⊢ WPc c (onArgs (cc0__body (F := F))) (fun _ => post m c)
  exact sound m c

end Cert.KernelIdeal.Run
-- ==== Proof.KI.Launch.lean ====
module

public import proofs.«01_k».proof.Proof.KI.Obl
public import Idealize.ShloMosaic.Lib.Pipeline.Launch
public import Idealize.ShloMosaic.Lib.Pipeline.Kit
public import Idealize.ShloMosaic.Lib.Pipeline.CollectiveSegs

/-! How the launch sets the cells up, deals the tokens and the credits, and what the run ends with. -/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The semaphores -/

def osem (k : Fin 88) : SemLoc sig := .dma (dq (4 + k.val))
theorem ownSemFacts : Pipeline.OwnSemFacts cfg0.spec osem := by decide +kernel

def own88 (q : ℕ) : Fin 88 := ⟨(q - 4) % 88, Nat.mod_lt _ (by decide)⟩
def ownL : List (Fin 88) := ((List.range 72).map cq ++ spareL).map own88
theorem osem_cell : ∀ k : Fin 72, osem (own88 (cq k.val)) = .dma (dq (cq k.val)) := by decide +kernel
theorem osem_spare : ∀ q ∈ spareL, osem (own88 q) = .dma (dq q) := by decide +kernel

abbrev own0 (c : Dev nD) : sProp 𝕄 := Pipeline.ownSems0 (Ix := Unit) (Name := ℕ) (U := UU) (Lvl := ℕ) (Val := Elt F) (τ := τ) osem c

theorem own_seqL (c : Dev nD) : own0 (F := F) c ⊣⊢ seqL (fun k => semVal ((c : Thread nD τ), osem k) 0) ownL := by
  unfold own0 Pipeline.ownSems0
  rw [show (Finset.univ : Finset (Fin 88)) = ownL.toFinset from by decide +kernel]
  exact bigSep_seqL ownL (by decide +kernel)
theorem own_cells (c : Dev nD) : own0 (F := F) c ⊣⊢ iprop(seqL (fun k => semVal (dcell c k) 0) (List.range 72) ∗ spare c) := by
  have h1 : seqL (fun k => (semVal ((c : Thread nD τ), osem k) 0 : sProp 𝕄)) ownL
      = seqL (fun q => semVal ((c : Thread nD τ), osem (own88 q)) 0) ((List.range 72).map cq ++ spareL) := seqL_map own88 _
  have h2 : seqL (fun q => (semVal ((c : Thread nD τ), osem (own88 q)) 0 : sProp 𝕄)) ((List.range 72).map cq)
      = seqL (fun k => semVal ((c : Thread nD τ), osem (own88 (cq k))) 0) (List.range 72) := seqL_map cq _
  have e1 : ∀ k ∈ List.range 72, (semVal ((c : Thread nD τ), osem (own88 (cq k))) 0 : sProp 𝕄) = semVal (dcell c k) 0 :=
    fun k hk => by rw [osem_cell ⟨k, List.mem_range.mp hk⟩]
  have e2 : ∀ q ∈ spareL, (semVal ((c : Thread nD τ), osem (own88 q)) 0 : sProp 𝕄) = semVal ((c : Thread nD τ), .dma (dq q)) 0 :=
    fun q hq => by rw [osem_spare q hq]
  constructor
  · refine (own_seqL c).1.trans ?_
    rw [h1]
    refine (seqL_append _ _).1.trans ?_
    rw [h2]
    exact Idealize.SL.BI.sep_mono (seqL_mono fun k hk => Entails.of_eq (e1 k hk)) (seqL_mono fun q hq => Entails.of_eq (e2 q hq))
  · refine BI.Entails.trans ?_ (own_seqL c).2
    rw [h1]
    refine BI.Entails.trans ?_ (seqL_append _ _).2
    rw [h2]
    exact Idealize.SL.BI.sep_mono (seqL_mono fun k hk => Entails.of_eq (e1 k hk).symm) (seqL_mono fun q hq => Entails.of_eq (e2 q hq).symm)

/-- The barrier's semaphore is the one the kernel does not own. -/
theorem unscoped_bar (c : Dev nD) : (unscopedSems0 c : sProp 𝕄) = semVal (barCell c) 0 := by
  unfold unscopedSems0; rw [bigSep_eq_bigSepL_of_eq [SemLoc.reg barS] (by decide +kernel) (by decide)]; rfl

/-! ## Families over a device's cells -/

theorem csem_inj : ∀ a b : Fin 73, csem a = csem b → a = b := by decide +kernel
theorem kcell_inj : Function.Injective (kcell : Dev nD × Fin 73 → GSem nD τ sig) := fun x y h =>
  Prod.ext (congrArg (fun g : GSem nD τ sig => g.1.1) h) (csem_inj _ _ (congrArg Prod.snd h))
theorem dcell_iff {a b : Dev nD} {j k : ℕ} (hj : j < 72) (hk : k < 72) : dcell a j = dcell b k ↔ a = b ∧ j = k := by
  refine ⟨fun h => ?_, fun ⟨h, h'⟩ => by rw [h, h']⟩
  rw [← kcell_d a j hj, ← kcell_d b k hk] at h
  have e := kcell_inj h
  refine ⟨congrArg Prod.fst e, ?_⟩
  have e' : j % 73 = k % 73 := congrArg (fun x : Dev nD × Fin 73 => x.2.val) e
  rwa [Nat.mod_eq_of_lt (by omega), Nat.mod_eq_of_lt (by omega)] at e'
theorem dcell_ne_bar {a b : Dev nD} {k : ℕ} : dcell a k ≠ barCell b := fun h => by cases congrArg Prod.snd h

def all73 : List (Fin 73) := (List.range 72).map ixd ++ [ixd 72]
theorem cells73 (Φ : GSem nD τ sig → sProp 𝕄) (c : Dev nD) :
    (bigSep Finset.univ fun k : Fin 73 => Φ (kcell (c, k))) ⊣⊢ iprop(seqL (fun k => Φ (dcell c k)) (List.range 72) ∗ Φ (barCell c)) := by
  rw [show (Finset.univ : Finset (Fin 73)) = all73.toFinset from by decide +kernel]
  have h2 : seqL (fun k : Fin 73 => Φ (kcell (c, k))) ((List.range 72).map ixd) = seqL (fun k => Φ (kcell (c, ixd k))) (List.range 72) := seqL_map ixd _
  have e : ∀ k ∈ List.range 72, Φ (kcell (c, ixd k)) = Φ (dcell c k) := fun k hk => by rw [kcell_d c k (List.mem_range.mp hk)]
  constructor
  · refine (bigSep_seqL all73 (by decide +kernel)).1.trans ((seqL_append _ _).1.trans ?_)
    rw [h2]
    exact Idealize.SL.BI.sep_mono (seqL_mono fun k hk => Entails.of_eq (e k hk)) Idealize.SL.BI.sep_emp.1
  · refine BI.Entails.trans ?_ ((seqL_append _ _).2.trans (bigSep_seqL all73 (by decide +kernel)).2)
    rw [h2]
    exact Idealize.SL.BI.sep_mono (seqL_mono fun k hk => Entails.of_eq (e k hk).symm) Idealize.SL.BI.sep_emp.2

/-- Cells by what they are for. -/
theorem split72 (Φ : ℕ → sProp 𝕄) :
    seqL Φ (List.range 72) ⊢ iprop(seqL Φ (List.range 28) ∗ seqL (fun n => Φ (28 + n)) (List.range 28) ∗ seqL (fun k => Φ (56 + k)) (List.range 16)) := by
  refine (seqL_perm (l' := List.range 28 ++ ((List.range 28).map (28 + ·) ++ (List.range 16).map (56 + ·))) (by decide +kernel)).trans ?_
  refine (seqL_append _ _).1.trans (sep_mono_right ((seqL_append _ _).1.trans ?_))
  rw [seqL_map, seqL_map]

theorem bigSep_seq (Ψ : Dev nD → ℕ → sProp 𝕄) (l : List ℕ) :
    (bigSep Finset.univ fun c => seqL (Ψ c) l) = seqL (fun n => bigSep Finset.univ fun c => Ψ c n) l := by
  induction l with
  | nil => exact bigSep_emp_const _
  | cons n l ih =>
    show (bigSep Finset.univ fun c => iprop(Ψ c n ∗ seqL (Ψ c) l)) = iprop((bigSep Finset.univ fun c => Ψ c n) ∗ seqL (fun n => bigSep Finset.univ fun c => Ψ c n) l)
    rw [bigSep_sep', ih]

/-! ## The tokens -/

def tokOf (x : Dev nD × Fin 74) : GSem nD τ sig × ℕ × Bool :=
  if h : x.2.val < 73 then (kcell (x.1, ⟨x.2.val, h⟩), 0, false) else (barCell x.1, 0, true)
theorem tokOf_inj : Function.Injective tokOf := by
  rintro ⟨c, j⟩ ⟨d, k⟩ h
  unfold tokOf at h
  by_cases hj : j.val < 73 <;> by_cases hk : k.val < 73
  · rw [dif_pos hj, dif_pos hk] at h
    have e := kcell_inj (congrArg Prod.fst h)
    have e1 : c = d := congrArg (fun x : Dev nD × Fin 73 => x.1) e
    have e2 : j.val = k.val := congrArg (fun x : Dev nD × Fin 73 => x.2.val) e
    rw [e1, Fin.ext e2]
  · rw [dif_pos hj, dif_neg hk] at h; cases congrArg (fun x : GSem nD τ sig × ℕ × Bool => x.2.2) h
  · rw [dif_neg hj, dif_pos hk] at h; cases congrArg (fun x : GSem nD τ sig × ℕ × Bool => x.2.2) h
  · rw [dif_neg hj, dif_neg hk] at h
    have e1 : c = d := congrArg (fun x : GSem nD τ sig × ℕ × Bool => x.1.1.1) h
    have hj' : ¬ j.val < 73 := hj
    have hk' : ¬ k.val < 73 := hk
    rw [e1, Fin.ext (show j.val = k.val by have := j.isLt; have := k.isLt; omega)]

def allCells : Finset (GSem nD τ sig) := Finset.univ.map ⟨kcell, kcell_inj⟩
def allToks : Finset (GSem nD τ sig × ℕ × Bool) := Finset.univ.map ⟨tokOf, tokOf_inj⟩
def u₀ : UU := (initOf (Pipeline.cells cfgs cellOf_inj) (Pipeline.launchToks cfgs cellOf_inj), initOf allCells allToks)

/-- The tokens of a device's own cells. -/
def toks (c : Dev nD) : sProp 𝕄 :=
  iprop(seqL (fun k => dutyTok ER (dcell c k) 0 false) (List.range 72) ∗ dutyTok ER (barCell c) 0 false ∗ dutyTok ER (barCell c) 0 true)

theorem toks_of (c : Dev nD) : (bigSep Finset.univ fun j : Fin 74 => (dutyTok ER (tokOf (c, j)).1 (tokOf (c, j)).2.1 (tokOf (c, j)).2.2 : sProp 𝕄)) ⊢ toks c := by
  rw [show (Finset.univ : Finset (Fin 74)) = (((List.finRange 73).map Fin.castSucc) ++ [Fin.last 73]).toFinset from by decide +kernel]
  refine (bigSep_seqL _ (by decide +kernel)).1.trans ((seqL_append _ _).1.trans ?_)
  rw [seqL_map]
  have h : seqL (fun j : Fin 73 => (dutyTok ER (tokOf (c, j.castSucc)).1 (tokOf (c, j.castSucc)).2.1 (tokOf (c, j.castSucc)).2.2 : sProp 𝕄)) (List.finRange 73)
      ⊢ iprop(seqL (fun k => dutyTok ER (dcell c k) 0 false) (List.range 72) ∗ dutyTok ER (barCell c) 0 false) := by
    refine BI.Entails.trans ?_ (cells73 (fun g => dutyTok ER g 0 false) c).1
    rw [show (Finset.univ : Finset (Fin 73)) = (List.finRange 73).toFinset from by decide +kernel]
    refine BI.Entails.trans (seqL_mono fun j _ => Entails.of_eq ?_) (bigSep_seqL _ (by decide +kernel)).2
    have e : tokOf (c, j.castSucc) = (kcell (c, j), 0, false) := dif_pos j.isLt
    rw [e]
  have h' : seqL (fun j : Fin 74 => (dutyTok ER (tokOf (c, j)).1 (tokOf (c, j)).2.1 (tokOf (c, j)).2.2 : sProp 𝕄)) [Fin.last 73] ⊢ dutyTok ER (barCell c) 0 true :=
    Idealize.SL.BI.sep_emp.1
  unfold toks
  iintro ⟨H, H'⟩
  ihave H := h $$ H
  icases H with ⟨H1, H2⟩
  isplitl [H1]; · iexact H1
  isplitl [H2]; · iexact H2
  iapply h'; iexact H'

/-- The tokens of what a device pays. -/
def pay (c : Dev nD) : sProp 𝕄 :=
  iprop(seqL (fun n => dutyTok ER (recvCell (peer n c) n) 0 false) (List.range 28) ∗ seqL (fun n => dutyTok ER (sendCell c n) 0 false) (List.range 28)
    ∗ seqL (fun k => dutyTok ER (kvCell c k) 0 false) (List.range 16) ∗ dutyTok ER (barCell (prv c)) 0 true ∗ dutyTok ER (barCell (nxt c)) 0 false)

def peerE (n : ℕ) : Dev nD ≃ Dev nD := ⟨peer n, from' n, from_peer n, peer_from n⟩
def ringE : Dev nD ≃ Dev nD := ⟨nxt, prv, prv_nxt, nxt_prv⟩

/-- Every token goes to the device that pays with it. -/
theorem deal : (bigSep Finset.univ fun c => (toks c : sProp 𝕄)) ⊢ bigSep Finset.univ fun c => pay c := by
  have h1 : ∀ c : Dev nD, (toks c : sProp 𝕄) ⊢ iprop(seqL (fun n => dutyTok ER (recvCell c n) 0 false) (List.range 28) ∗ seqL (fun n => dutyTok ER (sendCell c n) 0 false) (List.range 28)
      ∗ seqL (fun k => dutyTok ER (kvCell c k) 0 false) (List.range 16) ∗ dutyTok ER (barCell c) 0 true ∗ dutyTok ER (barCell c) 0 false) := fun c => by
    unfold toks
    iintro ⟨H, Hf, Ht⟩
    ihave H := (split72 (F := F) fun k => dutyTok ER (dcell c k) 0 false) $$ H
    icases H with ⟨H1, H2, H3⟩
    isplitl [H1]; · iexact H1
    isplitl [H2]; · iexact H2
    isplitl [H3]; · iexact H3
    isplitl [Ht]; · iexact Ht
    iexact Hf
  refine (bigSep_mono fun c _ => h1 c).trans ?_
  unfold pay
  rw [bigSep_sep', bigSep_sep', bigSep_sep', bigSep_sep', bigSep_sep', bigSep_sep', bigSep_sep', bigSep_sep',
    bigSep_seq fun c n => dutyTok ER (recvCell c n) 0 false, bigSep_seq fun c n => dutyTok ER (recvCell (peer n c) n) 0 false,
    bigSep_univ_equiv ringE.symm (fun c : Dev nD => (dutyTok ER (barCell c) 0 true : sProp 𝕄)),
    bigSep_univ_equiv ringE (fun c : Dev nD => (dutyTok ER (barCell c) 0 false : sProp 𝕄))]
  refine sep_mono_left (seqL_mono fun n _ => Entails.of_eq ?_)
  rw [bigSep_univ_equiv (peerE n) (fun c : Dev nD => (dutyTok ER (recvCell c n) 0 false : sProp 𝕄))]
  rfl

/-! ## The cells are set up -/

def G (c : Dev nD) : sProp 𝕄 :=
  iprop((bigSep Finset.univ fun k : Fin 73 => roundState ER (rd m) (kcell (c, k)) 0)
    ∗ (bigSep Finset.univ fun k : Fin 73 => iprop(atPos ER (kcell (c, k)) 0 ∅ 0 ∗ reached ER (kcell (c, k)) 0)) ∗ toks c)
def G' (c : Dev nD) : sProp 𝕄 := iprop((∃ K, cellRecs m K ∗ lin c) ∗ spare c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 73 => Φ (kcell (c, k)) := by
    unfold allCells; rw [bigSep_map, bigSep_univ_prod]; rfl
  have hT : bigSep allToks (fun x => (dutyTok ER x.1 x.2.1 x.2.2 : sProp 𝕄)) ⊢ bigSep Finset.univ fun c : Dev nD => toks c := by
    unfold allToks; rw [bigSep_map, bigSep_univ_prod]
    exact bigSep_mono fun c _ => toks_of c
  iintro H
  imod (Rounds.fund ER (rd m) allCells allToks) $$ H with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := hT $$ Htok
  unfold G; simp only [bigSep_sep']
  isplitl [Hst]; · iexact Hst
  isplitl [Hat Hr]
  · isplitl [Hat] <;> iassumption
  iexact Htok

theorem alloc (c : Dev nD) :
    iprop(own0 c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ spare c) := by
  unfold G
  rw [unscoped_bar]
  iintro ⟨Ho, Hu, Hst, Hat, Htok⟩
  ihave Ho := (own_cells (F := F) c).1 $$ Ho
  icases Ho with ⟨Ho, Hsp⟩
  ihave Hv := (cells73 (F := F) (fun g => semVal g 0) c).2 $$ [Ho Hu]
  · isplitl [Ho] <;> iassumption
  have hb : iprop((bigSep Finset.univ fun k : Fin 73 => semVal (kcell (c, k)) 0) ∗ bigSep Finset.univ fun k : Fin 73 => roundState ER (rd m) (kcell (c, k)) 0)
      ⊢ (|={Set.univ}=> bigSep Finset.univ fun k => iprop(∃ κ : ℕ, cellInv ER (rd m) κ (kcell (c, k))) : sProp 𝕄) := by
    rw [← bigSep_sep']
    exact (bigSep_mono fun k _ => (Rounds.body_intro ER (rd m) (kcell (c, k))).trans inv_alloc).trans (bigSep_fupd _ _)
  imod hb $$ [Hv Hst] with Hinv
  · isplitl [Hv] <;> iassumption
  imodintro
  isplitl [Hinv]; · iexact Hinv
  isplitl [Hat]; · iexact Hat
  isplitl [Htok]; · iexact Htok
  iexact Hsp

theorem lin_of (c : Dev nD) : iprop((bigSep Finset.univ fun k : Fin 73 => atPos ER (kcell (c, k)) 0 ∅ 0) ∗ pay c) ⊢ (lin c : sProp 𝕄) := by
  unfold lin pay
  iintro ⟨Hat, Hr, Hs, Hk, Hp, Hn⟩
  ihave Hat := (cells73 (F := F) (fun g => atPos ER g 0 ∅ 0) c).1 $$ Hat
  icases Hat with ⟨Hat, Hb⟩
  ihave Hat := (split72 (F := F) fun k => atPos ER (dcell c k) 0 ∅ 0) $$ Hat
  icases Hat with ⟨H1, H2, H3⟩
  isplitl [Hb]; · iexact Hb
  isplitl [Hs Hr H2]
  · unfold sendTok
    iapply ((seqL_sep (Φ := fun n => dutyTok ER (sendCell c n) 0 false) (Ψ := fun n => iprop(dutyTok ER (recvCell (peer n c) n) 0 false ∗ atPos ER (sendCell c n) 0 ∅ 0)) (List.range 28)).2)
    isplitl [Hs]; · iexact Hs
    iapply ((seqL_sep (Φ := fun n => dutyTok ER (recvCell (peer n c) n) 0 false) (Ψ := fun n => atPos ER (sendCell c n) 0 ∅ 0) (List.range 28)).2)
    isplitl [Hr]; · iexact Hr
    iexact H2
  isplitl [H1]; · iexact H1
  isplitl [Hk H3]
  · iapply ((seqL_sep (Φ := fun k => dutyTok ER (kvCell c k) 0 false) (Ψ := fun k => atPos ER (kvCell c k) 0 ∅ 0) (List.range 16)).2)
    isplitl [Hk]; · iexact Hk
    iexact H3
  isplitl [Hp]; · iexact Hp
  iexact Hn

theorem with_recs {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ spare c) : sProp 𝕄)
      ⊢ bigSep Finset.univ (G' m) := by
  rw [bigSep_sep', bigSep_sep', bigSep_sep', ← bigSep_univ_prod (fun x : Dev nD × Fin 73 => iprop(∃ κ : ℕ, cellInv ER (rd m) κ (kcell x))),
    bigSep_congr (s := Finset.univ) (fun (c : Dev nD) _ => bigSep_sep' Finset.univ (fun k : Fin 73 => (atPos ER (kcell (c, k)) 0 ∅ 0 : sProp 𝕄)) (fun k => reached ER (kcell (c, k)) 0)),
    bigSep_sep', ← bigSep_univ_prod (fun x : Dev nD × Fin 73 => (reached ER (kcell x) 0 : sProp 𝕄))]
  iintro ⟨HI, ⟨Hat, #HR⟩, Htok, Hsp⟩
  ihave HK := (BI.bigSep_exists_pi Finset.univ (fun (x : Dev nD × Fin 73) (κ : ℕ) => (cellInv ER (rd m) κ (kcell x) : sProp 𝕄))) $$ HI
  icases HK with ⟨%K, #HI⟩
  ihave Htk := (deal (F := F)) $$ Htok
  have hc : ∀ c : Dev nD, iprop(cellRecs m K ∗ ((bigSep Finset.univ fun k : Fin 73 => atPos ER (kcell (c, k)) 0 ∅ 0) ∗ pay c) ∗ spare c) ⊢ (G' m c : sProp 𝕄) := fun c => by
    unfold G'
    iintro ⟨#Hc, Hl, Hs⟩
    isplitl [Hl]
    · iexists K
      isplitr; · iexact Hc
      iapply (lin_of (F := F) c); iexact Hl
    iexact Hs
  iapply (with_recs (R := cellRecs m K) hc)
  isplitr
  · unfold cellRecs; isplitl; · iexact HI
    iexact HR
  · rw [bigSep_sep', bigSep_sep']
    isplitl [Hat Htk]
    · isplitl [Hat]; · iexact Hat
      iexact Htk
    iexact Hsp

theorem glob : (bigSep Finset.univ fun c => iprop(own0 c ∗ unscopedSems0 c ∗ G m c) : sProp 𝕄) ⊢ |={Set.univ}=> bigSep Finset.univ (G' m) :=
  ((bigSep_mono fun c _ => alloc m c).trans (bigSep_fupd _ _)).trans (BI.fupd_mono (regroup m))

/-! ## The credits -/

theorem OWL_recv (d c : Dev nD) (n : ℕ) (hn : n < 28) : ∀ l : List ℕ, l.Nodup → (∀ k ∈ l, k < 28) →
    OWL d l (recvCell c n) () = if n ∈ l ∧ d = from' n c then N else 0
  | [], _, _ => (if_neg fun h => by cases h.1).symm
  | k :: l, hl, hb => by
    rw [OWL, Pi.add_apply, Finsupp.add_apply, tallyAt_apply, OWL_recv d c n hn l (List.nodup_cons.mp hl).2 fun j hj => hb j (List.mem_cons_of_mem _ hj)]
    by_cases hk : n = k
    · subst hk
      rw [if_neg fun h => (List.nodup_cons.mp hl).1 h.1, Nat.zero_add]
      by_cases hd : d = from' n c
      · subst hd; rw [peer_from, if_pos ⟨rfl, rfl⟩, if_pos ⟨List.mem_cons_self, rfl⟩]
      · rw [if_neg fun h => hd (by rw [((dcell_iff (by omega) (by omega)).mp h.1).1, from_peer]), if_neg fun h => hd h.2]
    · have hk' := hb k List.mem_cons_self
      rw [if_neg (c := recvCell c n = recvCell (peer k d) k ∧ () = ()) fun h => hk ((dcell_iff (by omega) (by omega)).mp h.1).2, Nat.add_zero]
      exact if_congr ⟨fun h => ⟨List.mem_cons_of_mem _ h.1, h.2⟩, fun h => ⟨(List.mem_cons.mp h.1).resolve_left hk, h.2⟩⟩ rfl rfl
theorem OWL_bar (d c : Dev nD) (l : List ℕ) : OWL d l (barCell c) () = 0 :=
  Nat.eq_zero_of_not_pos fun h => by obtain ⟨k, _, e⟩ := OWL_pos h; exact dcell_ne_bar e.symm

theorem bar_iff {a b : Dev nD} : barCell a = barCell b ↔ a = b :=
  ⟨fun h => congrArg (fun g : GSem nD τ sig => g.1.1) h, fun h => by rw [h]⟩
theorem owed_bar (d c : Dev nD) : O₀ d (barCell c) () = (if d = prv c then 1 else 0) + (if d = nxt c then 1 else 0) := by
  unfold O₀ O₁
  rw [Pi.add_apply, Finsupp.add_apply, Pi.add_apply, Finsupp.add_apply, OWL_bar, Nat.zero_add, tallyAt_apply, tallyAt_apply]
  refine congrArg₂ (· + ·) (if_congr ⟨fun h => ?_, fun h => ?_⟩ rfl rfl) (if_congr ⟨fun h => ?_, fun h => ?_⟩ rfl rfl)
  · rw [bar_iff.mp h.1, prv_nxt]
  · subst h; rw [nxt_prv]; exact ⟨rfl, rfl⟩
  · rw [bar_iff.mp h.1, nxt_prv]
  · subst h; rw [prv_nxt]; exact ⟨rfl, rfl⟩
theorem owed_recv (d c : Dev nD) (n : ℕ) (hn : n < 28) : O₀ d (recvCell c n) () = if d = from' n c then N else 0 := by
  unfold O₀ O₁
  rw [Pi.add_apply, Finsupp.add_apply, Pi.add_apply, Finsupp.add_apply, tallyAt_ne_cell dcell_ne_bar, tallyAt_ne_cell dcell_ne_bar, Finsupp.zero_apply,
    Nat.add_zero, Nat.add_zero, OWL_recv d c n hn _ List.nodup_range fun k hk => List.mem_range.mp hk]
  exact if_congr ⟨fun h => h.2, fun h => ⟨List.mem_range.mpr hn, h⟩⟩ rfl rfl

theorem credit_bar (c : Dev nD) : tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem credit_recv (c : Dev nD) (n : ℕ) (hn : n < 28) :
    tallyOn (recvCell c n) (launchCredit (Pipeline.owing O₀) 0 (recvCell c n)) = (tallyAt (recvCell c n) () N : CellTallies nD τ sig Unit) := by
  unfold tallyAt; refine congrArg _ (Finsupp.ext fun u => ?_); cases u
  rw [Pipeline.launchCredit_owing, Finsupp.single_eq_same, Finset.sum_congr rfl fun d _ => owed_recv d c n hn,
    Finset.sum_ite_eq' Finset.univ (from' n c) fun _ => N, if_pos (Finset.mem_univ _)]

def owedL : List (SemLoc sig) := .reg barS :: (List.range 28).map fun n => .dma (dq (cq n))
theorem credits (c : Dev nD) : (Pipeline.launchCred O₀ c : sProp 𝕄) ⊢ creds c := by
  unfold Pipeline.launchCred creds
  refine (bigSep_subset (Finset.subset_univ owedL.toFinset)).trans ((bigSep_seqL owedL (by decide +kernel)).1.trans ?_)
  refine Idealize.SL.BI.sep_mono (Entails.of_eq (congrArg cred (credit_bar c))) ?_
  rw [seqL_map]
  exact seqL_mono fun n hn => Entails.of_eq (congrArg cred (credit_recv c n (List.mem_range.mp hn)))

/-! ## The run -/

theorem arrP_true (c : Dev nD) (q : PosShare TreeShare) : arrP m c true q = ((((c : Thread nD τ).loc main_arg2) ↦{q} m ((c : Thread nD τ).loc main_arg2)) : sProp 𝕄) := if_pos rfl
theorem arrP_false (c : Dev nD) (q : PosShare TreeShare) : arrP m c false q = ((((c : Thread nD τ).loc main_arg3) ↦{q} m ((c : Thread nD τ).loc main_arg3)) : sProp 𝕄) := if_neg (by decide)

theorem begin_ (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ (iprop(emp) : sProp 𝕄)) := by
  rw [Pipeline.unscopedRestP_none, unscopedRest0_eq]
  unfold start G'
  rw [arrP_true, arrP_false]
  iintro ⟨⟨H2, H3⟩, HL, Hcr, -, HK, Hsp⟩
  ihave Hc := (credits (F := F) c) $$ Hcr
  imodintro
  isplitl
  · isplitl [HK]; · iexact HK
    isplitl [Hc]; · iexact Hc
    isplitl [HL]; · iexact HL
    isplitl [Hsp]; · iexact Hsp
    isplitl [H2]; · iexact H2
    iexact H3
  · iempintro

theorem share_full (c : Dev nD) (w : Fin cfg0.W) : (dats m 0 c).share w = fullShare := by unfold Dat.share; split <;> rfl

def atEnd (c : Dev nD) : sProp 𝕄 := iprop(unscopedSems0 c ∗ arrP m c true qEnd ∗ arrP m c false qEnd)

theorem phi_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iexact Hr

theorem phi_out (c : Dev nD) :
    (dats m 0 c).Φ (Fin.last cfg0.N) ⊢ iprop(atEnd m c ∗ own0 c ∗ Pipeline.scopedRest cfg0.spec c) := by
  rw [show (dats m 0 c).Φ (Fin.last cfg0.N) = Φ₁ m c from rfl]
  unfold Φ₁ atEnd
  rw [unscoped_bar]
  iintro ⟨H2, H3, Hb, Hk, Hsp, Hr⟩
  isplitl [H2 H3 Hb]
  · isplitl [Hb]; · iexact Hb
    isplitl [H2]; · iexact H2
    iexact H3
  isplitl [Hk Hsp]
  · iapply (own_cells (F := F) c).2
    isplitl [Hk]; · iexact Hk
    iexact Hsp
  iexact Hr

theorem waits (c : Dev nD) : (levAts L lv : sProp 𝕄) ⊢ Pipeline.cellsWaits cfgs (dats m) () 0 c :=
  Pipeline.cellsWaits_intro cfgs (dats m) () 0 c fun w s t => by
    have h : lv ((c : Thread nD τ), .dma ((cfg0.win w).sem s)) () = 0 := by fin_cases w <;> fin_cases s <;> rfl
    rcases t with ⟨_ | _, ht⟩
    · exact mayWait_O₀ c _ h
    · exact mayWait_OWL c _ 0 [] (by rw [h]; exact Nat.zero_le _) fun k hk => by cases hk

/-- What device `c` holds in an array at the end. -/
def finalA (c : Dev nD) (w : Fin cfg0.W) : Buf (Elt F) ((cfg0.win w).arr.view.loc (c : Thread nD τ)) := (dats m 0 c).arrAt w cfg0.N

def endC (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2) ∧ s.mem ((c : Thread nD τ).loc main_arg3) = m ((c : Thread nD τ).loc main_arg3)

theorem read_end (c : Dev nD) (s' : Phys nD τ sig (Elt F)) :
    iprop(atEnd m c ∗ (iprop(emp) : sProp 𝕄) ∗ SI s') ⊢ |={Set.univ}=> iprop(⌜endC m c s'.mem⌝ ∗ SI s') := by
  unfold atEnd endC
  rw [arrP_true, arrP_false]
  iintro ⟨⟨Hu, H2, H3⟩, -, HSI⟩
  ihave %hs := (tcUnscoped_read c s') $$ [Hu HSI]
  · isplitl [Hu] <;> iassumption
  icombine HSI H2 gives %h2
  icombine HSI H3 gives %h3
  imodintro
  isplitr
  · ipureintro; exact ⟨hs, Buf.eq_of_forall_mem_univ h2, Buf.eq_of_forall_mem_univ h3⟩
  iexact HSI

set_option maxRecDepth 16384 in
/-- Every execution of the kernel on the eight devices ends, with the arrays at their final contents and every counter at zero. -/
theorem run : θ_run defs (onTc (τ := τ) (main (F := F))) ⟨m, fun _ => 0, ρ⟩
    (fun r => (∀ c : Dev nD, (∀ w : Fin cfg0.W, r.2.mem ((cfg0.win w).arr.view.loc (c : Thread nD τ)) = finalA m c w) ∧ endC m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := obligation m) (hne := block_pos0) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := atEnd m) (Z := fun _ => iprop(emp))
    (hX := begin_ m ρ) (hin := phi_in m) (hout := phi_out m)
    (QY := endC m) (hY := read_end m)
    (hQ := fun _ h hs => ⟨fun c => ⟨(h c).1, (h c).2.2⟩, sem_eq_zero hs fun c => (h c).2.2.1⟩)

end Cert.KernelIdeal.Run
-- ==== Proof.KI.Final.lean ====
module

public import proofs.«01_k».proof.Proof.KI.Launch
public import Idealize.ShloMosaic.Lib.Pipeline.ValueKit.Geometry

/-! What the arrays hold at the end: the arguments as they were, the result at the computed sum. -/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem final_in0 (c : Dev nD) : finalA m c (0 : Fin 4) = m ((c : Thread nD τ).loc main_arg0) := (dats (F := F) m 0 c).arrAt_in (0 : Fin 4) rfl _
theorem final_in1 (c : Dev nD) : finalA m c (1 : Fin 4) = m ((c : Thread nD τ).loc main_arg1) := (dats (F := F) m 0 c).arrAt_in (1 : Fin 4) rfl _
theorem final_in2 (c : Dev nD) : finalA m c (2 : Fin 4) = m ((c : Thread nD τ).loc main_arg4) := (dats (F := F) m 0 c).arrAt_in (2 : Fin 4) rfl _

theorem final_out (c : Dev nD) : finalA m c (3 : Fin 4) = outAt m c := by
  refine (dats (F := F) m 0 c).arrAt_eq_of_covers (3 : Fin 4) _ (by decide +kernel) fun t hf y => ?_
  rw [fin_N0 t]
  show outAt m c _ = outAt m c _
  refine congrArg (outAt m c) (funext fun a => Fin.ext ?_)
  have e : (((cfg0.win 3).blk t0_0).view.emb y a : ℕ) = win0_3.index t0_0 a * S256x1024.size a + (y a).val := by blk_simp; rfl
  rw [e]
  fin_cases a <;> exact (Nat.zero_add _).symm

theorem xstg_eq (c : Dev nD) : xstg m c = m ((c : Thread nD τ).loc main_arg0) := by
  refine funext fun y => ?_
  show m ((c : Thread nD τ).loc main_arg0) ((win0_0.blk (0 : Fin 1)).view.emb y) = _
  refine congrArg (m ((c : Thread nD τ).loc main_arg0)) (funext fun a => Fin.ext ?_)
  have e : (((win0_0.blk (0 : Fin 1)).view.emb y a : ℕ)) = win0_0.index (0 : Fin 1) a * S256x1024.size a + (y a).val := by blk_simp; rfl
  rw [e]
  fin_cases a <;> exact Nat.zero_add _
theorem wqstg_eq (c : Dev nD) : wqstg m c = m ((c : Thread nD τ).loc main_arg1) := by
  refine funext fun y => ?_
  show m ((c : Thread nD τ).loc main_arg1) ((win0_1.blk (0 : Fin 1)).view.emb y) = _
  refine congrArg (m ((c : Thread nD τ).loc main_arg1)) (funext fun a => Fin.ext ?_)
  have e : (((win0_1.blk (0 : Fin 1)).view.emb y a : ℕ)) = win0_1.index (0 : Fin 1) a * S1024x1024.size a + (y a).val := by blk_simp; rfl
  rw [e]
  fin_cases a <;> exact Nat.zero_add _
theorem wostg_eq (c : Dev nD) : wostg m c = m ((c : Thread nD τ).loc main_arg4) := by
  refine funext fun y => ?_
  show m ((c : Thread nD τ).loc main_arg4) ((win0_2.blk (0 : Fin 1)).view.emb y) = _
  refine congrArg (m ((c : Thread nD τ).loc main_arg4)) (funext fun a => Fin.ext ?_)
  have e : (((win0_2.blk (0 : Fin 1)).view.emb y a : ℕ)) = win0_2.index (0 : Fin 1) a * S1024x1024.size a + (y a).val := by blk_simp; rfl
  rw [e]
  fin_cases a <;> exact Nat.zero_add _

def Args (c : Dev nD) (s : MemSt nD τ sig (Elt F)) : Prop :=
  s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)

/-- The kernel's run: the result on every device, the arguments unchanged, every counter at zero. -/
theorem value : θ_run defs (onTc (τ := τ) (main (F := F))) ⟨m, fun _ => 0, ρ⟩
    (fun r => (∀ c : Dev nD, r.2.mem ((c.tc : Thread nD τ).loc main_v1) = outAt m c ∧ Args m c r.2) ∧ r.2.sem = fun _ => 0) :=
  (θ_run defs _ _).mono (fun r h => ⟨fun c => ⟨((h.1 c).1 (3 : Fin 4)).trans (final_out m c), ((h.1 c).1 (0 : Fin 4)).trans (final_in0 m c),
    ((h.1 c).1 (1 : Fin 4)).trans (final_in1 m c), (h.1 c).2.2.1, (h.1 c).2.2.2, ((h.1 c).1 (2 : Fin 4)).trans (final_in2 m c)⟩, h.2⟩) (run m ρ)

end Cert.KernelIdeal.Run
-- ==== Proof.V.Soft.lean ====
/- Softmax over the extended reals: a sum over the whole row, from which the row's maximum is subtracted, against a sum
   over the part of the row outside which the scores are minus infinity, from which nothing is subtracted. -/
module

public import Idealize.ShloMosaic.PureOps.Ideal

@[expose] public section

noncomputable section

namespace Cert.Soft

open Idealize.ShloMosaic

variable {ι κ : Type} [Fintype ι] [Fintype κ]

/-- A factor that is a real of no sign goes into a sum. -/
theorem sum_mul_coe (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- A sum of reals is the sum in the reals. -/
theorem sum_coe (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Neither infinity. -/
def Fin' (x : EReal) : Prop := ∃ r : ℝ, x = (r : EReal)

theorem Fin'.mul {x y : EReal} : Fin' x → Fin' y → Fin' (x * y)
  | ⟨a, ha⟩, ⟨b, hb⟩ => ⟨a * b, by rw [ha, hb, EReal.coe_mul]⟩

theorem Fin'.sum (f : ι → EReal) (h : ∀ i, Fin' (f i)) : Fin' (∑ i, f i) := by
  choose g hg using h
  exact ⟨∑ i, g i, by rw [← sum_coe]; exact Finset.sum_congr rfl fun i _ => hg i⟩

theorem Fin'.ne_top {x : EReal} : Fin' x → x ≠ ⊤ | ⟨_, h⟩ => h ▸ EReal.coe_ne_top _
theorem Fin'.ne_bot {x : EReal} : Fin' x → x ≠ ⊥ | ⟨_, h⟩ => h ▸ EReal.coe_ne_bot _

/-- A score's exponential, before and after a real is subtracted from it. -/
theorem exp_parts {x : EReal} (h : x ≠ ⊤) (M : ℝ) :
    ∃ a : ℝ, 0 ≤ a ∧ Ideal.exp x = (a : EReal) ∧ Ideal.exp (x - (M : EReal)) = ((a * Real.exp (-M) : ℝ) : EReal)
      ∧ (x ≠ ⊥ → 0 < a) := by
  induction x with
  | bot => exact ⟨0, le_rfl, rfl, by rw [EReal.bot_sub, Ideal.exp_bot]; simp, fun h => absurd rfl h⟩
  | top => exact absurd rfl h
  | coe r =>
    refine ⟨Real.exp r, (Real.exp_pos r).le, rfl, ?_, fun _ => Real.exp_pos r⟩
    rw [← EReal.coe_sub, Ideal.exp_coe, sub_eq_add_neg, Real.exp_add]

/-- The weighted mean of `V` by the exponentials of `s`: over a part of the row, outside which the scores are minus
    infinity, and over the whole row with a real subtracted from each score. -/
theorem soft (e : κ → ι) (he : Function.Injective e) (s V : ι → EReal) (M : ℝ) (hs : ∀ i, s i ≠ ⊤) (h0 : ∃ i, s i ≠ ⊥)
    (ho : ∀ i, i ∉ Set.range e → s i = ⊥) :
    Ideal.div (∑ k, Ideal.exp (s (e k)) * V (e k)) (∑ k, Ideal.exp (s (e k)))
      = ∑ i, V i * Ideal.div (Ideal.exp (s i - (M : EReal))) (∑ i, Ideal.exp (s i - (M : EReal))) := by
  classical
  have part : ∀ f : ι → EReal, (∀ i, s i = ⊥ → f i = 0) → ∑ k, f (e k) = ∑ i, f i := fun f hf =>
    Finset.sum_of_injOn e he.injOn (fun _ _ => Finset.mem_coe.2 (Finset.mem_univ _))
      (fun i _ hi => hf i (ho i fun ⟨k, hk⟩ => hi ⟨k, Finset.mem_coe.2 (Finset.mem_univ _), hk⟩)) fun _ _ => rfl
  rw [part (fun i => Ideal.exp (s i) * V i) fun i h => by rw [h, Ideal.exp_bot, zero_mul],
    part (fun i => Ideal.exp (s i)) fun i h => by rw [h, Ideal.exp_bot]]
  choose a ha e1 e2 hp using fun i => exp_parts (hs i) M
  have hc := Real.exp_pos (-M)
  obtain ⟨i₀, hi₀⟩ := h0
  have hS : 0 < ∑ i, a i := Finset.sum_pos' (fun i _ => ha i) ⟨i₀, Finset.mem_univ _, hp i₀ hi₀⟩
  simp only [e1, e2, sum_coe]
  rw [← Finset.sum_mul, Ideal.div_coe hS.ne', sum_mul_coe _ _ (by positivity)]
  refine Finset.sum_congr rfl fun i _ => ?_
  rw [Ideal.div_coe (mul_pos hS hc).ne', mul_comm (a i : EReal), mul_assoc, ← EReal.coe_mul, ← EReal.coe_mul]
  congr 2
  field_simp

/-- The maximum of a row that holds a real and no plus infinity is a real. -/
theorem max_real (s : ι → EReal) (hs : ∀ i, s i ≠ ⊤) (h0 : ∃ i, s i ≠ ⊥) :
    ∃ M : ℝ, (Finset.univ : Finset ι).fold max ⊥ s = (M : EReal) := by
  obtain ⟨i₀, hi₀⟩ := h0
  have h1 : (Finset.univ : Finset ι).fold max ⊥ s ≠ ⊤ := ne_of_lt
    ((Finset.fold_max_lt _).2 ⟨bot_lt_top, fun i _ => lt_top_iff_ne_top.2 (hs i)⟩)
  have h2 : (Finset.univ : Finset ι).fold max ⊥ s ≠ ⊥ := ne_of_gt
    ((Finset.lt_fold_max _).2 (.inr ⟨i₀, Finset.mem_univ _, bot_lt_iff_ne_bot.2 hi₀⟩))
  exact ⟨_, (EReal.coe_toReal h1 h2).symm⟩

end Cert.Soft

end
-- ==== Proof.V.Word.lean ====
/- Comparisons of small words as comparisons of numbers, and the constants of the two programs. -/
module

public import proofs.«01_k».proof.Proof.V.Soft
public import Idealize.ShloMosaic.Lib.Pointwise

@[expose] public section

noncomputable section

namespace Cert.Word

open Idealize.ShloMosaic

theorem sub_toInt {a b : ℕ} (ha : a < 2 ^ 20) (hb : b < 2 ^ 20) :
    (BitVec.ofNat 32 a - BitVec.ofNat 32 b).toInt = (a : ℤ) - b := by
  have h1 : (BitVec.ofNat 32 a).toInt = a := by rw [BitVec.toInt_ofNat']; norm_num [Int.bmod]; omega
  have h2 : (BitVec.ofNat 32 b).toInt = b := by rw [BitVec.toInt_ofNat']; norm_num [Int.bmod]; omega
  rw [BitVec.toInt_sub, h1, h2, Int.bmod]
  norm_num
  omega

theorem abs_toInt {x : BitVec 32} (h : -2 ^ 20 < x.toInt ∧ x.toInt < 2 ^ 20) : (IntOp.absi x).toInt = |x.toInt| := by
  have e : IntOp.absi x = if x.msb then -x else x := rfl
  rw [e, BitVec.msb_eq_toInt]
  by_cases hx : x.toInt < 0
  · rw [if_pos (by simpa using hx), BitVec.toInt_neg, Int.bmod, abs_of_neg hx]
    norm_num
    omega
  · rw [if_neg (by simpa using hx), abs_of_nonneg (by omega)]

/-- At most 128 apart. -/
theorem near_word {a b : ℕ} (ha : a < 2 ^ 20) (hb : b < 2 ^ 20) :
    IntOp.cmpi .sle (IntOp.absi (IntOp.subi (BitVec.ofNat 32 a) (BitVec.ofNat 32 b))) 128#32
      = if a ≤ b + 128 ∧ b ≤ a + 128 then 1#1 else 0#1 := by
  have e : IntOp.cmpi .sle (IntOp.absi (IntOp.subi (BitVec.ofNat 32 a) (BitVec.ofNat 32 b))) 128#32
      = BitVec.ofBool ((IntOp.absi (BitVec.ofNat 32 a - BitVec.ofNat 32 b)).sle 128#32) := rfl
  have h := sub_toInt ha hb
  rw [e, BitVec.sle_eq_decide, abs_toInt (by omega), h]
  have h128 : (128#32 : BitVec 32).toInt = 128 := by decide
  rw [h128]
  by_cases hc : a ≤ b + 128 ∧ b ≤ a + 128
  · rw [if_pos hc, decide_eq_true (abs_le.2 (by omega))]; rfl
  · rw [if_neg hc, decide_eq_false (fun q => hc (by have := abs_le.1 q; omega))]; rfl

/-- From the same place up to 256 ahead. -/
theorem ahead_word {a b : ℕ} (ha : a < 2 ^ 20) (hb : b < 2 ^ 20) :
    IntOp.andi (IntOp.cmpi .sle (IntOp.subi (BitVec.ofNat 32 a) (BitVec.ofNat 32 b)) 0#32)
        (IntOp.cmpi .sge (IntOp.subi (BitVec.ofNat 32 a) (BitVec.ofNat 32 b)) 4294967040#32)
      = if a ≤ b ∧ b ≤ a + 256 then 1#1 else 0#1 := by
  have e : IntOp.andi (IntOp.cmpi .sle (IntOp.subi (BitVec.ofNat 32 a) (BitVec.ofNat 32 b)) 0#32)
        (IntOp.cmpi .sge (IntOp.subi (BitVec.ofNat 32 a) (BitVec.ofNat 32 b)) 4294967040#32)
      = BitVec.ofBool ((BitVec.ofNat 32 a - BitVec.ofNat 32 b).sle 0#32)
        &&& BitVec.ofBool ((4294967040#32 : BitVec 32).sle (BitVec.ofNat 32 a - BitVec.ofNat 32 b)) := rfl
  have h0 : (0#32 : BitVec 32).toInt = 0 := by decide
  have h1 : (4294967040#32 : BitVec 32).toInt = -256 := by decide
  rw [e, BitVec.sle_eq_decide, BitVec.sle_eq_decide, sub_toInt ha hb, h0, h1]
  by_cases c1 : a ≤ b
  · by_cases c2 : b ≤ a + 256
    · rw [if_pos ⟨c1, c2⟩, decide_eq_true (by omega), decide_eq_true (by omega)]; rfl
    · rw [if_neg (fun q => c2 q.2), decide_eq_true (by omega), decide_eq_false (by omega)]; rfl
  · rw [if_neg (fun q => c1 q.1), decide_eq_false (by omega)]
    cases decide ((-256 : ℤ) ≤ (a : ℤ) - b) <;> rfl

theorem sel_one {c : BitVec 1} {α : Type} (h : c = 1#1) (a b : α) : Scalar.select c a b = a := by subst h; rfl

theorem sel_if (p : Prop) [Decidable p] {α : Type} (a b : α) : Scalar.select (if p then 1#1 else 0#1) a b = if p then a else b := by
  by_cases h : p <;> simp only [h, if_true, if_false] <;> rfl

theorem or_one (x : BitVec 1) : IntOp.ori x 1#1 = 1#1 ∧ IntOp.ori 1#1 x = 1#1 := by revert x; decide

/-- A disjunction with a true member is true. -/
theorem fold_or {n : ℕ} (f : Fin n → BitVec 1) (i : Fin n) (h : f i = 1#1) :
    Finset.univ.fold IntOp.ori 0#1 f = 1#1 := by
  rw [← Finset.insert_erase (Finset.mem_univ i), Finset.fold_insert (Finset.notMem_erase i _), h]
  exact (or_one _).2

theorem bot_word : Ideal.ofBits .f32 0xFF800000#32 = ⊥ := by simp [Ideal.ofBits, Ideal.ieee]
theorem top_word : Ideal.ofBits .f32 0x7F800000#32 = ⊤ := by simp [Ideal.ofBits, Ideal.ieee]

/-- The scale of the scores is a positive number. -/
theorem scale_word : ∃ r : ℝ, 0 ≤ r ∧ Ideal.ofBits .f32 0x3DB504F3#32 = (r : EReal) := by
  refine ⟨_, ?_, by simp [Ideal.ofBits, Ideal.ieee, -EReal.coe_mul]; rfl⟩
  positivity

end Cert.Word

end
-- ==== Proof.V.Kern.lean ====
/- The kernel's contributions read at an index. -/
module

public import proofs.«01_k».proof.Proof.KI.Spec
public import proofs.«01_k».proof.Proof.V.Word
public import Idealize.ShloMosaic.Lib.Pointwise

@[expose] public section

noncomputable section

namespace Cert.Kern

open Cert.KernelIdeal Cert.KernelIdeal.Gen Cert.KernelIdeal.Run
open Idealize.ShloMosaic Idealize.ShloMosaic.TcCoe Idealize.SL.Sem

theorem q_at (x : FVec Ideal S256x1024 .bf16) (wq : FVec Ideal S1024x1024 .bf16) (r : Fin 256) (a : Fin 1024) :
    qOf x wq (ix2 r a) = (∑ b : Fin 1024, x (ix2 r b) * wq (ix2 b a)) * Ideal.ofBits .f32 0x3DB504F3#32 := by
  pointwise [qOf]

theorem exp_at (q : FVec Ideal S256x1024 .bf16) (M : FVec Ideal S256x512 .f32) (o : ℕ) (h : o + 128 ≤ 1024)
    (ho : S256x1024.Slices ![0, o] S256x128) (k : Vec Ideal S1x512x128 .bf16) (r : Fin 256) (t : Fin 512) :
    expOf q M ![0, o] ho k (ix2 r t)
      = Ideal.exp ((∑ x : Fin 128, q (ix2 r ⟨o + x.val, by omega⟩) * k (ix3 0 t x)) + M (ix2 r t)) := by
  pointwise [expOf]

theorem ctx_at (e : FVec Ideal S256x512 .f32) (v : Vec Ideal S1x512x128 .bf16) (r : Fin 256) (d : Fin 128) :
    ctxOf e v (ix2 r d) = Ideal.div (∑ x : Fin 512, e (ix2 r x) * v (ix3 0 x d)) (∑ x : Fin 512, e (ix2 r x)) := by
  pointwise [ctxOf]

theorem pick (H : Fin 8 → FVec Ideal S256x128 .f32) (r : Fin 256) (x : Fin 1024) (k : Fin 8) (d : ℕ) (hd : d < 128)
    (e : x.val = 128 * k.val + d) :
    H k (ix2 r ⟨d, hd⟩) = H ⟨x.val / 128, by omega⟩ (ix2 r ⟨x.val % 128, by omega⟩) := by
  have h1 : (⟨x.val / 128, by omega⟩ : Fin 8) = k := Fin.ext (show x.val / 128 = k.val by omega)
  have h2 : (⟨x.val % 128, by omega⟩ : Fin 128) = ⟨d, hd⟩ := Fin.ext (show x.val % 128 = d by omega)
  rw [h1, h2]

theorem proj_at (H : Fin 8 → FVec Ideal S256x128 .f32) (wo : FVec Ideal S1024x1024 .bf16) (r : Fin 256) (n : Fin 1024) :
    projOf (H 0) (H 1) (H 2) (H 3) (H 4) (H 5) (H 6) (H 7) wo (ix2 r n)
      = ∑ x : Fin 1024, H ⟨x.val / 128, by omega⟩ (ix2 r ⟨x.val % 128, by omega⟩) * wo (ix2 x n) := by
  have key : ∀ (h0 h1 h2 h3 h4 h5 h6 h7 : FVec Ideal S256x128 .f32), H 0 = h0 → H 1 = h1 → H 2 = h2 → H 3 = h3 → H 4 = h4 → H 5 = h5 →
      H 6 = h6 → H 7 = h7 → projOf h0 h1 h2 h3 h4 h5 h6 h7 wo (ix2 r n)
        = ∑ x : Fin 1024, H ⟨x.val / 128, by omega⟩ (ix2 r ⟨x.val % 128, by omega⟩) * wo (ix2 x n) := by
    intro h0 h1 h2 h3 h4 h5 h6 h7 e0 e1 e2 e3 e4 e5 e6 e7
    pointwise [projOf]
    refine Finset.sum_congr rfl fun x _ => congrArg (· * wo (ix2 x n)) ?_
    have := x.isLt
    subst e0 e1 e2 e3 e4 e5 e6 e7
    split_ifs
    all_goals first
      | exact pick H r x 0 _ _ (by simp; try omega)
      | exact pick H r x 1 _ _ (by simp; try omega)
      | exact pick H r x 2 _ _ (by simp; try omega)
      | exact pick H r x 3 _ _ (by simp; try omega)
      | exact pick H r x 4 _ _ (by simp; try omega)
      | exact pick H r x 5 _ _ (by simp; try omega)
      | exact pick H r x 6 _ _ (by simp; try omega)
      | exact pick H r x 7 _ _ (by simp; try omega)
      | omega
  exact key _ _ _ _ _ _ _ _ rfl rfl rfl rfl rfl rfl rfl rfl

theorem mask_bot : Named.named (F := Ideal) (φ := .f32) Cert.KernelIdeal.κ "mask" 0xCE6E6B28#32 = (⊥ : EReal) :=
  IdealRules.named_const.ideal_named_scalar (φ := .f32) _ _ _ _ rfl

theorem pay8_at (r : Fin 256) (t : Fin 512) :
    k0_pay8 (F := Ideal) (ix2 r t) = if r.val ≤ t.val ∧ t.val ≤ r.val + 256 then 0 else ⊥ := by
  have h := Word.ahead_word (a := r.val) (b := t.val) (by omega) (by omega)
  have e : k0_pay8 (F := Ideal) (ix2 r t) = Scalar.select
      (IntOp.andi (IntOp.cmpi .sle (IntOp.subi (BitVec.ofNat 32 r.val) (BitVec.ofNat 32 t.val)) 0#32)
        (IntOp.cmpi .sge (IntOp.subi (BitVec.ofNat 32 r.val) (BitVec.ofNat 32 t.val)) 4294967040#32)) (0 : EReal)
      (Named.named (F := Ideal) (φ := .f32) Cert.KernelIdeal.κ "mask" 0xCE6E6B28#32) := by
    pointwise [k0_pay8, k0_pay7]
  rw [e, h, Word.sel_if, mask_bot]

theorem pay9_at (r : Fin 256) (t : Fin 512) :
    k0_pay9 (F := Ideal) (ix2 r t) = if r.val ≤ t.val + 128 ∧ t.val ≤ r.val + 128 then 0 else ⊥ := by
  have h := Word.near_word (a := r.val) (b := t.val) (by omega) (by omega)
  have e : k0_pay9 (F := Ideal) (ix2 r t) = Scalar.select
      (IntOp.cmpi .sle (IntOp.absi (IntOp.subi (BitVec.ofNat 32 r.val) (BitVec.ofNat 32 t.val))) 128#32) (0 : EReal)
      (Named.named (F := Ideal) (φ := .f32) Cert.KernelIdeal.κ "mask" 0xCE6E6B28#32) := by
    pointwise [k0_pay9, k0_pay7]
  rw [e, h, Word.sel_if, mask_bot]

/-- The mask of block `j` is 0 where row `256 j + r` and key `wst j + t` are at most 128 apart, `⊥` elsewhere. -/
theorem mask_at (j : Dev nD) (r : Fin 256) (t : Fin 512) :
    maskOf (F := Ideal) j (ix2 r t)
      = if 256 * j.val + r.val ≤ wst j + t.val + 128 ∧ wst j + t.val ≤ 256 * j.val + r.val + 128 then 0 else ⊥ := by
  unfold maskOf wst
  by_cases hj : j.val = 0
  · rw [if_pos hj, pay9_at]
    refine if_congr ?_ rfl rfl
    omega
  · rw [if_neg hj, pay8_at]
    refine if_congr ?_ rfl rfl
    omega

theorem pay1_at (x : Vec Ideal S256x1024 .f32) (r : Fin 256) (t : Fin 1024) : k0_pay1 x (ix2 r t) = x (ix2 r t) := by
  pointwise [k0_pay1]

theorem pay2_at (x : Vec Ideal S1024x1024 .f32) (r : Fin 1024) (t : Fin 1024) : k0_pay2 x (ix2 r t) = x (ix2 r t) := by
  pointwise [k0_pay2]

theorem pay3_at (x : Vec Ideal S1024x1024 .f32) (r : Fin 1024) (t : Fin 1024) : k0_pay3 x (ix2 r t) = x (ix2 r t) := by
  pointwise [k0_pay3]

theorem pay4_at (x : Vec Ideal S8x2176x128 .f32) (h : Fin 8) (t : Fin 2176) (d : Fin 128) : k0_pay4 x (ix3 h t d) = x (ix3 h t d) := by
  pointwise [k0_pay4]

theorem pay6_at (x : Vec Ideal S8x2176x128 .f32) (h : Fin 8) (t : Fin 2176) (d : Fin 128) :
    k0_pay6 (k0_pay5 x) (ix3 h t d) = x (ix3 h t d) := by
  pointwise [k0_pay6, k0_pay5]

/-- The masked score of row `r` of block `j` and the `t`-th key of its window, for head `h` of a device. -/
def kscore (x : FVec Ideal S256x1024 .bf16) (wq : FVec Ideal S1024x1024 .bf16) (kb : Vec Ideal S8x2176x128 .bf16) (j : Dev nD)
    (r : Fin 256) (h : Fin 8) (t : Fin 512) : EReal :=
  (∑ e : Fin 128, ((∑ b : Fin 1024, x (ix2 r b) * wq (ix2 b ⟨128 * h.val + e.val, by omega⟩)) * Ideal.ofBits .f32 0x3DB504F3#32)
    * kb (ix3 h ⟨wst j + t.val, wst_le j _ t.isLt⟩ e))
  + if 256 * j.val + r.val ≤ wst j + t.val + 128 ∧ wst j + t.val ≤ 256 * j.val + r.val + 128 then 0 else ⊥

/-- One head's output at row `r`, column `d`. -/
def khead (x : FVec Ideal S256x1024 .bf16) (wq : FVec Ideal S1024x1024 .bf16) (kb vb : Vec Ideal S8x2176x128 .bf16) (j : Dev nD)
    (r : Fin 256) (h : Fin 8) (d : Fin 128) : EReal :=
  Ideal.div (∑ t : Fin 512, Ideal.exp (kscore x wq kb j r h t) * vb (ix3 h ⟨wst j + t.val, wst_le j _ t.isLt⟩ d))
    (∑ t : Fin 512, Ideal.exp (kscore x wq kb j r h t))

theorem slices_at (h : Fin 8) : S256x1024.Slices ![0, 128 * h.val] S256x128 := by revert h; decide

theorem head_at (x : FVec Ideal S256x1024 .bf16) (wq : FVec Ideal S1024x1024 .bf16) (kb vb : Vec Ideal S8x2176x128 .bf16) (j : Dev nD)
    (r : Fin 256) (h : Fin 8) (d : Fin 128) :
    headOf (qOf x wq) (maskOf j) ![0, 128 * h.val] (slices_at h) (win kb h j) (win vb h j) (ix2 r d) = khead x wq kb vb j r h d := by
  have ek : ∀ t : Fin 512, expOf (qOf x wq) (maskOf j) ![0, 128 * h.val] (slices_at h) (win kb h j) (ix2 r t)
      = Ideal.exp (kscore x wq kb j r h t) := fun t => by
    rw [exp_at _ _ _ (by omega), mask_at]
    simp only [q_at]
    rfl
  rw [headOf, ctx_at]
  simp only [ek]
  rfl

theorem contrib_at (x : FVec Ideal S256x1024 .bf16) (wq : FVec Ideal S1024x1024 .bf16) (kb vb : Vec Ideal S8x2176x128 .bf16)
    (wo : FVec Ideal S1024x1024 .bf16) (j : Dev nD) (r : Fin 256) (n : Fin 1024) :
    contribQ (qOf x wq) kb vb wo j (ix2 r n)
      = ∑ a : Fin 1024, khead x wq kb vb j r ⟨a.val / 128, by omega⟩ ⟨a.val % 128, by omega⟩ * wo (ix2 a n) := by
  have e : contribQ (qOf x wq) kb vb wo j (ix2 r n)
      = ∑ a : Fin 1024, headOf (qOf x wq) (maskOf j) ![0, 128 * (a.val / 128)] (slices_at ⟨a.val / 128, by omega⟩)
          (win kb ⟨a.val / 128, by omega⟩ j) (win vb ⟨a.val / 128, by omega⟩ j) (ix2 r ⟨a.val % 128, by omega⟩) * wo (ix2 a n) :=
    proj_at (fun h => headOf (qOf x wq) (maskOf j) ![0, 128 * h.val] (slices_at h) (win kb h j) (win vb h j)) wo r n
  rw [e]
  exact Finset.sum_congr rfl fun a _ => congrArg (· * wo (ix2 a n)) (head_at x wq kb vb j r ⟨a.val / 128, by omega⟩ ⟨a.val % 128, by omega⟩)

variable (m : (ℓ : Loc nD τ sig) → Buf (Elt Ideal) ℓ)

/-- Eight devices round the ring, each once. -/
theorem ring8 (f : Dev nD → EReal) (c : Dev nD) :
    f (nxt (nxt (nxt (nxt c)))) + f (nxt (nxt (nxt c))) + f (nxt (nxt c)) + f (nxt c)
      + (f (prv (prv (prv c))) + f (prv (prv c)) + f (prv c)) + f c = ∑ d : Dev nD, f d := by
  have e : ∑ d : Dev nD, f d = f 0 + f 1 + f 2 + f 3 + f 4 + f 5 + f 6 + f 7 := Fin.sum_univ_eight f
  rw [e]
  generalize h0 : f 0 = a0, h1 : f 1 = a1, h2 : f 2 = a2, h3 : f 3 = a3, h4 : f 4 = a4, h5 : f 5 = a5, h6 : f 6 = a6, h7 : f 7 = a7
  have go : ∀ d : Fin 8, f d = ![a0, a1, a2, a3, a4, a5, a6, a7] d := by
    intro d; fin_cases d <;> assumption
  have go' : ∀ d : Dev nD, f d = ![a0, a1, a2, a3, a4, a5, a6, a7] d := go
  simp only [go']
  have hc : ∀ c : Fin 8, ![a0, a1, a2, a3, a4, a5, a6, a7] (nxt (nxt (nxt (nxt c)))) + ![a0, a1, a2, a3, a4, a5, a6, a7] (nxt (nxt (nxt c)))
      + ![a0, a1, a2, a3, a4, a5, a6, a7] (nxt (nxt c)) + ![a0, a1, a2, a3, a4, a5, a6, a7] (nxt c)
      + (![a0, a1, a2, a3, a4, a5, a6, a7] (prv (prv (prv c))) + ![a0, a1, a2, a3, a4, a5, a6, a7] (prv (prv c))
        + ![a0, a1, a2, a3, a4, a5, a6, a7] (prv c)) + ![a0, a1, a2, a3, a4, a5, a6, a7] c
      = a0 + a1 + a2 + a3 + a4 + a5 + a6 + a7 := by
    intro c
    fin_cases c
    · show a4 + a3 + a2 + a1 + (a5 + a6 + a7) + a0 = _; ac_rfl
    · show a5 + a4 + a3 + a2 + (a6 + a7 + a0) + a1 = _; ac_rfl
    · show a6 + a5 + a4 + a3 + (a7 + a0 + a1) + a2 = _; ac_rfl
    · show a7 + a6 + a5 + a4 + (a0 + a1 + a2) + a3 = _; ac_rfl
    · show a0 + a7 + a6 + a5 + (a1 + a2 + a3) + a4 = _; ac_rfl
    · show a1 + a0 + a7 + a6 + (a2 + a3 + a4) + a5 = _; ac_rfl
    · show a2 + a1 + a0 + a7 + (a3 + a4 + a5) + a6 = _; ac_rfl
    · show a3 + a2 + a1 + a0 + (a4 + a5 + a6) + a7 = _; ac_rfl
  exact hc c

theorem back (c : Dev nD) : rot (nxt (nxt (nxt (nxt c)))) 4 = c ∧ rot (nxt (nxt (nxt c))) 5 = c ∧ rot (nxt (nxt c)) 6 = c ∧ rot (nxt c) 7 = c
    ∧ rot (prv (prv (prv c))) 3 = c ∧ rot (prv (prv c)) 2 = c ∧ rot (prv c) 1 = c := by revert c; decide

/-- A device's result adds the eight devices' contributions. -/
theorem out_at (c : Dev nD) (r : Fin 256) (n : Fin 1024) :
    outAt m c (ix2 r n) = ∑ d : Dev nD, ctr m d c (ix2 r n) := by
  have h : outAt m c (ix2 r n) = (ctr m (nxt (nxt (nxt (nxt c)))) (rot (nxt (nxt (nxt (nxt c)))) 4) (ix2 r n)
      + ctr m (nxt (nxt (nxt c))) (rot (nxt (nxt (nxt c))) 5) (ix2 r n) + ctr m (nxt (nxt c)) (rot (nxt (nxt c)) 6) (ix2 r n)
      + ctr m (nxt c) (rot (nxt c) 7) (ix2 r n)
      + (ctr m (prv (prv (prv c))) (rot (prv (prv (prv c))) 3) (ix2 r n) + ctr m (prv (prv c)) (rot (prv (prv c)) 2) (ix2 r n)
        + ctr m (prv c) (rot (prv c) 1) (ix2 r n)) + ctr m c c (ix2 r n) : EReal) := by
    pointwise [outAt, aval, bval, accStep]
  obtain ⟨b1, b2, b3, b4, b5, b6, b7⟩ := back c
  rw [h, b1, b2, b3, b4, b5, b6, b7]
  exact ring8 (fun d => ctr m d c (ix2 r n)) c

theorem XB_at (c : Dev nD) (r : Fin 256) (t : Fin 1024) : XB m c (ix2 r t) = xstg m c (ix2 r t) := pay1_at _ r t
theorem WQB_at (c : Dev nD) (r t : Fin 1024) : WQB m c (ix2 r t) = wqstg m c (ix2 r t) := pay2_at _ r t
theorem WOB_at (c : Dev nD) (r t : Fin 1024) : WOB m c (ix2 r t) = wostg m c (ix2 r t) := pay3_at _ r t

/-- A device's keys and values are its eight heads of the whole. -/
theorem KB_at (c : Dev nD) (h : Fin 8) (t : Fin 2176) (d : Fin 128) : KB m c (ix3 h t d)
    = (m ((c : Thread nD τ).loc main_arg2) : FVec Ideal S1x4096x64x128 .f32) (ix4 0 ⟨t.val, by omega⟩ ⟨8 * c.val + h.val, by
      have := c.isLt; have : nD = 8 := rfl; omega⟩ d) := pay4_at _ h t d
theorem VB_at (c : Dev nD) (h : Fin 8) (t : Fin 2176) (d : Fin 128) : VB m c (ix3 h t d)
    = (m ((c : Thread nD τ).loc main_arg3) : FVec Ideal S1x4096x64x128 .f32) (ix4 0 ⟨t.val, by omega⟩ ⟨8 * c.val + h.val, by
      have := c.isLt; have : nD = 8 := rfl; omega⟩ d) := pay6_at _ h t d

end Cert.Kern

end
-- ==== Proof.V.Ref.lean ====
/- The reference read at an index, stage by stage: scores, weights, context, output. -/
module

public import proofs.«01_k».proof.Proof.Gen.ReferenceIdeal.Run
public import proofs.«01_k».proof.Proof.V.Word
public import Idealize.ShloMosaic.Lib.Pointwise

@[expose] public section

noncomputable section

namespace Cert.Ref

open Cert.ReferenceIdeal Cert.ReferenceIdeal.Gen Cert.ReferenceIdeal.Value
open Idealize.ShloMosaic Idealize.ShloMosaic.TcCoe Idealize.SL.Sem Idealize.ShloMosaic.StableHlo

/-- The queries, cut into heads. -/
def qry (x : FVec Ideal S2048x1024 .f32) (wq : FVec Ideal S1024x8192 .f32) : FVec Ideal S1x2048x64x128 .f32 :=
  shapeCast _ (Host.dotGeneral dot_S2048x1024_S1024x8192_S2048x8192_1_0_0_1_n_n none x wq) shapeCasts_S2048x8192_S1x2048x64x128

/-- Whether a row and a key are at most 128 apart. -/
def near : IVec S2048x4096 1 :=
  cmpi .sle (absi (subi (broadcastInDim S2048x4096 ![0, 1] bcast_S2048x1_S2048x4096_0_1 (broadcastInDim S2048x1 ![0] bcast_S2048_S2048x1_0 (iotaInDim S2048 32 0))) (broadcastInDim S2048x4096 ![0, 1] bcast_S1x4096_S2048x4096_0_1 (broadcastInDim S1x4096 ![1] bcast_S4096_S1x4096_1 (iotaInDim S4096 32 0))))) (broadcastInDim S2048x4096 ![] bcast_S_S2048x4096 (constantI S_ 32 128#32))

/-- The masked scores of the queries `q` against the keys. -/
def sco (nr : IVec S2048x4096 1) (q : FVec Ideal S1x2048x64x128 .f32) (k : FVec Ideal S1x4096x64x128 .f32) : FVec Ideal S1x64x2048x4096 .f32 :=
  select (broadcastInDim S1x64x2048x4096 ![0, 1, 2, 3] bcast_S1x1x2048x4096_S1x64x2048x4096_0_1_2_3 (broadcastInDim S1x1x2048x4096 ![2, 3] bcast_S2048x4096_S1x1x2048x4096_2_3 nr)) (mulf (Host.dotGeneral dot_S1x2048x64x128_S1x4096x64x128_S1x64x2048x4096_3_3_1_1_02_02 none q k) (broadcastInDim S1x64x2048x4096 ![] bcast_S_S1x64x2048x4096 (constant S_ .f32 0x3DB504F3#32))) (broadcastInDim S1x64x2048x4096 ![] bcast_S_S1x64x2048x4096 (id (constant S_ .f32 0xFF800000#32)))

/-- A row's maximum. -/
def mx (s : FVec Ideal S1x64x2048x4096 .f32) : FVec Ideal S1x64x2048 .f32 :=
  Host.reduce FloatOps.maximumf s (constant S_ .f32 0xFF800000#32) reducesTo_S1x64x2048x4096_S1x64x2048_d3 h_S_

/-- The exponentials of the scores less their row's maximum. -/
def ex0 (s : FVec Ideal S1x64x2048x4096 .f32) (z : FVec Ideal S1x64x2048 .f32) : FVec Ideal S1x64x2048x4096 .f32 :=
  Host.exp (subf s (broadcastInDim S1x64x2048x4096 ![0, 1, 2, 3] bcast_S1x64x2048x1_S1x64x2048x4096_0_1_2_3 (broadcastInDim S1x64x2048x1 ![0, 1, 2] bcast_S1x64x2048_S1x64x2048x1_0_1_2 z)))
/-- The same, the maximum taken of the scores themselves. -/
def ex (s : FVec Ideal S1x64x2048x4096 .f32) : FVec Ideal S1x64x2048x4096 .f32 := ex0 s (mx s)

/-- Whether a row has a key at all. -/
def keep0 (nr : IVec S2048x4096 1) : IVec S1x1x2048x1 1 :=
  broadcastInDim S1x1x2048x1 ![2] bcast_S2048_S1x1x2048x1_2 (Host.reduce IntOp.ori nr (constantI S_ 1 0#1) reducesTo_S2048x4096_S2048_d1 h_S_)
/-- The same of the mask. -/
def keep : IVec S1x1x2048x1 1 := keep0 near

/-- A row's sum, 1 where the row has no key. -/
def sm (kp : IVec S1x1x2048x1 1) (w : FVec Ideal S1x64x2048x4096 .f32) : FVec Ideal S1x64x2048x1 .f32 :=
  select (broadcastInDim S1x64x2048x1 ![0, 1, 2, 3] bcast_S1x1x2048x1_S1x64x2048x1_0_1_2_3 kp) (broadcastInDim S1x64x2048x1 ![0, 1, 2] bcast_S1x64x2048_S1x64x2048x1_0_1_2 (Host.reduceAdd w (constant S_ .f32 0x00000000#32) reducesTo_S1x64x2048x4096_S1x64x2048_d3 h_S_)) (broadcastInDim S1x64x2048x1 ![] bcast_S_S1x64x2048x1 (id (constant S_ .f32 0x3F800000#32)))

/-- The weights over their sums `z`, 0 where the row has no key. -/
def wt (kp : IVec S1x1x2048x1 1) (w : FVec Ideal S1x64x2048x4096 .f32) (z : FVec Ideal S1x64x2048x1 .f32) : FVec Ideal S1x64x2048x4096 .f32 :=
  select (broadcastInDim S1x64x2048x4096 ![0, 1, 2, 3] bcast_S1x1x2048x1_S1x64x2048x4096_0_1_2_3 kp) (Host.divf w (broadcastInDim S1x64x2048x4096 ![0, 1, 2, 3] bcast_S1x64x2048x1_S1x64x2048x4096_0_1_2_3 z)) (broadcastInDim S1x64x2048x4096 ![] bcast_S_S1x64x2048x4096 (id (constant S_ .f32 0x00000000#32)))

/-- The normalized weights of scores `s`. -/
def wgt (s : FVec Ideal S1x64x2048x4096 .f32) : FVec Ideal S1x64x2048x4096 .f32 := wt keep (ex s) (sm keep (ex s))

/-- The heads' outputs side by side. -/
def ctx (v : FVec Ideal S1x4096x64x128 .f32) (w : FVec Ideal S1x64x2048x4096 .f32) : FVec Ideal S2048x8192 .f32 :=
  shapeCast _ (transpose S1x2048x64x128 [0, 3, 1, 2] (Host.dotGeneral dot_S1x4096x64x128_S1x64x2048x4096_S1x64x128x2048_1_3_3_2_02_01 none v w) transposes_S1x64x128x2048_S1x2048x64x128_0_3_1_2) shapeCasts_S1x2048x64x128_S2048x8192

/-- The output. -/
def out (x : FVec Ideal S2048x1024 .f32) (wq : FVec Ideal S1024x8192 .f32) (k v : FVec Ideal S1x4096x64x128 .f32)
    (wo : FVec Ideal S8192x1024 .f32) : FVec Ideal S2048x1024 .f32 :=
  Host.dotGeneral dot_S2048x8192_S8192x1024_S2048x1024_1_0_0_1_n_n none (ctx v (wgt (sco near (qry x wq) k))) wo

theorem res_eq (m : (ℓ : Loc nD τ sig) → Buf (Elt Ideal) ℓ) (c : Dev nD) :
    res_main_v34 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

theorem out_at (x : FVec Ideal S2048x1024 .f32) (wq : FVec Ideal S1024x8192 .f32) (k v : FVec Ideal S1x4096x64x128 .f32)
    (wo : FVec Ideal S8192x1024 .f32) (i : Fin 2048) (n : Fin 1024) :
    out x wq k v wo (ix2 i n) = ∑ a : Fin 8192, ctx v (wgt (sco near (qry x wq) k)) (ix2 i a) * wo (ix2 a n) := by
  pointwise [out]

theorem ctx_at (v : FVec Ideal S1x4096x64x128 .f32) (w : FVec Ideal S1x64x2048x4096 .f32) (i : Fin 2048) (a : Fin 8192) :
    ctx v w (ix2 i a) = ∑ x : Fin 4096, v (ix4 0 x ⟨a.val / 128, by omega⟩ ⟨a.val % 128, by omega⟩) * w (ix4 0 ⟨a.val / 128, by omega⟩ i x) := by
  pointwise [ctx]

theorem qry_at (x : FVec Ideal S2048x1024 .f32) (wq : FVec Ideal S1024x8192 .f32) (i : Fin 2048) (h : Fin 64) (e : Fin 128) :
    qry x wq (ix4 0 i h e) = ∑ b : Fin 1024, x (ix2 i b) * wq (ix2 b ⟨h.val * 128 + e.val, by omega⟩) := by
  pointwise [qry]

theorem near_word_at (i : Fin 2048) (t : Fin 4096) :
    near (ix2 i t) = IntOp.cmpi .sle (IntOp.absi (IntOp.subi (BitVec.ofNat 32 i.val) (BitVec.ofNat 32 t.val))) 128#32 := by
  pointwise [near]

theorem near_at (i : Fin 2048) (t : Fin 4096) :
    near (ix2 i t) = if i.val ≤ t.val + 128 ∧ t.val ≤ i.val + 128 then 1#1 else 0#1 :=
  (near_word_at i t).trans (Word.near_word (by omega) (by omega))

theorem sco_at (nr : IVec S2048x4096 1) (q : FVec Ideal S1x2048x64x128 .f32) (k : FVec Ideal S1x4096x64x128 .f32) (i : Fin 2048) (h : Fin 64) (t : Fin 4096) :
    sco nr q k (ix4 0 h i t) = Scalar.select (nr (ix2 i t)) ((∑ x : Fin 128, q (ix4 0 i h x) * k (ix4 0 t h x)) * Ideal.ofBits .f32 0x3DB504F3#32)
      (Ideal.ofBits .f32 0xFF800000#32) := by
  pointwise [sco]
  rfl

theorem mx_at (s : FVec Ideal S1x64x2048x4096 .f32) (h : Fin 64) (i : Fin 2048) :
    mx s (ix3 0 h i) = Finset.univ.fold max (Ideal.ofBits .f32 0xFF800000#32) (fun x : Fin 4096 => s (ix4 0 h i x)) := by
  pointwise [mx]

theorem ex0_at (s : FVec Ideal S1x64x2048x4096 .f32) (z : FVec Ideal S1x64x2048 .f32) (i : Fin 2048) (h : Fin 64) (t : Fin 4096) :
    ex0 s z (ix4 0 h i t) = Ideal.exp (s (ix4 0 h i t) - z (ix3 0 h i)) := by
  pointwise [ex0]

theorem keep0_at (nr : IVec S2048x4096 1) (i : Fin 2048) :
    keep0 nr (ix4 0 0 i 0) = Finset.univ.fold IntOp.ori 0#1 (fun x : Fin 4096 => nr (ix2 i x)) := by
  pointwise [keep0]

theorem sm_at (kp : IVec S1x1x2048x1 1) (w : FVec Ideal S1x64x2048x4096 .f32) (i : Fin 2048) (h : Fin 64) (hk : kp (ix4 0 0 i 0) = 1#1) :
    sm kp w (ix4 0 h i 0) = ∑ x : Fin 4096, w (ix4 0 h i x) := by
  pointwise [sm]
  exact Word.sel_one hk _ _

theorem wt_at (kp : IVec S1x1x2048x1 1) (w : FVec Ideal S1x64x2048x4096 .f32) (z : FVec Ideal S1x64x2048x1 .f32) (i : Fin 2048) (h : Fin 64) (t : Fin 4096)
    (hk : kp (ix4 0 0 i 0) = 1#1) : wt kp w z (ix4 0 h i t) = Ideal.div (w (ix4 0 h i t)) (z (ix4 0 h i 0)) := by
  pointwise [wt]
  exact Word.sel_one hk _ _

theorem keep_at (i : Fin 2048) : keep (ix4 0 0 i 0) = 1#1 := by
  rw [keep, keep0_at]
  refine Word.fold_or _ ⟨i.val, by omega⟩ ?_
  rw [near_at, if_pos ⟨by simp, by simp⟩]

theorem wgt_at (s : FVec Ideal S1x64x2048x4096 .f32) (i : Fin 2048) (h : Fin 64) (t : Fin 4096) :
    wgt s (ix4 0 h i t) = Ideal.div (ex s (ix4 0 h i t)) (∑ x : Fin 4096, ex s (ix4 0 h i x)) := by
  rw [wgt, wt_at _ _ _ _ _ _ (keep_at i), sm_at _ _ _ _ (keep_at i)]

/-- The score of row `i` and key `t` for head `h`, `⊥` where the mask hides the key. -/
def score (x : FVec Ideal S2048x1024 .f32) (wq : FVec Ideal S1024x8192 .f32) (k : FVec Ideal S1x4096x64x128 .f32)
    (i : Fin 2048) (h : Fin 64) (t : Fin 4096) : EReal :=
  if i.val ≤ t.val + 128 ∧ t.val ≤ i.val + 128 then
    (∑ e : Fin 128, (∑ b : Fin 1024, x (ix2 i b) * wq (ix2 b ⟨h.val * 128 + e.val, by omega⟩)) * k (ix4 0 t h e))
      * Ideal.ofBits .f32 0x3DB504F3#32
  else ⊥

/-- The largest score of row `i` for head `h`. -/
def smax (x : FVec Ideal S2048x1024 .f32) (wq : FVec Ideal S1024x8192 .f32) (k : FVec Ideal S1x4096x64x128 .f32)
    (i : Fin 2048) (h : Fin 64) : EReal := Finset.univ.fold max ⊥ (score x wq k i h)

/-- Head `h` of row `i`, column `d`. -/
def head (x : FVec Ideal S2048x1024 .f32) (wq : FVec Ideal S1024x8192 .f32) (k v : FVec Ideal S1x4096x64x128 .f32)
    (i : Fin 2048) (h : Fin 64) (d : Fin 128) : EReal :=
  ∑ t : Fin 4096, v (ix4 0 t h d) * Ideal.div (Ideal.exp (score x wq k i h t - smax x wq k i h))
    (∑ t : Fin 4096, Ideal.exp (score x wq k i h t - smax x wq k i h))

theorem sco_eq (x : FVec Ideal S2048x1024 .f32) (wq : FVec Ideal S1024x8192 .f32) (k : FVec Ideal S1x4096x64x128 .f32)
    (i : Fin 2048) (h : Fin 64) (t : Fin 4096) : sco near (qry x wq) k (ix4 0 h i t) = score x wq k i h t := by
  rw [sco_at, near_at, Word.sel_if, score, Word.bot_word]
  simp only [qry_at]

theorem ex_eq (x : FVec Ideal S2048x1024 .f32) (wq : FVec Ideal S1024x8192 .f32) (k : FVec Ideal S1x4096x64x128 .f32)
    (i : Fin 2048) (h : Fin 64) (t : Fin 4096) :
    ex (sco near (qry x wq) k) (ix4 0 h i t) = Ideal.exp (score x wq k i h t - smax x wq k i h) := by
  rw [ex, ex0_at, mx_at, sco_eq, Word.bot_word, smax]
  simp only [sco_eq]

/-- The reference at row `i`, column `n`. -/
theorem out_eq (x : FVec Ideal S2048x1024 .f32) (wq : FVec Ideal S1024x8192 .f32) (k v : FVec Ideal S1x4096x64x128 .f32)
    (wo : FVec Ideal S8192x1024 .f32) (i : Fin 2048) (n : Fin 1024) :
    out x wq k v wo (ix2 i n)
      = ∑ a : Fin 8192, head x wq k v i ⟨a.val / 128, by omega⟩ ⟨a.val % 128, by omega⟩ * wo (ix2 a n) := by
  rw [out_at]
  refine Finset.sum_congr rfl fun a _ => ?_
  rw [ctx_at]
  simp only [wgt_at, ex_eq, head]

end Cert.Ref

end
-- ==== Proof.V.Meet.lean ====
/- The kernel's results are the reference's rows, given finite queries, query weights and keys. -/
module

public import proofs.«01_k».proof.Proof.V.Kern
public import proofs.«01_k».proof.Proof.V.Ref
public import Idealize.ShloMosaic.Lib.Layout

@[expose] public section

noncomputable section

namespace Cert.Meet

open Cert.KernelIdeal Cert.KernelIdeal.Run Cert.Kern Cert.Ref
open Idealize.ShloMosaic Idealize.ShloMosaic.TcCoe Idealize.SL.Sem
open Cert.Soft (Fin')

theorem dev_lt (c : Dev nD) : c.val < 8 := c.isLt

/-- Row `r` of block `j`, head `h` of device `d`, column `a` of device `d`, key `t` of the window of block `j`. -/
def row (j : Dev nD) (r : Fin 256) : Fin 2048 := ⟨256 * j.val + r.val, by have := dev_lt j; omega⟩
def hd (d : Dev nD) (h : Fin 8) : Fin 64 := ⟨8 * d.val + h.val, by have := dev_lt d; omega⟩
def col (d : Dev nD) (a : Fin 1024) : Fin 8192 := ⟨d.val * 1024 + a.val, by have := dev_lt d; omega⟩
def ky (j : Dev nD) (t : Fin 512) : Fin 4096 := ⟨wst j + t.val, by have := wst_le j _ t.isLt; omega⟩

variable (x : Dev nD → FVec Ideal ⟨2, ![256, 1024]⟩ .bf16) (wq wo : Dev nD → FVec Ideal ⟨2, ![1024, 1024]⟩ .bf16)
  (kb vb : Dev nD → Vec Ideal ⟨3, ![8, 2176, 128]⟩ .bf16)
  (X : FVec Ideal ⟨2, ![2048, 1024]⟩ .f32) (WQ : FVec Ideal ⟨2, ![1024, 8192]⟩ .f32) (K V : FVec Ideal ⟨4, ![1, 4096, 64, 128]⟩ .f32)
  (WO : FVec Ideal ⟨2, ![8192, 1024]⟩ .f32)

/-- The devices' parts are the parts of the whole arrays. -/
structure Parts : Prop where
  x : ∀ j r b, x j (ix2 r b) = X (ix2 (row j r) b)
  wq : ∀ d b a, wq d (ix2 b a) = WQ (ix2 b (col d a))
  kb : ∀ d h (t : Fin 2176) e, kb d (ix3 h t e) = K (ix4 0 ⟨t.val, by omega⟩ (hd d h) e)
  vb : ∀ d h (t : Fin 2176) e, vb d (ix3 h t e) = V (ix4 0 ⟨t.val, by omega⟩ (hd d h) e)
  wo : ∀ d a n, wo d (ix2 a n) = WO (ix2 (col d a) n)

/-- The queries, the query weights and the keys are real. -/
structure Real' : Prop where
  x : ∀ i b, Fin' (X (ix2 i b))
  wq : ∀ b a, Fin' (WQ (ix2 b a))
  k : ∀ t h e, Fin' (K (ix4 0 t h e))

variable {x wq wo kb vb X WQ K V WO}

theorem kscore_eq (P : Parts x wq wo kb vb X WQ K V WO) (d j : Dev nD) (r : Fin 256) (h : Fin 8) (t : Fin 512) :
    kscore (x j) (wq d) (kb d) j r h t = score X WQ K (row j r) (hd d h) (ky j t) := by
  obtain ⟨σ, hσ, eσ⟩ := Word.scale_word
  unfold kscore score
  rw [eσ]
  by_cases hn : (row j r).val ≤ (ky j t).val + 128 ∧ (ky j t).val ≤ (row j r).val + 128
  · have hc : 256 * j.val + r.val ≤ wst j + t.val + 128 ∧ wst j + t.val ≤ 256 * j.val + r.val + 128 := hn
    rw [if_pos hc, if_pos hn, add_zero, Soft.sum_mul_coe _ _ hσ]
    refine Finset.sum_congr rfl fun e _ => ?_
    rw [mul_right_comm, P.kb d]
    have ew : ∀ b : Fin 1024, wq d (ix2 b ⟨128 * h.val + e.val, by omega⟩)
        = WQ (ix2 b ⟨(hd d h).val * 128 + e.val, by have := dev_lt d; have : (hd d h).val = 8 * d.val + h.val := rfl; omega⟩) := fun b =>
      (P.wq d b _).trans (congrArg (fun z => WQ (ix2 b z)) (Fin.ext (by
        show d.val * 1024 + (128 * h.val + e.val) = (8 * d.val + h.val) * 128 + e.val
        omega)))
    simp only [P.x, ew]
    rfl
  · have hc : ¬(256 * j.val + r.val ≤ wst j + t.val + 128 ∧ wst j + t.val ≤ 256 * j.val + r.val + 128) := hn
    rw [if_neg hc, if_neg hn, EReal.add_bot]

theorem score_real (R : Real' X WQ K) (i : Fin 2048) (h : Fin 64) (t : Fin 4096) (hn : i.val ≤ t.val + 128 ∧ t.val ≤ i.val + 128) :
    Fin' (score X WQ K i h t) := by
  obtain ⟨σ, -, eσ⟩ := Word.scale_word
  rw [score, if_pos hn]
  exact Fin'.mul (Fin'.sum _ fun e => Fin'.mul (Fin'.sum _ fun b => Fin'.mul (R.x _ _) (R.wq _ _)) (R.k _ _ _)) ⟨σ, eσ⟩

theorem khead_eq (P : Parts x wq wo kb vb X WQ K V WO) (R : Real' X WQ K) (d j : Dev nD) (r : Fin 256) (h : Fin 8) (e : Fin 128) :
    khead (x j) (wq d) (kb d) (vb d) j r h e = head X WQ K V (row j r) (hd d h) e := by
  have hs : ∀ t, score X WQ K (row j r) (hd d h) t ≠ ⊤ := fun t => by
    by_cases hn : (row j r).val ≤ t.val + 128 ∧ t.val ≤ (row j r).val + 128
    · exact (score_real R _ _ _ hn).ne_top
    · rw [score, if_neg hn]; exact bot_ne_top
  have h0 : ∃ t, score X WQ K (row j r) (hd d h) t ≠ ⊥ :=
    ⟨⟨(row j r).val, by omega⟩, (score_real R _ _ _ ⟨by simp, by simp⟩).ne_bot⟩
  obtain ⟨M, hM⟩ := Soft.max_real _ hs h0
  have ho : ∀ t, t ∉ Set.range (ky j) → score X WQ K (row j r) (hd d h) t = ⊥ := fun t ht => by
    rw [score, if_neg]
    intro hn
    have e1 : (row j r).val = 256 * j.val + r.val := rfl
    have e2 : wst j = 256 * j.val - 128 := rfl
    refine ht ⟨⟨t.val - wst j, by omega⟩, Fin.ext ?_⟩
    show wst j + (t.val - wst j) = t.val
    omega
  have hi : Function.Injective (ky j) := fun a b hab => Fin.ext (by
    have := congrArg Fin.val hab
    have : wst j + a.val = wst j + b.val := this
    omega)
  have ev : ∀ t : Fin 512, vb d (ix3 h ⟨wst j + t.val, wst_le j _ t.isLt⟩ e) = V (ix4 0 (ky j t) (hd d h) e) := fun t => P.vb d _ _ _
  unfold khead head smax
  rw [hM]
  simp only [kscore_eq P, ev]
  exact Soft.soft (ky j) hi (score X WQ K (row j r) (hd d h)) (fun t => V (ix4 0 t (hd d h) e)) M hs h0 ho

/-- The eight devices' contributions to block `j` add up to the reference's rows of that block. -/
theorem total (P : Parts x wq wo kb vb X WQ K V WO) (R : Real' X WQ K) (j : Dev nD) (r : Fin 256) (n : Fin 1024) :
    ∑ d : Dev nD, contribQ (qOf (x j) (wq d)) (kb d) (vb d) (wo d) j (ix2 r n) = out X WQ K V WO (ix2 (row j r) n) := by
  rw [out_eq, Fin.sum_univ_tiles (N := 8192) 8 1024 (by norm_num)]
  refine Finset.sum_congr rfl fun d _ => ?_
  rw [contrib_at]
  refine Finset.sum_congr rfl fun a _ => ?_
  rw [khead_eq P R, P.wo d]
  have h1 : hd d ⟨a.val / 128, by omega⟩ = ⟨(col d a).val / 128, by omega⟩ := Fin.ext (by
    show 8 * d.val + a.val / 128 = (d.val * 1024 + a.val) / 128
    omega)
  have h2 : (⟨a.val % 128, by omega⟩ : Fin 128) = ⟨(col d a).val % 128, by omega⟩ := Fin.ext (by
    show a.val % 128 = (d.val * 1024 + a.val) % 128
    omega)
  rw [h1, h2]
  rfl

variable (m : (ℓ : Loc nD τ sig) → Buf (Elt Ideal) ℓ)

/-- A device's result is the reference's block. -/
theorem outAt_eq (P : Parts (XB m) (WQB m) (WOB m) (KB m) (VB m) X WQ K V WO) (R : Real' X WQ K) (c : Dev nD) :
    outAt m c = Layout.block ⟨2, ![256, 1024]⟩ ⟨2, ![2048, 1024]⟩ 0 8 c (out X WQ K V WO) := by
  have key : ∀ (r : Fin 256) (n : Fin 1024), outAt m c (ix2 r n)
      = (Layout.block ⟨2, ![256, 1024]⟩ ⟨2, ![2048, 1024]⟩ 0 8 c (out X WQ K V WO)) (ix2 r n) := fun r n => by
    rw [Kern.out_at]
    refine (total P R c r n).trans (congrArg (out X WQ K V WO) (funext fun b => Fin.ext ?_))
    match b with
    | 0 => show 256 * c.val + r.val = c.val * 256 + r.val; omega
    | 1 => rfl
  refine funext fun i => ?_
  have := key (i 0) (i 1)
  have e : i = ix2 (i 0) (i 1) := eq_ix2 i
  rw [e]
  exact this

end Cert.Meet

end
-- ==== Proof.V.Final.lean ====
/- From the claim's hypotheses to the parts of the whole arrays, and what the precondition says of each number. -/
module

public import proofs.«01_k».proof.Defs
public import proofs.«01_k».proof.Proof.V.Meet
public import proofs.«01_k».proof.Proof.KI.Final

@[expose] public section

noncomputable section

namespace Cert.Meet

open Cert.KernelIdeal Cert.KernelIdeal.Run Cert.Kern Cert.Ref
open Idealize.ShloMosaic Idealize.ShloMosaic.TcCoe Idealize.SL.Sem
open Cert.Soft (Fin')

/-- A number whose absolute value compares below plus infinity is real. -/
theorem real_of (y : EReal) (h : FloatOps.cmpf (F := Ideal) (φ := .f32) .olt (FloatOps.absf (F := Ideal) (φ := .f32) y) (Ideal.ofBits .f32 0x7F800000#32) = 1#1) : Fin' y := by
  rw [Word.top_word] at h
  have h' : Ideal.cmp .olt (FloatOps.absf (F := Ideal) (φ := .f32) y) ⊤ = 1#1 := h
  induction y with
  | bot => exact absurd h' (by simp [FloatOps.absf, Ideal.cmp])
  | top => exact absurd h' (by simp [FloatOps.absf, Ideal.cmp])
  | coe r => exact ⟨r, rfl⟩

section Finite

variable [Cert.Pre_finite_KernelIdeal.Facts] (a0 : FVec Ideal S256x1024 .f32) (a1 : FVec Ideal S1024x1024 .f32)
  (a2 a3 : FVec Ideal S1x4096x64x128 .f32) (a4 : FVec Ideal S1024x1024 .f32)

theorem fin0 (h : (Cert.Pre_finite_KernelIdeal.fn a0 a1 a2 a3 a4).1 = fun _ => 1#1) (r : Fin 256) (b : Fin 1024) : Fin' (a0 (ix2 r b)) :=
  real_of _ (congrFun h (ix2 r b))
theorem fin1 (h : (Cert.Pre_finite_KernelIdeal.fn a0 a1 a2 a3 a4).2.1 = fun _ => 1#1) (r b : Fin 1024) : Fin' (a1 (ix2 r b)) :=
  real_of _ (congrFun h (ix2 r b))
theorem fin2 (h : (Cert.Pre_finite_KernelIdeal.fn a0 a1 a2 a3 a4).2.2 = fun _ => 1#1) (t : Fin 4096) (g : Fin 64) (e : Fin 128) :
    Fin' (a2 (ix4 0 t g e)) := real_of _ (congrFun h (ix4 0 t g e))

end Finite

theorem block_rows (X : FVec Ideal ⟨2, ![2048, 1024]⟩ .f32) (j : Dev nD) (r : Fin 256) (b : Fin 1024) :
    (Layout.block ⟨2, ![256, 1024]⟩ ⟨2, ![2048, 1024]⟩ 0 8 j X) (ix2 r b) = X (ix2 (row j r) b) :=
  congrArg X (funext fun z => Fin.ext (match z with
    | 0 => (show j.val * 256 + r.val = 256 * j.val + r.val by omega)
    | 1 => rfl))

theorem block_cols (X : FVec Ideal ⟨2, ![1024, 8192]⟩ .f32) (j : Dev nD) (r b : Fin 1024) :
    (Layout.block ⟨2, ![1024, 1024]⟩ ⟨2, ![1024, 8192]⟩ 1 8 j X) (ix2 r b) = X (ix2 r (col j b)) :=
  congrArg X (funext fun z => Fin.ext (match z with
    | 0 => rfl
    | 1 => rfl))

theorem block_wo (X : FVec Ideal ⟨2, ![8192, 1024]⟩ .f32) (j : Dev nD) (r b : Fin 1024) :
    (Layout.block ⟨2, ![1024, 1024]⟩ ⟨2, ![8192, 1024]⟩ 0 8 j X) (ix2 r b) = X (ix2 (col j r) b) :=
  congrArg X (funext fun z => Fin.ext (match z with
    | 0 => rfl
    | 1 => rfl))

theorem row_surj (i : Fin 2048) : ∃ j r, i = row j r :=
  ⟨(⟨i.val / 256, by omega⟩ : Fin 8), ⟨i.val % 256, by omega⟩, Fin.ext (by show i.val = 256 * (i.val / 256) + i.val % 256; omega)⟩
theorem col_surj (i : Fin 8192) : ∃ j a, i = col j a :=
  ⟨(⟨i.val / 1024, by omega⟩ : Fin 8), ⟨i.val % 1024, by omega⟩, Fin.ext (by show i.val = i.val / 1024 * 1024 + i.val % 1024; omega)⟩

variable (m : (ℓ : Loc nD τ sig) → Buf (Elt Ideal) ℓ)
  {X : FVec Ideal ⟨2, ![2048, 1024]⟩ .f32} {WQ : FVec Ideal ⟨2, ![1024, 8192]⟩ .f32} {K V : FVec Ideal ⟨4, ![1, 4096, 64, 128]⟩ .f32}
  {WO : FVec Ideal ⟨2, ![8192, 1024]⟩ .f32}

/-- What the claim supposes of the initial memory: each device's arguments are its parts. -/
def Given (X : FVec Ideal ⟨2, ![2048, 1024]⟩ .f32) (WQ : FVec Ideal ⟨2, ![1024, 8192]⟩ .f32) (K V : FVec Ideal ⟨4, ![1, 4096, 64, 128]⟩ .f32)
    (WO : FVec Ideal ⟨2, ![8192, 1024]⟩ .f32) : Prop :=
  ∀ c : Dev nD, m ((c : Thread nD τ).loc main_arg0) = Layout.block ⟨2, ![256, 1024]⟩ ⟨2, ![2048, 1024]⟩ 0 8 c X
    ∧ m ((c : Thread nD τ).loc main_arg1) = Layout.block ⟨2, ![1024, 1024]⟩ ⟨2, ![1024, 8192]⟩ 1 8 c WQ
    ∧ m ((c : Thread nD τ).loc main_arg2) = K ∧ m ((c : Thread nD τ).loc main_arg3) = V
    ∧ m ((c : Thread nD τ).loc main_arg4) = Layout.block ⟨2, ![1024, 1024]⟩ ⟨2, ![8192, 1024]⟩ 0 8 c WO

theorem parts (G : Given m X WQ K V WO) : Parts (XB m) (WQB m) (WOB m) (KB m) (VB m) X WQ K V WO where
  x j r b := by rw [XB_at, xstg_eq, (G j).1]; exact block_rows X j r b
  wq d b a := by rw [WQB_at, wqstg_eq, (G d).2.1]; exact block_cols WQ d b a
  kb d h t e := by rw [KB_at, (G d).2.2.1]; rfl
  vb d h t e := by rw [VB_at, (G d).2.2.2.1]; rfl
  wo d a n := by rw [WOB_at, wostg_eq, (G d).2.2.2.2]; exact block_wo WO d a n

theorem real' [Cert.Pre_finite_KernelIdeal.Facts] (G : Given m X WQ K V WO) (H : Cert.Pre_KernelIdeal_finite_KernelIdeal m) : Real' X WQ K where
  x i b := by
    obtain ⟨j, r, rfl⟩ := row_surj i
    have := fin0 _ _ _ _ _ (H j).1 r b
    rw [(G j).1, block_rows] at this
    exact this
  wq b a := by
    obtain ⟨d, z, rfl⟩ := col_surj a
    have := fin1 _ _ _ _ _ (H d).2.1 b z
    rw [(G d).2.1, block_cols] at this
    exact this
  k t h e := by
    have := fin2 _ _ _ _ _ (H (0 : Fin 8)).2.2 t h e
    rw [(G (0 : Fin 8)).2.2.1] at this
    exact this

end Cert.Meet

end
-- ==== Proof.V.Same.lean ====
/- The kernel is the idealized kernel with each name read as the word written beside it, so what is proved of the idealized
   kernel for every reading of the names holds of the kernel. -/
module

public import proofs.«01_k».proof.Proof.Gen.Kernel
public import proofs.«01_k».proof.Defs
public import proofs.«01_k».proof.Proof.KI.Final

@[expose] public section

noncomputable section

namespace Cert.Same

open Idealize.ShloMosaic Idealize.ShloMosaic.TcCoe Idealize.SL.Sem

variable {F : FTy → Type} [FloatOps F]

/-- Every name read as the word written beside it. -/
@[reducible] def words : Named F := ⟨fun _ _ {φ} b => Scalar.ofBits φ b⟩

attribute [local instance] words

theorem defs₀_eq : Cert.Kernel.defs₀ (F := F) = Cert.KernelIdeal.defs₀ (F := F) := by
  funext p l a
  cases p with
  | tc =>
    obtain ⟨l, hl⟩ := l
    obtain rfl : l = 0 := Nat.lt_one_iff.1 hl
    obtain ⟨t, s⟩ := a
    rfl
  | scScalar _ => rfl
  | scVector _ _ => rfl

theorem defs_eq : Cert.Kernel.defs (F := F) = Cert.KernelIdeal.defs (F := F) :=
  congrArg (Pipeline.defs Cert.Kernel.pcfgs) defs₀_eq

theorem main_eq : Cert.Kernel.main (F := F) = Cert.KernelIdeal.main (F := F) := rfl

/-- The kernel's frame: the idealized kernel's run, names read as words. -/
theorem frame : Cert.quiescent_Kernel := fun m ρ _ =>
  (congrArg (fun D => θ_run D (onTc (τ := Cert.Kernel.τ) (Cert.Kernel.main (F := Bits))) ⟨m, fun _ => 0, ρ⟩ _) (defs_eq (F := Bits))).mpr
    ((θ_run (Cert.KernelIdeal.defs (F := Bits)) _ _).mono (fun _ h => ⟨fun c => (h.1 c).2, h.2⟩)
      (Cert.KernelIdeal.Run.value (F := Bits) m ρ))

end Cert.Same

end
-- ==== Proof.lean ====
/- The certificate: every program terminates without fault, leaves its arguments unchanged and every semaphore counter at
   zero, the idealized kernel is the kernel with its mask constant named, and each device ends with its rows of the
   reference's output. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.KI.Final
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.V.Final
public import proofs.«01_k».proof.Proof.V.Same
public import Idealize.ShloMosaic.Adequacy
public import Idealize.ShloMosaic.Lib.Quiescent
public import Idealize.ShloMosaic.Init

@[expose] public section

noncomputable section

namespace Cert.Proof

open Idealize.ShloMosaic Idealize.SL.Sem

/-- The kernel, which is the idealized kernel with its named constant read as the word it stands for. -/
theorem frame_p : Cert.quiescent_Kernel := Cert.Same.frame

/-- The idealized kernel. -/
theorem frame_pi : Cert.quiescent_KernelIdeal := fun m ρ _ =>
  (θ_run Cert.KernelIdeal.defs _ _).mono (fun _ h => ⟨fun c => (h.1 c).2, h.2⟩) (Cert.KernelIdeal.Run.value m ρ)

/-- The reference declares no semaphore, so no counter is left. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The mask constant is named, and its name's value is minus infinity. -/
theorem preserves : Cert.preserves_Kernel_KernelIdeal :=
  IdealRules.named_const.statement Cert.KernelIdeal.κ "mask" .f32 0xCE6E6B28#32 ⊥ rfl

/-- The frames under the precondition hold as they do without. -/
theorem frame_pi' : Cert.quiescent_KernelIdeal_pre_finite_KernelIdeal := fun m ρ _ => frame_pi m ρ trivial
theorem frame_ri' : Cert.quiescent_ReferenceIdeal_pre_finite_ReferenceIdeal := fun m ρ _ => frame_ri m ρ trivial

/-- Each device ends with its block of rows of the reference's output. -/
theorem algebraic : Cert.algebraic_KernelIdeal_ReferenceIdeal_pre_finite_KernelIdeal := fun m g m' g' H G => by
  have hG : Cert.Meet.Given m _ _ _ _ _ := G
  refine ⟨Cert.ReferenceIdeal.Value.res_main_v34 m' 0, ?_, ?_⟩
  · refine (θ_run Cert.KernelIdeal.defs _ _).mono (fun r h c => ⟨(h.1 c).1.trans ?_, (h.1 c).2⟩) (Cert.KernelIdeal.Run.value m g)
    rw [Cert.Ref.res_eq]
    exact Cert.Meet.outAt_eq m (Cert.Meet.parts m hG) (Cert.Meet.real' m hG H) c
  · exact (θ_run Cert.ReferenceIdeal.defs _ _).mono (fun r h => h 0) (Cert.ReferenceIdeal.Value.run m' g')

theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, frame_p, frame_pi, frame_pi', frame_ri, frame_ri', preserves, algebraic⟩

end Cert.Proof

end
